-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_memory [hPre_finite_memory : Cert.Pre_finite_memory.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_memory.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_memory [hPre_finite_memory : Cert.Pre_finite_memory.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_memory.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_pool [hPre_finite_pool : Cert.Pre_finite_pool.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_pool.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_pool [hPre_finite_pool : Cert.Pre_finite_pool.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_pool.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_memory [hKernel4Ideal : Cert.Kernel4Ideal.Facts] [hPre_finite_memory : Cert.Pre_finite_memory.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_memory m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_memory [hReference4Ideal : Cert.Reference4Ideal.Facts] [hPre_finite_memory : Cert.Pre_finite_memory.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_memory m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite_pool [hKernel9Ideal : Cert.Kernel9Ideal.Facts] [hPre_finite_pool : Cert.Pre_finite_pool.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_pool m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite_pool [hReference9Ideal : Cert.Reference9Ideal.Facts] [hPre_finite_pool : Cert.Pre_finite_pool.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_pool m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "q_scale" .f32 0x3E0293EE#32 ((((Real.sqrt 128) * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_memory [hKernel4Ideal : Cert.Kernel4Ideal.Facts] [hReference4Ideal : Cert.Reference4Ideal.Facts] [hPre_finite_memory : Cert.Pre_finite_memory.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_memory m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)) (v1 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_v10) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v7)) (v2 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v7) = v1 c
          ∧ r.2.mem ((c.tc : Thread Cert.Kernel6Ideal.nD Cert.Kernel6Ideal.τ).loc Cert.Kernel6Ideal.main_v8) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)) (v1 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_pool [hKernel9Ideal : Cert.Kernel9Ideal.Facts] [hReference9Ideal : Cert.Reference9Ideal.Facts] [hPre_finite_pool : Cert.Pre_finite_pool.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_pool m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v75) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_memory : Cert.Pre_finite_memory.Facts) (hPre_finite_pool : Cert.Pre_finite_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_memory (hKernel4Ideal := hKernel4Ideal) (hPre_finite_memory := hPre_finite_memory)
    ∧ quiescent_Reference4Ideal (hReference4Ideal := hReference4Ideal)
    ∧ quiescent_Reference4Ideal_pre_finite_memory (hReference4Ideal := hReference4Ideal) (hPre_finite_memory := hPre_finite_memory)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_pool (hKernel9Ideal := hKernel9Ideal) (hPre_finite_pool := hPre_finite_pool)
    ∧ quiescent_Reference9Ideal (hReference9Ideal := hReference9Ideal)
    ∧ quiescent_Reference9Ideal_pre_finite_pool (hReference9Ideal := hReference9Ideal) (hPre_finite_pool := hPre_finite_pool)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_memory (hKernel4Ideal := hKernel4Ideal) (hReference4Ideal := hReference4Ideal) (hPre_finite_memory := hPre_finite_memory)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_pool (hKernel9Ideal := hKernel9Ideal) (hReference9Ideal := hReference9Ideal) (hPre_finite_pool := hPre_finite_pool)
-- ==== Pre_finite.lean ====
abbrev S4x4096x12x128 : Shape := ⟨4, ![4, 4096, 12, 128]⟩
abbrev S12 : Shape := ⟨1, ![12]⟩
abbrev S_ : Shape := ⟨0, ![]⟩

class Facts : Prop where
  bcast_S_S4x4096x12x128 : S_.BroadcastsInDim S4x4096x12x128 (![] : Fin 0 → Fin S4x4096x12x128.rank)
  reducesTo_S4x4096x12x128_S_d0_1_2_3 : S4x4096x12x128.ReducesTo [0, 1, 2, 3] S_
  h_S_ : 0 < S_.numel
  bcast_S_S12 : S_.BroadcastsInDim S12 (![] : Fin 0 → Fin S12.rank)
  reducesTo_S12_S_d0 : S12.ReducesTo [0] S_

variable [Facts]

def fn {F : FTy → Type} [FloatOps F] (main_arg0 : FVec F S4x4096x12x128 .f32) (main_arg1 : FVec F S4x4096x12x128 .f32) (main_arg2 : FVec F S4x4096x12x128 .f32) (main_arg3 : FVec F S12 .f32) : IVec S_ 1 :=
  let main_v0 : FVec F S4x4096x12x128 .f32 := Host.absf main_arg0
  let main_cst : FVec F S_ .f32 := constant S_ .f32 0x7F800000#32
  let main_v1 : FVec F S4x4096x12x128 .f32 := broadcastInDim S4x4096x12x128 ![] bcast_S_S4x4096x12x128 main_cst
  let main_v2 : IVec S4x4096x12x128 1 := cmpf .olt main_v0 main_v1
  let main_c : IVec S_ 1 := constantI S_ 1 1#1
  let main_v3 : IVec S_ 1 := (fun x v => Host.reduce IntOp.andi x v reducesTo_S4x4096x12x128_S_d0_1_2_3 h_S_) main_v2 main_c
  let main_v4 : FVec F S4x4096x12x128 .f32 := Host.absf main_arg1
  let main_cst_0 : FVec F S_ .f32 := constant S_ .f32 0x7F800000#32
  let main_v5 : FVec F S4x4096x12x128 .f32 := broadcastInDim S4x4096x12x128 ![] bcast_S_S4x4096x12x128 main_cst_0
  let main_v6 : IVec S4x4096x12x128 1 := cmpf .olt main_v4 main_v5
  let main_c_1 : IVec S_ 1 := constantI S_ 1 1#1
  let main_v7 : IVec S_ 1 := (fun x v => Host.reduce IntOp.andi x v reducesTo_S4x4096x12x128_S_d0_1_2_3 h_S_) main_v6 main_c_1
  let main_v8 : IVec S_ 1 := andi main_v3 main_v7
  let main_v9 : FVec F S12 .f32 := Host.absf main_arg3
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  main_v13
-- ==== Pre_finite_memory.lean ====
abbrev S4x4096x1024 : Shape := ⟨3, ![4, 4096, 1024]⟩
abbrev S4x4096x1536 : Shape := ⟨3, ![4, 4096, 1536]⟩
abbrev S4x4096x2560 : Shape := ⟨3, ![4, 4096, 2560]⟩
abbrev S4x256x4x128 : Shape := ⟨4, ![4, 256, 4, 128]⟩
abbrev S128 : Shape := ⟨1, ![128]⟩
abbrev S2048x1024 : Shape := ⟨2, ![2048, 1024]⟩
abbrev S_ : Shape := ⟨0, ![]⟩

class Facts : Prop where
  bcast_S_S4x256x4x128 : S_.BroadcastsInDim S4x256x4x128 (![] : Fin 0 → Fin S4x256x4x128.rank)
  reducesTo_S4x256x4x128_S_d0_1_2_3 : S4x256x4x128.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S4x4096x1024 .f32) (main_arg1 : FVec F S4x4096x1536 .f32) (main_arg2 : FVec F S4x4096x2560 .f32) (main_arg3 : FVec F S4x256x4x128 .f32) (main_arg4 : FVec F S4x256x4x128 .f32) (main_arg5 : FVec F S128 .f32) (main_arg6 : FVec F S2048x1024 .f32) : IVec S_ 1 :=
  let main_v0 : FVec F S4x256x4x128 .f32 := Host.absf main_arg3
  let main_cst : FVec F S_ .f32 := constant S_ .f32 0x7F800000#32
  let main_v1 : FVec F S4x256x4x128 .f32 := broadcastInDim S4x256x4x128 ![] bcast_S_S4x256x4x128 main_cst
  let main_v2 : IVec S4x256x4x128 1 := cmpf .olt main_v0 main_v1
  let main_c : IVec S_ 1 := constantI S_ 1 1#1
  let main_v3 : IVec S_ 1 := (fun x v => Host.reduce IntOp.andi x v reducesTo_S4x256x4x128_S_d0_1_2_3 h_S_) main_v2 main_c
  let main_v4 : FVec F S128 .f32 := Host.absf main_arg5
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Pre_finite_pool.lean ====
abbrev S32x4x4096 : Shape := ⟨3, ![32, 4, 4096]⟩
abbrev S32x15x1536 : Shape := ⟨3, ![32, 15, 1536]⟩
abbrev S4x384x384 : Shape := ⟨3, ![4, 384, 384]⟩
abbrev S1536 : Shape := ⟨1, ![1536]⟩
abbrev S32x4x1536 : Shape := ⟨3, ![32, 4, 1536]⟩
abbrev S_ : Shape := ⟨0, ![]⟩

class Facts : Prop where
  slices_S32x4x4096_S32x4x1536_0_0_0 : S32x4x4096.Slices ![0, 0, 0] S32x4x1536
  bcast_S_S32x4x1536 : S_.BroadcastsInDim S32x4x1536 (![] : Fin 0 → Fin S32x4x1536.rank)
  reducesTo_S32x4x1536_S_d0_1_2 : S32x4x1536.ReducesTo [0, 1, 2] S_
  h_S_ : 0 < S_.numel
  bcast_S_S32x15x1536 : S_.BroadcastsInDim S32x15x1536 (![] : Fin 0 → Fin S32x15x1536.rank)
  reducesTo_S32x15x1536_S_d0_1_2 : S32x15x1536.ReducesTo [0, 1, 2] S_

variable [Facts]

def fn {F : FTy → Type} [FloatOps F] (main_arg0 : FVec F S32x4x4096 .f32) (main_arg1 : FVec F S32x15x1536 .f32) (main_arg2 : FVec F S4x384x384 .f32) (main_arg3 : FVec F S1536 .f32) : IVec S_ 1 :=
  let main_v0 : FVec F S32x4x1536 .f32 := (extractStridedSlice S32x4x1536 ![0, 0, 0] · slices_S32x4x4096_S32x4x1536_0_0_0) main_arg0
  let main_v1 : FVec F S32x4x1536 .f32 := Host.absf main_v0
  let main_cst : FVec F S_ .f32 := constant S_ .f32 0x7F800000#32
  let main_v2 : FVec F S32x4x1536 .f32 := broadcastInDim S32x4x1536 ![] bcast_S_S32x4x1536 main_cst
  let main_v3 : IVec S32x4x1536 1 := cmpf .olt main_v1 main_v2
  let main_c : IVec S_ 1 := constantI S_ 1 1#1
  let main_v4 : IVec S_ 1 := (fun x v => Host.reduce IntOp.andi x v reducesTo_S32x4x1536_S_d0_1_2 h_S_) main_v3 main_c
  let main_v5 : FVec F S32x15x1536 .f32 := Host.absf main_arg1
  let main_cst_0 : FVec F S_ .f32 := constant S_ .f32 0x7F800000#32
  let main_v6 : FVec F S32x15x1536 .f32 := broadcastInDim S32x15x1536 ![] bcast_S_S32x15x1536 main_cst_0
  let main_v7 : IVec S32x15x1536 1 := cmpf .olt main_v5 main_v6
  let main_c_1 : IVec S_ 1 := constantI S_ 1 1#1
  let main_v8 : IVec S_ 1 := (fun x v => Host.reduce IntOp.andi x v reducesTo_S32x15x1536_S_d0_1_2 h_S_) main_v7 main_c_1
  let main_v9 : IVec S_ 1 := andi main_v4 main_v8
  main_v9
-- ==== Kernel.lean ====
abbrev S4x4096x12x128 : Shape := ⟨4, ![4, 4096, 12, 128]⟩
abbrev S12 : Shape := ⟨1, ![12]⟩
abbrev S_ : Shape := ⟨0, ![]⟩
abbrev S4x12x4096x128 : Shape := ⟨4, ![4, 12, 4096, 128]⟩
abbrev S4x4096x1536 : Shape := ⟨3, ![4, 4096, 1536]⟩
abbrev S1x1x1024x128 : Shape := ⟨4, ![1, 1, 1024, 128]⟩
abbrev S1x1x4096x128 : Shape := ⟨4, ![1, 1, 4096, 128]⟩
abbrev S1x1024x128 : Shape := ⟨3, ![1, 1024, 128]⟩
abbrev S4096x128 : Shape := ⟨2, ![4096, 128]⟩
abbrev S1024x128 : Shape := ⟨2, ![1024, 128]⟩
abbrev S1024x1 : Shape := ⟨2, ![1024, 1]⟩
abbrev S4x1024x256 : Shape := ⟨3, ![4, 1024, 256]⟩
abbrev S1 : Shape := ⟨1, ![1]⟩
abbrev S256x256 : Shape := ⟨2, ![256, 256]⟩
abbrev S512x256 : Shape := ⟨2, ![512, 256]⟩
abbrev S256x128 : Shape := ⟨2, ![256, 128]⟩
abbrev S1x1x256x128 : Shape := ⟨4, ![1, 1, 256, 128]⟩
abbrev S1x256x256 : Shape := ⟨3, ![1, 256, 256]⟩
abbrev S1x1x512x128 : Shape := ⟨4, ![1, 1, 512, 128]⟩
abbrev S512x128 : Shape := ⟨2, ![512, 128]⟩
abbrev S1x512x256 : Shape := ⟨3, ![1, 512, 256]⟩
abbrev S1x1x768x128 : Shape := ⟨4, ![1, 1, 768, 128]⟩
abbrev S768x128 : Shape := ⟨2, ![768, 128]⟩
abbrev S768x256 : Shape := ⟨2, ![768, 256]⟩
abbrev S1x768x256 : Shape := ⟨3, ![1, 768, 256]⟩
abbrev S256x512 : Shape := ⟨2, ![256, 512]⟩
abbrev S256x1 : Shape := ⟨2, ![256, 1]⟩
abbrev S256 : Shape := ⟨1, ![256]⟩
abbrev S1024x256 : Shape := ⟨2, ![1024, 256]⟩
abbrev S1x1024x256 : Shape := ⟨3, ![1, 1024, 256]⟩
abbrev S512x512 : Shape := ⟨2, ![512, 512]⟩
abbrev S512x1 : Shape := ⟨2, ![512, 1]⟩
abbrev S512 : Shape := ⟨1, ![512]⟩
abbrev S768x512 : Shape := ⟨2, ![768, 512]⟩
abbrev S768x1 : Shape := ⟨2, ![768, 1]⟩
abbrev S768 : Shape := ⟨1, ![768]⟩
abbrev S1024x512 : Shape := ⟨2, ![1024, 512]⟩
abbrev S1024 : Shape := ⟨1, ![1024]⟩

abbrev nBuf : Space → Nat
  | .hbm => 18
  | .vmem => 14
  | .smem => 1
  | _ => 0

abbrev bufTy : (tb : Table) → Fin (tcTables nBuf tb) → BufTy
  | .hbm, ⟨0, _⟩ => ⟨S4x4096x12x128, .f32⟩
  | .hbm, ⟨1, _⟩ => ⟨S4x4096x12x128, .f32⟩
  | .hbm, ⟨2, _⟩ => ⟨S4x4096x12x128, .f32⟩
  | .hbm, ⟨3, _⟩ => ⟨S12, .f32⟩
  | .hbm, ⟨4, _⟩ => ⟨S_, .f32⟩
  | .hbm, ⟨5, _⟩ => ⟨S_, .f32⟩
  | .hbm, ⟨6, _⟩ => ⟨S4x12x4096x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x12x4096x128, .f32⟩
  | .hbm, ⟨11, _⟩ => ⟨S4x12x4096x128, .f32⟩
  | .hbm, ⟨12, _⟩ => ⟨S4x12x4096x128, .bf16⟩
  | .hbm, ⟨13, _⟩ => ⟨S4x12x4096x128, .f32⟩
  | .hbm, ⟨14, _⟩ => ⟨S4x12x4096x128, .f32⟩
  | .hbm, ⟨15, _⟩ => ⟨S12, .f32⟩
  | .hbm, ⟨16, _⟩ => ⟨S12, .f32⟩
  | .hbm, ⟨17, _⟩ => ⟨S4x4096x1536, .f32⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x4096x128, .f32⟩
  | .local _ .vmem, ⟨3, _⟩ => ⟨S1x1x4096x128, .f32⟩
  | .local _ .vmem, ⟨4, _⟩ => ⟨S1x1x4096x128, .f32⟩
  | .local _ .vmem, ⟨5, _⟩ => ⟨S1x1x4096x128, .f32⟩
  | .local _ .vmem, ⟨6, _⟩ => ⟨S1x1024x128, .f32⟩
  | .local _ .vmem, ⟨7, _⟩ => ⟨S1x1024x128, .f32⟩
  | .local _ .vmem, ⟨8, _⟩ => ⟨S4096x128, .bf16⟩
  | .local _ .vmem, ⟨9, _⟩ => ⟨S4096x128, .bf16⟩
  | .local _ .vmem, ⟨10, _⟩ => ⟨S1024x128, .f32⟩
  | .local _ .vmem, ⟨11, _⟩ => ⟨S1024x1, .f32⟩
  | .local _ .vmem, ⟨12, _⟩ => ⟨S4x1024x256, .f32⟩
  | .local _ .vmem, ⟨13, _⟩ => ⟨S4x1024x256, .f32⟩
  | .local _ .smem, ⟨0, _⟩ => ⟨S12, .f32⟩
  | _, _ => ⟨S4x4096x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 12, 4], ![false, false, false]⟩

def k0_off1 (i : grid0.Coords) : Fin 1 → Nat :=
  let arg1 : BitVec 32 := BitVec.ofNat 32 (i 1).val
  let v3 : Index := Scalar.indexCast arg1
  ![v3.toNat]
def k0_mult1 (i : grid0.Coords) : BitVec 32 :=
  let c4_i32 : BitVec 32 := 4#32
  let arg2 : BitVec 32 := BitVec.ofNat 32 (i 2).val
  let v21 : BitVec 32 := Scalar.muli c4_i32 arg2
  let c3_i32 : BitVec 32 := 3#32
  let v22 : BitVec 32 := Scalar.addi v21 c3_i32
  let c256_i32 : BitVec 32 := 256#32
  let v23 : BitVec 32 := Scalar.muli v22 c256_i32
  v23
def k0_off2 (i : grid0.Coords) (c3_i32 : BitVec 32) : Fin 2 → Nat :=
  let c4_i32 : BitVec 32 := 4#32
  let arg2 : BitVec 32 := BitVec.ofNat 32 (i 2).val
  let v21 : BitVec 32 := Scalar.muli c4_i32 arg2
  let v22 : BitVec 32 := Scalar.addi v21 c3_i32
  let c256_i32 : BitVec 32 := 256#32
  let v23 : BitVec 32 := Scalar.muli v22 c256_i32
  let v24 : BitVec 32 := v23
  let v25 : Index := Scalar.indexCast v24
  let c0_7 : Index := 0#32
  ![v25.toNat, 0]
def k0_mult2 (i : grid0.Coords) : BitVec 32 :=
  let c4_i32 : BitVec 32 := 4#32
  let arg2 : BitVec 32 := BitVec.ofNat 32 (i 2).val
  let v21 : BitVec 32 := Scalar.muli c4_i32 arg2
  let c2_i32 : BitVec 32 := 2#32
  let v35 : BitVec 32 := Scalar.addi v21 c2_i32
  let c256_i32_15 : BitVec 32 := 256#32
  let v36 : BitVec 32 := Scalar.muli v35 c256_i32_15
  v36
def k0_mult3 (i : grid0.Coords) : BitVec 32 :=
  let c4_i32 : BitVec 32 := 4#32
  let arg2 : BitVec 32 := BitVec.ofNat 32 (i 2).val
  let v21 : BitVec 32 := Scalar.muli c4_i32 arg2
  let c1_i32 : BitVec 32 := 1#32
  let v48 : BitVec 32 := Scalar.addi v21 c1_i32
  let c256_i32_23 : BitVec 32 := 256#32
  let v49 : BitVec 32 := Scalar.muli v48 c256_i32_23
  v49
def k0_mult4 (i : grid0.Coords) : BitVec 32 :=
  let c4_i32 : BitVec 32 := 4#32
  let arg2 : BitVec 32 := BitVec.ofNat 32 (i 2).val
  let v21 : BitVec 32 := Scalar.muli c4_i32 arg2
  let c0_i32_51 : BitVec 32 := 0#32
  let v103 : BitVec 32 := Scalar.addi v21 c0_i32_51
  let c256_i32_52 : BitVec 32 := 256#32
  let v104 : BitVec 32 := Scalar.muli v103 c256_i32_52
  v104
def k0_cond2 (i : grid0.Coords) : BitVec 1 :=
  let c4_i32 : BitVec 32 := 4#32
  let arg2 : BitVec 32 := BitVec.ofNat 32 (i 2).val
  let v21 : BitVec 32 := Scalar.muli c4_i32 arg2
  let c0_i32_81 : BitVec 32 := 0#32
  let v158 : BitVec 1 := Scalar.cmpi .sgt v21 c0_i32_81
  let v159 : BitVec 32 := Scalar.extui v158
  let c0_i32_82 : BitVec 32 := 0#32
  let v160 : BitVec 1 := Scalar.cmpi .ne v159 c0_i32_82
  v160

def k0_mult5 (i : grid0.Coords) : BitVec 32 :=
  let c4_i32 : BitVec 32 := 4#32
  let arg2 : BitVec 32 := BitVec.ofNat 32 (i 2).val
  let v21 : BitVec 32 := Scalar.muli c4_i32 arg2
  let c1_i32_90 : BitVec 32 := 1#32
  let v168 : BitVec 32 := Scalar.subi v21 c1_i32_90
  let c256_i32_91 : BitVec 32 := 256#32
  let v169 : BitVec 32 := Scalar.muli v168 c256_i32_91
  v169
def k0_off3 (i : grid0.Coords) (c1_i32_90 : BitVec 32) : Fin 2 → Nat :=
  let c4_i32 : BitVec 32 := 4#32
  let arg2 : BitVec 32 := BitVec.ofNat 32 (i 2).val
  let v21 : BitVec 32 := Scalar.muli c4_i32 arg2
  let v168 : BitVec 32 := Scalar.subi v21 c1_i32_90
  let c256_i32_91 : BitVec 32 := 256#32
  let v169 : BitVec 32 := Scalar.muli v168 c256_i32_91
  let v170 : BitVec 32 := v169
  let v171 : Index := Scalar.indexCast v170
  let c0_92 : Index := 0#32
  ![v171.toNat, 0]
def k0_mult6 (i : grid0.Coords) : BitVec 32 :=
  let c4_i32 : BitVec 32 := 4#32
  let arg2 : BitVec 32 := BitVec.ofNat 32 (i 2).val
  let v21 : BitVec 32 := Scalar.muli c4_i32 arg2
  let c3_i32_121 : BitVec 32 := 3#32
  let v223 : BitVec 32 := Scalar.addi v21 c3_i32_121
  let c256_i32_122 : BitVec 32 := 256#32
  let v224 : BitVec 32 := Scalar.muli v223 c256_i32_122
  v224
def k0_off4 (i : grid0.Coords) (c3_i32_121 : BitVec 32) : Fin 2 → Nat :=
  let c4_i32 : BitVec 32 := 4#32
  let arg2 : BitVec 32 := BitVec.ofNat 32 (i 2).val
  let v21 : BitVec 32 := Scalar.muli c4_i32 arg2
  let v223 : BitVec 32 := Scalar.addi v21 c3_i32_121
  let c256_i32_122 : BitVec 32 := 256#32
  let v224 : BitVec 32 := Scalar.muli v223 c256_i32_122
  let v225 : BitVec 32 := v224
  let v226 : Index := Scalar.indexCast v225
  let c0_123 : Index := 0#32
  ![v226.toNat, 0]
def k0_mult7 (i : grid0.Coords) : BitVec 32 :=
  let c4_i32 : BitVec 32 := 4#32
  let arg2 : BitVec 32 := BitVec.ofNat 32 (i 2).val
  let v21 : BitVec 32 := Scalar.muli c4_i32 arg2
  let c2_i32_132 : BitVec 32 := 2#32
  let v238 : BitVec 32 := Scalar.subi v21 c2_i32_132
  let c256_i32_133 : BitVec 32 := 256#32
  let v239 : BitVec 32 := Scalar.muli v238 c256_i32_133
  v239
def k0_mult8 (i : grid0.Coords) : BitVec 32 :=
  let c4_i32 : BitVec 32 := 4#32
  let arg2 : BitVec 32 := BitVec.ofNat 32 (i 2).val
  let v21 : BitVec 32 := Scalar.muli c4_i32 arg2
  let c2_i32_163 : BitVec 32 := 2#32
  let v293 : BitVec 32 := Scalar.addi v21 c2_i32_163
  let c256_i32_164 : BitVec 32 := 256#32
  let v294 : BitVec 32 := Scalar.muli v293 c256_i32_164
  v294
def k0_mult9 (i : grid0.Coords) : BitVec 32 :=
  let c4_i32 : BitVec 32 := 4#32
  let arg2 : BitVec 32 := BitVec.ofNat 32 (i 2).val
  let v21 : BitVec 32 := Scalar.muli c4_i32 arg2
  let c3_i32_174 : BitVec 32 := 3#32
  let v308 : BitVec 32 := Scalar.subi v21 c3_i32_174
  let c256_i32_175 : BitVec 32 := 256#32
  let v309 : BitVec 32 := Scalar.muli v308 c256_i32_175
  v309
def k0_mult10 (i : grid0.Coords) : BitVec 32 :=
  let c4_i32 : BitVec 32 := 4#32
  let arg2 : BitVec 32 := BitVec.ofNat 32 (i 2).val
  let v21 : BitVec 32 := Scalar.muli c4_i32 arg2
  let c1_i32_203 : BitVec 32 := 1#32
  let v356 : BitVec 32 := Scalar.addi v21 c1_i32_203
  let c256_i32_204 : BitVec 32 := 256#32
  let v357 : BitVec 32 := Scalar.muli v356 c256_i32_204
  v357
def k0_mult11 (i : grid0.Coords) : BitVec 32 :=
  let c4_i32 : BitVec 32 := 4#32
  let arg2 : BitVec 32 := BitVec.ofNat 32 (i 2).val
  let v21 : BitVec 32 := Scalar.muli c4_i32 arg2
  let c4_i32_214 : BitVec 32 := 4#32
  let v371 : BitVec 32 := Scalar.subi v21 c4_i32_214
  let c256_i32_215 : BitVec 32 := 256#32
  let v372 : BitVec 32 := Scalar.muli v371 c256_i32_215
  v372
def k0_mult12 (i : grid0.Coords) : BitVec 32 :=
  let c4_i32 : BitVec 32 := 4#32
  let arg2 : BitVec 32 := BitVec.ofNat 32 (i 2).val
  let v21 : BitVec 32 := Scalar.muli c4_i32 arg2
  let c0_i32_243 : BitVec 32 := 0#32
  let v419 : BitVec 32 := Scalar.addi v21 c0_i32_243
  let c256_i32_244 : BitVec 32 := 256#32
  let v420 : BitVec 32 := Scalar.muli v419 c256_i32_244
  v420
@[reducible] def k0_t1_loop (i : grid0.Coords) : Scf.Loop 32 :=
  let c1_i32_255 : BitVec 32 := 1#32
  let arg2 : BitVec 32 := BitVec.ofNat 32 (i 2).val
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_257 : BitVec 32 := 1#32
  ⟨c1_i32_255, v438, c1_i32_257⟩
def k0_mult13 (i : grid0.Coords) (k0_t1 : Fin (k0_t1_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c256_i32_335 : BitVec 32 := 256#32
  let v564 : BitVec 32 := Scalar.muli v563 c256_i32_335
  v564
def k0_off5 (i : grid0.Coords) (k0_t1 : Fin (k0_t1_loop i).trips) : Fin 2 → Nat :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c256_i32_335 : BitVec 32 := 256#32
  let v564 : BitVec 32 := Scalar.muli v563 c256_i32_335
  let v565 : BitVec 32 := v564
  let v566 : Index := Scalar.indexCast v565
  let c0_336 : Index := 0#32
  ![v566.toNat, 0]
def k0_mult14 (i : grid0.Coords) (k0_t1 : Fin (k0_t1_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c4_i32_363 : BitVec 32 := 4#32
  let v611 : BitVec 32 := Scalar.addi v563 c4_i32_363
  let c256_i32_364 : BitVec 32 := 256#32
  let v612 : BitVec 32 := Scalar.muli v611 c256_i32_364
  v612
def k0_off6 (i : grid0.Coords) (k0_t1 : Fin (k0_t1_loop i).trips) (c4_i32_363 : BitVec 32) : Fin 2 → Nat :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let v611 : BitVec 32 := Scalar.addi v563 c4_i32_363
  let c256_i32_364 : BitVec 32 := 256#32
  let v612 : BitVec 32 := Scalar.muli v611 c256_i32_364
  let v613 : BitVec 32 := v612
  let v614 : Index := Scalar.indexCast v613
  let c0_365 : Index := 0#32
  ![v614.toNat, 0]
def k0_mult15 (i : grid0.Coords) (k0_t1 : Fin (k0_t1_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c1_i32_374 : BitVec 32 := 1#32
  let v626 : BitVec 32 := Scalar.subi v563 c1_i32_374
  let c256_i32_375 : BitVec 32 := 256#32
  let v627 : BitVec 32 := Scalar.muli v626 c256_i32_375
  v627
def k0_off7 (i : grid0.Coords) (k0_t1 : Fin (k0_t1_loop i).trips) (c1_i32_374 : BitVec 32) : Fin 2 → Nat :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let v626 : BitVec 32 := Scalar.subi v563 c1_i32_374
  let c256_i32_375 : BitVec 32 := 256#32
  let v627 : BitVec 32 := Scalar.muli v626 c256_i32_375
  let v628 : BitVec 32 := v627
  let v629 : Index := Scalar.indexCast v628
  let c0_376 : Index := 0#32
  ![v629.toNat, 0]
def k0_mult16 (i : grid0.Coords) (k0_t1 : Fin (k0_t1_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c3_i32_403 : BitVec 32 := 3#32
  let v674 : BitVec 32 := Scalar.addi v563 c3_i32_403
  let c256_i32_404 : BitVec 32 := 256#32
  let v675 : BitVec 32 := Scalar.muli v674 c256_i32_404
  v675
def k0_mult17 (i : grid0.Coords) (k0_t1 : Fin (k0_t1_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c2_i32_414 : BitVec 32 := 2#32
  let v689 : BitVec 32 := Scalar.subi v563 c2_i32_414
  let c256_i32_415 : BitVec 32 := 256#32
  let v690 : BitVec 32 := Scalar.muli v689 c256_i32_415
  v690
def k0_mult18 (i : grid0.Coords) (k0_t1 : Fin (k0_t1_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c2_i32_443 : BitVec 32 := 2#32
  let v737 : BitVec 32 := Scalar.addi v563 c2_i32_443
  let c256_i32_444 : BitVec 32 := 256#32
  let v738 : BitVec 32 := Scalar.muli v737 c256_i32_444
  v738
def k0_mult19 (i : grid0.Coords) (k0_t1 : Fin (k0_t1_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c3_i32_454 : BitVec 32 := 3#32
  let v752 : BitVec 32 := Scalar.subi v563 c3_i32_454
  let c256_i32_455 : BitVec 32 := 256#32
  let v753 : BitVec 32 := Scalar.muli v752 c256_i32_455
  v753
def k0_mult20 (i : grid0.Coords) (k0_t1 : Fin (k0_t1_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let c1_i32_257 : BitVec 32 := 1#32
  let arg14 : BitVec 32 := Scf.iv c1_i32_255 c1_i32_257 k0_t1
  let v562 : BitVec 32 := Scalar.muli c4_i32_334 arg14
  let v563 : BitVec 32 := Scalar.subi v561 v562
  let c1_i32_483 : BitVec 32 := 1#32
  let v800 : BitVec 32 := Scalar.addi v563 c1_i32_483
  let c256_i32_484 : BitVec 32 := 256#32
  let v801 : BitVec 32 := Scalar.muli v800 c256_i32_484
  v801
@[reducible] def k0_t2_loop (i : grid0.Coords) : Scf.Loop 32 :=
  let c1_i32_255 : BitVec 32 := 1#32
  let arg2 : BitVec 32 := BitVec.ofNat 32 (i 2).val
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let v435 : BitVec 32 := Scalar.addi c1_i32_255 v434
  let c1_i32_258 : BitVec 32 := 1#32
  ⟨v438, v435, c1_i32_258⟩
def k0_mult21 (i : grid0.Coords) (k0_t2 : Fin (k0_t2_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c256_i32_335 : BitVec 32 := 256#32
  let v564 : BitVec 32 := Scalar.muli v563 c256_i32_335
  v564
def k0_off8 (i : grid0.Coords) (k0_t2 : Fin (k0_t2_loop i).trips) : Fin 2 → Nat :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c256_i32_335 : BitVec 32 := 256#32
  let v564 : BitVec 32 := Scalar.muli v563 c256_i32_335
  let v565 : BitVec 32 := v564
  let v566 : Index := Scalar.indexCast v565
  let c0_336 : Index := 0#32
  ![v566.toNat, 0]
def k0_mult22 (i : grid0.Coords) (k0_t2 : Fin (k0_t2_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c4_i32_363 : BitVec 32 := 4#32
  let v611 : BitVec 32 := Scalar.addi v563 c4_i32_363
  let c256_i32_364 : BitVec 32 := 256#32
  let v612 : BitVec 32 := Scalar.muli v611 c256_i32_364
  v612
def k0_off9 (i : grid0.Coords) (k0_t2 : Fin (k0_t2_loop i).trips) (c4_i32_363 : BitVec 32) : Fin 2 → Nat :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let v611 : BitVec 32 := Scalar.addi v563 c4_i32_363
  let c256_i32_364 : BitVec 32 := 256#32
  let v612 : BitVec 32 := Scalar.muli v611 c256_i32_364
  let v613 : BitVec 32 := v612
  let v614 : Index := Scalar.indexCast v613
  let c0_365 : Index := 0#32
  ![v614.toNat, 0]
def k0_mult23 (i : grid0.Coords) (k0_t2 : Fin (k0_t2_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c1_i32_374 : BitVec 32 := 1#32
  let v626 : BitVec 32 := Scalar.subi v563 c1_i32_374
  let c256_i32_375 : BitVec 32 := 256#32
  let v627 : BitVec 32 := Scalar.muli v626 c256_i32_375
  v627
def k0_off10 (i : grid0.Coords) (k0_t2 : Fin (k0_t2_loop i).trips) (c1_i32_374 : BitVec 32) : Fin 2 → Nat :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let v626 : BitVec 32 := Scalar.subi v563 c1_i32_374
  let c256_i32_375 : BitVec 32 := 256#32
  let v627 : BitVec 32 := Scalar.muli v626 c256_i32_375
  let v628 : BitVec 32 := v627
  let v629 : Index := Scalar.indexCast v628
  let c0_376 : Index := 0#32
  ![v629.toNat, 0]
def k0_mult24 (i : grid0.Coords) (k0_t2 : Fin (k0_t2_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c3_i32_403 : BitVec 32 := 3#32
  let v674 : BitVec 32 := Scalar.addi v563 c3_i32_403
  let c256_i32_404 : BitVec 32 := 256#32
  let v675 : BitVec 32 := Scalar.muli v674 c256_i32_404
  v675
def k0_mult25 (i : grid0.Coords) (k0_t2 : Fin (k0_t2_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c2_i32_414 : BitVec 32 := 2#32
  let v689 : BitVec 32 := Scalar.subi v563 c2_i32_414
  let c256_i32_415 : BitVec 32 := 256#32
  let v690 : BitVec 32 := Scalar.muli v689 c256_i32_415
  v690
def k0_mult26 (i : grid0.Coords) (k0_t2 : Fin (k0_t2_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c2_i32_443 : BitVec 32 := 2#32
  let v737 : BitVec 32 := Scalar.addi v563 c2_i32_443
  let c256_i32_444 : BitVec 32 := 256#32
  let v738 : BitVec 32 := Scalar.muli v737 c256_i32_444
  v738
def k0_mult27 (i : grid0.Coords) (k0_t2 : Fin (k0_t2_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c3_i32_454 : BitVec 32 := 3#32
  let v752 : BitVec 32 := Scalar.subi v563 c3_i32_454
  let c256_i32_455 : BitVec 32 := 256#32
  let v753 : BitVec 32 := Scalar.muli v752 c256_i32_455
  v753
def k0_mult28 (i : grid0.Coords) (k0_t2 : Fin (k0_t2_loop i).trips) : BitVec 32 :=
  let c4_i32 : BitVec 32 := 4#32
  let arg2 : BitVec 32 := BitVec.ofNat 32 (i 2).val
  let v21 : BitVec 32 := Scalar.muli c4_i32 arg2
  let c1_i32_333 : BitVec 32 := 1#32
  let v561 : BitVec 32 := Scalar.subi v21 c1_i32_333
  let c4_i32_334 : BitVec 32 := 4#32
  let c1_i32_255 : BitVec 32 := 1#32
  let v434 : BitVec 32 := Scalar.subi arg2 c1_i32_255
  let c1_i32_256 : BitVec 32 := 1#32
  let v436 : BitVec 32 := Scalar.divsi v434 c1_i32_256
  let v437 : BitVec 32 := Scalar.muli v436 c1_i32_256
  let v438 : BitVec 32 := Scalar.addi c1_i32_255 v437
  let c1_i32_258 : BitVec 32 := 1#32
  let arg14 : BitVec 32 := Scf.iv v438 c1_i32_258 k0_t2
  let v562 : BitVec 32 := Scalar.muli c4_i32_334 arg14
  let v563 : BitVec 32 := Scalar.subi v561 v562
  let c1_i32_483 : BitVec 32 := 1#32
  let v800 : BitVec 32 := Scalar.addi v563 c1_i32_483
  let c256_i32_484 : BitVec 32 := 256#32
  let v801 : BitVec 32 := Scalar.muli v800 c256_i32_484
  v801
def k0_mult29 : BitVec 32 :=
  let c768_i32 : BitVec 32 := 768#32
  c768_i32
def k0_mult30 : BitVec 32 :=
  let c512_i32 : BitVec 32 := 512#32
  c512_i32
def k0_mult31 : BitVec 32 :=
  let c256_i32_313 : BitVec 32 := 256#32
  c256_i32_313
def k0_mult32 : BitVec 32 :=
  let c0_i32_323 : BitVec 32 := 0#32
  c0_i32_323
def k0_cond3 (i : grid0.Coords) : BitVec 1 :=
  let c4_i32 : BitVec 32 := 4#32
  let arg2 : BitVec 32 := BitVec.ofNat 32 (i 2).val
  let v21 : BitVec 32 := Scalar.muli c4_i32 arg2
  let c0_i32_83 : BitVec 32 := 0#32
  let v161 : BitVec 1 := Scalar.cmpi .eq v21 c0_i32_83
  let v162 : BitVec 32 := Scalar.extui v161
  let c0_i32_84 : BitVec 32 := 0#32
  let v163 : BitVec 1 := Scalar.cmpi .ne v162 c0_i32_84
  v163

def k0_mult33 (i : grid0.Coords) : BitVec 32 :=
  let c4_i32 : BitVec 32 := 4#32
  let arg2 : BitVec 32 := BitVec.ofNat 32 (i 2).val
  let v21 : BitVec 32 := Scalar.muli c4_i32 arg2
  let c3_i32_110 : BitVec 32 := 3#32
  let v210 : BitVec 32 := Scalar.addi v21 c3_i32_110
  let c256_i32_111 : BitVec 32 := 256#32
  let v211 : BitVec 32 := Scalar.muli v210 c256_i32_111
  v211
def k0_off11 (i : grid0.Coords) (c3_i32_110 : BitVec 32) : Fin 2 → Nat :=
  let c4_i32 : BitVec 32 := 4#32
  let arg2 : BitVec 32 := BitVec.ofNat 32 (i 2).val
  let v21 : BitVec 32 := Scalar.muli c4_i32 arg2
  let v210 : BitVec 32 := Scalar.addi v21 c3_i32_110
  let c256_i32_111 : BitVec 32 := 256#32
  let v211 : BitVec 32 := Scalar.muli v210 c256_i32_111
  let v212 : BitVec 32 := v211
  let v213 : Index := Scalar.indexCast v212
  let c0_112 : Index := 0#32
  ![v213.toNat, 0]
def k0_mult34 (i : grid0.Coords) : BitVec 32 :=
  let c4_i32 : BitVec 32 := 4#32
  let arg2 : BitVec 32 := BitVec.ofNat 32 (i 2).val
  let v21 : BitVec 32 := Scalar.muli c4_i32 arg2
  let c2_i32_141 : BitVec 32 := 2#32
  let v267 : BitVec 32 := Scalar.addi v21 c2_i32_141
  let c256_i32_142 : BitVec 32 := 256#32
  let v268 : BitVec 32 := Scalar.muli v267 c256_i32_142
  v268
def k0_mult35 (i : grid0.Coords) : BitVec 32 :=
  let c4_i32 : BitVec 32 := 4#32
  let arg2 : BitVec 32 := BitVec.ofNat 32 (i 2).val
  let v21 : BitVec 32 := Scalar.muli c4_i32 arg2
  let c1_i32_152 : BitVec 32 := 1#32
  let v282 : BitVec 32 := Scalar.addi v21 c1_i32_152
  let c256_i32_153 : BitVec 32 := 256#32
  let v283 : BitVec 32 := Scalar.muli v282 c256_i32_153
  v283
def k0_mult36 (i : grid0.Coords) : BitVec 32 :=
  let c4_i32 : BitVec 32 := 4#32
  let arg2 : BitVec 32 := BitVec.ofNat 32 (i 2).val
  let v21 : BitVec 32 := Scalar.muli c4_i32 arg2
  let c0_i32_163 : BitVec 32 := 0#32
  let v297 : BitVec 32 := Scalar.addi v21 c0_i32_163
  let c256_i32_164 : BitVec 32 := 256#32
  let v298 : BitVec 32 := Scalar.muli v297 c256_i32_164
  v298
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2_e" => some (((Real.log 2)⁻¹ : ℝ) : EReal)
  | "masked" => some ⊥
  | _ => none
-- ==== ReferenceIdeal.lean ====
abbrev S4x4096x12x128 : Shape := ⟨4, ![4, 4096, 12, 128]⟩
abbrev S12 : Shape := ⟨1, ![12]⟩
abbrev S4096 : Shape := ⟨1, ![4096]⟩
abbrev S4x12x4096x4096 : Shape := ⟨4, ![4, 12, 4096, 4096]⟩
abbrev S_ : Shape := ⟨0, ![]⟩
abbrev S1x12x1x1 : Shape := ⟨4, ![1, 12, 1, 1]⟩
abbrev S1x4096 : Shape := ⟨2, ![1, 4096]⟩
abbrev S4096x1 : Shape := ⟨2, ![4096, 1]⟩
abbrev S4096x4096 : Shape := ⟨2, ![4096, 4096]⟩
abbrev S4x12x128x4096 : Shape := ⟨4, ![4, 12, 128, 4096]⟩
abbrev S4x4096x1536 : Shape := ⟨3, ![4, 4096, 1536]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x12x128, .f32⟩
  | .hbm, ⟨1, _⟩ => ⟨S4x4096x12x128, .f32⟩
  | .hbm, ⟨2, _⟩ => ⟨S4x4096x12x128, .f32⟩
  | .hbm, ⟨3, _⟩ => ⟨S12, .f32⟩
  | .hbm, ⟨4, _⟩ => ⟨S4096, .i32⟩
  | .hbm, ⟨5, _⟩ => ⟨S4x12x4096x4096, .f32⟩
  | .hbm, ⟨6, _⟩ => ⟨S_, .f32⟩
  | .hbm, ⟨7, _⟩ => ⟨S_, .f32⟩
  | .hbm, ⟨8, _⟩ => ⟨S4x12x4096x4096, .f32⟩
  | .hbm, ⟨9, _⟩ => ⟨S4x12x4096x4096, .f32⟩
  | .hbm, ⟨10, _⟩ => ⟨S1x12x1x1, .f32⟩
  | .hbm, ⟨11, _⟩ => ⟨S4x12x4096x4096, .f32⟩
  | .hbm, ⟨12, _⟩ => ⟨S4x12x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S4x12x4096x4096, .f32⟩
  | .hbm, ⟨19, _⟩ => ⟨S_, .f32⟩
  | .hbm, ⟨20, _⟩ => ⟨S4x12x4096x4096, .f32⟩
  | .hbm, ⟨21, _⟩ => ⟨S4x12x4096x4096, .f32⟩
  | .hbm, ⟨22, _⟩ => ⟨S4x12x4096x4096, .f32⟩
  | .hbm, ⟨23, _⟩ => ⟨S4x12x4096x4096, .f32⟩
  | .hbm, ⟨24, _⟩ => ⟨S4x12x4096x4096, .i1⟩
  | .hbm, ⟨25, _⟩ => ⟨S4x12x4096x4096, .f32⟩
  | .hbm, ⟨26, _⟩ => ⟨S4x12x4096x4096, .f32⟩
  | .hbm, ⟨27, _⟩ => ⟨S4x12x4096x4096, .f32⟩
  | .hbm, ⟨28, _⟩ => ⟨S4x12x4096x4096, .f32⟩
  | .hbm, ⟨29, _⟩ => ⟨S4x12x4096x4096, .f32⟩
  | .hbm, ⟨30, _⟩ => ⟨S4x12x4096x4096, .f32⟩
  | .hbm, ⟨31, _⟩ => ⟨S4x12x4096x4096, .f32⟩
  | .hbm, ⟨32, _⟩ => ⟨S4x12x4096x4096, .f32⟩
  | .hbm, ⟨33, _⟩ => ⟨S4x12x4096x4096, .f32⟩
  | .hbm, ⟨34, _⟩ => ⟨S4x12x4096x4096, .f32⟩
  | .hbm, ⟨35, _⟩ => ⟨S_, .f32⟩
  | .hbm, ⟨36, _⟩ => ⟨S_, .f32⟩
  | .hbm, ⟨37, _⟩ => ⟨S4x12x4096x4096, .i1⟩
  | .hbm, ⟨38, _⟩ => ⟨S4x12x4096x4096, .f32⟩
  | .hbm, ⟨39, _⟩ => ⟨S4x12x4096x4096, .f32⟩
  | .hbm, ⟨40, _⟩ => ⟨S_, .f32⟩
  | .hbm, ⟨41, _⟩ => ⟨S_, .f32⟩
  | .hbm, ⟨42, _⟩ => ⟨S4x12x4096x4096, .f32⟩
  | .hbm, ⟨43, _⟩ => ⟨S4x12x4096x4096, .f32⟩
  | .hbm, ⟨44, _⟩ => ⟨S4x12x4096x4096, .f32⟩
  | .hbm, ⟨45, _⟩ => ⟨S4x12x4096x4096, .f32⟩
  | .hbm, ⟨46, _⟩ => ⟨S_, .f32⟩
  | .hbm, ⟨47, _⟩ => ⟨S_, .f32⟩
  | .hbm, ⟨48, _⟩ => ⟨S4x12x4096x4096, .i1⟩
  | .hbm, ⟨49, _⟩ => ⟨S4x12x4096x4096, .f32⟩
  | .hbm, ⟨50, _⟩ => ⟨S4x12x4096x4096, .f32⟩
  | .hbm, ⟨51, _⟩ => ⟨S4x12x128x4096, .f32⟩
  | .hbm, ⟨52, _⟩ => ⟨S4x4096x12x128, .f32⟩
  | .hbm, ⟨53, _⟩ => ⟨S4x4096x1536, .f32⟩
  | _, _ => ⟨S4x4096x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v15 : Ref sig .tc := ⟨.hbm, 39, rfl⟩
abbrev main_call2_cst : Ref sig .tc := ⟨.hbm, 40, rfl⟩
abbrev main_call2_v0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x7168 : Shape := ⟨2, ![1024, 7168]⟩
abbrev S16384x1024 : Shape := ⟨2, ![16384, 1024]⟩
abbrev S1x1024 : Shape := ⟨2, ![1, 1024]⟩
abbrev S4x12x4096x128 : Shape := ⟨4, ![4, 12, 4096, 128]⟩
abbrev S16384x2560 : Shape := ⟨2, ![16384, 2560]⟩
abbrev S2048x1024 : Shape := ⟨2, ![2048, 1024]⟩
abbrev S1024x512 : Shape := ⟨2, ![1024, 512]⟩
abbrev S1x4x2048x128 : Shape := ⟨4, ![1, 4, 2048, 128]⟩
abbrev S2048x512 : Shape := ⟨2, ![2048, 512]⟩
abbrev S2048 : Shape := ⟨1, ![2048]⟩
abbrev S2048x1 : Shape := ⟨2, ![2048, 1]⟩
abbrev S1024x256 : Shape := ⟨2, ![1024, 256]⟩
abbrev S2048x256 : Shape := ⟨2, ![2048, 256]⟩
abbrev S2048x128 : Shape := ⟨2, ![2048, 128]⟩
abbrev S1x1x2048x128 : Shape := ⟨4, ![1, 1, 2048, 128]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7168, .f32⟩
  | .hbm, ⟨3, _⟩ => ⟨S16384x1024, .f32⟩
  | .hbm, ⟨4, _⟩ => ⟨S1024x7168, .bf16⟩
  | .hbm, ⟨5, _⟩ => ⟨S1x1024, .f32⟩
  | .hbm, ⟨6, _⟩ => ⟨S4x12x4096x128, .bf16⟩
  | .hbm, ⟨7, _⟩ => ⟨S4x12x4096x128, .f32⟩
  | .hbm, ⟨8, _⟩ => ⟨S4x12x4096x128, .f32⟩
  | .hbm, ⟨9, _⟩ => ⟨S16384x2560, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x4x2048x128, .bf16⟩
  | .local _ .vmem, ⟨6, _⟩ => ⟨S1x4x2048x128, .bf16⟩
  | .local _ .vmem, ⟨7, _⟩ => ⟨S1x4x2048x128, .f32⟩
  | .local _ .vmem, ⟨8, _⟩ => ⟨S1x4x2048x128, .f32⟩
  | .local _ .vmem, ⟨9, _⟩ => ⟨S1x4x2048x128, .f32⟩
  | .local _ .vmem, ⟨10, _⟩ => ⟨S1x4x2048x128, .f32⟩
  | .local _ .vmem, ⟨11, _⟩ => ⟨S2048x512, .f32⟩
  | .local _ .vmem, ⟨12, _⟩ => ⟨S2048x512, .f32⟩
  | .local _ .vmem, ⟨13, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 14], ![false, false]⟩

def k0_cond2 (i : grid0.Coords) : BitVec 1 :=
  let arg1 : BitVec 32 := BitVec.ofNat 32 (i 1).val
  let c3_i32 : BitVec 32 := 3#32
  let v3 : BitVec 1 := Scalar.cmpi .slt arg1 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32_2 : BitVec 32 := 3#32
  let v6 : BitVec 1 := Scalar.cmpi .sge arg1 c3_i32_2
  let c6_i32 : BitVec 32 := 6#32
  let v7 : BitVec 1 := Scalar.cmpi .slt arg1 c6_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c6_i32_4 : BitVec 32 := 6#32
  let v11 : BitVec 1 := Scalar.cmpi .sge arg1 c6_i32_4
  let c9_i32 : BitVec 32 := 9#32
  let v12 : BitVec 1 := Scalar.cmpi .slt arg1 c9_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c9_i32_6 : BitVec 32 := 9#32
  let v16 : BitVec 1 := Scalar.cmpi .sge arg1 c9_i32_6
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.subi arg1 c0_i32_4
  let c0_i32_5 : BitVec 32 := 0#32
  let c2_i32_6 : BitVec 32 := 2#32
  let v18 : BitVec 32 := Scalar.maxsi c0_i32_5 v17
  let v19 : BitVec 32 := Scalar.minsi c2_i32_6 v18
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v16.toNat, v19.toNat, v29.toNat, c0_i32_13.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.subi arg1 c3_i32
  let c0_i32_4 : BitVec 32 := 0#32
  let c2_i32_5 : BitVec 32 := 2#32
  let v18 : BitVec 32 := Scalar.maxsi c0_i32_4 v17
  let v19 : BitVec 32 := Scalar.minsi c2_i32_5 v18
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v16.toNat, v19.toNat, v29.toNat, c0_i32_12.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.subi arg1 c6_i32
  let c0_i32_4 : BitVec 32 := 0#32
  let c2_i32_5 : BitVec 32 := 2#32
  let v18 : BitVec 32 := Scalar.maxsi c0_i32_4 v17
  let v19 : BitVec 32 := Scalar.minsi c2_i32_5 v18
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v16.toNat, v19.toNat, v29.toNat, c0_i32_12.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
variable {F : FTy → Type} [FloatOps F] [Named F]
def κ : String → Option EReal := fun
  | "q_scale" => some ((((Real.sqrt 128) * (Real.log 2))⁻¹ : ℝ) : EReal)
  | _ => none
-- ==== Reference2Ideal.lean ====
abbrev S4x4096x1024 : Shape := ⟨3, ![4, 4096, 1024]⟩
abbrev S1024 : Shape := ⟨1, ![1024]⟩
abbrev S1024x7168 : Shape := ⟨2, ![1024, 7168]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7168 : Shape := ⟨3, ![4, 4096, 7168]⟩
abbrev S4x4096x1536 : Shape := ⟨3, ![4, 4096, 1536]⟩
abbrev S4x4096x12x128 : Shape := ⟨4, ![4, 4096, 12, 128]⟩
abbrev S4x12x4096x128 : Shape := ⟨4, ![4, 12, 4096, 128]⟩
abbrev S4x4096x2560 : Shape := ⟨3, ![4, 4096, 2560]⟩
abbrev S16384x2560 : Shape := ⟨2, ![16384, 2560]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x7168, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x7168, .f32⟩
  | .hbm, ⟨20, _⟩ => ⟨S4x4096x1536, .f32⟩
  | .hbm, ⟨21, _⟩ => ⟨S4x4096x12x128, .f32⟩
  | .hbm, ⟨22, _⟩ => ⟨S4x4096x1536, .f32⟩
  | .hbm, ⟨23, _⟩ => ⟨S4x4096x12x128, .f32⟩
  | .hbm, ⟨24, _⟩ => ⟨S4x4096x1536, .f32⟩
  | .hbm, ⟨25, _⟩ => ⟨S4x4096x12x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4096x12x128, .f32⟩
  | .hbm, ⟨32, _⟩ => ⟨S4x4096x12x128, .f32⟩
  | .hbm, ⟨33, _⟩ => ⟨S4x4096x12x128, .bf16⟩
  | .hbm, ⟨34, _⟩ => ⟨S4x12x4096x128, .bf16⟩
  | .hbm, ⟨35, _⟩ => ⟨S4x12x4096x128, .f32⟩
  | .hbm, ⟨36, _⟩ => ⟨S4x12x4096x128, .f32⟩
  | .hbm, ⟨37, _⟩ => ⟨S4x4096x2560, .f32⟩
  | .hbm, ⟨38, _⟩ => ⟨S16384x2560, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x4096 : Shape := ⟨2, ![1024, 4096]⟩
abbrev S16384x1024 : Shape := ⟨2, ![16384, 1024]⟩
abbrev S1x1024 : Shape := ⟨2, ![1, 1024]⟩
abbrev S16384x4096 : Shape := ⟨2, ![16384, 4096]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩
abbrev S4x4096x4096 : Shape := ⟨3, ![4, 4096, 4096]⟩
abbrev S_ : Shape := ⟨0, ![]⟩
abbrev S4x16x1536 : Shape := ⟨3, ![4, 16, 1536]⟩
abbrev S4x15x1536 : Shape := ⟨3, ![4, 15, 1536]⟩
abbrev S4x30x1536 : Shape := ⟨3, ![4, 30, 1536]⟩

abbrev nBuf : Space → Nat
  | .hbm => 14
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S16384x1024, .f32⟩
  | .hbm, ⟨4, _⟩ => ⟨S1024x4096, .bf16⟩
  | .hbm, ⟨5, _⟩ => ⟨S1x1024, .f32⟩
  | .hbm, ⟨6, _⟩ => ⟨S16384x4096, .f32⟩
  | .hbm, ⟨7, _⟩ => ⟨S4x4096x4096, .f32⟩
  | .hbm, ⟨8, _⟩ => ⟨S_, .f32⟩
  | .hbm, ⟨9, _⟩ => ⟨S4x16x1536, .f32⟩
  | .hbm, ⟨10, _⟩ => ⟨S4x15x1536, .f32⟩
  | .hbm, ⟨11, _⟩ => ⟨S4x15x1536, .f32⟩
  | .hbm, ⟨12, _⟩ => ⟨S4x30x1536, .f32⟩
  | .hbm, ⟨13, _⟩ => ⟨S4x15x1536, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .f32⟩
  | .local _ .vmem, ⟨6, _⟩ => ⟨S2048x1024, .f32⟩
  | .local _ .vmem, ⟨7, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x4096x1024 : Shape := ⟨3, ![4, 4096, 1024]⟩
abbrev S1024 : Shape := ⟨1, ![1024]⟩
abbrev S1024x4096 : Shape := ⟨2, ![1024, 4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S4x15x1536 : Shape := ⟨3, ![4, 15, 1536]⟩
abbrev S4x4096x1536 : Shape := ⟨3, ![4, 4096, 1536]⟩
abbrev S4x4111x1536 : Shape := ⟨3, ![4, 4111, 1536]⟩
abbrev S16384x4096 : Shape := ⟨2, ![16384, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x4096, .f32⟩
  | .hbm, ⟨20, _⟩ => ⟨S_, .f32⟩
  | .hbm, ⟨21, _⟩ => ⟨S4x15x1536, .f32⟩
  | .hbm, ⟨22, _⟩ => ⟨S4x4096x1536, .f32⟩
  | .hbm, ⟨23, _⟩ => ⟨S4x4111x1536, .f32⟩
  | .hbm, ⟨24, _⟩ => ⟨S16384x4096, .f32⟩
  | .hbm, ⟨25, _⟩ => ⟨S4x15x1536, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x1536 : Shape := ⟨3, ![4, 4096, 1536]⟩
abbrev S4x4096x2560 : Shape := ⟨3, ![4, 4096, 2560]⟩
abbrev S4x256x4x128 : Shape := ⟨4, ![4, 256, 4, 128]⟩
abbrev S128 : Shape := ⟨1, ![128]⟩
abbrev S2048x1024 : Shape := ⟨2, ![2048, 1024]⟩
abbrev S4x256x512 : Shape := ⟨3, ![4, 256, 512]⟩
abbrev S1x128 : Shape := ⟨2, ![1, 128]⟩
abbrev S1x512x1536 : Shape := ⟨3, ![1, 512, 1536]⟩
abbrev S1x512x512 : Shape := ⟨3, ![1, 512, 512]⟩
abbrev S1x256x512 : Shape := ⟨3, ![1, 256, 512]⟩
abbrev S1x512x1024 : Shape := ⟨3, ![1, 512, 1024]⟩
abbrev S512x2048 : Shape := ⟨2, ![512, 2048]⟩
abbrev S512x1536 : Shape := ⟨2, ![512, 1536]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512 : Shape := ⟨1, ![512]⟩
abbrev S512x1 : Shape := ⟨2, ![512, 1]⟩
abbrev S512x256 : Shape := ⟨2, ![512, 256]⟩
abbrev S512x1024 : Shape := ⟨2, ![512, 1024]⟩

abbrev nBuf : Space → Nat
  | .hbm => 12
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1536, .f32⟩
  | .hbm, ⟨2, _⟩ => ⟨S4x4096x2560, .f32⟩
  | .hbm, ⟨3, _⟩ => ⟨S4x256x4x128, .f32⟩
  | .hbm, ⟨4, _⟩ => ⟨S4x256x4x128, .f32⟩
  | .hbm, ⟨5, _⟩ => ⟨S128, .f32⟩
  | .hbm, ⟨6, _⟩ => ⟨S2048x1024, .f32⟩
  | .hbm, ⟨7, _⟩ => ⟨S2048x1024, .bf16⟩
  | .hbm, ⟨8, _⟩ => ⟨S4x256x512, .f32⟩
  | .hbm, ⟨9, _⟩ => ⟨S4x256x512, .f32⟩
  | .hbm, ⟨10, _⟩ => ⟨S1x128, .f32⟩
  | .hbm, ⟨11, _⟩ => ⟨S4x4096x1024, .f32⟩
  | .local _ .vmem, ⟨0, _⟩ => ⟨S1x512x1536, .f32⟩
  | .local _ .vmem, ⟨1, _⟩ => ⟨S1x512x1536, .f32⟩
  | .local _ .vmem, ⟨2, _⟩ => ⟨S1x512x1536, .f32⟩
  | .local _ .vmem, ⟨3, _⟩ => ⟨S1x512x1536, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x128, .f32⟩
  | .local _ .vmem, ⟨13, _⟩ => ⟨S1x512x1024, .f32⟩
  | .local _ .vmem, ⟨14, _⟩ => ⟨S1x512x1024, .f32⟩
  | .local _ .vmem, ⟨15, _⟩ => ⟨S2048x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S4x4096x1024 : Shape := ⟨3, ![4, 4096, 1024]⟩
abbrev S4x4096x1536 : Shape := ⟨3, ![4, 4096, 1536]⟩
abbrev S4x4096x2560 : Shape := ⟨3, ![4, 4096, 2560]⟩
abbrev S4x256x4x128 : Shape := ⟨4, ![4, 256, 4, 128]⟩
abbrev S128 : Shape := ⟨1, ![128]⟩
abbrev S2048x1024 : Shape := ⟨2, ![2048, 1024]⟩
abbrev S4x4096x512 : Shape := ⟨3, ![4, 4096, 512]⟩
abbrev S4x4096x4x128 : Shape := ⟨4, ![4, 4096, 4, 128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S4x4096x2048 : Shape := ⟨3, ![4, 4096, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1536, .f32⟩
  | .hbm, ⟨2, _⟩ => ⟨S4x4096x2560, .f32⟩
  | .hbm, ⟨3, _⟩ => ⟨S4x256x4x128, .f32⟩
  | .hbm, ⟨4, _⟩ => ⟨S4x256x4x128, .f32⟩
  | .hbm, ⟨5, _⟩ => ⟨S128, .f32⟩
  | .hbm, ⟨6, _⟩ => ⟨S2048x1024, .f32⟩
  | .hbm, ⟨7, _⟩ => ⟨S4x4096x1536, .f32⟩
  | .hbm, ⟨8, _⟩ => ⟨S4x4096x512, .f32⟩
  | .hbm, ⟨9, _⟩ => ⟨S4x4096x512, .f32⟩
  | .hbm, ⟨10, _⟩ => ⟨S4x4096x4x128, .f32⟩
  | .hbm, ⟨11, _⟩ => ⟨S4x4096x4x128, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x128, .f32⟩
  | .hbm, ⟨23, _⟩ => ⟨S4x4096x4x128, .f32⟩
  | .hbm, ⟨24, _⟩ => ⟨S1x1x1x128, .f32⟩
  | .hbm, ⟨25, _⟩ => ⟨S4x4096x4x128, .f32⟩
  | .hbm, ⟨26, _⟩ => ⟨S4x4096x4x128, .f32⟩
  | .hbm, ⟨27, _⟩ => ⟨S4x4x4096x256, .f32⟩
  | .hbm, ⟨28, _⟩ => ⟨S_, .f32⟩
  | .hbm, ⟨29, _⟩ => ⟨S4x4x4096x256, .f32⟩
  | .hbm, ⟨30, _⟩ => ⟨S4x4x4096x256, .f32⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S4x4x4096, .f32⟩
  | .hbm, ⟨36, _⟩ => ⟨S4x4x4096x1, .f32⟩
  | .hbm, ⟨37, _⟩ => ⟨S4x4x4096x256, .f32⟩
  | .hbm, ⟨38, _⟩ => ⟨S4x4x4096x256, .f32⟩
  | .hbm, ⟨39, _⟩ => ⟨S4x4x4096x256, .f32⟩
  | .hbm, ⟨40, _⟩ => ⟨S_, .f32⟩
  | .hbm, ⟨41, _⟩ => ⟨S4x4x4096, .f32⟩
  | .hbm, ⟨42, _⟩ => ⟨S4x4x4096x1, .f32⟩
  | .hbm, ⟨43, _⟩ => ⟨S4x4x4096x256, .f32⟩
  | .hbm, ⟨44, _⟩ => ⟨S4x4x4096x256, .f32⟩
  | .hbm, ⟨45, _⟩ => ⟨S4x4x128x4096, .f32⟩
  | .hbm, ⟨46, _⟩ => ⟨S4x4096x4x128, .f32⟩
  | .hbm, ⟨47, _⟩ => ⟨S4x4096x512, .f32⟩
  | .hbm, ⟨48, _⟩ => ⟨S4x4096x1536, .f32⟩
  | .hbm, ⟨49, _⟩ => ⟨S4x4096x1536, .f32⟩
  | .hbm, ⟨50, _⟩ => ⟨S_, .f32⟩
  | .hbm, ⟨51, _⟩ => ⟨S4x4096x1536, .f32⟩
  | .hbm, ⟨52, _⟩ => ⟨S4x4096x1536, .f32⟩
  | .hbm, ⟨53, _⟩ => ⟨S_, .f32⟩
  | .hbm, ⟨54, _⟩ => ⟨S4x4096x1536, .f32⟩
  | .hbm, ⟨55, _⟩ => ⟨S4x4096x1536, .f32⟩
  | .hbm, ⟨56, _⟩ => ⟨S4x4096x1536, .f32⟩
  | .hbm, ⟨57, _⟩ => ⟨S4x4096x1536, .f32⟩
  | .hbm, ⟨58, _⟩ => ⟨S4x4096x512, .f32⟩
  | .hbm, ⟨59, _⟩ => ⟨S4x4096x512, .f32⟩
  | .hbm, ⟨60, _⟩ => ⟨S_, .f32⟩
  | .hbm, ⟨61, _⟩ => ⟨S4x4096x512, .f32⟩
  | .hbm, ⟨62, _⟩ => ⟨S4x4096x512, .f32⟩
  | .hbm, ⟨63, _⟩ => ⟨S_, .f32⟩
  | .hbm, ⟨64, _⟩ => ⟨S4x4096x512, .f32⟩
  | .hbm, ⟨65, _⟩ => ⟨S4x4096x512, .f32⟩
  | .hbm, ⟨66, _⟩ => ⟨S4x4096x512, .f32⟩
  | .hbm, ⟨67, _⟩ => ⟨S4x4096x512, .f32⟩
  | .hbm, ⟨68, _⟩ => ⟨S4x4096x2048, .f32⟩
  | .hbm, ⟨69, _⟩ => ⟨S4x4096x1024, .f32⟩
  | .hbm, ⟨70, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]
-- ==== Kernel5.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S1x1024 : Shape := ⟨2, ![1, 1024]⟩
abbrev S1024x1 : Shape := ⟨2, ![1024, 1]⟩
abbrev S1x128 : Shape := ⟨2, ![1, 128]⟩
abbrev S1024x512 : Shape := ⟨2, ![1024, 512]⟩
abbrev S1024x128 : Shape := ⟨2, ![1024, 128]⟩
abbrev S4x256x512 : Shape := ⟨3, ![4, 256, 512]⟩
abbrev S4x256x4x128 : Shape := ⟨4, ![4, 256, 4, 128]⟩

abbrev nBuf : Space → Nat
  | .hbm => 15
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S1024x1024, .f32⟩
  | .hbm, ⟨8, _⟩ => ⟨S1x128, .f32⟩
  | .hbm, ⟨9, _⟩ => ⟨S1024x512, .f32⟩
  | .hbm, ⟨10, _⟩ => ⟨S4x256x512, .f32⟩
  | .hbm, ⟨11, _⟩ => ⟨S1024x512, .f32⟩
  | .hbm, ⟨12, _⟩ => ⟨S4x256x512, .f32⟩
  | .hbm, ⟨13, _⟩ => ⟨S4x256x4x128, .f32⟩
  | .hbm, ⟨14, _⟩ => ⟨S4x256x4x128, .f32⟩
  | .local _ .vmem, ⟨0, _⟩ => ⟨S1024x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .bf16⟩
  | .local _ .vmem, ⟨5, _⟩ => ⟨S1024x512, .f32⟩
  | .local _ .vmem, ⟨6, _⟩ => ⟨S1x128, .f32⟩
  | .local _ .vmem, ⟨7, _⟩ => ⟨S1024x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== Reference5Ideal.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x512, .f32⟩
  | .hbm, ⟨22, _⟩ => ⟨S4x256x4x128, .f32⟩
  | .hbm, ⟨23, _⟩ => ⟨S4x256x4x128, .f32⟩
  | .hbm, ⟨24, _⟩ => ⟨S_, .f32⟩
  | .hbm, ⟨25, _⟩ => ⟨S4x256x4, .f32⟩
  | .hbm, ⟨26, _⟩ => ⟨S4x256x4x1, .f32⟩
  | .hbm, ⟨27, _⟩ => ⟨S_, .f32⟩
  | .hbm, ⟨28, _⟩ => ⟨S4x256x4x1, .f32⟩
  | .hbm, ⟨29, _⟩ => ⟨S4x256x4x1, .f32⟩
  | .hbm, ⟨30, _⟩ => ⟨S_, .f32⟩
  | .hbm, ⟨31, _⟩ => ⟨S4x256x4x1, .f32⟩
  | .hbm, ⟨32, _⟩ => ⟨S4x256x4x1, .f32⟩
  | .hbm, ⟨33, _⟩ => ⟨S4x256x4x1, .f32⟩
  | .hbm, ⟨34, _⟩ => ⟨S4x256x4x128, .f32⟩
  | .hbm, ⟨35, _⟩ => ⟨S4x256x4x128, .f32⟩
  | .hbm, ⟨36, _⟩ => ⟨S1x1x1x128, .f32⟩
  | .hbm, ⟨37, _⟩ => ⟨S4x256x4x128, .f32⟩
  | .hbm, ⟨38, _⟩ => ⟨S4x256x4x128, .f32⟩
  | .hbm, ⟨39, _⟩ => ⟨S4x256x512, .f32⟩
  | .hbm, ⟨40, _⟩ => ⟨S4x256x4x128, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel6.lean ====
abbrev S32x4x1024 : Shape := ⟨3, ![32, 4, 1024]⟩
abbrev S1024 : Shape := ⟨1, ![1024]⟩
abbrev S1024x7168 : Shape := ⟨2, ![1024, 7168]⟩
abbrev S128x1024 : Shape := ⟨2, ![128, 1024]⟩
abbrev S1x1024 : Shape := ⟨2, ![1, 1024]⟩
abbrev S128x7168 : Shape := ⟨2, ![128, 7168]⟩
abbrev S1024x1024 : Shape := ⟨2, ![1024, 1024]⟩
abbrev S128 : Shape := ⟨1, ![128]⟩
abbrev S128x1 : Shape := ⟨2, ![128, 1]⟩
abbrev S32x4x7168 : Shape := ⟨3, ![32, 4, 7168]⟩
abbrev S32x4x1536 : Shape := ⟨3, ![32, 4, 1536]⟩
abbrev S32x4x12x128 : Shape := ⟨4, ![32, 4, 12, 128]⟩

abbrev nBuf : Space → Nat
  | .hbm => 12
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x7168, .f32⟩
  | .hbm, ⟨3, _⟩ => ⟨S128x1024, .f32⟩
  | .hbm, ⟨4, _⟩ => ⟨S1024x7168, .bf16⟩
  | .hbm, ⟨5, _⟩ => ⟨S1x1024, .f32⟩
  | .hbm, ⟨6, _⟩ => ⟨S128x7168, .f32⟩
  | .hbm, ⟨7, _⟩ => ⟨S32x4x7168, .f32⟩
  | .hbm, ⟨8, _⟩ => ⟨S32x4x1536, .f32⟩
  | .hbm, ⟨9, _⟩ => ⟨S32x4x1536, .f32⟩
  | .hbm, ⟨10, _⟩ => ⟨S32x4x12x128, .f32⟩
  | .hbm, ⟨11, _⟩ => ⟨S32x4x12x128, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32x4x1024 : Shape := ⟨3, ![32, 4, 1024]⟩
abbrev S1024 : Shape := ⟨1, ![1024]⟩
abbrev S1024x7168 : Shape := ⟨2, ![1024, 7168]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x7168 : Shape := ⟨3, ![32, 4, 7168]⟩
abbrev S32x4x1536 : Shape := ⟨3, ![32, 4, 1536]⟩
abbrev S32x4x12x128 : Shape := ⟨4, ![32, 4, 12, 128]⟩

abbrev nBuf : Space → Nat
  | .hbm => 24
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x7168, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x7168, .f32⟩
  | .hbm, ⟨20, _⟩ => ⟨S32x4x1536, .f32⟩
  | .hbm, ⟨21, _⟩ => ⟨S32x4x12x128, .f32⟩
  | .hbm, ⟨22, _⟩ => ⟨S32x4x1536, .f32⟩
  | .hbm, ⟨23, _⟩ => ⟨S32x4x12x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S32x4x1024 : Shape := ⟨3, ![32, 4, 1024]⟩
abbrev S1024 : Shape := ⟨1, ![1024]⟩
abbrev S1024x4096 : Shape := ⟨2, ![1024, 4096]⟩
abbrev S32x15x1536 : Shape := ⟨3, ![32, 15, 1536]⟩
abbrev S128x1024 : Shape := ⟨2, ![128, 1024]⟩
abbrev S1x1024 : Shape := ⟨2, ![1, 1024]⟩
abbrev S128x4096 : Shape := ⟨2, ![128, 4096]⟩
abbrev S1024x1024 : Shape := ⟨2, ![1024, 1024]⟩
abbrev S128 : Shape := ⟨1, ![128]⟩
abbrev S128x1 : Shape := ⟨2, ![128, 1]⟩
abbrev S32x4x4096 : Shape := ⟨3, ![32, 4, 4096]⟩
abbrev S32x4x1536 : Shape := ⟨3, ![32, 4, 1536]⟩
abbrev S32x19x1536 : Shape := ⟨3, ![32, 19, 1536]⟩

abbrev nBuf : Space → Nat
  | .hbm => 12
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4096, .f32⟩
  | .hbm, ⟨3, _⟩ => ⟨S32x15x1536, .f32⟩
  | .hbm, ⟨4, _⟩ => ⟨S128x1024, .f32⟩
  | .hbm, ⟨5, _⟩ => ⟨S1024x4096, .bf16⟩
  | .hbm, ⟨6, _⟩ => ⟨S1x1024, .f32⟩
  | .hbm, ⟨7, _⟩ => ⟨S128x4096, .f32⟩
  | .hbm, ⟨8, _⟩ => ⟨S32x4x4096, .f32⟩
  | .hbm, ⟨9, _⟩ => ⟨S32x4x1536, .f32⟩
  | .hbm, ⟨10, _⟩ => ⟨S32x19x1536, .f32⟩
  | .hbm, ⟨11, _⟩ => ⟨S32x15x1536, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32x4x1024 : Shape := ⟨3, ![32, 4, 1024]⟩
abbrev S1024 : Shape := ⟨1, ![1024]⟩
abbrev S1024x4096 : Shape := ⟨2, ![1024, 4096]⟩
abbrev S32x15x1536 : Shape := ⟨3, ![32, 15, 1536]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4096 : Shape := ⟨3, ![32, 4, 4096]⟩
abbrev S32x4x1536 : Shape := ⟨3, ![32, 4, 1536]⟩
abbrev S32x19x1536 : Shape := ⟨3, ![32, 19, 1536]⟩

abbrev nBuf : Space → Nat
  | .hbm => 24
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4096, .f32⟩
  | .hbm, ⟨3, _⟩ => ⟨S32x15x1536, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S32x4x4096, .f32⟩
  | .hbm, ⟨21, _⟩ => ⟨S32x4x1536, .f32⟩
  | .hbm, ⟨22, _⟩ => ⟨S32x19x1536, .f32⟩
  | .hbm, ⟨23, _⟩ => ⟨S32x15x1536, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S32x4x1024 : Shape := ⟨3, ![32, 4, 1024]⟩
abbrev S32x4x1536 : Shape := ⟨3, ![32, 4, 1536]⟩
abbrev S32x4x7168 : Shape := ⟨3, ![32, 4, 7168]⟩
abbrev S32x4x512 : Shape := ⟨3, ![32, 4, 512]⟩
abbrev S2048x1024 : Shape := ⟨2, ![2048, 1024]⟩
abbrev S128x1536 : Shape := ⟨2, ![128, 1536]⟩
abbrev S128x7168 : Shape := ⟨2, ![128, 7168]⟩
abbrev S128x512 : Shape := ⟨2, ![128, 512]⟩
abbrev S128x1024 : Shape := ⟨2, ![128, 1024]⟩
abbrev S1536x1024 : Shape := ⟨2, ![1536, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S32x4x1536, .f32⟩
  | .hbm, ⟨2, _⟩ => ⟨S32x4x7168, .f32⟩
  | .hbm, ⟨3, _⟩ => ⟨S32x4x512, .f32⟩
  | .hbm, ⟨4, _⟩ => ⟨S2048x1024, .f32⟩
  | .hbm, ⟨5, _⟩ => ⟨S128x1536, .f32⟩
  | .hbm, ⟨6, _⟩ => ⟨S128x7168, .f32⟩
  | .hbm, ⟨7, _⟩ => ⟨S128x512, .f32⟩
  | .hbm, ⟨8, _⟩ => ⟨S128x1024, .f32⟩
  | .hbm, ⟨9, _⟩ => ⟨S2048x1024, .bf16⟩
  | .hbm, ⟨10, _⟩ => ⟨S128x1024, .f32⟩
  | .local _ .vmem, ⟨0, _⟩ => ⟨S128x1536, .f32⟩
  | .local _ .vmem, ⟨1, _⟩ => ⟨S128x1536, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S2048x1024, .bf16⟩
  | .local _ .vmem, ⟨6, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S32x4x1024 : Shape := ⟨3, ![32, 4, 1024]⟩
abbrev S32x4x1536 : Shape := ⟨3, ![32, 4, 1536]⟩
abbrev S32x4x7168 : Shape := ⟨3, ![32, 4, 7168]⟩
abbrev S32x4x512 : Shape := ⟨3, ![32, 4, 512]⟩
abbrev S2048x1024 : Shape := ⟨2, ![2048, 1024]⟩
abbrev S_ : Shape := ⟨0, ![]⟩
abbrev S32x4x2048 : Shape := ⟨3, ![32, 4, 2048]⟩
abbrev S128x1024 : Shape := ⟨2, ![128, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1536, .f32⟩
  | .hbm, ⟨2, _⟩ => ⟨S32x4x7168, .f32⟩
  | .hbm, ⟨3, _⟩ => ⟨S32x4x512, .f32⟩
  | .hbm, ⟨4, _⟩ => ⟨S2048x1024, .f32⟩
  | .hbm, ⟨5, _⟩ => ⟨S32x4x1536, .f32⟩
  | .hbm, ⟨6, _⟩ => ⟨S32x4x512, .f32⟩
  | .hbm, ⟨7, _⟩ => ⟨S32x4x1536, .f32⟩
  | .hbm, ⟨8, _⟩ => ⟨S32x4x1536, .f32⟩
  | .hbm, ⟨9, _⟩ => ⟨S_, .f32⟩
  | .hbm, ⟨10, _⟩ => ⟨S32x4x1536, .f32⟩
  | .hbm, ⟨11, _⟩ => ⟨S32x4x1536, .f32⟩
  | .hbm, ⟨12, _⟩ => ⟨S_, .f32⟩
  | .hbm, ⟨13, _⟩ => ⟨S32x4x1536, .f32⟩
  | .hbm, ⟨14, _⟩ => ⟨S32x4x1536, .f32⟩
  | .hbm, ⟨15, _⟩ => ⟨S32x4x1536, .f32⟩
  | .hbm, ⟨16, _⟩ => ⟨S32x4x1536, .f32⟩
  | .hbm, ⟨17, _⟩ => ⟨S32x4x512, .f32⟩
  | .hbm, ⟨18, _⟩ => ⟨S32x4x512, .f32⟩
  | .hbm, ⟨19, _⟩ => ⟨S_, .f32⟩
  | .hbm, ⟨20, _⟩ => ⟨S32x4x512, .f32⟩
  | .hbm, ⟨21, _⟩ => ⟨S32x4x512, .f32⟩
  | .hbm, ⟨22, _⟩ => ⟨S_, .f32⟩
  | .hbm, ⟨23, _⟩ => ⟨S32x4x512, .f32⟩
  | .hbm, ⟨24, _⟩ => ⟨S32x4x512, .f32⟩
  | .hbm, ⟨25, _⟩ => ⟨S32x4x512, .f32⟩
  | .hbm, ⟨26, _⟩ => ⟨S32x4x512, .f32⟩
  | .hbm, ⟨27, _⟩ => ⟨S32x4x2048, .f32⟩
  | .hbm, ⟨28, _⟩ => ⟨S32x4x1024, .f32⟩
  | .hbm, ⟨29, _⟩ => ⟨S32x4x1024, .f32⟩
  | .hbm, ⟨30, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Kernel9.lean ====
abbrev S32x4x4096 : Shape := ⟨3, ![32, 4, 4096]⟩
abbrev S32x15x1536 : Shape := ⟨3, ![32, 15, 1536]⟩
abbrev S4x384x384 : Shape := ⟨3, ![4, 384, 384]⟩
abbrev S1536 : Shape := ⟨1, ![1536]⟩
abbrev S_ : Shape := ⟨0, ![]⟩
abbrev S32x16x1536 : Shape := ⟨3, ![32, 16, 1536]⟩
abbrev S1x1536 : Shape := ⟨2, ![1, 1536]⟩
abbrev S32x4x1536 : Shape := ⟨3, ![32, 4, 1536]⟩
abbrev S1x4x1536 : Shape := ⟨3, ![1, 4, 1536]⟩
abbrev S1x16x1536 : Shape := ⟨3, ![1, 16, 1536]⟩
abbrev S32x1536 : Shape := ⟨2, ![32, 1536]⟩
abbrev S4x1536 : Shape := ⟨2, ![4, 1536]⟩
abbrev S16x1536 : Shape := ⟨2, ![16, 1536]⟩
abbrev S4x384 : Shape := ⟨2, ![4, 384]⟩
abbrev S4x1 : Shape := ⟨2, ![4, 1]⟩
abbrev S1x384x384 : Shape := ⟨3, ![1, 384, 384]⟩
abbrev S384x384 : Shape := ⟨2, ![384, 384]⟩
abbrev S1x384 : Shape := ⟨2, ![1, 384]⟩
abbrev S1x4x384 : Shape := ⟨3, ![1, 4, 384]⟩

abbrev nBuf : Space → Nat
  | .hbm => 10
  | .vmem => 10
  | .smem => 0
  | _ => 0

abbrev bufTy : (tb : Table) → Fin (tcTables nBuf tb) → BufTy
  | .hbm, ⟨0, _⟩ => ⟨S32x4x4096, .f32⟩
  | .hbm, ⟨1, _⟩ => ⟨S32x15x1536, .f32⟩
  | .hbm, ⟨2, _⟩ => ⟨S4x384x384, .f32⟩
  | .hbm, ⟨3, _⟩ => ⟨S1536, .f32⟩
  | .hbm, ⟨4, _⟩ => ⟨S_, .i32⟩
  | .hbm, ⟨5, _⟩ => ⟨S_, .f32⟩
  | .hbm, ⟨6, _⟩ => ⟨S32x16x1536, .f32⟩
  | .hbm, ⟨7, _⟩ => ⟨S4x384x384, .bf16⟩
  | .hbm, ⟨8, _⟩ => ⟨S1x1536, .f32⟩
  | .hbm, ⟨9, _⟩ => ⟨S32x4x1536, .f32⟩
  | .local _ .vmem, ⟨0, _⟩ => ⟨S1x4x1536, .f32⟩
  | .local _ .vmem, ⟨1, _⟩ => ⟨S1x4x1536, .f32⟩
  | .local _ .vmem, ⟨2, _⟩ => ⟨S1x16x1536, .f32⟩
  | .local _ .vmem, ⟨3, _⟩ => ⟨S1x16x1536, .f32⟩
  | .local _ .vmem, ⟨4, _⟩ => ⟨S4x384x384, .bf16⟩
  | .local _ .vmem, ⟨5, _⟩ => ⟨S1x1536, .f32⟩
  | .local _ .vmem, ⟨6, _⟩ => ⟨S1x4x1536, .f32⟩
  | .local _ .vmem, ⟨7, _⟩ => ⟨S1x4x1536, .f32⟩
  | .local _ .vmem, ⟨8, _⟩ => ⟨S32x1536, .f32⟩
  | .local _ .vmem, ⟨9, _⟩ => ⟨S4x1536, .bf16⟩
  | _, _ => ⟨S32x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S32x4x4096 : Shape := ⟨3, ![32, 4, 4096]⟩
abbrev S32x15x1536 : Shape := ⟨3, ![32, 15, 1536]⟩
abbrev S4x384x384 : Shape := ⟨3, ![4, 384, 384]⟩
abbrev S1536 : Shape := ⟨1, ![1536]⟩
abbrev S32x4x1536 : Shape := ⟨3, ![32, 4, 1536]⟩
abbrev S32x19x1536 : Shape := ⟨3, ![32, 19, 1536]⟩
abbrev S4 : Shape := ⟨1, ![4]⟩
abbrev S_ : Shape := ⟨0, ![]⟩
abbrev S32x19x4x384 : Shape := ⟨4, ![32, 19, 4, 384]⟩
abbrev S32x1x4x384 : Shape := ⟨4, ![32, 1, 4, 384]⟩
abbrev S32x20x4x384 : Shape := ⟨4, ![32, 20, 4, 384]⟩
abbrev S32x4x4x384 : Shape := ⟨4, ![32, 4, 4, 384]⟩
abbrev S32x4x1x384 : Shape := ⟨4, ![32, 4, 1, 384]⟩
abbrev S32x4x384 : Shape := ⟨3, ![32, 4, 384]⟩
abbrev S1x4x1 : Shape := ⟨3, ![1, 4, 1]⟩
abbrev S4x384x32x4 : Shape := ⟨4, ![4, 384, 32, 4]⟩
abbrev S1x1x1536 : Shape := ⟨3, ![1, 1, 1536]⟩

abbrev nBuf : Space → Nat
  | .hbm => 92
  | .vmem => 0
  | .smem => 0
  | _ => 0

abbrev bufTy : (tb : Table) → Fin (tcTables nBuf tb) → BufTy
  | .hbm, ⟨0, _⟩ => ⟨S32x4x4096, .f32⟩
  | .hbm, ⟨1, _⟩ => ⟨S32x15x1536, .f32⟩
  | .hbm, ⟨2, _⟩ => ⟨S4x384x384, .f32⟩
  | .hbm, ⟨3, _⟩ => ⟨S1536, .f32⟩
  | .hbm, ⟨4, _⟩ => ⟨S32x4x1536, .f32⟩
  | .hbm, ⟨5, _⟩ => ⟨S32x19x1536, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S32x19x4x384, .f32⟩
  | .hbm, ⟨11, _⟩ => ⟨S32x1x4x384, .f32⟩
  | .hbm, ⟨12, _⟩ => ⟨S_, .f32⟩
  | .hbm, ⟨13, _⟩ => ⟨S32x1x4x384, .f32⟩
  | .hbm, ⟨14, _⟩ => ⟨S_, .f32⟩
  | .hbm, ⟨15, _⟩ => ⟨S_, .f32⟩
  | .hbm, ⟨16, _⟩ => ⟨S32x19x4x384, .f32⟩
  | .hbm, ⟨17, _⟩ => ⟨S32x20x4x384, .f32⟩
  | .hbm, ⟨18, _⟩ => ⟨S32x4x4x384, .f32⟩
  | .hbm, ⟨19, _⟩ => ⟨S32x4x1x384, .f32⟩
  | .hbm, ⟨20, _⟩ => ⟨S32x4x384, .f32⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S_, .i32⟩
  | .hbm, ⟨25, _⟩ => ⟨S4, .i32⟩
  | .hbm, ⟨26, _⟩ => ⟨S4, .i32⟩
  | .hbm, ⟨27, _⟩ => ⟨S4, .f32⟩
  | .hbm, ⟨28, _⟩ => ⟨S1x4x1, .f32⟩
  | .hbm, ⟨29, _⟩ => ⟨S32x4x1x384, .f32⟩
  | .hbm, ⟨30, _⟩ => ⟨S32x4x384, .f32⟩
  | .hbm, ⟨31, _⟩ => ⟨S32x4x384, .f32⟩
  | .hbm, ⟨32, _⟩ => ⟨S32x4x384, .f32⟩
  | .hbm, ⟨33, _⟩ => ⟨S32x4x384, .f32⟩
  | .hbm, ⟨34, _⟩ => ⟨S32x4x1x384, .f32⟩
  | .hbm, ⟨35, _⟩ => ⟨S32x4x384, .f32⟩
  | .hbm, ⟨36, _⟩ => ⟨S_, .i32⟩
  | .hbm, ⟨37, _⟩ => ⟨S4, .i32⟩
  | .hbm, ⟨38, _⟩ => ⟨S4, .i32⟩
  | .hbm, ⟨39, _⟩ => ⟨S_, .i32⟩
  | .hbm, ⟨40, _⟩ => ⟨S4, .i32⟩
  | .hbm, ⟨41, _⟩ => ⟨S4, .i32⟩
  | .hbm, ⟨42, _⟩ => ⟨S4, .f32⟩
  | .hbm, ⟨43, _⟩ => ⟨S1x4x1, .f32⟩
  | .hbm, ⟨44, _⟩ => ⟨S32x4x1x384, .f32⟩
  | .hbm, ⟨45, _⟩ => ⟨S32x4x384, .f32⟩
  | .hbm, ⟨46, _⟩ => ⟨S32x4x384, .f32⟩
  | .hbm, ⟨47, _⟩ => ⟨S32x4x384, .f32⟩
  | .hbm, ⟨48, _⟩ => ⟨S32x4x384, .f32⟩
  | .hbm, ⟨49, _⟩ => ⟨S32x4x1x384, .f32⟩
  | .hbm, ⟨50, _⟩ => ⟨S32x4x384, .f32⟩
  | .hbm, ⟨51, _⟩ => ⟨S_, .i32⟩
  | .hbm, ⟨52, _⟩ => ⟨S4, .i32⟩
  | .hbm, ⟨53, _⟩ => ⟨S4, .i32⟩
  | .hbm, ⟨54, _⟩ => ⟨S_, .i32⟩
  | .hbm, ⟨55, _⟩ => ⟨S4, .i32⟩
  | .hbm, ⟨56, _⟩ => ⟨S4, .i32⟩
  | .hbm, ⟨57, _⟩ => ⟨S4, .f32⟩
  | .hbm, ⟨58, _⟩ => ⟨S1x4x1, .f32⟩
  | .hbm, ⟨59, _⟩ => ⟨S32x4x1x384, .f32⟩
  | .hbm, ⟨60, _⟩ => ⟨S32x4x384, .f32⟩
  | .hbm, ⟨61, _⟩ => ⟨S32x4x384, .f32⟩
  | .hbm, ⟨62, _⟩ => ⟨S32x4x384, .f32⟩
  | .hbm, ⟨63, _⟩ => ⟨S32x4x384, .f32⟩
  | .hbm, ⟨64, _⟩ => ⟨S32x4x1x384, .f32⟩
  | .hbm, ⟨65, _⟩ => ⟨S32x4x384, .f32⟩
  | .hbm, ⟨66, _⟩ => ⟨S_, .i32⟩
  | .hbm, ⟨67, _⟩ => ⟨S4, .i32⟩
  | .hbm, ⟨68, _⟩ => ⟨S4, .i32⟩
  | .hbm, ⟨69, _⟩ => ⟨S_, .i32⟩
  | .hbm, ⟨70, _⟩ => ⟨S4, .i32⟩
  | .hbm, ⟨71, _⟩ => ⟨S4, .i32⟩
  | .hbm, ⟨72, _⟩ => ⟨S4, .f32⟩
  | .hbm, ⟨73, _⟩ => ⟨S1x4x1, .f32⟩
  | .hbm, ⟨74, _⟩ => ⟨S32x4x1x384, .f32⟩
  | .hbm, ⟨75, _⟩ => ⟨S32x4x384, .f32⟩
  | .hbm, ⟨76, _⟩ => ⟨S32x4x384, .f32⟩
  | .hbm, ⟨77, _⟩ => ⟨S32x4x384, .f32⟩
  | .hbm, ⟨78, _⟩ => ⟨S32x4x384, .f32⟩
  | .hbm, ⟨79, _⟩ => ⟨S32x4x1x384, .f32⟩
  | .hbm, ⟨80, _⟩ => ⟨S32x4x1x384, .f32⟩
  | .hbm, ⟨81, _⟩ => ⟨S32x4x1x384, .f32⟩
  | .hbm, ⟨82, _⟩ => ⟨S32x4x1x384, .f32⟩
  | .hbm, ⟨83, _⟩ => ⟨S32x4x4x384, .f32⟩
  | .hbm, ⟨84, _⟩ => ⟨S32x4x4x384, .f32⟩
  | .hbm, ⟨85, _⟩ => ⟨S32x4x4x384, .f32⟩
  | .hbm, ⟨86, _⟩ => ⟨S4x384x32x4, .f32⟩
  | .hbm, ⟨87, _⟩ => ⟨S32x4x4x384, .f32⟩
  | .hbm, ⟨88, _⟩ => ⟨S32x4x1536, .f32⟩
  | .hbm, ⟨89, _⟩ => ⟨S1x1x1536, .f32⟩
  | .hbm, ⟨90, _⟩ => ⟨S32x4x1536, .f32⟩
  | .hbm, ⟨91, _⟩ => ⟨S32x4x1536, .f32⟩
  | _, _ => ⟨S32x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_call0_call0_cst : Ref sig .tc := ⟨.hbm, 14, rfl⟩
abbrev main_call0_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_6 : Ref sig .tc := ⟨.hbm, 66, rfl⟩
abbrev main_v52 : Ref sig .tc := ⟨.hbm, 67, rfl⟩
abbrev main_v53 : Ref sig .tc := ⟨.hbm, 68, rfl⟩
abbrev main_c_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩

abbrev nD : Nat := 1
abbrev τ : Topo := Topo.v7x

variable {F : FTy → Type} [FloatOps F]
-- ==== Proof.Steps.lean ====
/- The attention kernel's body as a sequence of three kinds of step — the scores of one key tile, the weights of one
   tile, the weighted values of one tile — each a fixed run of loads and stores, over a state of plain vectors. The
   steps take their offsets, sizes and payloads as arguments; nothing here depends on what the payloads compute. -/
module

public import proofs.«01_k».proof.Proof.Gen.KernelIdeal.Loops
public import Idealize.ShloMosaic.Lib.VecWindow
public import Idealize.ShloMosaic.Lib.Scf
public import Idealize.ShloMosaic.Lib.Pipeline.TableIdle

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ
abbrev Eff (F : FTy → Type) : Type → Type := TpuEff nD τ sig (Elt F) Λ₀ .tc

/-! ## A load and a store of a memref owned at a vector -/

section Access

variable (𝒱 : Variants) (c : Dev nD) (bd : Option 𝒱.V) (E : Set ℕ)
variable {s : Shape} {e : EltTy} {α : Type}

/-- A load of a memref owned at `x` reads a window of `x`. -/
theorem wp_load_owns {cs : CoreSpace} (m : Memref sig .tc cs s e) (x : Vec F s e) (off size : Fin s.rank → ℕ)
    (inb : ∀ a, off a + size a ≤ s.size a) {hl : m.view.LoadsAt (Rect.unit off size inb).toLoadRect}
    {k : ((Rect.unit off size inb).toLoadRect.shape.Idx → Elt F e) → Prog (Eff F) α} {Q : α → sProp 𝕄} :
    (owns (c : Thread nD τ) m fullShare x : sProp 𝕄)
      ⊢ iprop((owns (c : Thread nD τ) m fullShare x -∗ wp frame (wpE (defs₀ (F := F)) 𝒱 (c : Thread nD τ) bd) E (k (window x off size inb)) Q)
        -∗ wp frame (wpE (defs₀ (F := F)) 𝒱 (c : Thread nD τ) bd) E (.op (.load m (Rect.unit off size inb).toLoadRect hl) k) Q) := by
  rw [owns_eq_rep]
  rw [← View.readAt_rep_unit (v := m.view) (x := x) (inb := inb) (h := rfl) (inb' := inb)]
  exact wp_load 𝒱 (c : Thread nD τ) bd E (m.view.setOn_subset_set _)

/-- A whole store at a unit-stride rectangle of a memref owned at `x` leaves it owned at `x` with the payload put there. -/
theorem wp_store_owns (m : Memref sig .tc .vmem s e) (x : Vec F s e) (off size : Fin s.rank → ℕ)
    (inb : ∀ a, off a + size a ≤ s.size a) (w : (Rect.unit off size inb).shape.Idx → Elt F e)
    {hx : (m.access (Rect.unit off size inb)).Stores Finset.univ} {hm : Finset.univ = Finset.univ ∨ ∀ a, (Rect.unit off size inb).stride a = 1}
    {k : PUnit → Prog (Eff F) α} {Q : α → sProp 𝕄} :
    (owns (c : Thread nD τ) m fullShare x : sProp 𝕄)
      ⊢ iprop((owns (c : Thread nD τ) m fullShare (put x off size w) -∗ wp frame (wpE (defs₀ (F := F)) 𝒱 (c : Thread nD τ) bd) E (k ⟨⟩) Q)
        -∗ wp frame (wpE (defs₀ (F := F)) 𝒱 (c : Thread nD τ) bd) E (.op (.store m (Rect.unit off size inb) w Finset.univ hx hm) k) Q) := by
  rw [owns_eq_rep, owns_eq_rep]
  have h := wp_store_writes₀ (defs := defs₀ (F := F)) 𝒱 (c : Thread nD τ) bd E (Q := Q) (m := m) (r := Rect.unit off size inb) (w := w) (hx := hx) (hm := hm) (k := k)
    (S := m.view.set) (f := m.view.rep x) (View.setOn_slice_subset_set m.view _ _)
  iintro H HK
  ihave H2 := h $$ H
  iapply H2
  iintro H
  iapply HK
  ihave H' := (pointsTo_rep_of_read (c : Thread nD τ) m _ fullShare (put x off size w) (View.read_writes_rep_unit m.view x inb w rfl)) $$ H
  iexact H'

end Access

/-! ## The state, and the three kinds of step -/

/-- The memrefs the body reads and writes. -/
structure Mems where
  arg3 : Memref sig .tc .smem S12 .f32
  arg4 : Memref sig .tc .vmem S1x1x1024x128 .bf16
  arg5 : Memref sig .tc .vmem S1x1x4096x128 .f32
  arg6 : Memref sig .tc .vmem S1x1x4096x128 .f32
  arg7 : Memref sig .tc .vmem S1x1024x128 .f32
  arg8 : Memref sig .tc .vmem S4096x128 .bf16
  arg9 : Memref sig .tc .vmem S4096x128 .bf16
  arg10 : Memref sig .tc .vmem S1024x128 .f32
  arg11 : Memref sig .tc .vmem S1024x1 .f32
  arg12 : Memref sig .tc .vmem S4x1024x256 .f32
  arg13 : Memref sig .tc .vmem S4x1024x256 .f32

/-- What the body reads: the bias, the queries, the keys and the values of its block. -/
structure In (F : FTy → Type) where
  bias : Vec F S12 .f32
  q : Vec F S1x1x1024x128 .bf16
  k : Vec F S1x1x4096x128 .f32
  v : Vec F S1x1x4096x128 .f32

/-- What the body writes: the keys and values it keeps, the running values, the carry, the scores, the weights, the
    output block. -/
structure St (F : FTy → Type) where
  kb : Vec F S4096x128 .bf16
  vb : Vec F S4096x128 .bf16
  acc : Vec F S1024x128 .f32
  car : Vec F S1024x1 .f32
  z : Vec F S4x1024x256 .f32
  w : Vec F S4x1024x256 .f32
  out : Vec F S1x1024x128 .f32

/-- The memrefs owned, at an input and a state. -/
def own (c : Dev nD) (a : Mems) (e : In F) (s : St F) : sProp 𝕄 :=
  iprop(owns (c : Thread nD τ) a.arg3 fullShare e.bias ∗ owns (c : Thread nD τ) a.arg4 fullShare e.q
    ∗ owns (c : Thread nD τ) a.arg5 fullShare e.k ∗ owns (c : Thread nD τ) a.arg6 fullShare e.v
    ∗ owns (c : Thread nD τ) a.arg7 fullShare s.out
    ∗ owns (c : Thread nD τ) a.arg8 fullShare s.kb ∗ owns (c : Thread nD τ) a.arg9 fullShare s.vb
    ∗ owns (c : Thread nD τ) a.arg10 fullShare s.acc ∗ owns (c : Thread nD τ) a.arg11 fullShare s.car
    ∗ owns (c : Thread nD τ) a.arg12 fullShare s.z ∗ owns (c : Thread nD τ) a.arg13 fullShare s.w)

/-- `R` rows of queries, of scores, of the carry, of the running values. -/
abbrev SQ (R : ℕ) : Shape := ⟨4, ![1, 1, R, 128]⟩
abbrev SZ (R : ℕ) : Shape := ⟨3, ![1, R, 256]⟩
abbrev SC (R : ℕ) : Shape := ⟨2, ![R, 1]⟩
abbrev SA (R : ℕ) : Shape := ⟨2, ![R, 128]⟩

/-- A slot and a range of rows that are there. -/
structure Ok (slot r0 R : ℕ) : Prop where
  hs : slot < 4
  hr : r0 + R ≤ 1024
  hR : 0 < R

namespace Ok

variable {slot r0 R : ℕ} (h : Ok slot r0 R)
include h

theorem inQ : ∀ a, (![0, 0, r0, 0] : Fin 4 → ℕ) a + (SQ R).size a ≤ S1x1x1024x128.size a := by
  have := h.hr; intro a; fin_cases a <;> simp <;> omega
theorem inZ : ∀ a, (![slot, r0, 0] : Fin 3 → ℕ) a + (SZ R).size a ≤ S4x1024x256.size a := by
  have := h.hr; have := h.hs; intro a; fin_cases a <;> simp <;> omega
theorem inC : ∀ a, (![r0, 0] : Fin 2 → ℕ) a + (SC R).size a ≤ S1024x1.size a := by
  have := h.hr; intro a; fin_cases a <;> simp <;> omega
theorem inA : ∀ a, (![r0, 0] : Fin 2 → ℕ) a + (SA R).size a ≤ S1024x128.size a := by
  have := h.hr; intro a; fin_cases a <;> simp <;> omega
theorem posQ : 0 < (SQ R).numel := by
  have := h.hR; simp [Shape.numel, Fin.prod_univ_succ]; omega
theorem posZ : 0 < (SZ R).numel := by
  have := h.hR; simp [Shape.numel, Fin.prod_univ_succ]; omega
theorem posC : 0 < (SC R).numel := by
  have := h.hR; simp [Shape.numel, Fin.prod_univ_succ]; omega
theorem posA : 0 < (SA R).numel := by
  have := h.hR; simp [Shape.numel, Fin.prod_univ_succ]; omega

end Ok

/-- A tile of keys or of values that is there. -/
abbrev InTile (off : Fin 2 → ℕ) : Prop := ∀ a, off a + S256x128.size a ≤ S4096x128.size a

/-- One step: the scores of the tile at `off` into a slot, the weights of a slot (and the carry past them), or the
    weighted values of the tile at `off` added to the running values. -/
inductive Op (F : FTy → Type) : Type
  | logits (off : Fin 2 → ℕ) (hoff : InTile off) (slot r0 R : ℕ) (ok : Ok slot r0 R)
      (pay : Vec F S256x128 .bf16 → Vec F (SQ R) .bf16 → Vec F (SZ R) .f32) : Op F
  | weights (slot r0 R : ℕ) (ok : Ok slot r0 R)
      (payW : Vec F (SZ R) .f32 → Vec F (SC R) .f32 → Vec F (SZ R) .f32)
      (payC : Vec F (SZ R) .f32 → Vec F (SC R) .f32 → Vec F (SC R) .f32) : Op F
  | values (off : Fin 2 → ℕ) (hoff : InTile off) (slot r0 R : ℕ) (ok : Ok slot r0 R)
      (pay : Vec F S256x128 .bf16 → Vec F (SZ R) .f32 → Vec F (SA R) .f32 → Vec F (SA R) .f32) : Op F

/-- The program of a step. -/
def Op.prog (a : Mems) : Op F → Prog (Eff F) PUnit
  | .logits off hoff slot r0 R ok pay =>
    .op (.load a.arg8 (Rect.unit (s := S4096x128) off S256x128.size hoff).toLoadRect (View.loadsAt_vmem Gen.facts.h_S256x128)) fun x =>
    .op (.load a.arg4 (Rect.unit (s := S1x1x1024x128) ![0, 0, r0, 0] (SQ R).size ok.inQ).toLoadRect (View.loadsAt_vmem ok.posQ)) fun q =>
    .op (.load a.arg12 (Rect.unit (s := S4x1024x256) ![slot, r0, 0] (SZ R).size ok.inZ).toLoadRect (View.loadsAt_vmem ok.posZ)) fun _ =>
    .op (.store a.arg12 (Rect.unit (s := S4x1024x256) ![slot, r0, 0] (SZ R).size ok.inZ) (pay x q) Finset.univ (View.stores_vmem_bits_univ ok.posZ rfl) (.inl rfl)) fun _ =>
    .ret ⟨⟩
  | .weights slot r0 R ok payW payC =>
    .op (.load a.arg12 (Rect.unit (s := S4x1024x256) ![slot, r0, 0] (SZ R).size ok.inZ).toLoadRect (View.loadsAt_vmem ok.posZ)) fun z =>
    .op (.load a.arg11 (Rect.unit (s := S1024x1) ![r0, 0] (SC R).size ok.inC).toLoadRect (View.loadsAt_vmem ok.posC)) fun x =>
    .op (.load a.arg13 (Rect.unit (s := S4x1024x256) ![slot, r0, 0] (SZ R).size ok.inZ).toLoadRect (View.loadsAt_vmem ok.posZ)) fun _ =>
    .op (.store a.arg13 (Rect.unit (s := S4x1024x256) ![slot, r0, 0] (SZ R).size ok.inZ) (payW z x) Finset.univ (View.stores_vmem_bits_univ ok.posZ rfl) (.inl rfl)) fun _ =>
    .op (.load a.arg11 (Rect.unit (s := S1024x1) ![r0, 0] (SC R).size ok.inC).toLoadRect (View.loadsAt_vmem ok.posC)) fun y =>
    .op (.load a.arg11 (Rect.unit (s := S1024x1) ![r0, 0] (SC R).size ok.inC).toLoadRect (View.loadsAt_vmem ok.posC)) fun _ =>
    .op (.store a.arg11 (Rect.unit (s := S1024x1) ![r0, 0] (SC R).size ok.inC) (payC z y) Finset.univ (View.stores_vmem_bits_univ ok.posC rfl) (.inl rfl)) fun _ =>
    .ret ⟨⟩
  | .values off hoff slot r0 R ok pay =>
    .op (.load a.arg9 (Rect.unit (s := S4096x128) off S256x128.size hoff).toLoadRect (View.loadsAt_vmem Gen.facts.h_S256x128)) fun x =>
    .op (.load a.arg13 (Rect.unit (s := S4x1024x256) ![slot, r0, 0] (SZ R).size ok.inZ).toLoadRect (View.loadsAt_vmem ok.posZ)) fun w =>
    .op (.load a.arg10 (Rect.unit (s := S1024x128) ![r0, 0] (SA R).size ok.inA).toLoadRect (View.loadsAt_vmem ok.posA)) fun y =>
    .op (.load a.arg10 (Rect.unit (s := S1024x128) ![r0, 0] (SA R).size ok.inA).toLoadRect (View.loadsAt_vmem ok.posA)) fun _ =>
    .op (.store a.arg10 (Rect.unit (s := S1024x128) ![r0, 0] (SA R).size ok.inA) (pay x w y) Finset.univ (View.stores_vmem_bits_univ ok.posA rfl) (.inl rfl)) fun _ =>
    .ret ⟨⟩

/-- The scores after a `logits` step. -/
def stepZ (e : In F) (s : St F) (off : Fin 2 → ℕ) (hoff : InTile off) (slot r0 R : ℕ) (ok : Ok slot r0 R)
    (pay : Vec F S256x128 .bf16 → Vec F (SQ R) .bf16 → Vec F (SZ R) .f32) : Vec F S4x1024x256 .f32 :=
  put s.z ![slot, r0, 0] (SZ R).size (pay (window s.kb off S256x128.size hoff) (window e.q ![0, 0, r0, 0] (SQ R).size ok.inQ))

/-- The weights after a `weights` step. -/
def stepW (s : St F) (slot r0 R : ℕ) (ok : Ok slot r0 R)
    (payW : Vec F (SZ R) .f32 → Vec F (SC R) .f32 → Vec F (SZ R) .f32) : Vec F S4x1024x256 .f32 :=
  put s.w ![slot, r0, 0] (SZ R).size (payW (window s.z ![slot, r0, 0] (SZ R).size ok.inZ) (window s.car ![r0, 0] (SC R).size ok.inC))

/-- The carry after a `weights` step. -/
def stepC (s : St F) (slot r0 R : ℕ) (ok : Ok slot r0 R)
    (payC : Vec F (SZ R) .f32 → Vec F (SC R) .f32 → Vec F (SC R) .f32) : Vec F S1024x1 .f32 :=
  put s.car ![r0, 0] (SC R).size (payC (window s.z ![slot, r0, 0] (SZ R).size ok.inZ) (window s.car ![r0, 0] (SC R).size ok.inC))

/-- The running values after a `values` step. -/
def stepA (s : St F) (off : Fin 2 → ℕ) (hoff : InTile off) (slot r0 R : ℕ) (ok : Ok slot r0 R)
    (pay : Vec F S256x128 .bf16 → Vec F (SZ R) .f32 → Vec F (SA R) .f32 → Vec F (SA R) .f32) : Vec F S1024x128 .f32 :=
  put s.acc ![r0, 0] (SA R).size
    (pay (window s.vb off S256x128.size hoff) (window s.w ![slot, r0, 0] (SZ R).size ok.inZ) (window s.acc ![r0, 0] (SA R).size ok.inA))

/-- What a step does to the state. -/
def Op.step (e : In F) (s : St F) : Op F → St F
  | .logits off hoff slot r0 R ok pay => { s with z := stepZ e s off hoff slot r0 R ok pay }
  | .weights slot r0 R ok payW payC => { s with w := stepW s slot r0 R ok payW, car := stepC s slot r0 R ok payC }
  | .values off hoff slot r0 R ok pay => { s with acc := stepA s off hoff slot r0 R ok pay }

/-- A list of steps, run in order. -/
def runOps (a : Mems) : List (Op F) → Prog (Eff F) PUnit
  | [] => pure ⟨⟩
  | o :: os => do
    o.prog a
    runOps a os

/-- What a list of steps does to the state. -/
def steps (e : In F) : List (Op F) → St F → St F
  | [], s => s
  | o :: os, s => steps e os (o.step e s)

variable (𝒱 : Variants) (c : Dev nD) (bd : Option 𝒱.V) (E : Set ℕ)

/-- One step's triple. -/
theorem wp_op (a : Mems) (e : In F) (s : St F) (o : Op F) {Q : PUnit → sProp 𝕄} :
    own c a e s ⊢ iprop((own c a e (o.step e s) -∗ Q ⟨⟩) -∗ wp frame (wpE (defs₀ (F := F)) 𝒱 (c : Thread nD τ) bd) E (o.prog a) Q) := by
  unfold own
  cases o with
  | logits off hoff slot r0 R ok pay =>
    iintro ⟨H3, H4, H5, H6, H7, H8, H9, H10, H11, H12, H13⟩ HK
    dsimp only [Op.prog]
    iapply (wp_load_owns 𝒱 c bd E a.arg8 s.kb off S256x128.size hoff) $$ H8; iintro H8
    iapply (wp_load_owns 𝒱 c bd E a.arg4 e.q ![0, 0, r0, 0] (SQ R).size ok.inQ) $$ H4; iintro H4
    iapply (wp_load_owns 𝒱 c bd E a.arg12 s.z ![slot, r0, 0] (SZ R).size ok.inZ) $$ H12; iintro H12
    iapply (wp_store_owns 𝒱 c bd E a.arg12 s.z ![slot, r0, 0] (SZ R).size ok.inZ) $$ H12; iintro H12
    rw [wp_ret]; imodintro
    iapply HK
    dsimp only [Op.step, stepZ]
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  | weights slot r0 R ok payW payC =>
    iintro ⟨H3, H4, H5, H6, H7, H8, H9, H10, H11, H12, H13⟩ HK
    dsimp only [Op.prog]
    iapply (wp_load_owns 𝒱 c bd E a.arg12 s.z ![slot, r0, 0] (SZ R).size ok.inZ) $$ H12; iintro H12
    iapply (wp_load_owns 𝒱 c bd E a.arg11 s.car ![r0, 0] (SC R).size ok.inC) $$ H11; iintro H11
    iapply (wp_load_owns 𝒱 c bd E a.arg13 s.w ![slot, r0, 0] (SZ R).size ok.inZ) $$ H13; iintro H13
    iapply (wp_store_owns 𝒱 c bd E a.arg13 s.w ![slot, r0, 0] (SZ R).size ok.inZ) $$ H13; iintro H13
    iapply (wp_load_owns 𝒱 c bd E a.arg11 s.car ![r0, 0] (SC R).size ok.inC) $$ H11; iintro H11
    iapply (wp_load_owns 𝒱 c bd E a.arg11 s.car ![r0, 0] (SC R).size ok.inC) $$ H11; iintro H11
    iapply (wp_store_owns 𝒱 c bd E a.arg11 s.car ![r0, 0] (SC R).size ok.inC) $$ H11; iintro H11
    rw [wp_ret]; imodintro
    iapply HK
    dsimp only [Op.step, stepW, stepC]
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  | values off hoff slot r0 R ok pay =>
    iintro ⟨H3, H4, H5, H6, H7, H8, H9, H10, H11, H12, H13⟩ HK
    dsimp only [Op.prog]
    iapply (wp_load_owns 𝒱 c bd E a.arg9 s.vb off S256x128.size hoff) $$ H9; iintro H9
    iapply (wp_load_owns 𝒱 c bd E a.arg13 s.w ![slot, r0, 0] (SZ R).size ok.inZ) $$ H13; iintro H13
    iapply (wp_load_owns 𝒱 c bd E a.arg10 s.acc ![r0, 0] (SA R).size ok.inA) $$ H10; iintro H10
    iapply (wp_load_owns 𝒱 c bd E a.arg10 s.acc ![r0, 0] (SA R).size ok.inA) $$ H10; iintro H10
    iapply (wp_store_owns 𝒱 c bd E a.arg10 s.acc ![r0, 0] (SA R).size ok.inA) $$ H10; iintro H10
    rw [wp_ret]; imodintro
    iapply HK
    dsimp only [Op.step, stepA]
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The triple of a list of steps. -/
theorem wp_runOps (a : Mems) (e : In F) (os : List (Op F)) : ∀ (s : St F) {Q : PUnit → sProp 𝕄},
    own c a e s ⊢ iprop((own c a e (steps e os s) -∗ Q ⟨⟩) -∗ wp frame (wpE (defs₀ (F := F)) 𝒱 (c : Thread nD τ) bd) E (runOps a os) Q) := by
  induction os with
  | nil =>
    intro s Q
    show own c a e s ⊢ iprop(_ -∗ wp _ _ _ (.ret PUnit.unit) Q)
    rw [wp_ret]
    iintro H HK
    imodintro
    iapply HK; iexact H
  | cons o os ih =>
    intro s Q
    show own c a e s ⊢ iprop(_ -∗ wp _ _ _ (o.prog a >>= fun _ => runOps a os) Q)
    rw [wp_bind]
    iintro H HK
    iapply (wp_op 𝒱 c bd E a e s o) $$ H
    iintro H
    iapply (ih (o.step e s)) $$ H
    iexact HK

end Cert.KernelIdeal.Hand
-- ==== Proof.Body.lean ====
/- The printed body of the attention kernel is a list of steps for each of its cases. -/
module

public import proofs.«01_k».proof.Proof.Steps

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.VecWindow (window put)

variable {F : FTy → Type} [FloatOps F] [Named F]

local notation "𝕄" => MT nD τ sig Unit (Elt F) ℕ (UR sig nD τ) ℕ

/-! ## The payloads, one per number of rows -/

section Payloads

variable (b : F .f32)

def lg256 (x : Vec F S256x128 .bf16) (q : Vec F (SQ 256) .bf16) : Vec F (SZ 256) .f32 := k0_pay142 (k0_pay141 b x q)
def lg512 (x : Vec F S256x128 .bf16) (q : Vec F (SQ 512) .bf16) : Vec F (SZ 512) .f32 := k0_pay143 b x q
def lg768 (x : Vec F S256x128 .bf16) (q : Vec F (SQ 768) .bf16) : Vec F (SZ 768) .f32 := k0_pay144 b x q
def lg1024 (x : Vec F S256x128 .bf16) (q : Vec F (SQ 1024) .bf16) : Vec F (SZ 1024) .f32 := k0_pay8 b x q

end Payloads

/-- On the diagonal: the weights and the carry past them. -/
def wt256 (z : Vec F (SZ 256) .f32) (x : Vec F (SC 256) .f32) : Vec F (SZ 256) .f32 := k0_pay149 k0_pay138 k0_pay145 z x
def cr256 (z : Vec F (SZ 256) .f32) (x : Vec F (SC 256) .f32) : Vec F (SC 256) .f32 := k0_pay150 k0_pay145 z x
def wt512 (z : Vec F (SZ 512) .f32) (x : Vec F (SC 512) .f32) : Vec F (SZ 512) .f32 := k0_pay1 k0_pay152 (k0_pay154 z) (k0_pay156 k0_pay138 z) x
def cr512 (z : Vec F (SZ 512) .f32) (x : Vec F (SC 512) .f32) : Vec F (SC 512) .f32 := k0_pay2 (k0_pay155 z) x
def wt768 (z : Vec F (SZ 768) .f32) (x : Vec F (SC 768) .f32) : Vec F (SZ 768) .f32 := k0_pay76 k0_pay71 (k0_pay73 z) (k0_pay75 k0_pay138 z) x
def cr768 (z : Vec F (SZ 768) .f32) (x : Vec F (SC 768) .f32) : Vec F (SC 768) .f32 := k0_pay77 (k0_pay74 z) x
def wd1024 (z : Vec F (SZ 1024) .f32) (x : Vec F (SC 1024) .f32) : Vec F (SZ 1024) .f32 := k0_pay86 k0_pay80 (k0_pay82 z) (k0_pay84 k0_pay138 z) (k0_pay85 x)
def cd1024 (z : Vec F (SZ 1024) .f32) (x : Vec F (SC 1024) .f32) : Vec F (SC 1024) .f32 := k0_pay87 (k0_pay83 z) x

/-- Below the diagonal. -/
def wt1024 (z : Vec F (SZ 1024) .f32) (x : Vec F (SC 1024) .f32) : Vec F (SZ 1024) .f32 := k0_pay13 (k0_pay10 z) (k0_pay12 k0_pay138 z) x
def cr1024 (z : Vec F (SZ 1024) .f32) (x : Vec F (SC 1024) .f32) : Vec F (SC 1024) .f32 := k0_pay14 (k0_pay11 z) x

/-- The weighted values. -/
def vl256 (x : Vec F S256x128 .bf16) (w : Vec F (SZ 256) .f32) (y : Vec F (SA 256) .f32) : Vec F (SA 256) .f32 := k0_pay78 x w y
def vl512 (x : Vec F S256x128 .bf16) (w : Vec F (SZ 512) .f32) (y : Vec F (SA 512) .f32) : Vec F (SA 512) .f32 := k0_pay88 x w y
def vl768 (x : Vec F S256x128 .bf16) (w : Vec F (SZ 768) .f32) (y : Vec F (SA 768) .f32) : Vec F (SA 768) .f32 := k0_pay95 x w y
def vl1024 (x : Vec F S256x128 .bf16) (w : Vec F (SZ 1024) .f32) (y : Vec F (SA 1024) .f32) : Vec F (SA 1024) .f32 := k0_pay15 x w y

/-! ## The steps of each case -/

theorem ok256 : Ok 0 768 256 := ⟨by omega, by omega, by omega⟩
theorem ok512 : Ok 1 512 512 := ⟨by omega, by omega, by omega⟩
theorem ok768 : Ok 2 256 768 := ⟨by omega, by omega, by omega⟩
theorem ok0 : Ok 0 0 1024 := ⟨by omega, by omega, by omega⟩
theorem ok1 : Ok 1 0 1024 := ⟨by omega, by omega, by omega⟩
theorem ok2 : Ok 2 0 1024 := ⟨by omega, by omega, by omega⟩
theorem ok3 : Ok 3 0 1024 := ⟨by omega, by omega, by omega⟩

/-- The opening: the scores of the four diagonal tiles, the weights of the first two. -/
def openOps (i : grid0.Coords) (b : F .f32) : List (Op F) :=
  [.logits (k0_off2 i 3#32) (k0_off2_inb i 3) 0 768 256 ok256 (lg256 b),
   .logits (k0_off2 i 2#32) (k0_off2_inb i 2) 1 512 512 ok512 (lg512 b),
   .logits (k0_off2 i 1#32) (k0_off2_inb i 1) 2 256 768 ok768 (lg768 b),
   .weights 0 768 256 ok256 wt256 cr256,
   .logits (k0_off2 i 0#32) (k0_off2_inb i 0) 3 0 1024 ok3 (lg1024 b),
   .weights 1 512 512 ok512 wt512 cr512]

/-- Past the first block: the rest of the diagonal, with the scores of the next four tiles. -/
def nextOps (i : grid0.Coords) (h : k0_cond2 i = 1#1) (b : F .f32) : List (Op F) :=
  [.logits (k0_off3 i 1#32) (k0_off3_inb i h 0) 0 0 1024 ok0 (lg1024 b),
   .weights 2 256 768 ok768 wt768 cr768,
   .values (k0_off4 i 3#32) (k0_off4_inb i h 3) 0 768 256 ok256 vl256,
   .logits (k0_off3 i 2#32) (k0_off3_inb i h 1) 1 0 1024 ok1 (lg1024 b),
   .weights 3 0 1024 ok3 wd1024 cd1024,
   .values (k0_off4 i 2#32) (k0_off4_inb i h 2) 1 512 512 ok512 vl512,
   .logits (k0_off3 i 3#32) (k0_off3_inb i h 2) 2 0 1024 ok2 (lg1024 b),
   .weights 0 0 1024 ok0 wt1024 cr1024,
   .values (k0_off4 i 1#32) (k0_off4_inb i h 1) 2 256 768 ok768 vl768,
   .logits (k0_off3 i 4#32) (k0_off3_inb i h 3) 3 0 1024 ok3 (lg1024 b),
   .weights 1 0 1024 ok1 wt1024 cr1024,
   .values (k0_off4 i 0#32) (k0_off4_inb i h 0) 3 0 1024 ok3 vl1024]

/-- One trip: four tiles. -/
def tripOps (i : grid0.Coords) (h : k0_cond2 i = 1#1) (b : F .f32) (k : Fin (k0_t1_loop i).trips) : List (Op F) :=
  [.logits (k0_off5 i k) (k0_off5_inb i k h) 0 0 1024 ok0 (lg1024 b),
   .weights 2 0 1024 ok2 wt1024 cr1024,
   .values (k0_off6 i k 4#32) (k0_off6_inb i k h 3) 0 0 1024 ok0 vl1024,
   .logits (k0_off7 i k 1#32) (k0_off7_inb i k h 0) 1 0 1024 ok1 (lg1024 b),
   .weights 3 0 1024 ok3 wt1024 cr1024,
   .values (k0_off6 i k 3#32) (k0_off6_inb i k h 2) 1 0 1024 ok1 vl1024,
   .logits (k0_off7 i k 2#32) (k0_off7_inb i k h 1) 2 0 1024 ok2 (lg1024 b),
   .weights 0 0 1024 ok0 wt1024 cr1024,
   .values (k0_off6 i k 2#32) (k0_off6_inb i k h 1) 2 0 1024 ok2 vl1024,
   .logits (k0_off7 i k 3#32) (k0_off7_inb i k h 2) 3 0 1024 ok3 (lg1024 b),
   .weights 1 0 1024 ok1 wt1024 cr1024,
   .values (k0_off6 i k 1#32) (k0_off6_inb i k h 0) 3 0 1024 ok3 vl1024]

/-- The last four tiles. -/
def lastOps : List (Op F) :=
  [.weights 2 0 1024 ok2 wt1024 cr1024,
   .values ![768, 0] facts.inb_S4096x128_S256x128_768_0 0 0 1024 ok0 vl1024,
   .weights 3 0 1024 ok3 wt1024 cr1024,
   .values ![512, 0] facts.inb_S4096x128_S256x128_512_0 1 0 1024 ok1 vl1024,
   .values ![256, 0] facts.inb_S4096x128_S256x128_256_0 2 0 1024 ok2 vl1024,
   .values ![0, 0] facts.inb_S4096x128_S256x128_0_0 3 0 1024 ok3 vl1024]

/-- The first block: the rest of the diagonal. -/
def firstOps (i : grid0.Coords) (h : k0_cond3 i = 1#1) : List (Op F) :=
  [.weights 2 256 768 ok768 wt768 cr768,
   .values (k0_off11 i 3#32) (k0_off11_inb i h 3) 0 768 256 ok256 vl256,
   .weights 3 0 1024 ok3 wd1024 cd1024,
   .values (k0_off11 i 2#32) (k0_off11_inb i h 2) 1 512 512 ok512 vl512,
   .values (k0_off11 i 1#32) (k0_off11_inb i h 1) 2 256 768 ok768 vl768,
   .values (k0_off11 i 0#32) (k0_off11_inb i h 0) 3 0 1024 ok3 vl1024]

/-! ## The body is those steps -/

/-- The memrefs are whole buffers. -/
structure Whole (a : Mems) : Prop where
  h3 : a.arg3.IsWhole
  h4 : a.arg4.IsWhole
  h5 : a.arg5.IsWhole
  h6 : a.arg6.IsWhole
  h7 : a.arg7.IsWhole
  h8 : a.arg8.IsWhole
  h9 : a.arg9.IsWhole
  h10 : a.arg10.IsWhole
  h11 : a.arg11.IsWhole
  h12 : a.arg12.IsWhole
  h13 : a.arg13.IsWhole

/-- The printed trip, at the bundled memrefs. -/
abbrev t1Body (i : grid0.Coords) (a : Mems) (h : Whole a) (b : F .f32) (h2 : k0_cond2 i = 1#1) :=
  k0_t1_body (F := F) i a.arg3 h.h3 a.arg4 h.h4 a.arg5 h.h5 a.arg6 h.h6 a.arg7 h.h7 a.arg8 h.h8 a.arg9 h.h9 a.arg10 h.h10 a.arg11 h.h11 a.arg12 h.h12 a.arg13 h.h13 (BitVec.ofNat 32 (i 2).val) b k0_pay138 (Scalar.muli 4#32 (BitVec.ofNat 32 (i 2).val)) h2 0#32

/-- A trip is its twelve steps. -/
theorem t1Body_eq (i : grid0.Coords) (a : Mems) (h : Whole a) (b : F .f32) (h2 : k0_cond2 i = 1#1) (k : Fin (k0_t1_loop i).trips) (u : Unit) :
    t1Body i a h b h2 k u = runOps a (tripOps i h2 b k) := by
  sl_kernel_rfl

/-- The printed second loop's trip, at the bundled memrefs (the loop makes none). -/
abbrev t2Body (i : grid0.Coords) (a : Mems) (h : Whole a) (b : F .f32) (h2 : k0_cond2 i = 1#1) :=
  k0_t2_body (F := F) i a.arg3 h.h3 a.arg4 h.h4 a.arg5 h.h5 a.arg6 h.h6 a.arg7 h.h7 a.arg8 h.h8 a.arg9 h.h9 a.arg10 h.h10 a.arg11 h.h11 a.arg12 h.h12 a.arg13 h.h13 (BitVec.ofNat 32 (i 2).val) b k0_pay138 (Scalar.muli 4#32 (BitVec.ofNat 32 (i 2).val)) h2 0#32
    (Scalar.addi 1#32 (Scalar.muli (Scalar.divsi (Scalar.subi (BitVec.ofNat 32 (i 2).val) 1#32) 1#32) 1#32))

/-- Whether a point is the first of its row of query blocks, as the body decides it. -/
def cond1 (i : grid0.Coords) : BitVec 1 := Scalar.cmpi .ne (Scalar.extui (Scalar.cmpi .eq (BitVec.ofNat 32 (i 2).val) 0#32) : BitVec 32) 0#32

/-- The keys and the values, kept in low precision. -/
def fillP (a : Mems) (h : Whole a) : Prog (Eff F) PUnit :=
  .op (.load a.arg5 (Rect.unit (s := S1x1x4096x128) ![0, 0, 0, 0] S1x1x4096x128.size facts.inb_S1x1x4096x128_S1x1x4096x128_0_0_0_0).toLoadRect (View.loadsAt_vmem facts.h_S1x1x4096x128)) fun x =>
  .op (.load a.arg8 (Rect.unit (s := S4096x128) ![0, 0] S4096x128.size facts.inb_S4096x128_S4096x128_0_0).toLoadRect (View.loadsAt_vmem facts.h_S4096x128)) fun _ =>
  .op (.store a.arg8 (Rect.unit (s := S4096x128) ![0, 0] S4096x128.size facts.inb_S4096x128_S4096x128_0_0) (k0_pay136 x) Finset.univ (View.stores_vmem facts.h_S4096x128 (h.h8.storeExact_slice rfl _ facts.packedbf16_S4096x128_S4096x128_0_0) (fun _ => rfl)) (.inl rfl)) fun _ =>
  .op (.load a.arg6 (Rect.unit (s := S1x1x4096x128) ![0, 0, 0, 0] S1x1x4096x128.size facts.inb_S1x1x4096x128_S1x1x4096x128_0_0_0_0).toLoadRect (View.loadsAt_vmem facts.h_S1x1x4096x128)) fun y =>
  .op (.load a.arg9 (Rect.unit (s := S4096x128) ![0, 0] S4096x128.size facts.inb_S4096x128_S4096x128_0_0).toLoadRect (View.loadsAt_vmem facts.h_S4096x128)) fun _ =>
  .op (.store a.arg9 (Rect.unit (s := S4096x128) ![0, 0] S4096x128.size facts.inb_S4096x128_S4096x128_0_0) (k0_pay137 y) Finset.univ (View.stores_vmem facts.h_S4096x128 (h.h9.storeExact_slice rfl _ facts.packedbf16_S4096x128_S4096x128_0_0) (fun _ => rfl)) (.inl rfl)) fun _ =>
  .ret ⟨⟩

/-- The running values and the carry set to zero. -/
def zeroP (a : Mems) : Prog (Eff F) PUnit :=
  .op (.load a.arg10 (Rect.unit (s := S1024x128) ![0, 0] S1024x128.size facts.inb_S1024x128_S1024x128_0_0).toLoadRect (View.loadsAt_vmem facts.h_S1024x128)) fun _ =>
  .op (.store a.arg10 (Rect.unit (s := S1024x128) ![0, 0] S1024x128.size facts.inb_S1024x128_S1024x128_0_0) (k0_pay139 (F := F)) Finset.univ (View.stores_vmem_bits_univ facts.h_S1024x128 rfl) (.inl rfl)) fun _ =>
  .op (.load a.arg11 (Rect.unit (s := S1024x1) ![0, 0] S1024x1.size facts.inb_S1024x1_S1024x1_0_0).toLoadRect (View.loadsAt_vmem facts.h_S1024x1)) fun _ =>
  .op (.store a.arg11 (Rect.unit (s := S1024x1) ![0, 0] S1024x1.size facts.inb_S1024x1_S1024x1_0_0) (k0_pay140 (F := F)) Finset.univ (View.stores_vmem_bits_univ facts.h_S1024x1 rfl) (.inl rfl)) fun _ =>
  .ret ⟨⟩

/-- The output block stored. -/
def finishP (a : Mems) : Prog (Eff F) PUnit :=
  .op (.load a.arg10 (Rect.unit (s := S1024x128) ![0, 0] S1024x128.size facts.inb_S1024x128_S1024x128_0_0).toLoadRect (View.loadsAt_vmem facts.h_S1024x128)) fun x =>
  .op (.load a.arg7 (Rect.unit (s := S1x1024x128) ![0, 0, 0] S1x1024x128.size facts.inb_S1x1024x128_S1x1024x128_0_0_0).toLoadRect (View.loadsAt_vmem facts.h_S1x1024x128)) fun _ =>
  .op (.store a.arg7 (Rect.unit (s := S1x1024x128) ![0, 0, 0] S1x1024x128.size facts.inb_S1x1024x128_S1x1024x128_0_0_0) (k0_pay7 x) Finset.univ (View.stores_vmem_bits_univ facts.h_S1x1024x128 rfl) (.inl rfl)) fun _ =>
  .ret ⟨⟩

/-- Past the first block: the rest of the diagonal, the loops, the last four tiles. -/
def laterP (i : grid0.Coords) (a : Mems) (h : Whole a) (b : F .f32) (h2 : k0_cond2 i = 1#1) (k : Prog (Eff F) PUnit) : Prog (Eff F) PUnit := do
  runOps a (nextOps i h2 b)
  Scf.Loop.for (k0_t1_loop i) (k0_t1_ok i h2) ⟨⟩ (t1Body i a h b h2)
  Scf.Loop.for (k0_t2_loop i) (k0_t2_ok i h2) ⟨⟩ (t2Body i a h b h2)
  runOps a lastOps
  k

/-- The first block's last steps, and the output stored. -/
def endP (i : grid0.Coords) (a : Mems) : Prog (Eff F) PUnit :=
  if h3 : k0_cond3 i = 1#1 then runOps a (firstOps i h3) >>= fun _ => finishP a else finishP a

/-- What follows the opening. -/
def afterP (i : grid0.Coords) (a : Mems) (h : Whole a) (b : F .f32) : Prog (Eff F) PUnit :=
  if h2 : k0_cond2 i = 1#1 then laterP i a h b h2 (endP i a) else endP i a

/-- What follows the keys and values. -/
def restP (i : grid0.Coords) (a : Mems) (h : Whole a) : Prog (Eff F) PUnit := do
  let b ← smemLoad a.arg3 (Rect.unit (s := S12) (k0_off1 i) S1.size (k0_off1_inb i)) numel1_S1 rfl
  zeroP a
  runOps a (openOps i b)
  afterP i a h b

/-- The body as a sequence of steps. -/
def bodyP (i : grid0.Coords) (a : Mems) (h : Whole a) : Prog (Eff F) PUnit :=
  if h1 : cond1 i = 1#1 then fillP a h >>= fun _ => restP i a h else restP i a h

/-! ### The same, cut into programs as printed -/

/-- The loops, and the scores read past them. -/
def loopsQ (i : grid0.Coords) (a : Mems) (h : Whole a) (b : F .f32) (h2 : k0_cond2 i = 1#1) :
    Prog (Eff F) (Σ' (_ : FVec F S1024x256 .f32), FVec F S1024x256 .f32) := do
  Scf.Loop.for (k0_t1_loop i) (k0_t1_ok i h2) ⟨⟩ (t1Body i a h b h2)
  Scf.Loop.for (k0_t2_loop i) (k0_t2_ok i h2) ⟨⟩ (t2Body i a h b h2)
  let z ← Prog.lift (.load a.arg12 (Rect.unit (s := S4x1024x256) ![2, 0, 0] S1x1024x256.size facts.inb_S4x1024x256_S1x1024x256_2_0_0).toLoadRect (View.loadsAt_vmem facts.h_S1x1024x256))
  pure ⟨k0_pay107 z, k0_pay108 z⟩

/-- The weights of the scores read past the loops. -/
def weightsQ (a : Mems) (u v : FVec F S1024x256 .f32) : Prog (Eff F) PUnit :=
  .op (.load a.arg11 (Rect.unit (s := S1024x1) ![0, 0] S1024x1.size facts.inb_S1024x1_S1024x1_0_0).toLoadRect (View.loadsAt_vmem facts.h_S1024x1)) fun x =>
  .op (.load a.arg13 (Rect.unit (s := S4x1024x256) ![2, 0, 0] S1x1024x256.size facts.inb_S4x1024x256_S1x1024x256_2_0_0).toLoadRect (View.loadsAt_vmem facts.h_S1x1024x256)) fun _ =>
  .op (.store a.arg13 (Rect.unit (s := S4x1024x256) ![2, 0, 0] S1x1024x256.size facts.inb_S4x1024x256_S1x1024x256_2_0_0) (k0_pay109 k0_pay138 u v x) Finset.univ (View.stores_vmem_bits_univ facts.h_S1x1024x256 rfl) (.inl rfl)) fun _ =>
  .op (.load a.arg11 (Rect.unit (s := S1024x1) ![0, 0] S1024x1.size facts.inb_S1024x1_S1024x1_0_0).toLoadRect (View.loadsAt_vmem facts.h_S1024x1)) fun y =>
  .op (.load a.arg11 (Rect.unit (s := S1024x1) ![0, 0] S1024x1.size facts.inb_S1024x1_S1024x1_0_0).toLoadRect (View.loadsAt_vmem facts.h_S1024x1)) fun _ =>
  .op (.store a.arg11 (Rect.unit (s := S1024x1) ![0, 0] S1024x1.size facts.inb_S1024x1_S1024x1_0_0) (k0_pay110 v y) Finset.univ (View.stores_vmem_bits_univ facts.h_S1024x1 rfl) (.inl rfl)) fun _ =>
  .ret ⟨⟩

def laterQ (i : grid0.Coords) (a : Mems) (h : Whole a) (b : F .f32) (h2 : k0_cond2 i = 1#1) (k : Prog (Eff F) PUnit) : Prog (Eff F) PUnit := do
  runOps a (nextOps i h2 b)
  let r ← loopsQ i a h b h2
  weightsQ a r.1 r.2
  runOps a lastOps.tail
  k

theorem laterQ_eq (i : grid0.Coords) (a : Mems) (h : Whole a) (b : F .f32) (h2 : k0_cond2 i = 1#1) (k : Prog (Eff F) PUnit) :
    laterQ i a h b h2 k = laterP i a h b h2 k := by
  unfold laterQ laterP loopsQ
  refine congrArg (runOps a (nextOps i h2 b) >>= ·) (funext fun _ => ?_)
  refine (Prog.bind_assoc _ _ _).trans (congrArg (_ >>= ·) (funext fun _ => ?_))
  refine (Prog.bind_assoc _ _ _).trans (congrArg (_ >>= ·) (funext fun _ => ?_))
  sl_kernel_rfl

def afterQ (i : grid0.Coords) (a : Mems) (h : Whole a) (b : F .f32) : Prog (Eff F) PUnit :=
  if h2 : k0_cond2 i = 1#1 then laterQ i a h b h2 (endP i a) else endP i a

theorem afterQ_eq (i : grid0.Coords) (a : Mems) (h : Whole a) (b : F .f32) : afterQ i a h b = afterP i a h b := by
  unfold afterQ afterP
  simp only [laterQ_eq]

/-- The opening up to the product of its first scores. -/
def openQ (i : grid0.Coords) (a : Mems) :
    Prog (Eff F) (Σ' (_ : BitVec 32) (_ : Elt F .f32) (_ : FVec F S512x256 .bf16) (_ : BitVec 32), FVec F S256x256 .f32) := do
  let b ← smemLoad a.arg3 (Rect.unit (s := S12) (k0_off1 i) S1.size (k0_off1_inb i)) numel1_S1 rfl
  zeroP a
  let x ← Prog.lift (.load a.arg8 (Rect.unit (s := S4096x128) (k0_off2 i 3#32) S256x128.size (k0_off2_inb i 3)).toLoadRect (View.loadsAt_vmem facts.h_S256x128))
  let q ← Prog.lift (.load a.arg4 (Rect.unit (s := S1x1x1024x128) ![0, 0, 768, 0] S1x1x256x128.size facts.inb_S1x1x1024x128_S1x1x256x128_0_0_768_0).toLoadRect (View.loadsAt_vmem facts.h_S1x1x256x128))
  pure ⟨BitVec.ofNat 32 (i 2).val, b, k0_pay138, Scalar.muli 4#32 (BitVec.ofNat 32 (i 2).val), k0_pay141 b x q⟩

theorem part29_eq (i : grid0.Coords) (a : Mems) (h : Whole a) :
    k0_part29 (F := F) i a.arg3 h.h3 a.arg4 h.h4 a.arg5 h.h5 a.arg6 h.h6 a.arg7 h.h7 a.arg8 h.h8 a.arg9 h.h9 a.arg10 h.h10 a.arg11 h.h11 a.arg12 h.h12 a.arg13 h.h13 = (if h1 : cond1 i = 1#1 then fillP a h >>= fun _ => openQ i a else openQ i a) := by
  sl_kernel_rfl

/-- What follows the keys and values, its later part cut as printed. -/
def restQ (i : grid0.Coords) (a : Mems) (h : Whole a) : Prog (Eff F) PUnit := do
  let b ← smemLoad a.arg3 (Rect.unit (s := S12) (k0_off1 i) S1.size (k0_off1_inb i)) numel1_S1 rfl
  zeroP a
  runOps a (openOps i b)
  afterQ i a h b

theorem restQ_eq (i : grid0.Coords) (a : Mems) (h : Whole a) : restQ (F := F) i a h = restP i a h := by
  unfold restQ restP
  simp only [afterQ_eq]

/-- The printed body is the sequence of steps. -/
theorem body_eq (i : grid0.Coords) (a : Mems) (h : Whole a) : cc0_sb_prompt (F := F) i a.arg3 h.h3 a.arg4 h.h4 a.arg5 h.h5 a.arg6 h.h6 a.arg7 h.h7 a.arg8 h.h8 a.arg9 h.h9 a.arg10 h.h10 a.arg11 h.h11 a.arg12 h.h12 a.arg13 h.h13 = bodyP i a h := by
  rw [cc0_sb_prompt_eq_skeleton]
  unfold cc0_sb_prompt_skel
  rw [part29_eq i a h]
  unfold bodyP
  rw [← restQ_eq]
  by_cases hc : cond1 i = 1#1
  · rw [dif_pos hc, dif_pos hc]
    sl_kernel_rfl
  · rw [dif_neg hc, dif_neg hc]
    sl_kernel_rfl

end Cert.KernelIdeal.Hand
-- ==== Proof.Triple.lean ====
/- The body's triple: from the memrefs owned at an input and a state, the body ends with them owned at the state its
   steps lead to. -/
module

public import proofs.«01_k».proof.Proof.Body

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.VecWindow (window put)

variable {F : FTy → Type} [FloatOps F] [Named F]

local notation "𝕄" => MT nD τ sig Unit (Elt F) ℕ (UR sig nD τ) ℕ

/-! ## What the body does to the state -/

/-- The keys and the values kept. -/
def fillSt (e : In F) (s : St F) : St F :=
  { s with
    kb := put s.kb ![0, 0] S4096x128.size (k0_pay136 (window e.k ![0, 0, 0, 0] S1x1x4096x128.size facts.inb_S1x1x4096x128_S1x1x4096x128_0_0_0_0))
    vb := put s.vb ![0, 0] S4096x128.size (k0_pay137 (window e.v ![0, 0, 0, 0] S1x1x4096x128.size facts.inb_S1x1x4096x128_S1x1x4096x128_0_0_0_0)) }

/-- The running values and the carry zero. -/
def zeroSt (s : St F) : St F :=
  { s with acc := put s.acc ![0, 0] S1024x128.size (k0_pay139 (F := F)), car := put s.car ![0, 0] S1024x1.size (k0_pay140 (F := F)) }

/-- The output stored. -/
def finishSt (s : St F) : St F :=
  { s with out := put s.out ![0, 0, 0] S1x1024x128.size (k0_pay7 (window s.acc ![0, 0] S1024x128.size facts.inb_S1024x128_S1024x128_0_0)) }

/-- The bias of a point's head. -/
def biasAt (i : grid0.Coords) (e : In F) : F .f32 :=
  window e.bias (k0_off1 i) S1.size (k0_off1_inb i) (Shape.Idx.first (facts.numel1_S1.symm ▸ Nat.one_pos))

/-- The state after the first trips. -/
def tripsSt (i : grid0.Coords) (h2 : k0_cond2 i = 1#1) (b : F .f32) (e : In F) (s : St F) : ℕ → St F
  | 0 => s
  | n + 1 => if h : n < (k0_t1_loop i).trips then steps e (tripOps i h2 b ⟨n, h⟩) (tripsSt i h2 b e s n) else tripsSt i h2 b e s n

/-- Past the first block: the state after the rest of the diagonal, the trips and the last tiles. -/
def laterSt (i : grid0.Coords) (h2 : k0_cond2 i = 1#1) (b : F .f32) (e : In F) (s : St F) : St F :=
  steps e lastOps (tripsSt i h2 b e (steps e (nextOps i h2 b) s) (k0_t1_loop i).trips)

/-- The state the last steps lead to. -/
def endSt (i : grid0.Coords) (e : In F) (s : St F) : St F :=
  finishSt (if h3 : k0_cond3 i = 1#1 then steps e (firstOps i h3) s else s)

def afterSt (i : grid0.Coords) (b : F .f32) (e : In F) (s : St F) : St F :=
  endSt i e (if h2 : k0_cond2 i = 1#1 then laterSt i h2 b e s else s)

def restSt (i : grid0.Coords) (e : In F) (s : St F) : St F :=
  afterSt i (biasAt i e) e (steps e (openOps i (biasAt i e)) (zeroSt s))

/-- The state the body leads to. -/
def bodySt (i : grid0.Coords) (e : In F) (s : St F) : St F :=
  restSt i e (if cond1 i = 1#1 then fillSt e s else s)

/-! ## The triples -/

variable (𝒱 : Variants) (c : Dev nD) (bd : Option 𝒱.V) (E : Set ℕ)

/-- The second loop makes no trip. -/
theorem trips2 (i : grid0.Coords) : (k0_t2_loop i).trips = 0 := by
  have h : ∀ j : Fin 4, Scf.Loop.trips (w := 32) ⟨Scalar.addi 1#32 (Scalar.muli (Scalar.divsi (Scalar.subi (BitVec.ofNat 32 j.val) 1#32) 1#32) 1#32),
      Scalar.addi 1#32 (Scalar.subi (BitVec.ofNat 32 j.val) 1#32), 1#32⟩ = 0 := by decide
  exact h (i 2)

theorem wp_fill (a : Mems) (h : Whole a) (e : In F) (s : St F) {Q : PUnit → sProp 𝕄} :
    own c a e s ⊢ iprop((own c a e (fillSt e s) -∗ Q ⟨⟩) -∗ wp frame (wpE (defs₀ (F := F)) 𝒱 (c : Thread nD τ) bd) E (fillP a h) Q) := by
  unfold own fillP
  iintro ⟨H3, H4, H5, H6, H7, H8, H9, H10, H11, H12, H13⟩ HK
  iapply (wp_load_owns 𝒱 c bd E a.arg5 e.k ![0, 0, 0, 0] S1x1x4096x128.size facts.inb_S1x1x4096x128_S1x1x4096x128_0_0_0_0) $$ H5; iintro H5
  iapply (wp_load_owns 𝒱 c bd E a.arg8 s.kb ![0, 0] S4096x128.size facts.inb_S4096x128_S4096x128_0_0) $$ H8; iintro H8
  iapply (wp_store_owns 𝒱 c bd E a.arg8 s.kb ![0, 0] S4096x128.size facts.inb_S4096x128_S4096x128_0_0) $$ H8; iintro H8
  iapply (wp_load_owns 𝒱 c bd E a.arg6 e.v ![0, 0, 0, 0] S1x1x4096x128.size facts.inb_S1x1x4096x128_S1x1x4096x128_0_0_0_0) $$ H6; iintro H6
  iapply (wp_load_owns 𝒱 c bd E a.arg9 s.vb ![0, 0] S4096x128.size facts.inb_S4096x128_S4096x128_0_0) $$ H9; iintro H9
  iapply (wp_store_owns 𝒱 c bd E a.arg9 s.vb ![0, 0] S4096x128.size facts.inb_S4096x128_S4096x128_0_0) $$ H9; iintro H9
  rw [wp_ret]; imodintro
  iapply HK
  dsimp only [fillSt]
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem wp_zero (a : Mems) (e : In F) (s : St F) {Q : PUnit → sProp 𝕄} :
    own c a e s ⊢ iprop((own c a e (zeroSt s) -∗ Q ⟨⟩) -∗ wp frame (wpE (defs₀ (F := F)) 𝒱 (c : Thread nD τ) bd) E (zeroP a) Q) := by
  unfold own zeroP
  iintro ⟨H3, H4, H5, H6, H7, H8, H9, H10, H11, H12, H13⟩ HK
  iapply (wp_load_owns 𝒱 c bd E a.arg10 s.acc ![0, 0] S1024x128.size facts.inb_S1024x128_S1024x128_0_0) $$ H10; iintro H10
  iapply (wp_store_owns 𝒱 c bd E a.arg10 s.acc ![0, 0] S1024x128.size facts.inb_S1024x128_S1024x128_0_0) $$ H10; iintro H10
  iapply (wp_load_owns 𝒱 c bd E a.arg11 s.car ![0, 0] S1024x1.size facts.inb_S1024x1_S1024x1_0_0) $$ H11; iintro H11
  iapply (wp_store_owns 𝒱 c bd E a.arg11 s.car ![0, 0] S1024x1.size facts.inb_S1024x1_S1024x1_0_0) $$ H11; iintro H11
  rw [wp_ret]; imodintro
  iapply HK
  dsimp only [zeroSt]
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem wp_finish (a : Mems) (e : In F) (s : St F) {Q : PUnit → sProp 𝕄} :
    own c a e s ⊢ iprop((own c a e (finishSt s) -∗ Q ⟨⟩) -∗ wp frame (wpE (defs₀ (F := F)) 𝒱 (c : Thread nD τ) bd) E (finishP a) Q) := by
  unfold own finishP
  iintro ⟨H3, H4, H5, H6, H7, H8, H9, H10, H11, H12, H13⟩ HK
  iapply (wp_load_owns 𝒱 c bd E a.arg10 s.acc ![0, 0] S1024x128.size facts.inb_S1024x128_S1024x128_0_0) $$ H10; iintro H10
  iapply (wp_load_owns 𝒱 c bd E a.arg7 s.out ![0, 0, 0] S1x1024x128.size facts.inb_S1x1024x128_S1x1024x128_0_0_0) $$ H7; iintro H7
  iapply (wp_store_owns 𝒱 c bd E a.arg7 s.out ![0, 0, 0] S1x1024x128.size facts.inb_S1x1024x128_S1x1024x128_0_0_0) $$ H7; iintro H7
  rw [wp_ret]; imodintro
  iapply HK
  dsimp only [finishSt]
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The bias read. -/
theorem wp_bias (i : grid0.Coords) (a : Mems) (e : In F) (s : St F) {Q : F .f32 → sProp 𝕄} :
    own c a e s ⊢ iprop((own c a e s -∗ Q (biasAt i e)) -∗ wp frame (wpE (defs₀ (F := F)) 𝒱 (c : Thread nD τ) bd) E
      (smemLoad a.arg3 (Rect.unit (s := S12) (k0_off1 i) S1.size (k0_off1_inb i)) numel1_S1 rfl) Q) := by
  unfold own smemLoad smemLoadElt biasAt
  iintro ⟨H3, H4, H5, H6, H7, H8, H9, H10, H11, H12, H13⟩ HK
  iapply (wp_load_owns 𝒱 c bd E a.arg3 e.bias (k0_off1 i) S1.size (k0_off1_inb i)) $$ H3; iintro H3
  rw [wp_ret]; imodintro
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The trips. -/
theorem wp_trips (i : grid0.Coords) (a : Mems) (h : Whole a) (b : F .f32) (h2 : k0_cond2 i = 1#1) {β : Type} (k : PUnit → Prog (Eff F) β)
    (e : In F) (s : St F) {Q : β → sProp 𝕄} :
    own c a e s ⊢ iprop((own c a e (tripsSt i h2 b e s (k0_t1_loop i).trips) -∗ wp frame (wpE (defs₀ (F := F)) 𝒱 (c : Thread nD τ) bd) E (k ⟨⟩) Q)
      -∗ wp frame (wpE (defs₀ (F := F)) 𝒱 (c : Thread nD τ) bd) E (Scf.Loop.for (k0_t1_loop i) (k0_t1_ok i h2) () (t1Body i a h b h2) >>= k) Q) := by
  have L := Scf.wp_for_bind frame (wpE (defs₀ (F := F)) 𝒱 (c : Thread nD τ) bd) E _ _ _ (k0_t1_ok i h2) () (t1Body i a h b h2) (Q := Q) (kk := k)
    (fun n _ => own c a e (tripsSt i h2 b e s n)) (fun n u => by
      rw [t1Body_eq]
      have hs : tripsSt i h2 b e s (n.val + 1) = steps e (tripOps i h2 b n) (tripsSt i h2 b e s n.val) := dif_pos n.isLt
      rw [hs]
      iintro H
      iapply (wp_runOps 𝒱 c bd E a e (tripOps i h2 b n) _) $$ H
      iintro H; iexact H)
  refine L.trans ?_
  iintro L HK
  iapply L
  iintro %u H
  iapply HK
  iexact H

/-- The loop of no trip. -/
theorem wp_none (i : grid0.Coords) (a : Mems) (h : Whole a) (b : F .f32) (h2 : k0_cond2 i = 1#1) {β : Type} (k : PUnit → Prog (Eff F) β)
    (R : sProp 𝕄) {Q : β → sProp 𝕄} :
    R ⊢ iprop((R -∗ wp frame (wpE (defs₀ (F := F)) 𝒱 (c : Thread nD τ) bd) E (k ⟨⟩) Q)
      -∗ wp frame (wpE (defs₀ (F := F)) 𝒱 (c : Thread nD τ) bd) E (Scf.Loop.for (k0_t2_loop i) (k0_t2_ok i h2) () (t2Body i a h b h2) >>= k) Q) := by
  have L := Scf.wp_for_bind frame (wpE (defs₀ (F := F)) 𝒱 (c : Thread nD τ) bd) E _ _ _ (k0_t2_ok i h2) () (t2Body i a h b h2) (Q := Q) (kk := k)
    (fun _ _ => R) (fun n _ => by
      have := n.isLt; have h0 := trips2 i; unfold Scf.Loop.trips at h0; omega)
  refine L.trans ?_
  iintro L HK
  iapply L
  iintro %u H
  iapply HK
  iexact H

theorem wp_later (i : grid0.Coords) (a : Mems) (h : Whole a) (b : F .f32) (h2 : k0_cond2 i = 1#1) (k : Prog (Eff F) PUnit)
    (e : In F) (s : St F) {Q : PUnit → sProp 𝕄} :
    own c a e s ⊢ iprop((own c a e (laterSt i h2 b e s) -∗ wp frame (wpE (defs₀ (F := F)) 𝒱 (c : Thread nD τ) bd) E k Q)
      -∗ wp frame (wpE (defs₀ (F := F)) 𝒱 (c : Thread nD τ) bd) E (laterP i a h b h2 k) Q) := by
  unfold laterP
  rw [wp_bind]
  iintro H HK
  iapply (wp_runOps 𝒱 c bd E a e (nextOps i h2 b) s) $$ H; iintro H
  iapply (wp_trips 𝒱 c bd E i a h b h2) $$ H; iintro H
  iapply (wp_none 𝒱 c bd E i a h b h2) $$ H; iintro H
  rw [wp_bind]
  iapply (wp_runOps 𝒱 c bd E a e lastOps _) $$ H; iintro H
  iapply HK
  iexact H

theorem wp_end (i : grid0.Coords) (a : Mems) (e : In F) (s : St F) {Q : PUnit → sProp 𝕄} :
    own c a e s ⊢ iprop((own c a e (endSt i e s) -∗ Q ⟨⟩) -∗ wp frame (wpE (defs₀ (F := F)) 𝒱 (c : Thread nD τ) bd) E (endP i a) Q) := by
  unfold endP endSt
  by_cases h3 : k0_cond3 i = 1#1
  · rw [dif_pos h3, dif_pos h3, wp_bind]
    iintro H HK
    iapply (wp_runOps 𝒱 c bd E a e (firstOps i h3) s) $$ H; iintro H
    iapply (wp_finish 𝒱 c bd E a e _) $$ H
    iexact HK
  · rw [dif_neg h3, dif_neg h3]
    exact wp_finish 𝒱 c bd E a e s

theorem wp_after (i : grid0.Coords) (a : Mems) (h : Whole a) (b : F .f32) (e : In F) (s : St F) {Q : PUnit → sProp 𝕄} :
    own c a e s ⊢ iprop((own c a e (afterSt i b e s) -∗ Q ⟨⟩) -∗ wp frame (wpE (defs₀ (F := F)) 𝒱 (c : Thread nD τ) bd) E (afterP i a h b) Q) := by
  unfold afterP afterSt
  by_cases h2 : k0_cond2 i = 1#1
  · rw [dif_pos h2, dif_pos h2]
    iintro H HK
    iapply (wp_later 𝒱 c bd E i a h b h2 (endP i a) e s) $$ H; iintro H
    iapply (wp_end 𝒱 c bd E i a e _) $$ H
    iexact HK
  · rw [dif_neg h2, dif_neg h2]
    exact wp_end 𝒱 c bd E i a e s

theorem wp_rest (i : grid0.Coords) (a : Mems) (h : Whole a) (e : In F) (s : St F) {Q : PUnit → sProp 𝕄} :
    own c a e s ⊢ iprop((own c a e (restSt i e s) -∗ Q ⟨⟩) -∗ wp frame (wpE (defs₀ (F := F)) 𝒱 (c : Thread nD τ) bd) E (restP i a h) Q) := by
  unfold restP restSt
  rw [wp_bind]
  iintro H HK
  iapply (wp_bias 𝒱 c bd E i a e s) $$ H; iintro H
  rw [wp_bind]
  iapply (wp_zero 𝒱 c bd E a e s) $$ H; iintro H
  rw [wp_bind]
  iapply (wp_runOps 𝒱 c bd E a e (openOps i (biasAt i e)) _) $$ H; iintro H
  iapply (wp_after 𝒱 c bd E i a h (biasAt i e) e _) $$ H
  iexact HK

/-- The body's triple. -/
theorem wp_body (i : grid0.Coords) (a : Mems) (h : Whole a) (e : In F) (s : St F) {Q : PUnit → sProp 𝕄} :
    own c a e s ⊢ iprop((own c a e (bodySt i e s) -∗ Q ⟨⟩) -∗ wp frame (wpE (defs₀ (F := F)) 𝒱 (c : Thread nD τ) bd) E (bodyP i a h) Q) := by
  unfold bodyP bodySt
  by_cases h1 : cond1 i = 1#1
  · rw [dif_pos h1, if_pos h1, wp_bind]
    iintro H HK
    iapply (wp_fill 𝒱 c bd E a h e s) $$ H; iintro H
    iapply (wp_rest 𝒱 c bd E i a h e _) $$ H
    iexact HK
  · rw [dif_neg h1, if_neg h1]
    exact wp_rest 𝒱 c bd E i a h e s

end Cert.KernelIdeal.Hand
-- ==== Proof.Frame.lean ====
/- The body at a point of the grid, and the run of the whole call: it ends, with the arguments unchanged and every
   semaphore at zero. -/
module

public import proofs.«01_k».proof.Proof.Triple
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body at a point -/

abbrev 𝒱₀ : Variants := Variants.none

/-- The memrefs of a point. -/
def mems (t : Fin cfg0.N) : Mems where
  arg3 := win0_0.stage (cfg0.slots t 0)
  arg4 := win0_1.stage (cfg0.slots t 1)
  arg5 := win0_2.stage (cfg0.slots t 2)
  arg6 := win0_3.stage (cfg0.slots t 3)
  arg7 := win0_4.stage (cfg0.slots t 4)
  arg8 := Memref.whole cc0_scratch0
  arg9 := Memref.whole cc0_scratch1
  arg10 := Memref.whole cc0_scratch2
  arg11 := Memref.whole cc0_scratch3
  arg12 := Memref.whole cc0_scratch4
  arg13 := Memref.whole cc0_scratch5

theorem whole (t : Fin cfg0.N) : Whole (mems t) where
  h3 := hstage0_0 ((cfg0.slots t 0).cast nbuf0_0)
  h4 := hstage0_1 ((cfg0.slots t 1).cast nbuf0_1)
  h5 := hstage0_2 ((cfg0.slots t 2).cast nbuf0_2)
  h6 := hstage0_3 ((cfg0.slots t 3).cast nbuf0_3)
  h7 := hstage0_4 ((cfg0.slots t 4).cast nbuf0_4)
  h8 := Memref.isWhole_whole _
  h9 := Memref.isWhole_whole _
  h10 := Memref.isWhole_whole _
  h11 := Memref.isWhole_whole _
  h12 := Memref.isWhole_whole _
  h13 := Memref.isWhole_whole _

/-- What a point reads. -/
def ins (c : Dev nD) (t : Fin cfg0.N) : In F where
  bias := iblk m c 0 t
  q := iblk m c 1 t
  k := iblk m c 2 t
  v := iblk m c 3 t

theorem bodyAt_eq (t : Fin cfg0.N) : (Gen.bodyAt0 t : Prog (Eff F) PUnit) = bodyP (grid0.coords t) (mems t) (whole t) :=
  body_eq (grid0.coords t) (mems t) (whole t)

/-- The six scratches at a state's contents. -/
def scr (c : Dev nD) (s : St F) : sProp 𝕄 :=
  iprop(owns (c : Thread nD τ) (Memref.whole cc0_scratch0) fullShare s.kb ∗ owns (c : Thread nD τ) (Memref.whole cc0_scratch1) fullShare s.vb
    ∗ owns (c : Thread nD τ) (Memref.whole cc0_scratch2) fullShare s.acc ∗ owns (c : Thread nD τ) (Memref.whole cc0_scratch3) fullShare s.car
    ∗ owns (c : Thread nD τ) (Memref.whole cc0_scratch4) fullShare s.z ∗ owns (c : Thread nD τ) (Memref.whole cc0_scratch5) fullShare s.w)

/-- The body at a point: the scratches go from one state to the next, the output block is the next one's. -/
theorem wp_point (c : Dev nD) (t : Fin cfg0.N) (e : In F) (s : St F) {Q : PUnit → sProp 𝕄} :
    iprop(scr c s ∗ owns (c : Thread nD τ) (win0_0.stage (cfg0.slots t 0)) fullShare e.bias ∗ owns (c : Thread nD τ) (win0_1.stage (cfg0.slots t 1)) fullShare e.q
      ∗ owns (c : Thread nD τ) (win0_2.stage (cfg0.slots t 2)) fullShare e.k ∗ owns (c : Thread nD τ) (win0_3.stage (cfg0.slots t 3)) fullShare e.v
      ∗ owns (c : Thread nD τ) (win0_4.stage (cfg0.slots t 4)) fullShare s.out) ⊢
    iprop((scr c (bodySt (grid0.coords t) e s) ∗ owns (c : Thread nD τ) (win0_0.stage (cfg0.slots t 0)) fullShare e.bias
        ∗ owns (c : Thread nD τ) (win0_1.stage (cfg0.slots t 1)) fullShare e.q
        ∗ owns (c : Thread nD τ) (win0_2.stage (cfg0.slots t 2)) fullShare e.k ∗ owns (c : Thread nD τ) (win0_3.stage (cfg0.slots t 3)) fullShare e.v
        ∗ owns (c : Thread nD τ) (win0_4.stage (cfg0.slots t 4)) fullShare (bodySt (grid0.coords t) e s).out -∗ Q ⟨⟩)
      -∗ wp frame (wpE (defs₀ (F := F)) 𝒱₀ (c : Thread nD τ) none) Set.univ (Gen.bodyAt0 t) Q) := by
  rw [bodyAt_eq]
  unfold scr
  iintro ⟨⟨S0, S1, S2, S3, S4, S5⟩, H0, H1, H2, H3, H4⟩ HK
  ihave H : own c (mems t) e s $$ [S0 S1 S2 S3 S4 S5 H0 H1 H2 H3 H4]
  · unfold own mems
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    iexact S5
  iapply (wp_body 𝒱₀ c none Set.univ (grid0.coords t) (mems t) (whole t) e s) $$ H
  unfold own
  iintro ⟨H0, H1, H2, H3, H4, S0, S1, S2, S3, S4, S5⟩
  iapply HK
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [H0]; · iexact H0
  isplitl [H1]; · iexact H1
  isplitl [H2]; · iexact H2
  isplitl [H3]; · iexact H3
  iexact H4

/-! ## The scratches at some contents -/

theorem ex_owns {sp : CoreSpace} {S : Shape} {e : EltTy} (c : Dev nD) (a : Memref sig .tc sp S e) (h : a.IsWhole) :
    (iprop(∃ f : Buf (Elt F) (a.view.loc (c : Thread nD τ)), (a.view.loc (c : Thread nD τ)) ↦{fullShare} f) : sProp 𝕄)
      = iprop(∃ X, owns (c : Thread nD τ) a fullShare X) :=
  (Memref.IsWhole.exists_owns_eq (c := (c : Thread nD τ)) h fullShare).symm

/-- The region's own buffers are the six scratches at some state. -/
theorem rest_scr (c : Dev nD) (o : Vec F S1x1024x128 .f32) :
    (Pipeline.scopedRest spec0 c : sProp 𝕄) ⊢ iprop(∃ s : St F, ⌜s.out = o⌝ ∗ scr c s) := by
  rw [scopedRest0_eq]
  iintro ⟨⟨%f0, H0⟩, ⟨%f1, H1⟩, ⟨%f2, H2⟩, ⟨%f3, H3⟩, ⟨%f4, H4⟩, ⟨%f5, H5⟩⟩
  iexists (⟨f0, f1, f2, f3, f4, f5, o⟩ : St F)
  isplitr; · ipureintro; rfl
  unfold scr
  simp only [owns_whole]
  isplitl [H0]; · iexact H0
  isplitl [H1]; · iexact H1
  isplitl [H2]; · iexact H2
  isplitl [H3]; · iexact H3
  isplitl [H4]; · iexact H4
  iexact H5

theorem scr_rest (c : Dev nD) (s : St F) : (scr c s : sProp 𝕄) ⊢ Pipeline.scopedRest spec0 c := by
  rw [scopedRest0_eq]
  unfold scr
  simp only [owns_whole]
  iintro ⟨H0, H1, H2, H3, H4, H5⟩
  isplitl [H0]; · iexists s.kb; iexact H0
  isplitl [H1]; · iexists s.vb; iexact H1
  isplitl [H2]; · iexists s.acc; iexact H2
  isplitl [H3]; · iexists s.car; iexact H3
  isplitl [H4]; · iexists s.z; iexact H4
  iexists s.w; iexact H5

/-! ## The run -/

/-- The proof data: the inputs left as they are, nothing named of the output. -/
def dat (c : Dev nD) : Dat τ (Elt F) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ := fun _ => Pipeline.ΦA spec0 c
  q := fun _ => fullShare
  owed := fun _ => 0
  recorded := fun _ => ∅

def dats : (p : Fin 1) → (c : Dev nD) → Dat τ (Elt F) Unit ℕ (UR sig nD τ) ℕ (cfgs p) c := fun _ c => dat m c

/-- Only the output is not named. -/
def fgt : Fin cfg0.W → Bool := fun w => w.val == 4

theorem defs₀_row (t : Fin cfg0.N) : (defs₀ (F := F)) .tc cfg0.body (cfg0.bodyArgs t (cfg0.slots t)) = Gen.bodyAt0 t := by
  unfold defs₀; rw [Defs.onTc_tc]

theorem before0 (c : Dev nD) (t : Fin cfg0.N) (d) : (dat m c).before 0 t d = iblk m c 0 t := Gen.before0_0_of m (dat m c) rfl (fun _ => rfl) t d
theorem before1 (c : Dev nD) (t : Fin cfg0.N) (d) : (dat m c).before 1 t d = iblk m c 1 t := Gen.before0_1_of m (dat m c) rfl (fun _ => rfl) t d
theorem before2 (c : Dev nD) (t : Fin cfg0.N) (d) : (dat m c).before 2 t d = iblk m c 2 t := Gen.before0_2_of m (dat m c) rfl (fun _ => rfl) t d
theorem before3 (c : Dev nD) (t : Fin cfg0.N) (d) : (dat m c).before 3 t d = iblk m c 3 t := Gen.before0_3_of m (dat m c) rfl (fun _ => rfl) t d

theorem body_obligation (c : Dev nD) : Pipeline.BodyObligationLoose (dat m c) defs₀ 𝒱₀ () Set.univ fgt := by
  intro t
  rw [Gen.bigSep_W0, Gen.bigSep_W0, defs₀_row]
  simp only [before0, before1, before2, before3]
  show iprop(Pipeline.ΦA spec0 c ∗ (dat m c).owesAt () t.castSucc
      ∗ (∃ _d, owns (c : Thread nD τ) (win0_0.stage (cfg0.slots t 0)) fullShare (iblk m c 0 t))
      ∗ (∃ _d, owns (c : Thread nD τ) (win0_1.stage (cfg0.slots t 1)) fullShare (iblk m c 1 t))
      ∗ (∃ _d, owns (c : Thread nD τ) (win0_2.stage (cfg0.slots t 2)) fullShare (iblk m c 2 t))
      ∗ (∃ _d, owns (c : Thread nD τ) (win0_3.stage (cfg0.slots t 3)) fullShare (iblk m c 3 t))
      ∗ (∃ X, owns (c : Thread nD τ) (win0_4.stage (cfg0.slots t 4)) fullShare X)) ⊢
    wp frame (wpE (defs₀ (F := F)) 𝒱₀ (c : Thread nD τ) none) Set.univ (Gen.bodyAt0 t) fun _ =>
      iprop(Pipeline.ΦA spec0 c ∗ (dat m c).owesAt () t.succ
        ∗ owns (c : Thread nD τ) (win0_0.stage (cfg0.slots t 0)) fullShare (iblk m c 0 t)
        ∗ owns (c : Thread nD τ) (win0_1.stage (cfg0.slots t 1)) fullShare (iblk m c 1 t)
        ∗ owns (c : Thread nD τ) (win0_2.stage (cfg0.slots t 2)) fullShare (iblk m c 2 t)
        ∗ owns (c : Thread nD τ) (win0_3.stage (cfg0.slots t 3)) fullShare (iblk m c 3 t)
        ∗ (∃ X, owns (c : Thread nD τ) (win0_4.stage (cfg0.slots t 4)) fullShare X))
  unfold Pipeline.ΦA
  iintro ⟨⟨HS, HP⟩, HO, ⟨%d0, H0⟩, ⟨%d1, H1⟩, ⟨%d2, H2⟩, ⟨%d3, H3⟩, ⟨%X, H4⟩⟩
  ihave HS := rest_scr c X $$ HS
  icases HS with ⟨%s, %hs, HS⟩
  subst hs
  iapply (wp_point c t (ins m c t) s) $$ [HS H0 H1 H2 H3 H4]
  · isplitl [HS]; · iexact HS
    isplitl [H0]; · iexact H0
    isplitl [H1]; · iexact H1
    isplitl [H2]; · iexact H2
    isplitl [H3]; · iexact H3
    iexact H4
  iintro ⟨HS, H0, H1, H2, H3, H4⟩
  isplitl [HS HP]
  · isplitl [HS]
    · iapply (scr_rest c _); iexact HS
    iexact HP
  isplitl [HO]; · iexact HO
  isplitl [H0]; · iexact H0
  isplitl [H1]; · iexact H1
  isplitl [H2]; · iexact H2
  isplitl [H3]; · iexact H3
  iexists _; iexact H4

/-- The run ends, the arguments unchanged and every semaphore at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget cfgs (dats m) 0 Gen.launch0 defs₀ 𝒱₀ fgt m ρ main (hbody := body_obligation m)
    (hshare := fun c w => by fin_cases w <;> rfl) (howed := fun _ _ => rfl) (V := Gen.V m) (hmain := Gen.hmain m 𝒱₀)
    (hA := fun _ _ => rfl) (hΦ := fun _ _ => rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
    (hQ' := fun r h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.KernelIdeal.Hand
-- ==== Proof.At.lean ====
/- The steps' loads and stores of the attention kernel, read at an index: which element a window shows, and what a
   buffer holds where a payload was put and elsewhere. -/
module

public import proofs.«01_k».proof.Proof.Triple
public import Idealize.ShloMosaic.Lib.Pointwise

@[expose] public section

noncomputable section

namespace Cert.KernelIdeal.Hand

open Cert.KernelIdeal
open Idealize.ShloMosaic Idealize.ShloMosaic.TcCoe
open Cert.KernelIdeal.Gen
open Idealize.ShloMosaic.VecWindow (window put)

variable {F : FTy → Type} [FloatOps F] [Named F]

/-! ## Windows -/

theorem window_tile (x : Vec F S4096x128 .bf16) (off : Fin 2 → ℕ) (h : InTile off) (K : ℕ) (h0 : off 0 = K) (h1 : off 1 = 0) (c : Fin 256) (d : Fin 128)
    (hK : K + c.val < 4096) :
    window x off S256x128.size h (ix2 c d) = x (ix2 ⟨K + c.val, hK⟩ d) := by
  subst h0
  refine congrArg x (funext fun a => Fin.ext ?_)
  fin_cases a
  · show off 0 + 1 * c.val = off 0 + c.val
    omega
  · show off 1 + 1 * d.val = d.val
    omega

section Slots

variable {slot r0 R : ℕ} (ok : Ok slot r0 R)

theorem window_q (x : Vec F S1x1x1024x128 .bf16) (r : Fin R) (d : Fin 128) (hr : r0 + r.val < 1024) :
    window x ![0, 0, r0, 0] (SQ R).size ok.inQ (ix4 0 0 r d) = x (ix4 0 0 ⟨r0 + r.val, hr⟩ d) := by
  refine congrArg x (funext fun a => Fin.ext ?_)
  fin_cases a
  · rfl
  · rfl
  · show r0 + 1 * r.val = r0 + r.val
    omega
  · show 0 + 1 * d.val = d.val
    omega

theorem window_z (x : Vec F S4x1024x256 .f32) (r : Fin R) (c : Fin 256) (hr : r0 + r.val < 1024) :
    window x ![slot, r0, 0] (SZ R).size ok.inZ (ix3 0 r c) = x (ix3 ⟨slot, ok.hs⟩ ⟨r0 + r.val, hr⟩ c) := by
  refine congrArg x (funext fun a => Fin.ext ?_)
  fin_cases a
  · rfl
  · show r0 + 1 * r.val = r0 + r.val
    omega
  · show 0 + 1 * c.val = c.val
    omega

theorem window_c (x : Vec F S1024x1 .f32) (r : Fin R) (hr : r0 + r.val < 1024) :
    window x ![r0, 0] (SC R).size ok.inC (ix2 r 0) = x (ix2 ⟨r0 + r.val, hr⟩ 0) := by
  refine congrArg x (funext fun a => Fin.ext ?_)
  fin_cases a
  · show r0 + 1 * r.val = r0 + r.val
    omega
  · rfl

theorem window_a (x : Vec F S1024x128 .f32) (r : Fin R) (d : Fin 128) (hr : r0 + r.val < 1024) :
    window x ![r0, 0] (SA R).size ok.inA (ix2 r d) = x (ix2 ⟨r0 + r.val, hr⟩ d) := by
  refine congrArg x (funext fun a => Fin.ext ?_)
  fin_cases a
  · show r0 + 1 * r.val = r0 + r.val
    omega
  · show 0 + 1 * d.val = d.val
    omega

end Slots

/-! ## Buffers after a store -/

theorem put_z_in (x : Vec F S4x1024x256 .f32) (slot r0 R : ℕ) (w : Vec F (SZ R) .f32) (n : Fin 4) (r : Fin 1024) (c : Fin 256)
    (hn : n.val = slot) (h0 : r0 ≤ r.val) (h1 : r.val - r0 < R) :
    put x ![slot, r0, 0] (SZ R).size w (ix3 n r c) = w (ix3 0 ⟨r.val - r0, h1⟩ c) := by
  have h : ∀ a, (![slot, r0, 0] : Fin 3 → ℕ) a ≤ ((ix3 n r c : S4x1024x256.Idx) a).val
      ∧ ((ix3 n r c : S4x1024x256.Idx) a).val < (![slot, r0, 0] : Fin 3 → ℕ) a + (SZ R).size a := by
    intro a
    fin_cases a
    · show slot ≤ n.val ∧ n.val < slot + 1
      omega
    · show r0 ≤ r.val ∧ r.val < r0 + R
      omega
    · show 0 ≤ c.val ∧ c.val < 0 + 256
      have := c.isLt
      omega
  refine (dif_pos h).trans (congrArg w (funext fun a => Fin.ext ?_))
  fin_cases a
  · show n.val - slot = 0
    omega
  · rfl
  · rfl

theorem put_z_out (x : Vec F S4x1024x256 .f32) (slot r0 R : ℕ) (w : Vec F (SZ R) .f32) (n : Fin 4) (r : Fin 1024) (c : Fin 256)
    (hn : n.val ≠ slot) :
    put x ![slot, r0, 0] (SZ R).size w (ix3 n r c) = x (ix3 n r c) := by
  refine dif_neg fun h => ?_
  have := h 0
  have h' : slot ≤ n.val ∧ n.val < slot + 1 := this
  omega

theorem put_c (x : Vec F S1024x1 .f32) (r0 R : ℕ) (w : Vec F (SC R) .f32) (r : Fin 1024) (h0 : r0 ≤ r.val) (h1 : r.val - r0 < R) :
    put x ![r0, 0] (SC R).size w (ix2 r 0) = w (ix2 ⟨r.val - r0, h1⟩ 0) := by
  have h : ∀ a, (![r0, 0] : Fin 2 → ℕ) a ≤ ((ix2 r 0 : S1024x1.Idx) a).val
      ∧ ((ix2 r 0 : S1024x1.Idx) a).val < (![r0, 0] : Fin 2 → ℕ) a + (SC R).size a := by
    intro a
    fin_cases a
    · show r0 ≤ r.val ∧ r.val < r0 + R
      omega
    · show 0 ≤ 0 ∧ 0 < 0 + 1
      omega
  refine (dif_pos h).trans (congrArg w (funext fun a => Fin.ext ?_))
  fin_cases a <;> rfl

theorem put_c_out (x : Vec F S1024x1 .f32) (r0 R : ℕ) (w : Vec F (SC R) .f32) (r : Fin 1024) (h0 : r.val < r0) :
    put x ![r0, 0] (SC R).size w (ix2 r 0) = x (ix2 r 0) := by
  refine dif_neg fun h => ?_
  have h' : r0 ≤ r.val ∧ r.val < r0 + R := h 0
  omega

theorem put_a (x : Vec F S1024x128 .f32) (r0 R : ℕ) (w : Vec F (SA R) .f32) (r : Fin 1024) (d : Fin 128) (h0 : r0 ≤ r.val) (h1 : r.val - r0 < R) :
    put x ![r0, 0] (SA R).size w (ix2 r d) = w (ix2 ⟨r.val - r0, h1⟩ d) := by
  have h : ∀ a, (![r0, 0] : Fin 2 → ℕ) a ≤ ((ix2 r d : S1024x128.Idx) a).val
      ∧ ((ix2 r d : S1024x128.Idx) a).val < (![r0, 0] : Fin 2 → ℕ) a + (SA R).size a := by
    intro a
    fin_cases a
    · show r0 ≤ r.val ∧ r.val < r0 + R
      omega
    · show 0 ≤ d.val ∧ d.val < 0 + 128
      have := d.isLt
      omega
  refine (dif_pos h).trans (congrArg w (funext fun a => Fin.ext ?_))
  fin_cases a <;> rfl

theorem put_a_out (x : Vec F S1024x128 .f32) (r0 R : ℕ) (w : Vec F (SA R) .f32) (r : Fin 1024) (d : Fin 128) (h0 : r.val < r0) :
    put x ![r0, 0] (SA R).size w (ix2 r d) = x (ix2 r d) := by
  refine dif_neg fun h => ?_
  have h' : r0 ≤ r.val ∧ r.val < r0 + R := h 0
  omega

/-- A payload put over a whole buffer is the buffer. -/
theorem put_whole {α : Type} {s : Shape} (x : s.Idx → α) (off : Fin s.rank → ℕ) (hoff : ∀ a, off a = 0) (w : s.Idx → α) :
    put x off s.size w = w := by
  funext y
  have h : ∀ a, off a ≤ (y a).val ∧ (y a).val < off a + s.size a := by
    intro a
    have := (y a).isLt
    have := hoff a
    omega
  refine (dif_pos h).trans (congrArg w (funext fun a => Fin.ext ?_))
  show (y a).val - off a = (y a).val
  have := hoff a
  omega

/-- A window over a whole buffer is the buffer. -/
theorem window_whole {α : Type} {s : Shape} (x : s.Idx → α) (off : Fin s.rank → ℕ) (hoff : ∀ a, off a = 0) (inb : ∀ a, off a + s.size a ≤ s.size a) :
    window x off s.size inb = x := by
  funext y
  refine congrArg x (funext fun a => Fin.ext ?_)
  show off a + 1 * (y a).val = (y a).val
  have := hoff a
  omega

end Cert.KernelIdeal.Hand
-- ==== Proof.Math.lean ====
/- The mathematics of stick-breaking attention in base two, over rows and keys counted by natural numbers: the logarithm
   of a score's share, the sums over later keys, the weights, the weighted values; and how each is cut at a tile of
   256 keys. -/
module

public import Idealize.ShloMosaic.PureOps.Ideal
public import Idealize.ShloMosaic.Lib.Pointwise

@[expose] public section

noncomputable section

namespace Cert.Stick

open Idealize.ShloMosaic

/-! ## Scores -/

/-- The logarithm, base two, of the logistic function of a score given in base two. -/
def lb (z : ℝ) : ℝ := min z 0 - Real.log (1 + Real.rpow 2 (0 - max z (-z))) * (Real.log 2)⁻¹

/-- The same on the extended reals, as a program computes it. -/
def lbE (z : EReal) : EReal := min z 0 - Ideal.log (1 + Ideal.exp2 (0 - max z (-z))) * (((Real.log 2)⁻¹ : ℝ) : EReal)

theorem coe_max (a b : ℝ) : ((max a b : ℝ) : EReal) = max (a : EReal) (b : EReal) :=
  Monotone.map_max (fun _ _ h => EReal.coe_le_coe_iff.mpr h)

theorem coe_min (a b : ℝ) : ((min a b : ℝ) : EReal) = min (a : EReal) (b : EReal) :=
  Monotone.map_min (fun _ _ h => EReal.coe_le_coe_iff.mpr h)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lbE_coe (z : ℝ) : lbE (z : EReal) = ((lb z : ℝ) : EReal) := by
  have hpos : 0 < 1 + Real.rpow 2 (0 - max z (-z)) := by
    have : 0 < Real.rpow 2 (0 - max z (-z)) := Real.rpow_pos_of_pos (by norm_num) _
    linarith
  unfold lbE lb
  rw [← EReal.coe_neg, ← coe_max, ← EReal.coe_zero, ← coe_min, ← EReal.coe_sub, Ideal.exp2_coe, ← EReal.coe_one,
    ← EReal.coe_add, Ideal.log_coe, if_neg (not_le.mpr hpos), ← EReal.coe_mul, ← EReal.coe_sub]

/-! ## Sums over a tile -/

/-- The scores after key `c` of a tile, summed as a product with the matrix that has ones there, once with the numbers
    and once with what is left of them past their low-precision part. -/
theorem later_sum (c : Fin 256) (L : Fin 256 → ℝ) :
    (∑ e : Fin 256, (if c.val < e.val then (L e : EReal) else 0)) + (∑ e : Fin 256, (if c.val < e.val then ((L e : EReal) - (L e : EReal)) else 0))
      = ((∑ e : Fin 256, (if c.val < e.val then L e else 0) : ℝ) : EReal) := by
  have h : ∀ e : Fin 256, (if c.val < e.val then ((L e : EReal) - (L e : EReal)) else 0) = 0 := by
    intro e
    rw [← EReal.coe_sub, sub_self, EReal.coe_zero, ite_self]
  rw [Finset.sum_congr rfl (fun e _ => h e), Finset.sum_const_zero, add_zero, coe_sum]
  refine Finset.sum_congr rfl fun e _ => ?_
  by_cases hc : c.val < e.val
  · rw [if_pos hc, if_pos hc]
  · rw [if_neg hc, if_neg hc, EReal.coe_zero]

/-- A sum over 256 consecutive numbers. -/
theorem sum_tile {M : Type} [AddCommMonoid M] (f : ℕ → M) (K : ℕ) :
    ∑ s ∈ Finset.Ico K (K + 256), f s = ∑ e : Fin 256, f (K + e.val) := by
  rw [Finset.sum_Ico_eq_sum_range, Nat.add_sub_cancel_left, Finset.sum_range]

/-- A sum past a tile's start is the tile's sum and the sum past the tile. -/
theorem sum_from_tile {M : Type} [AddCommMonoid M] (f : ℕ → M) (K N : ℕ) (h : K + 256 ≤ N) :
    ∑ s ∈ Finset.Ico K N, f s = (∑ s ∈ Finset.Ico (K + 256) N, f s) + ∑ e : Fin 256, f (K + e.val) := by
  rw [← sum_tile, add_comm, Finset.sum_Ico_consecutive f (by omega) h]

/-- A sum past key `c` of a tile is the sum of the tile's later keys and the sum past the tile. -/
theorem sum_after {M : Type} [AddCommMonoid M] (f : ℕ → M) (K N : ℕ) (h : K + 256 ≤ N) (c : Fin 256) :
    ∑ s ∈ Finset.Ico (K + c.val + 1) N, f s
      = (∑ s ∈ Finset.Ico (K + 256) N, f s) + ∑ e : Fin 256, (if c.val < e.val then f (K + e.val) else 0) := by
  have hc := c.isLt
  rw [← Finset.sum_Ico_consecutive f (show K + c.val + 1 ≤ K + 256 by omega) h, add_comm]
  congr 1
  rw [show (∑ e : Fin 256, (if c.val < e.val then f (K + e.val) else 0))
      = ∑ e : Fin 256, (fun s => if K + c.val < s then f s else 0) (K + e.val) from
        Finset.sum_congr rfl fun e _ => by
          by_cases hh : c.val < e.val
          · simp [hh]
          · simp [hh],
    ← sum_tile (fun s => if K + c.val < s then f s else 0), ← Finset.sum_filter]
  refine Finset.sum_congr ?_ fun _ _ => rfl
  ext s
  simp only [Finset.mem_Ico, Finset.mem_filter]
  omega

/-! ## A block of 1024 rows that starts at row `T` -/

section Rows

variable (q k : ℕ → Fin 128 → ℝ) (v : ℕ → Fin 128 → EReal) (b : ℝ) (T : ℕ)

/-- The score of row `r` of the block against key `s`. -/
def zz (r s : ℕ) : ℝ := (∑ d, q r d * k s d) + b

/-- What a key leaves of the stick, as a logarithm: zero for a key that is not before the row. -/
def rem (r s : ℕ) : ℝ := if s < T + r then lb (zz q k b r s) - zz q k b r s else 0

/-- What the keys from `s` on leave. -/
def rest (r s : ℕ) : ℝ := ∑ s' ∈ Finset.Ico s (T + 1024), rem q k b T r s'

/-- The logarithm of a weight. -/
def ww (r s : ℕ) : EReal := if s < T + r then ((lb (zz q k b r s) + rest q k b T r (s + 1) : ℝ) : EReal) else ⊥

/-- The weighted values of the keys from `s` on. -/
def av (r s : ℕ) (d : Fin 128) : EReal := ∑ s' ∈ Finset.Ico s (T + 1024), Ideal.exp2 (ww q k b T r s') * v s' d

theorem rest_end (r : ℕ) : rest q k b T r (T + 1024) = 0 := by simp [rest]
theorem av_end (r : ℕ) (d : Fin 128) : av q k v b T r (T + 1024) d = 0 := by simp [av]

variable (K : ℕ) (hK : K + 256 ≤ T + 1024)
include hK

theorem rest_tile (r : ℕ) : rest q k b T r K = rest q k b T r (K + 256) + ∑ e : Fin 256, rem q k b T r (K + e.val) :=
  sum_from_tile _ _ _ hK

theorem rest_after (r : ℕ) (c : Fin 256) :
    rest q k b T r (K + c.val + 1) = rest q k b T r (K + 256) + ∑ e : Fin 256, (if c.val < e.val then rem q k b T r (K + e.val) else 0) :=
  sum_after _ _ _ hK c

theorem av_tile (r : ℕ) (d : Fin 128) :
    av q k v b T r K d = av q k v b T r (K + 256) d + ∑ e : Fin 256, Ideal.exp2 (ww q k b T r (K + e.val)) * v (K + e.val) d :=
  sum_from_tile _ _ _ hK

omit hK

/-- A tile that holds no key before the row changes nothing. -/
theorem rest_skip (hK : K + 256 ≤ T + 1024) (r : ℕ) (h : T + r ≤ K) : rest q k b T r K = rest q k b T r (K + 256) := by
  rw [rest_tile q k b T K hK, Finset.sum_eq_zero, add_zero]
  intro e _
  rw [rem, if_neg (by omega)]

theorem av_skip (hK : K + 256 ≤ T + 1024) (r : ℕ) (h : T + r ≤ K) (d : Fin 128) : av q k v b T r K d = av q k v b T r (K + 256) d := by
  rw [av_tile q k v b T K hK, Finset.sum_eq_zero, add_zero]
  intro e _
  rw [ww, if_neg (by omega), Ideal.exp2_bot, zero_mul]

end Rows

end Cert.Stick
-- ==== Proof.Pays.lean ====
/- What the attention kernel's payloads compute, element by element, of finite scores: the scores, the weights and the
   carry past them (on the diagonal and below it), the weighted values. -/
module

public import proofs.«01_k».proof.Proof.Body
public import proofs.«01_k».proof.Proof.Math

@[expose] public section

noncomputable section

namespace Cert.KernelIdeal.Hand

open Cert.KernelIdeal
open Idealize.ShloMosaic Idealize.ShloMosaic.TcCoe
open Cert.KernelIdeal.Gen
open Cert.Stick

/-! ## What is said of a payload -/

/-- Scores: the product of a query's row and a key's, and the bias. -/
def LgSpec (R : ℕ) (b : Ideal .f32) (pay : Vec Ideal S256x128 .bf16 → Vec Ideal (SQ R) .bf16 → Vec Ideal (SZ R) .f32) : Prop :=
  ∀ (x : Vec Ideal S256x128 .bf16) (q : Vec Ideal (SQ R) .bf16) (r : Fin R) (c : Fin 256),
    pay x q (ix3 0 r c) = (∑ d : Fin 128, q (ix4 0 0 r d) * x (ix2 c d)) + b

/-- Weights and the carry past them, where `m c r` says that column `c` is seen from row `r`. -/
def WtSpec (R : ℕ) (m : ℕ → ℕ → Prop) [∀ c r, Decidable (m c r)]
    (payW : Vec Ideal (SZ R) .f32 → Vec Ideal (SC R) .f32 → Vec Ideal (SZ R) .f32)
    (payC : Vec Ideal (SZ R) .f32 → Vec Ideal (SC R) .f32 → Vec Ideal (SC R) .f32) : Prop :=
  ∀ (z : Vec Ideal (SZ R) .f32) (x : Vec Ideal (SC R) .f32) (r : Fin R) (zr : Fin 256 → ℝ) (xr : ℝ),
    (∀ c : Fin 256, z (ix3 0 r c) = (zr c : EReal)) → x (ix2 r 0) = (xr : EReal) →
    (∀ c : Fin 256, payW z x (ix3 0 r c)
        = if m c.val r.val then ((lb (zr c) + (xr + ∑ e : Fin 256, (if c.val < e.val then (if m e.val r.val then lb (zr e) - zr e else 0) else 0)) : ℝ) : EReal) else ⊥)
      ∧ payC z x (ix2 r 0) = ((xr + ∑ e : Fin 256, (if m e.val r.val then lb (zr e) - zr e else 0) : ℝ) : EReal)

/-- Weighted values, added to the running ones. -/
def VlSpec (R : ℕ) (pay : Vec Ideal S256x128 .bf16 → Vec Ideal (SZ R) .f32 → Vec Ideal (SA R) .f32 → Vec Ideal (SA R) .f32) : Prop :=
  ∀ (x : Vec Ideal S256x128 .bf16) (w : Vec Ideal (SZ R) .f32) (y : Vec Ideal (SA R) .f32) (r : Fin R) (d : Fin 128),
    pay x w y (ix2 r d) = y (ix2 r d) + ∑ e : Fin 256, Ideal.exp2 (w (ix3 0 r e)) * x (ix2 e d)

/-! ## Small facts -/

theorem lb_named (z : ℝ) :
    min (z : EReal) 0 - Ideal.log (1 + (FloatOps.exp2 (F := Ideal) (φ := .f32) ((0 : EReal) - FloatOps.absf (F := Ideal) (φ := .f32) (z : EReal)))) * Named.named (F := Ideal) (φ := .f32) κ "log2_e" 1069066811#32
      = ((lb z : ℝ) : EReal) := by
  rw [IdealRules.named_const.ideal_named_scalar κ "log2_e" _ _ rfl]
  exact lbE_coe z

theorem masked_named : Named.named (F := Ideal) (φ := .f32) κ "masked" 4048155338#32 = (⊥ : EReal) :=
  IdealRules.named_const.ideal_named_scalar κ "masked" _ _ rfl

theorem select_slt {α : Type} (c : Fin 256) (r : ℕ) (hr : r < 1024) (x y : α) :
    Scalar.select (IntOp.cmpi CmpIPredicate.slt (BitVec.ofNat 32 c.val) (BitVec.ofNat 32 r)) x y = if c.val < r then x else y := by
  have hc := c.isLt
  have n : ∀ k : ℕ, k < 1024 → (BitVec.ofNat 32 k).toInt = (k : ℤ) := by
    intro k hk
    have hm : (BitVec.ofNat 32 k).toNat = k := by rw [BitVec.toNat_ofNat]; omega
    rw [BitVec.toInt_eq_toNat_of_lt (by omega), hm]
  have h : ((BitVec.ofNat 32 c.val).slt (BitVec.ofNat 32 r)) = decide (c.val < r) := by
    rw [BitVec.slt_eq_decide, n _ (by omega), n _ hr]
    simp
  by_cases hh : c.val < r <;> simp [Scalar.select, IntOp.cmpi, h, hh]

theorem select_sgt {α : Type} (e c : Fin 256) (x y : α) :
    Scalar.select (IntOp.cmpi CmpIPredicate.sgt (BitVec.ofNat 32 e.val) (BitVec.ofNat 32 c.val)) x y = if c.val < e.val then x else y := by
  have hc := c.isLt
  have h := select_slt c e.val (by omega) x y
  exact h

/-! ## The scores -/

theorem lg256_spec (b : Ideal .f32) : LgSpec 256 b (lg256 b) := by
  intro x q r c
  pointwise [lg256, k0_pay141, k0_pay142]

theorem lg512_spec (b : Ideal .f32) : LgSpec 512 b (lg512 b) := by
  intro x q r c
  pointwise [lg512, k0_pay143]

theorem lg768_spec (b : Ideal .f32) : LgSpec 768 b (lg768 b) := by
  intro x q r c
  pointwise [lg768, k0_pay144]

theorem lg1024_spec (b : Ideal .f32) : LgSpec 1024 b (lg1024 b) := by
  intro x q r c
  pointwise [lg1024, k0_pay8]

/-! ## The weighted values -/

theorem vl256_spec : VlSpec 256 vl256 := by
  intro x w y r d
  pointwise [vl256, k0_pay78]
  rfl

theorem vl512_spec : VlSpec 512 vl512 := by
  intro x w y r d
  pointwise [vl512, k0_pay88]
  rfl

theorem vl768_spec : VlSpec 768 vl768 := by
  intro x w y r d
  pointwise [vl768, k0_pay95]
  rfl

theorem vl1024_spec : VlSpec 1024 vl1024 := by
  intro x w y r d
  pointwise [vl1024, k0_pay15]
  rfl

/-! ## The weights -/

/-- The weights below the diagonal, once the scores are reals. -/
theorem weight_plain (zr : Fin 256 → ℝ) (xr : ℝ) (c : Fin 256) :
    ((lb (zr c) : ℝ) : EReal) + (xr : EReal)
        + ((∑ e : Fin 256, if c.val < e.val then (((lb (zr e) : ℝ) : EReal) - (zr e : EReal)) else 0)
          + (∑ e : Fin 256, if c.val < e.val then ((((lb (zr e) : ℝ) : EReal) - (zr e : EReal)) - (((lb (zr e) : ℝ) : EReal) - (zr e : EReal))) else 0))
      = ((lb (zr c) + (xr + ∑ e : Fin 256, (if c.val < e.val then lb (zr e) - zr e else 0)) : ℝ) : EReal) := by
  simp only [← EReal.coe_sub]
  simp only [EReal.coe_sub (lb _ - _), later_sum c (fun e => lb (zr e) - zr e)]
  rw [← EReal.coe_add, ← EReal.coe_add, add_assoc]

/-- The weights on the diagonal, once the scores are reals. -/
theorem weight_diagonal (zr : Fin 256 → ℝ) (xr : ℝ) (c : Fin 256) (r : ℕ) :
    (if c.val < r then ((lb (zr c) : ℝ) : EReal) + (xr : EReal) else ⊥)
        + ((∑ e : Fin 256, if c.val < e.val then (if e.val < r then (((lb (zr e) : ℝ) : EReal) - (zr e : EReal)) else 0) else 0)
          + (∑ e : Fin 256, if c.val < e.val then ((if e.val < r then (((lb (zr e) : ℝ) : EReal) - (zr e : EReal)) else 0)
              - (if e.val < r then (((lb (zr e) : ℝ) : EReal) - (zr e : EReal)) else 0)) else 0))
      = if c.val < r then ((lb (zr c) + (xr + ∑ e : Fin 256, (if c.val < e.val then (if e.val < r then lb (zr e) - zr e else 0) else 0)) : ℝ) : EReal) else ⊥ := by
  have h : ∀ e : Fin 256, (if e.val < r then (((lb (zr e) : ℝ) : EReal) - (zr e : EReal)) else 0)
      = (((if e.val < r then lb (zr e) - zr e else 0) : ℝ) : EReal) := by
    intro e
    by_cases he : e.val < r
    · rw [if_pos he, if_pos he, EReal.coe_sub]
    · rw [if_neg he, if_neg he, EReal.coe_zero]
  simp only [h]
  rw [later_sum c (fun e => if e.val < r then lb (zr e) - zr e else 0)]
  by_cases hc : c.val < r
  · rw [if_pos hc, if_pos hc, ← EReal.coe_add, ← EReal.coe_add, add_assoc]
  · rw [if_neg hc, if_neg hc, EReal.bot_add]

theorem carry_plain (zr : Fin 256 → ℝ) (xr : ℝ) :
    (xr : EReal) + (∑ e : Fin 256, (((lb (zr e) : ℝ) : EReal) - (zr e : EReal))) = ((xr + ∑ e : Fin 256, (lb (zr e) - zr e) : ℝ) : EReal) := by
  rw [EReal.coe_add, coe_sum]
  simp only [EReal.coe_sub]

theorem carry_diagonal (zr : Fin 256 → ℝ) (xr : ℝ) (r : ℕ) :
    (xr : EReal) + (∑ e : Fin 256, if e.val < r then (((lb (zr e) : ℝ) : EReal) - (zr e : EReal)) else 0)
      = ((xr + ∑ e : Fin 256, (if e.val < r then lb (zr e) - zr e else 0) : ℝ) : EReal) := by
  rw [EReal.coe_add, coe_sum]
  congr 1
  refine Finset.sum_congr rfl fun e _ => ?_
  by_cases he : e.val < r
  · rw [if_pos he, if_pos he, EReal.coe_sub]
  · rw [if_neg he, if_neg he, EReal.coe_zero]

theorem wt256_spec : WtSpec 256 (fun c r => c < r) wt256 cr256 := by
  intro z x r zr xr hz hx
  refine ⟨fun c => ?_, ?_⟩
  · pointwise [wt256, k0_pay149, k0_pay145, k0_pay138, k0_pay146, k0_pay147, k0_pay148]
    simp only [hz, hx, lb_named, masked_named, select_slt _ r.val (by omega), select_sgt]
    exact weight_diagonal zr xr c r.val
  · pointwise [cr256, k0_pay150, k0_pay145, k0_pay146, k0_pay147, k0_pay148]
    simp only [hz, hx, lb_named, masked_named, select_slt _ r.val (by omega), select_sgt]
    exact carry_diagonal zr xr r.val

theorem wt512_spec : WtSpec 512 (fun c r => c < r) wt512 cr512 := by
  intro z x r zr xr hz hx
  refine ⟨fun c => ?_, ?_⟩
  · pointwise [wt512, k0_pay1, k0_pay152, k0_pay154, k0_pay156, k0_pay138, k0_pay153, k0_pay155]
    simp only [hz, hx, lb_named, masked_named, select_slt _ r.val (by omega), select_sgt]
    exact weight_diagonal zr xr c r.val
  · pointwise [cr512, k0_pay2, k0_pay152, k0_pay154, k0_pay155, k0_pay153]
    simp only [hz, hx, lb_named, masked_named, select_slt _ r.val (by omega), select_sgt]
    exact carry_diagonal zr xr r.val

theorem wt768_spec : WtSpec 768 (fun c r => c < r) wt768 cr768 := by
  intro z x r zr xr hz hx
  refine ⟨fun c => ?_, ?_⟩
  · pointwise [wt768, k0_pay76, k0_pay71, k0_pay73, k0_pay75, k0_pay138, k0_pay72, k0_pay74]
    simp only [hz, hx, lb_named, masked_named, select_slt _ r.val (by omega), select_sgt]
    exact weight_diagonal zr xr c r.val
  · pointwise [cr768, k0_pay77, k0_pay71, k0_pay73, k0_pay74, k0_pay72]
    simp only [hz, hx, lb_named, masked_named, select_slt _ r.val (by omega), select_sgt]
    exact carry_diagonal zr xr r.val

theorem wd1024_spec : WtSpec 1024 (fun c r => c < r) wd1024 cd1024 := by
  intro z x r zr xr hz hx
  refine ⟨fun c => ?_, ?_⟩
  · pointwise [wd1024, k0_pay86, k0_pay80, k0_pay82, k0_pay84, k0_pay85, k0_pay138, k0_pay81, k0_pay83]
    simp only [hz, hx, lb_named, masked_named, select_slt _ r.val (by omega), select_sgt]
    exact weight_diagonal zr xr c r.val
  · pointwise [cd1024, k0_pay87, k0_pay80, k0_pay82, k0_pay83, k0_pay81]
    simp only [hz, hx, lb_named, masked_named, select_slt _ r.val (by omega), select_sgt]
    exact carry_diagonal zr xr r.val

theorem wt1024_spec : WtSpec 1024 (fun _ _ => True) wt1024 cr1024 := by
  intro z x r zr xr hz hx
  simp only [if_true]
  refine ⟨fun c => ?_, ?_⟩
  · pointwise [wt1024, k0_pay10, k0_pay12, k0_pay13, k0_pay138, k0_pay9, k0_pay11]
    simp only [hz, hx, lb_named, select_sgt]
    exact weight_plain zr xr c
  · pointwise [cr1024, k0_pay14, k0_pay11, k0_pay10, k0_pay9]
    simp only [hz, hx, lb_named]
    exact carry_plain zr xr

end Cert.KernelIdeal.Hand
-- ==== Proof.Inv.lean ====
/- What the attention kernel's state holds between two steps: the scores of the tiles whose weights are not taken yet, the
   weights of those whose values are not, what the keys passed leave, and the weighted values of the keys passed. Each
   kind of step keeps it, one tile further. -/
module

public import proofs.«01_k».proof.Proof.At
public import proofs.«01_k».proof.Proof.Pays

@[expose] public section

noncomputable section

namespace Cert.KernelIdeal.Hand

open Cert.KernelIdeal
open Idealize.ShloMosaic Idealize.ShloMosaic.TcCoe
open Cert.KernelIdeal.Gen
open Cert.Stick
open Idealize.ShloMosaic.VecWindow (window put)

/-- The first row that sees a key of the `n`-th tile from the last. -/
def row0 (n : ℕ) : ℕ := (3 - n) * 256

/-- The first key of the `n`-th tile from the last, of a block that starts at row `T`. -/
def key0 (T n : ℕ) : ℕ := T + 1024 - 256 * (n + 1)

section

variable (q k : ℕ → Fin 128 → ℝ) (v : ℕ → Fin 128 → EReal) (b : ℝ) (T : ℕ)

/-- The scores of the first `nl` tiles are taken, the weights of the first `nw`, the values of the first `nv`. -/
structure Inv (nl nw nv : ℕ) (s : St Ideal) : Prop where
  hkb : ∀ (j : Fin 4096) (d : Fin 128), s.kb (ix2 j d) = (k j.val d : EReal)
  hvb : ∀ (j : Fin 4096) (d : Fin 128), s.vb (ix2 j d) = v j.val d
  hz : ∀ n, nw ≤ n → n < nl → ∀ (a : Fin 4), a.val = n % 4 → ∀ r : Fin 1024, row0 n ≤ r.val → ∀ c : Fin 256,
    s.z (ix3 a r c) = (zz q k b r.val (key0 T n + c.val) : EReal)
  hw : ∀ n, nv ≤ n → n < nw → ∀ (a : Fin 4), a.val = n % 4 → ∀ r : Fin 1024, row0 n ≤ r.val → ∀ c : Fin 256,
    s.w (ix3 a r c) = ww q k b T r.val (key0 T n + c.val)
  hc : ∀ r : Fin 1024, s.car (ix2 r 0) = (rest q k b T r.val (T + 1024 - 256 * nw) : EReal)
  ha : ∀ (r : Fin 1024) (d : Fin 128), s.acc (ix2 r d) = av q k v b T r.val (T + 1024 - 256 * nv) d

variable {q k v b T}
variable {nl nw nv : ℕ} {s : St Ideal} (H : Inv q k v b T nl nw nv s) (e : In Ideal)

include H in
/-- The scores of the next tile. -/
theorem Inv.logits (hq : ∀ (r : Fin 1024) (d : Fin 128), e.q (ix4 0 0 r d) = (q r.val d : EReal))
    (off : Fin 2 → ℕ) (hoff : InTile off) (slot r0 R : ℕ) (ok : Ok slot r0 R)
    (pay : Vec Ideal S256x128 .bf16 → Vec Ideal (SQ R) .bf16 → Vec Ideal (SZ R) .f32) (hp : LgSpec R (b : EReal) pay)
    (h4 : nl < nw + 4) (hT : 256 * (nl + 1) ≤ T + 1024) (hT' : T + 1024 ≤ 4096) (hs : slot = nl % 4) (hr0 : r0 = row0 nl) (hR : r0 + R = 1024)
    (o0 : off 0 = key0 T nl) (o1 : off 1 = 0) :
    Inv q k v b T (nl + 1) nw nv (Op.step e s (.logits off hoff slot r0 R ok pay)) := by
  refine { hkb := H.hkb, hvb := H.hvb, hz := ?_, hw := H.hw, hc := H.hc, ha := H.ha }
  intro n hn hn' a ha r hr c
  show put s.z ![slot, r0, 0] (SZ R).size _ (ix3 a r c) = _
  have hr1 := r.isLt
  have hc1 := c.isLt
  by_cases hnl : n = nl
  · subst hnl
    have hK : key0 T n + c.val < 4096 := by unfold key0; omega
    rw [put_z_in s.z slot r0 R _ a r c (by omega) (by omega) (by omega), hp]
    have hr2 : r0 + (r.val - r0) < 1024 := by omega
    have hrr : (⟨r0 + (r.val - r0), hr2⟩ : Fin 1024) = r := Fin.ext (by simp only []; omega)
    unfold zz
    rw [EReal.coe_add, coe_sum]
    refine congrArg (· + (b : EReal)) (Finset.sum_congr rfl fun d _ => ?_)
    rw [window_tile s.kb off hoff (key0 T n) o0 o1 c d hK, window_q ok e.q ⟨r.val - r0, by omega⟩ d hr2, hrr, hq, H.hkb, EReal.coe_mul]
  · rw [put_z_out s.z slot r0 R _ a r c (by omega)]
    exact H.hz n hn (by omega) a ha r hr c

include H in
/-- The weights of the next tile. -/
theorem Inv.weights (slot r0 R : ℕ) (ok : Ok slot r0 R) (m : ℕ → ℕ → Prop) [∀ c r, Decidable (m c r)]
    (payW : Vec Ideal (SZ R) .f32 → Vec Ideal (SC R) .f32 → Vec Ideal (SZ R) .f32)
    (payC : Vec Ideal (SZ R) .f32 → Vec Ideal (SC R) .f32 → Vec Ideal (SC R) .f32) (hp : WtSpec R m payW payC)
    (hl : nw < nl) (h4 : nw < nv + 4) (hT : 256 * (nw + 1) ≤ T + 1024) (hs : slot = nw % 4) (hr0 : r0 = row0 nw) (hR : r0 + R = 1024)
    (hm : ∀ c r, c < 256 → r < R → (m c r ↔ key0 T nw + c < T + (r0 + r))) :
    Inv q k v b T nl (nw + 1) nv (Op.step e s (.weights slot r0 R ok payW payC)) := by
  have hk0 : key0 T nw = T + 1024 - 256 * (nw + 1) := rfl
  have hk1 : key0 T nw + 256 = T + 1024 - 256 * nw := by omega
  have hkT : key0 T nw + 256 ≤ T + 1024 := by omega
  have hval : ∀ (r : Fin R),
      (∀ c : Fin 256, payW (window s.z ![slot, r0, 0] (SZ R).size ok.inZ) (window s.car ![r0, 0] (SC R).size ok.inC) (ix3 0 r c)
          = ww q k b T (r0 + r.val) (key0 T nw + c.val))
        ∧ payC (window s.z ![slot, r0, 0] (SZ R).size ok.inZ) (window s.car ![r0, 0] (SC R).size ok.inC) (ix2 r 0)
          = (rest q k b T (r0 + r.val) (key0 T nw) : EReal) := by
    intro r
    have hr := r.isLt
    have hr' : r0 + r.val < 1024 := by omega
    have h := hp (window s.z ![slot, r0, 0] (SZ R).size ok.inZ) (window s.car ![r0, 0] (SC R).size ok.inC) r
      (fun c => zz q k b (r0 + r.val) (key0 T nw + c.val)) (rest q k b T (r0 + r.val) (key0 T nw + 256))
      (fun c => (window_z ok s.z r c hr').trans (H.hz nw le_rfl hl ⟨slot, ok.hs⟩ hs ⟨r0 + r.val, hr'⟩ (by show row0 nw ≤ r0 + r.val; omega) c))
      ((window_c ok s.car r hr').trans ((H.hc ⟨r0 + r.val, hr'⟩).trans (by rw [hk1])))
    have hrem : ∀ e : Fin 256, (if m e.val r.val then lb (zz q k b (r0 + r.val) (key0 T nw + e.val)) - zz q k b (r0 + r.val) (key0 T nw + e.val) else 0)
        = rem q k b T (r0 + r.val) (key0 T nw + e.val) := by
      intro e
      unfold rem
      simp only [hm e.val r.val e.isLt hr]
    refine ⟨fun c => (h.1 c).trans ?_, h.2.trans ?_⟩
    · simp only [hrem]
      rw [← rest_after q k b T (key0 T nw) hkT]
      unfold ww
      simp only [hm c.val r.val c.isLt hr]
    · simp only [hrem]
      rw [← rest_tile q k b T (key0 T nw) hkT]
  refine { hkb := H.hkb, hvb := H.hvb, hz := ?_, hw := ?_, hc := ?_, ha := H.ha }
  · intro n hn hn' a ha r hr c
    exact H.hz n (by omega) hn' a ha r hr c
  · intro n hn hn' a ha r hr c
    show put s.w ![slot, r0, 0] (SZ R).size _ (ix3 a r c) = _
    have hr1 := r.isLt
    by_cases hnw : n = nw
    · subst hnw
      rw [put_z_in s.w slot r0 R _ a r c (by omega) (by omega) (by omega), (hval ⟨r.val - r0, by omega⟩).1 c]
      congr 1
      show r0 + (r.val - r0) = r.val
      omega
    · rw [put_z_out s.w slot r0 R _ a r c (by omega)]
      exact H.hw n hn (by omega) a ha r hr c
  · intro r
    have hr1 := r.isLt
    show put s.car ![r0, 0] (SC R).size _ (ix2 r 0) = _
    rw [← hk0]
    by_cases hr : r0 ≤ r.val
    · rw [put_c s.car r0 R _ r hr (by omega), (hval ⟨r.val - r0, by omega⟩).2]
      congr 2
      show r0 + (r.val - r0) = r.val
      omega
    · rw [put_c_out s.car r0 R _ r (by omega), H.hc r, ← hk1, rest_skip q k b T (key0 T nw) hkT r.val]
      unfold row0 at hr0
      omega

include H in
/-- The values of the next tile. -/
theorem Inv.values (off : Fin 2 → ℕ) (hoff : InTile off) (slot r0 R : ℕ) (ok : Ok slot r0 R)
    (pay : Vec Ideal S256x128 .bf16 → Vec Ideal (SZ R) .f32 → Vec Ideal (SA R) .f32 → Vec Ideal (SA R) .f32) (hp : VlSpec R pay)
    (hl : nv < nw) (hT : 256 * (nv + 1) ≤ T + 1024) (hT' : T + 1024 ≤ 4096) (hs : slot = nv % 4) (hr0 : r0 = row0 nv) (hR : r0 + R = 1024)
    (o0 : off 0 = key0 T nv) (o1 : off 1 = 0) :
    Inv q k v b T nl nw (nv + 1) (Op.step e s (.values off hoff slot r0 R ok pay)) := by
  have hk0 : key0 T nv = T + 1024 - 256 * (nv + 1) := rfl
  have hk1 : key0 T nv + 256 = T + 1024 - 256 * nv := by omega
  have hkT : key0 T nv + 256 ≤ T + 1024 := by omega
  refine { hkb := H.hkb, hvb := H.hvb, hz := H.hz, hw := fun n hn hn' => H.hw n (by omega) hn', hc := H.hc, ha := ?_ }
  intro r d
  have hr1 := r.isLt
  show put s.acc ![r0, 0] (SA R).size _ (ix2 r d) = _
  rw [← hk0]
  by_cases hr : r0 ≤ r.val
  · rw [put_a s.acc r0 R _ r d hr (by omega), hp]
    have hr2 : r0 + (r.val - r0) < 1024 := by omega
    have hrr : (⟨r0 + (r.val - r0), hr2⟩ : Fin 1024) = r := Fin.ext (by simp only []; omega)
    rw [window_a ok s.acc _ d hr2, av_tile q k v b T (key0 T nv) hkT, hrr, H.ha, hk1]
    congr 1
    refine Finset.sum_congr rfl fun c _ => ?_
    have hc1 := c.isLt
    have hK : key0 T nv + c.val < 4096 := by omega
    rw [window_z ok s.w _ c hr2, window_tile s.vb off hoff (key0 T nv) o0 o1 c d hK, hrr, H.hvb,
      H.hw nv le_rfl hl ⟨slot, ok.hs⟩ hs r (by omega) c]
  · rw [put_a_out s.acc r0 R _ r d (by omega), H.ha r d, ← hk1, av_skip q k v b T (key0 T nv) hkT r.val]
    unfold row0 at hr0
    omega

end

end Cert.KernelIdeal.Hand
-- ==== Proof.Outcome.lean ====
/- What the attention kernel's body leaves at a grid point: its output block is the weighted values of every key before
   each row, and the keys and values it keeps stay those of its head. -/
module

public import proofs.«01_k».proof.Proof.Inv

@[expose] public section

noncomputable section

namespace Cert.KernelIdeal.Hand

open Cert.KernelIdeal
open Idealize.ShloMosaic Idealize.ShloMosaic.TcCoe
open Cert.KernelIdeal.Gen
open Cert.Stick
open Idealize.ShloMosaic.VecWindow (window put)

/-! ## Offsets and conditions, of the query block -/

theorem add_tile : ∀ j c : Fin 4, (Scalar.indexCast (Scalar.muli (Scalar.addi (Scalar.muli 4#32 (BitVec.ofNat 32 j.val)) (BitVec.ofNat 32 c.val)) 256#32) : Index).toNat
    = 1024 * j.val + 256 * c.val := by decide

theorem sub_tile : ∀ (j : Fin 4) (c : Fin 5), 0 < j.val → (Scalar.indexCast (Scalar.muli (Scalar.subi (Scalar.muli 4#32 (BitVec.ofNat 32 j.val)) (BitVec.ofNat 32 c.val)) 256#32) : Index).toNat
    = 1024 * j.val - 256 * c.val := by decide

theorem trip_tile5 : ∀ (j : Fin 4) (k : Fin 3), k.val + 1 < j.val →
    (Scalar.indexCast (Scalar.muli (Scalar.subi (Scalar.subi (Scalar.muli 4#32 (BitVec.ofNat 32 j.val)) 1#32) (Scalar.muli 4#32 (Scf.iv 1#32 1#32 k.val))) 256#32) : Index).toNat
    = 1024 * j.val - 1280 - 1024 * k.val := by decide

theorem trip_tile6 : ∀ (j : Fin 4) (k : Fin 3) (c : Fin 5), k.val + 1 < j.val →
    (Scalar.indexCast (Scalar.muli (Scalar.addi (Scalar.subi (Scalar.subi (Scalar.muli 4#32 (BitVec.ofNat 32 j.val)) 1#32) (Scalar.muli 4#32 (Scf.iv 1#32 1#32 k.val))) (BitVec.ofNat 32 c.val)) 256#32) : Index).toNat
    = 1024 * j.val - 1280 - 1024 * k.val + 256 * c.val := by decide

theorem trip_tile7 : ∀ (j : Fin 4) (k : Fin 3) (c : Fin 4), k.val + 1 < j.val →
    (Scalar.indexCast (Scalar.muli (Scalar.subi (Scalar.subi (Scalar.subi (Scalar.muli 4#32 (BitVec.ofNat 32 j.val)) 1#32) (Scalar.muli 4#32 (Scf.iv 1#32 1#32 k.val))) (BitVec.ofNat 32 c.val)) 256#32) : Index).toNat
    = 1024 * j.val - 1280 - 1024 * k.val - 256 * c.val := by decide

theorem trips1 (i : grid0.Coords) (h : 0 < (i 2).val) : (k0_t1_loop i).trips = (i 2).val - 1 := by
  have h' : ∀ j : Fin 4, 0 < j.val → Scf.Loop.trips (w := 32) ⟨1#32, Scalar.addi 1#32 (Scalar.muli (Scalar.divsi (Scalar.subi (BitVec.ofNat 32 j.val) 1#32) 1#32) 1#32), 1#32⟩
      = j.val - 1 := by decide
  exact h' (i 2) h

theorem cond1_iff (i : grid0.Coords) : cond1 i = 1#1 ↔ (i 2).val = 0 := by
  have h : ∀ j : Fin 4, Scalar.cmpi .ne (Scalar.extui (Scalar.cmpi .eq (BitVec.ofNat 32 j.val) 0#32) : BitVec 32) 0#32 = 1#1 ↔ j.val = 0 := by decide
  exact h (i 2)

theorem cond2_iff (i : grid0.Coords) : k0_cond2 i = 1#1 ↔ 0 < (i 2).val := by
  have h : ∀ j : Fin 4, Scalar.cmpi .ne (Scalar.extui (Scalar.cmpi .sgt (Scalar.muli 4#32 (BitVec.ofNat 32 j.val)) 0#32) : BitVec 32) 0#32 = 1#1 ↔ 0 < j.val := by decide
  exact h (i 2)

theorem cond3_iff (i : grid0.Coords) : k0_cond3 i = 1#1 ↔ (i 2).val = 0 := by
  have h : ∀ j : Fin 4, Scalar.cmpi .ne (Scalar.extui (Scalar.cmpi .eq (Scalar.muli 4#32 (BitVec.ofNat 32 j.val)) 0#32) : BitVec 32) 0#32 = 1#1 ↔ j.val = 0 := by decide
  exact h (i 2)

/-! ## The lists of steps -/

theorem row0_late (n : ℕ) (h : 3 ≤ n) : 0 = row0 n := by unfold row0; omega

section

variable {q k : ℕ → Fin 128 → ℝ} {v : ℕ → Fin 128 → EReal} {b : ℝ}
variable (i : grid0.Coords) (e : In Ideal) (hq : ∀ (r : Fin 1024) (d : Fin 128), e.q (ix4 0 0 r d) = (q r.val d : EReal))
variable {s : St Ideal}
include hq

theorem open_inv (H : Inv q k v b (1024 * (i 2).val) 0 0 0 s) :
    Inv q k v b (1024 * (i 2).val) 4 2 0 (steps e (openOps i (b : EReal)) s) := by
  have hi : (i 2).val < 4 := (i 2).isLt
  have h1 := H.logits e hq _ (k0_off2_inb i 3) 0 768 256 ok256 _ (lg256_spec b) (by omega) (by omega) (by omega) rfl rfl rfl
    ((add_tile (i 2) 3).trans (by unfold key0; simp only [Fin.isValue]; omega)) rfl
  have h2 := h1.logits e hq _ (k0_off2_inb i 2) 1 512 512 ok512 _ (lg512_spec b) (by omega) (by omega) (by omega) rfl rfl rfl
    ((add_tile (i 2) 2).trans (by unfold key0; simp only [Fin.isValue]; omega)) rfl
  have h3 := h2.logits e hq _ (k0_off2_inb i 1) 2 256 768 ok768 _ (lg768_spec b) (by omega) (by omega) (by omega) rfl rfl rfl
    ((add_tile (i 2) 1).trans (by unfold key0; simp only [Fin.isValue]; omega)) rfl
  have h4 := h3.weights e 0 768 256 ok256 _ _ _ wt256_spec (by omega) (by omega) (by omega) rfl rfl rfl (by unfold key0; intros; omega)
  have h5 := h4.logits e hq _ (k0_off2_inb i 0) 3 0 1024 ok3 _ (lg1024_spec b) (by omega) (by omega) (by omega) rfl rfl rfl
    ((add_tile (i 2) 0).trans (by unfold key0; simp only [Fin.isValue]; omega)) rfl
  exact h5.weights e 1 512 512 ok512 _ _ _ wt512_spec (by omega) (by omega) (by omega) rfl rfl rfl (by unfold key0; intros; omega)

omit hq in
theorem first_inv (h3 : k0_cond3 i = 1#1) (H : Inv q k v b (1024 * (i 2).val) 4 2 0 s) :
    Inv q k v b (1024 * (i 2).val) 4 4 4 (steps e (firstOps i h3) s) := by
  have hi : (i 2).val < 4 := (i 2).isLt
  have h1 := H.weights e 2 256 768 ok768 _ _ _ wt768_spec (by omega) (by omega) (by omega) rfl rfl rfl (by unfold key0; intros; omega)
  have h2 := h1.values e _ (k0_off11_inb i h3 3) 0 768 256 ok256 _ vl256_spec (by omega) (by omega) (by omega) rfl rfl rfl
    ((add_tile (i 2) 3).trans (by unfold key0; simp only [Fin.isValue]; omega)) rfl
  have h4 := h2.weights e 3 0 1024 ok3 _ _ _ wd1024_spec (by omega) (by omega) (by omega) rfl rfl rfl (by unfold key0; intros; omega)
  have h5 := h4.values e _ (k0_off11_inb i h3 2) 1 512 512 ok512 _ vl512_spec (by omega) (by omega) (by omega) rfl rfl rfl
    ((add_tile (i 2) 2).trans (by unfold key0; simp only [Fin.isValue]; omega)) rfl
  have h6 := h5.values e _ (k0_off11_inb i h3 1) 2 256 768 ok768 _ vl768_spec (by omega) (by omega) (by omega) rfl rfl rfl
    ((add_tile (i 2) 1).trans (by unfold key0; simp only [Fin.isValue]; omega)) rfl
  exact h6.values e _ (k0_off11_inb i h3 0) 3 0 1024 ok3 _ vl1024_spec (by omega) (by omega) (by omega) rfl rfl rfl
    ((add_tile (i 2) 0).trans (by unfold key0; simp only [Fin.isValue]; omega)) rfl

theorem next_inv (h2 : k0_cond2 i = 1#1) (H : Inv q k v b (1024 * (i 2).val) 4 2 0 s) :
    Inv q k v b (1024 * (i 2).val) 8 6 4 (steps e (nextOps i h2 (b : EReal)) s) := by
  have hi : (i 2).val < 4 := (i 2).isLt
  have hp : 0 < (i 2).val := (cond2_iff i).mp h2
  have g1 := H.logits e hq _ (k0_off3_inb i h2 0) 0 0 1024 ok0 _ (lg1024_spec b) (by omega) (by omega) (by omega) rfl rfl rfl
    ((sub_tile (i 2) 1 hp).trans (by unfold key0; simp only [Fin.isValue]; omega)) rfl
  have g2 := g1.weights e 2 256 768 ok768 _ _ _ wt768_spec (by omega) (by omega) (by omega) rfl rfl rfl (by unfold key0; intros; omega)
  have g3 := g2.values e _ (k0_off4_inb i h2 3) 0 768 256 ok256 _ vl256_spec (by omega) (by omega) (by omega) rfl rfl rfl
    ((add_tile (i 2) 3).trans (by unfold key0; simp only [Fin.isValue]; omega)) rfl
  have g4 := g3.logits e hq _ (k0_off3_inb i h2 1) 1 0 1024 ok1 _ (lg1024_spec b) (by omega) (by omega) (by omega) rfl rfl rfl
    ((sub_tile (i 2) 2 hp).trans (by unfold key0; simp only [Fin.isValue]; omega)) rfl
  have g5 := g4.weights e 3 0 1024 ok3 _ _ _ wd1024_spec (by omega) (by omega) (by omega) rfl rfl rfl (by unfold key0; intros; omega)
  have g6 := g5.values e _ (k0_off4_inb i h2 2) 1 512 512 ok512 _ vl512_spec (by omega) (by omega) (by omega) rfl rfl rfl
    ((add_tile (i 2) 2).trans (by unfold key0; simp only [Fin.isValue]; omega)) rfl
  have g7 := g6.logits e hq _ (k0_off3_inb i h2 2) 2 0 1024 ok2 _ (lg1024_spec b) (by omega) (by omega) (by omega) rfl rfl rfl
    ((sub_tile (i 2) 3 hp).trans (by unfold key0; simp only [Fin.isValue]; omega)) rfl
  have g8 := g7.weights e 0 0 1024 ok0 _ _ _ wt1024_spec (by omega) (by omega) (by omega) rfl rfl rfl (by unfold key0; intros; simp only [true_iff]; omega)
  have g9 := g8.values e _ (k0_off4_inb i h2 1) 2 256 768 ok768 _ vl768_spec (by omega) (by omega) (by omega) rfl rfl rfl
    ((add_tile (i 2) 1).trans (by unfold key0; simp only [Fin.isValue]; omega)) rfl
  have g10 := g9.logits e hq _ (k0_off3_inb i h2 3) 3 0 1024 ok3 _ (lg1024_spec b) (by omega) (by omega) (by omega) rfl rfl rfl
    ((sub_tile (i 2) 4 hp).trans (by unfold key0; simp only [Fin.isValue]; omega)) rfl
  have g11 := g10.weights e 1 0 1024 ok1 _ _ _ wt1024_spec (by omega) (by omega) (by omega) rfl rfl rfl (by unfold key0; intros; simp only [true_iff]; omega)
  exact g11.values e _ (k0_off4_inb i h2 0) 3 0 1024 ok3 _ vl1024_spec (by omega) (by omega) (by omega) rfl rfl rfl
    ((add_tile (i 2) 0).trans (by unfold key0; simp only [Fin.isValue]; omega)) rfl

theorem trip_inv (h2 : k0_cond2 i = 1#1) (t : Fin (k0_t1_loop i).trips)
    (H : Inv q k v b (1024 * (i 2).val) (8 + 4 * t.val) (6 + 4 * t.val) (4 + 4 * t.val) s) :
    Inv q k v b (1024 * (i 2).val) (8 + 4 * (t.val + 1)) (6 + 4 * (t.val + 1)) (4 + 4 * (t.val + 1)) (steps e (tripOps i h2 (b : EReal) t) s) := by
  have hi : (i 2).val < 4 := (i 2).isLt
  have hp : 0 < (i 2).val := (cond2_iff i).mp h2
  have ht : t.val + 1 < (i 2).val := by have := t.isLt; have := trips1 i hp; omega
  have t5 := trip_tile5 (i 2) ⟨t.val, by omega⟩ ht
  have t6 := fun c => trip_tile6 (i 2) ⟨t.val, by omega⟩ c ht
  have t7 := fun c => trip_tile7 (i 2) ⟨t.val, by omega⟩ c ht
  have g1 := H.logits e hq _ (k0_off5_inb i t h2) 0 0 1024 ok0 _ (lg1024_spec b) (by omega) (by omega) (by omega) (by omega) (row0_late _ (by omega)) rfl
    (t5.trans (by unfold key0; simp only []; omega)) rfl
  have g2 := g1.weights e 2 0 1024 ok2 _ _ _ wt1024_spec (by omega) (by omega) (by omega) (by omega) (row0_late _ (by omega)) rfl (by unfold key0; intros; simp only [true_iff]; omega)
  have g3 := g2.values e _ (k0_off6_inb i t h2 3) 0 0 1024 ok0 _ vl1024_spec (by omega) (by omega) (by omega) (by omega) (row0_late _ (by omega)) rfl
    ((t6 4).trans (by unfold key0; simp only [Fin.isValue]; omega)) rfl
  have g4 := g3.logits e hq _ (k0_off7_inb i t h2 0) 1 0 1024 ok1 _ (lg1024_spec b) (by omega) (by omega) (by omega) (by omega) (row0_late _ (by omega)) rfl
    ((t7 1).trans (by unfold key0; simp only [Fin.isValue]; omega)) rfl
  have g5 := g4.weights e 3 0 1024 ok3 _ _ _ wt1024_spec (by omega) (by omega) (by omega) (by omega) (row0_late _ (by omega)) rfl (by unfold key0; intros; simp only [true_iff]; omega)
  have g6 := g5.values e _ (k0_off6_inb i t h2 2) 1 0 1024 ok1 _ vl1024_spec (by omega) (by omega) (by omega) (by omega) (row0_late _ (by omega)) rfl
    ((t6 3).trans (by unfold key0; simp only [Fin.isValue]; omega)) rfl
  have g7 := g6.logits e hq _ (k0_off7_inb i t h2 1) 2 0 1024 ok2 _ (lg1024_spec b) (by omega) (by omega) (by omega) (by omega) (row0_late _ (by omega)) rfl
    ((t7 2).trans (by unfold key0; simp only [Fin.isValue]; omega)) rfl
  have g8 := g7.weights e 0 0 1024 ok0 _ _ _ wt1024_spec (by omega) (by omega) (by omega) (by omega) (row0_late _ (by omega)) rfl (by unfold key0; intros; simp only [true_iff]; omega)
  have g9 := g8.values e _ (k0_off6_inb i t h2 1) 2 0 1024 ok2 _ vl1024_spec (by omega) (by omega) (by omega) (by omega) (row0_late _ (by omega)) rfl
    ((t6 2).trans (by unfold key0; simp only [Fin.isValue]; omega)) rfl
  have g10 := g9.logits e hq _ (k0_off7_inb i t h2 2) 3 0 1024 ok3 _ (lg1024_spec b) (by omega) (by omega) (by omega) (by omega) (row0_late _ (by omega)) rfl
    ((t7 3).trans (by unfold key0; simp only [Fin.isValue]; omega)) rfl
  have g11 := g10.weights e 1 0 1024 ok1 _ _ _ wt1024_spec (by omega) (by omega) (by omega) (by omega) (row0_late _ (by omega)) rfl (by unfold key0; intros; simp only [true_iff]; omega)
  exact g11.values e _ (k0_off6_inb i t h2 0) 3 0 1024 ok3 _ vl1024_spec (by omega) (by omega) (by omega) (by omega) (row0_late _ (by omega)) rfl
    ((t6 1).trans (by unfold key0; simp only [Fin.isValue]; omega)) rfl

theorem trips_inv (h2 : k0_cond2 i = 1#1) (H : Inv q k v b (1024 * (i 2).val) 8 6 4 s) : ∀ n : ℕ, n ≤ (k0_t1_loop i).trips →
    Inv q k v b (1024 * (i 2).val) (8 + 4 * n) (6 + 4 * n) (4 + 4 * n) (tripsSt i h2 (b : EReal) e s n)
  | 0, _ => H
  | n + 1, h => by
    have hn : n < (k0_t1_loop i).trips := h
    unfold tripsSt
    rw [dif_pos hn]
    exact trip_inv i e hq h2 ⟨n, hn⟩ (trips_inv h2 H n (Nat.le_of_lt hn))

omit hq in
theorem last_inv (h2 : k0_cond2 i = 1#1) (H : Inv q k v b (1024 * (i 2).val) (4 * (i 2).val + 4) (4 * (i 2).val + 2) (4 * (i 2).val) s) :
    Inv q k v b (1024 * (i 2).val) (4 * (i 2).val + 4) (4 * (i 2).val + 4) (4 * (i 2).val + 4) (steps e lastOps s) := by
  have hi : (i 2).val < 4 := (i 2).isLt
  have hp : 0 < (i 2).val := (cond2_iff i).mp h2
  have g1 := H.weights e 2 0 1024 ok2 _ _ _ wt1024_spec (by omega) (by omega) (by omega) (by omega) (row0_late _ (by omega)) rfl (by unfold key0; intros; simp only [true_iff]; omega)
  have g2 := g1.values e _ facts.inb_S4096x128_S256x128_768_0 0 0 1024 ok0 _ vl1024_spec (by omega) (by omega) (by omega) (by omega) (row0_late _ (by omega)) rfl
    (show 768 = _ by unfold key0; omega) rfl
  have g3 := g2.weights e 3 0 1024 ok3 _ _ _ wt1024_spec (by omega) (by omega) (by omega) (by omega) (row0_late _ (by omega)) rfl (by unfold key0; intros; simp only [true_iff]; omega)
  have g4 := g3.values e _ facts.inb_S4096x128_S256x128_512_0 1 0 1024 ok1 _ vl1024_spec (by omega) (by omega) (by omega) (by omega) (row0_late _ (by omega)) rfl
    (show 512 = _ by unfold key0; omega) rfl
  have g5 := g4.values e _ facts.inb_S4096x128_S256x128_256_0 2 0 1024 ok2 _ vl1024_spec (by omega) (by omega) (by omega) (by omega) (row0_late _ (by omega)) rfl
    (show 256 = _ by unfold key0; omega) rfl
  exact g5.values e _ facts.inb_S4096x128_S256x128_0_0 3 0 1024 ok3 _ vl1024_spec (by omega) (by omega) (by omega) (by omega) (row0_late _ (by omega)) rfl
    (show 0 = _ by unfold key0; omega) rfl

/-- The steps past the opening take every tile. -/
theorem later_inv (h2 : k0_cond2 i = 1#1) (H : Inv q k v b (1024 * (i 2).val) 4 2 0 s) :
    Inv q k v b (1024 * (i 2).val) (4 * (i 2).val + 4) (4 * (i 2).val + 4) (4 * (i 2).val + 4) (laterSt i h2 (b : EReal) e s) := by
  have hp : 0 < (i 2).val := (cond2_iff i).mp h2
  refine last_inv i e h2 ?_
  have h := trips_inv i e hq h2 (next_inv i e hq h2 H) (k0_t1_loop i).trips le_rfl
  have e1 : 8 + 4 * (k0_t1_loop i).trips = 4 * (i 2).val + 4 := by have := trips1 i hp; omega
  have e2 : 6 + 4 * (k0_t1_loop i).trips = 4 * (i 2).val + 2 := by omega
  have e3 : 4 + 4 * (k0_t1_loop i).trips = 4 * (i 2).val := by omega
  rw [e1, e2, e3] at h
  exact h

end

/-! ## The body -/

theorem fill_kb (x : Vec Ideal S1x1x4096x128 .f32) (j : Fin 4096) (d : Fin 128) : k0_pay136 (F := Ideal) x (ix2 j d) = x (ix4 0 0 j d) := by
  pointwise [k0_pay136]

theorem fill_vb (x : Vec Ideal S1x1x4096x128 .f32) (j : Fin 4096) (d : Fin 128) : k0_pay137 (F := Ideal) x (ix2 j d) = x (ix4 0 0 j d) := by
  pointwise [k0_pay137]

theorem zero_acc (r : Fin 1024) (d : Fin 128) : k0_pay139 (F := Ideal) (ix2 r d) = 0 := by
  pointwise [k0_pay139]

theorem zero_car (r : Fin 1024) : k0_pay140 (F := Ideal) (ix2 r 0) = 0 := by
  pointwise [k0_pay140]

theorem finish_out (x : Vec Ideal S1024x128 .f32) (r : Fin 1024) (d : Fin 128) : k0_pay7 (F := Ideal) x (ix3 0 r d) = x (ix2 r d) := by
  pointwise [k0_pay7]

/-- The keys and values a state keeps are these. -/
structure Kept (k : ℕ → Fin 128 → ℝ) (v : ℕ → Fin 128 → EReal) (s : St Ideal) : Prop where
  hkb : ∀ (j : Fin 4096) (d : Fin 128), s.kb (ix2 j d) = (k j.val d : EReal)
  hvb : ∀ (j : Fin 4096) (d : Fin 128), s.vb (ix2 j d) = v j.val d

theorem kept_fill {k : ℕ → Fin 128 → ℝ} {v : ℕ → Fin 128 → EReal} (e : In Ideal) (s : St Ideal)
    (hk : ∀ (j : Fin 4096) (d : Fin 128), e.k (ix4 0 0 j d) = (k j.val d : EReal))
    (hv : ∀ (j : Fin 4096) (d : Fin 128), e.v (ix4 0 0 j d) = v j.val d) : Kept k v (fillSt e s) := by
  have h2 : ∀ a, (![0, 0] : Fin 2 → ℕ) a = 0 := by decide
  have h4 : ∀ a, (![0, 0, 0, 0] : Fin 4 → ℕ) a = 0 := by decide
  constructor
  · intro j d
    show put s.kb ![0, 0] S4096x128.size _ (ix2 j d) = _
    rw [put_whole s.kb ![0, 0] h2, window_whole e.k ![0, 0, 0, 0] h4]
    exact (fill_kb e.k j d).trans (hk j d)
  · intro j d
    show put s.vb ![0, 0] S4096x128.size _ (ix2 j d) = _
    rw [put_whole s.vb ![0, 0] h2, window_whole e.v ![0, 0, 0, 0] h4]
    exact (fill_vb e.v j d).trans (hv j d)

/-- The start: nothing taken. -/
theorem zero_inv (q k : ℕ → Fin 128 → ℝ) (v : ℕ → Fin 128 → EReal) (b : ℝ) (T : ℕ) (s : St Ideal) (H : Kept k v s) :
    Inv q k v b T 0 0 0 (zeroSt s) := by
  have h2 : ∀ a, (![0, 0] : Fin 2 → ℕ) a = 0 := by decide
  refine { hkb := H.hkb, hvb := H.hvb, hz := by intros; omega, hw := by intros; omega, hc := ?_, ha := ?_ }
  · intro r
    show put s.car ![0, 0] S1024x1.size _ (ix2 r 0) = _
    rw [put_whole s.car ![0, 0] h2]
    refine (zero_car r).trans ?_
    rw [Nat.mul_zero, Nat.sub_zero, rest_end, EReal.coe_zero]
  · intro r d
    show put s.acc ![0, 0] S1024x128.size _ (ix2 r d) = _
    rw [put_whole s.acc ![0, 0] h2]
    refine (zero_acc r d).trans ?_
    rw [Nat.mul_zero, Nat.sub_zero, av_end]

/-- The bias the body reads is its head's. -/
theorem biasAt_eq (i : grid0.Coords) (e : In Ideal) : biasAt i e = e.bias (ix1 (i 1)) := by
  unfold biasAt
  refine congrArg e.bias (funext fun a => Fin.ext ?_)
  have h : ∀ j : Fin 12, (Scalar.indexCast (BitVec.ofNat 32 j.val) : Index).toNat = j.val := by decide
  fin_cases a
  show (Scalar.indexCast (BitVec.ofNat 32 (i 1).val) : Index).toNat + 1 * 0 = (i 1).val
  rw [Nat.mul_zero, Nat.add_zero]
  exact h (i 1)

/-- What the body leaves. -/
theorem body_out {q k : ℕ → Fin 128 → ℝ} {v : ℕ → Fin 128 → EReal} {b : ℝ} (i : grid0.Coords) (e : In Ideal) (s : St Ideal)
    (hq : ∀ (r : Fin 1024) (d : Fin 128), e.q (ix4 0 0 r d) = (q r.val d : EReal))
    (hk : ∀ (j : Fin 4096) (d : Fin 128), e.k (ix4 0 0 j d) = (k j.val d : EReal))
    (hv : ∀ (j : Fin 4096) (d : Fin 128), e.v (ix4 0 0 j d) = v j.val d)
    (hb : e.bias (ix1 (i 1)) = (b : EReal)) (hs : (i 2).val ≠ 0 → Kept k v s) :
    Kept k v (bodySt i e s) ∧ ∀ (r : Fin 1024) (d : Fin 128), (bodySt i e s).out (ix3 0 r d) = av q k v b (1024 * (i 2).val) r.val 0 d := by
  have h2 : ∀ a, (![0, 0] : Fin 2 → ℕ) a = 0 := by decide
  have h3 : ∀ a, (![0, 0, 0] : Fin 3 → ℕ) a = 0 := by decide
  have key : ∃ s' nl nw, Inv q k v b (1024 * (i 2).val) nl nw (4 * (i 2).val + 4) s' ∧ bodySt i e s = finishSt s' := by
    unfold bodySt restSt afterSt endSt
    rw [biasAt_eq, hb]
    by_cases hi : (i 2).val = 0
    · have n2 : ¬ k0_cond2 i = 1#1 := fun h => by have := (cond2_iff i).mp h; omega
      rw [if_pos ((cond1_iff i).mpr hi), dif_neg n2, dif_pos ((cond3_iff i).mpr hi)]
      have h := first_inv i e ((cond3_iff i).mpr hi) (open_inv i e hq (zero_inv q k v b (1024 * (i 2).val) _ (kept_fill e s hk hv)))
      refine ⟨_, 4, 4, ?_, rfl⟩
      have h4 : 4 * (i 2).val + 4 = 4 := by omega
      rw [h4]
      exact h
    · have p2 : k0_cond2 i = 1#1 := (cond2_iff i).mpr (by omega)
      rw [if_neg (fun h => hi ((cond1_iff i).mp h)), dif_pos p2, dif_neg (fun h => hi ((cond3_iff i).mp h))]
      exact ⟨_, _, _, later_inv i e hq p2 (open_inv i e hq (zero_inv q k v b (1024 * (i 2).val) _ (hs hi))), rfl⟩
  obtain ⟨s', nl, nw, H, hE⟩ := key
  rw [hE]
  refine ⟨⟨H.hkb, H.hvb⟩, fun r d => ?_⟩
  show put s'.out ![0, 0, 0] S1x1024x128.size _ (ix3 0 r d) = _
  rw [put_whole s'.out ![0, 0, 0] h3, window_whole s'.acc ![0, 0] h2]
  refine (finish_out s'.acc r d).trans ((H.ha r d).trans ?_)
  congr 1
  omega

end Cert.KernelIdeal.Hand
-- ==== Proof.Value.lean ====
/- The attention kernel's result: the run of the whole call, followed through its grid, ends with every row of the result
   at the weighted values of the keys before it, whenever what it reads of queries, keys and biases is finite. -/
module

public import proofs.«01_k».proof.Proof.Frame
public import proofs.«01_k».proof.Proof.Outcome
public import Idealize.ShloMosaic.Lib.Pipeline.Value

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Cert.Stick

local notation "𝕄" => MT nD τ sig Unit (Elt Ideal) ℕ (UR sig nD τ) ℕ

/-- The numbers a launch reads, by batch, head, position and feature. -/
structure Nums where
  q : Dev nD → ℕ → ℕ → ℕ → Fin 128 → ℝ
  k : Dev nD → ℕ → ℕ → ℕ → Fin 128 → ℝ
  v : Dev nD → ℕ → ℕ → ℕ → Fin 128 → EReal
  b : Dev nD → ℕ → ℝ

/-- The arrays the call reads hold these numbers. -/
structure Holds (m : (ℓ : Loc nD τ sig) → Buf (Elt Ideal) ℓ) (n : Nums) : Prop where
  q : ∀ (c : Dev nD) (a : Fin 4) (h : Fin 12) (r : Fin 4096) (d : Fin 128),
    (V m c main_v6 : Vec Ideal S4x12x4096x128 .bf16) (ix4 a h r d) = (n.q c a.val h.val r.val d : EReal)
  k : ∀ (c : Dev nD) (a : Fin 4) (h : Fin 12) (r : Fin 4096) (d : Fin 128),
    (V m c main_v7 : Vec Ideal S4x12x4096x128 .f32) (ix4 a h r d) = (n.k c a.val h.val r.val d : EReal)
  v : ∀ (c : Dev nD) (a : Fin 4) (h : Fin 12) (r : Fin 4096) (d : Fin 128),
    (V m c main_v8 : Vec Ideal S4x12x4096x128 .f32) (ix4 a h r d) = n.v c a.val h.val r.val d
  b : ∀ (c : Dev nD) (h : Fin 12), (V m c main_v10 : Vec Ideal S12 .f32) (ix1 h) = (n.b c h.val : EReal)

/-- A row of the result at a head's feature. -/
def outRow (n : Nums) (c : Dev nD) (a h j r : ℕ) (d : Fin 128) : EReal :=
  av (fun r d => n.q c a h (1024 * j + r) d) (n.k c a h) (n.v c a h) (n.b c h) (1024 * j) r 0 d

/-! ## The grid's points -/

theorem coords_at : ∀ t : Fin cfg0.N, (grid0.coords t 0).val = t.val / 48 ∧ (grid0.coords t 1).val = t.val / 4 % 12
    ∧ (grid0.coords t 2).val = t.val % 4 := by decide +kernel

theorem idx0 : ∀ t : Fin cfg0.N, win0_0.index t 0 = 0 := by decide +kernel
theorem idx1 : ∀ t : Fin cfg0.N, win0_1.index t 0 = t.val / 48 ∧ win0_1.index t 1 = t.val / 4 % 12 ∧ win0_1.index t 2 = t.val % 4 ∧ win0_1.index t 3 = 0 := by
  decide +kernel
theorem idx2 : ∀ t : Fin cfg0.N, win0_2.index t 0 = t.val / 48 ∧ win0_2.index t 1 = t.val / 4 % 12 ∧ win0_2.index t 2 = 0 ∧ win0_2.index t 3 = 0 := by
  decide +kernel
theorem idx3 : ∀ t : Fin cfg0.N, win0_3.index t 0 = t.val / 48 ∧ win0_3.index t 1 = t.val / 4 % 12 ∧ win0_3.index t 2 = 0 ∧ win0_3.index t 3 = 0 := by
  decide +kernel
theorem idx4 : ∀ t : Fin cfg0.N, win0_4.index t 0 = t.val / 48 ∧ win0_4.index t 1 = t.val % 4 ∧ win0_4.index t 2 = t.val / 4 % 12 := by
  decide +kernel

section
variable (m : (ℓ : Loc nD τ sig) → Buf (Elt Ideal) ℓ) (ρ : Dev nD → PrngReg) (n : Nums) (H : Holds m n)
include H

theorem blk_q (c : Dev nD) (t : Fin cfg0.N) (r : Fin 1024) (d : Fin 128) :
    (ins m c t).q (ix4 0 0 r d) = (n.q c (t.val / 48) (t.val / 4 % 12) (1024 * (t.val % 4) + r.val) d : EReal) := by
  have ht : t.val < 192 := t.isLt
  obtain ⟨h0, h1, h2, h3⟩ := idx1 t
  refine Eq.trans ?_ (H.q c ⟨t.val / 48, by omega⟩ ⟨t.val / 4 % 12, by omega⟩ ⟨1024 * (t.val % 4) + r.val, by omega⟩ d)
  show iblk m c 1 t (ix4 0 0 r d) = _
  unfold iblk
  rw [View.read_apply]
  show V m c main_v6 _ = V m c main_v6 _
  congr 1
  funext a
  apply Fin.ext
  match a with
  | ⟨0, _⟩ => show win0_1.index t 0 * 1 + 1 * 0 = t.val / 48; omega
  | ⟨1, _⟩ => show win0_1.index t 1 * 1 + 1 * 0 = t.val / 4 % 12; omega
  | ⟨2, _⟩ => show win0_1.index t 2 * 1024 + 1 * r.val = 1024 * (t.val % 4) + r.val; omega
  | ⟨3, _⟩ => show win0_1.index t 3 * 128 + 1 * d.val = d.val; omega

theorem blk_k (c : Dev nD) (t : Fin cfg0.N) (r : Fin 4096) (d : Fin 128) :
    (ins m c t).k (ix4 0 0 r d) = (n.k c (t.val / 48) (t.val / 4 % 12) r.val d : EReal) := by
  have ht : t.val < 192 := t.isLt
  obtain ⟨h0, h1, h2, h3⟩ := idx2 t
  refine Eq.trans ?_ (H.k c ⟨t.val / 48, by omega⟩ ⟨t.val / 4 % 12, by omega⟩ r d)
  show iblk m c 2 t (ix4 0 0 r d) = _
  unfold iblk
  rw [View.read_apply]
  show V m c main_v7 _ = V m c main_v7 _
  congr 1
  funext a
  apply Fin.ext
  match a with
  | ⟨0, _⟩ => show win0_2.index t 0 * 1 + 1 * 0 = t.val / 48; omega
  | ⟨1, _⟩ => show win0_2.index t 1 * 1 + 1 * 0 = t.val / 4 % 12; omega
  | ⟨2, _⟩ => show win0_2.index t 2 * 4096 + 1 * r.val = r.val; omega
  | ⟨3, _⟩ => show win0_2.index t 3 * 128 + 1 * d.val = d.val; omega

theorem blk_v (c : Dev nD) (t : Fin cfg0.N) (r : Fin 4096) (d : Fin 128) :
    (ins m c t).v (ix4 0 0 r d) = n.v c (t.val / 48) (t.val / 4 % 12) r.val d := by
  have ht : t.val < 192 := t.isLt
  obtain ⟨h0, h1, h2, h3⟩ := idx3 t
  refine Eq.trans ?_ (H.v c ⟨t.val / 48, by omega⟩ ⟨t.val / 4 % 12, by omega⟩ r d)
  show iblk m c 3 t (ix4 0 0 r d) = _
  unfold iblk
  rw [View.read_apply]
  show V m c main_v8 _ = V m c main_v8 _
  congr 1
  funext a
  apply Fin.ext
  match a with
  | ⟨0, _⟩ => show win0_3.index t 0 * 1 + 1 * 0 = t.val / 48; omega
  | ⟨1, _⟩ => show win0_3.index t 1 * 1 + 1 * 0 = t.val / 4 % 12; omega
  | ⟨2, _⟩ => show win0_3.index t 2 * 4096 + 1 * r.val = r.val; omega
  | ⟨3, _⟩ => show win0_3.index t 3 * 128 + 1 * d.val = d.val; omega

theorem blk_b (c : Dev nD) (t : Fin cfg0.N) (h : Fin 12) : (ins m c t).bias (ix1 h) = (n.b c h.val : EReal) := by
  have h0 := idx0 t
  refine Eq.trans ?_ (H.b c h)
  show iblk m c 0 t (ix1 h) = _
  unfold iblk
  rw [View.read_apply]
  show V m c main_v10 _ = V m c main_v10 _
  congr 1
  funext a
  apply Fin.ext
  match a with
  | ⟨0, _⟩ => show win0_0.index t 0 * 12 + 1 * h.val = h.val; omega

end

/-! ## The run's data -/

section
variable (m : (ℓ : Loc nD τ sig) → Buf (Elt Ideal) ℓ) (ρ : Dev nD → PrngReg) (n : Nums)

/-- The output block of a point. -/
def outBlk (c : Dev nD) (t : ℕ) : Vec Ideal S1x1024x128 .f32 := fun y => outRow n c (t / 48) (t / 4 % 12) (t % 4) (y 1).val (y 2)

/-- What the scratches hold before point `t`: past a head's first query block, that head's keys and values. -/
def between (c : Dev nD) (t : ℕ) : sProp 𝕄 :=
  iprop(∃ s : St Ideal, ⌜t % 4 ≠ 0 → Kept (n.k c (t / 48) (t / 4 % 12)) (n.v c (t / 48) (t / 4 % 12)) s⌝ ∗ scr c s)

/-- The proof data: the inputs left as they are, the output named. -/
def datV (c : Dev nD) : Dat τ (Elt Ideal) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, _⟩ => outBlk n c t.val
  Φ := fun t => iprop(between n c t.val ∗ ∃ r, prngReg c r)
  q := fun _ => fullShare
  owed := fun _ => 0
  recorded := fun _ => ∅

def datsV : (p : Fin 1) → (c : Dev nD) → Dat τ (Elt Ideal) Unit ℕ (UR sig nD τ) ℕ (cfgs p) c := fun _ c => datV m n c

theorem beforeV0 (c : Dev nD) (t : Fin cfg0.N) (d) : (datV m n c).before 0 t d = iblk m c 0 t := Gen.before0_0_of m (datV m n c) rfl (fun _ => rfl) t d
theorem beforeV1 (c : Dev nD) (t : Fin cfg0.N) (d) : (datV m n c).before 1 t d = iblk m c 1 t := Gen.before0_1_of m (datV m n c) rfl (fun _ => rfl) t d
theorem beforeV2 (c : Dev nD) (t : Fin cfg0.N) (d) : (datV m n c).before 2 t d = iblk m c 2 t := Gen.before0_2_of m (datV m n c) rfl (fun _ => rfl) t d
theorem beforeV3 (c : Dev nD) (t : Fin cfg0.N) (d) : (datV m n c).before 3 t d = iblk m c 3 t := Gen.before0_3_of m (datV m n c) rfl (fun _ => rfl) t d

/-- A state with another output block. -/
def St.withOut (s : St Ideal) (X : Vec Ideal S1x1024x128 .f32) : St Ideal := { s with out := X }

theorem scr_withOut (c : Dev nD) (s : St Ideal) (X) : (scr c s : sProp 𝕄) = scr c (s.withOut X) := rfl

/-- One point: what it leaves is its output block, and the head's keys and values stay. -/
theorem point_step (H : Holds m n) (c : Dev nD) (t : Fin cfg0.N) (s : St Ideal)
    (hs : t.val % 4 ≠ 0 → Kept (n.k c (t.val / 48) (t.val / 4 % 12)) (n.v c (t.val / 48) (t.val / 4 % 12)) s) :
    ((t.val + 1) % 4 ≠ 0 → Kept (n.k c ((t.val + 1) / 48) ((t.val + 1) / 4 % 12)) (n.v c ((t.val + 1) / 48) ((t.val + 1) / 4 % 12))
        (bodySt (grid0.coords t) (ins m c t) s))
      ∧ (bodySt (grid0.coords t) (ins m c t) s).out = outBlk n c t.val := by
  have ht : t.val < 192 := t.isLt
  obtain ⟨c0, c1, c2⟩ := coords_at t
  have hb : (ins m c t).bias (ix1 (grid0.coords t 1)) = (n.b c (t.val / 4 % 12) : EReal) := by
    rw [blk_b m n H c t (grid0.coords t 1), c1]
  have h := body_out (q := fun r d => n.q c (t.val / 48) (t.val / 4 % 12) (1024 * (t.val % 4) + r) d) (grid0.coords t) (ins m c t) s
    (blk_q m n H c t) (blk_k m n H c t) (blk_v m n H c t) hb (fun h => hs (by omega))
  refine ⟨fun h4 => ?_, ?_⟩
  · have e1 : (t.val + 1) / 48 = t.val / 48 := by omega
    have e2 : (t.val + 1) / 4 % 12 = t.val / 4 % 12 := by omega
    rw [e1, e2]
    exact h.1
  · funext y
    obtain ⟨y0, r, d, rfl⟩ : ∃ (a : Fin 1) (r : Fin 1024) (d : Fin 128), y = ix3 a r d := ⟨y 0, y 1, y 2, by
      funext a; match a with | ⟨0, _⟩ => rfl | ⟨1, _⟩ => rfl | ⟨2, _⟩ => rfl⟩
    obtain rfl : y0 = 0 := Fin.ext (by omega)
    rw [h.2 r d, c2]
    rfl

theorem body_obligationV (H : Holds m n) (c : Dev nD) : Pipeline.BodyObligationLoose (datV m n c) defs₀ 𝒱₀ () Set.univ := by
  intro t
  rw [Gen.bigSep_W0, Gen.bigSep_W0, defs₀_row]
  simp only [beforeV0, beforeV1, beforeV2, beforeV3]
  show iprop((between n c t.val ∗ ∃ r, prngReg c r) ∗ (datV m n c).owesAt () t.castSucc
      ∗ (∃ _d, owns (c : Thread nD τ) (win0_0.stage (cfg0.slots t 0)) fullShare (iblk m c 0 t))
      ∗ (∃ _d, owns (c : Thread nD τ) (win0_1.stage (cfg0.slots t 1)) fullShare (iblk m c 1 t))
      ∗ (∃ _d, owns (c : Thread nD τ) (win0_2.stage (cfg0.slots t 2)) fullShare (iblk m c 2 t))
      ∗ (∃ _d, owns (c : Thread nD τ) (win0_3.stage (cfg0.slots t 3)) fullShare (iblk m c 3 t))
      ∗ (∃ d, owns (c : Thread nD τ) (win0_4.stage (cfg0.slots t 4)) fullShare ((datV m n c).before 4 t d))) ⊢
    wp frame (wpE (defs₀ (F := Ideal)) 𝒱₀ (c : Thread nD τ) none) Set.univ (Gen.bodyAt0 t) fun _ =>
      iprop((between n c (t.val + 1) ∗ ∃ r, prngReg c r) ∗ (datV m n c).owesAt () t.succ
        ∗ owns (c : Thread nD τ) (win0_0.stage (cfg0.slots t 0)) fullShare (iblk m c 0 t)
        ∗ owns (c : Thread nD τ) (win0_1.stage (cfg0.slots t 1)) fullShare (iblk m c 1 t)
        ∗ owns (c : Thread nD τ) (win0_2.stage (cfg0.slots t 2)) fullShare (iblk m c 2 t)
        ∗ owns (c : Thread nD τ) (win0_3.stage (cfg0.slots t 3)) fullShare (iblk m c 3 t)
        ∗ owns (c : Thread nD τ) (win0_4.stage (cfg0.slots t 4)) fullShare (outBlk n c t.val))
  unfold between
  iintro ⟨⟨⟨%s, %hs, HS⟩, HP⟩, HO, ⟨%d0, H0⟩, ⟨%d1, H1⟩, ⟨%d2, H2⟩, ⟨%d3, H3⟩, ⟨%d4, H4⟩⟩
  have hs' : t.val % 4 ≠ 0 → Kept (n.k c (t.val / 48) (t.val / 4 % 12)) (n.v c (t.val / 48) (t.val / 4 % 12)) (s.withOut ((datV m n c).before 4 t d4)) :=
    fun h => ⟨(hs h).hkb, (hs h).hvb⟩
  have hp := point_step m n H c t _ hs'
  rw [← hp.2]
  iapply (wp_point c t (ins m c t) (s.withOut ((datV m n c).before 4 t d4))) $$ [HS H0 H1 H2 H3 H4]
  · isplitl [HS]; · iexact HS
    isplitl [H0]; · iexact H0
    isplitl [H1]; · iexact H1
    isplitl [H2]; · iexact H2
    isplitl [H3]; · iexact H3
    iexact H4
  iintro ⟨HS, H0, H1, H2, H3, H4⟩
  isplitl [HS HP]
  · isplitl [HS]
    · iexists _
      isplitr
      · ipureintro; exact hp.1
      iexact HS
    iexact HP
  isplitl [HO]; · iexact HO
  isplitl [H0]; · iexact H0
  isplitl [H1]; · iexact H1
  isplitl [H2]; · iexact H2
  isplitl [H3]; · iexact H3
  iexact H4

/-! ## The result array -/

/-- The result: each row's weighted values, head by head along the features. -/
def result (c : Dev nD) : Buf (Elt Ideal) ((c : Thread nD τ).loc main_v11) :=
  (fun i => outRow n c (i 0).val ((i 2).val / 128) ((i 1).val / 1024) ((i 1).val % 1024) ⟨(i 2).val % 128, Nat.mod_lt _ (by decide)⟩
    : Vec Ideal S4x4096x1536 .f32)

theorem flushed_eqV (c : Dev nD) (t : Fin cfg0.N) (hf : (cfg0.win 4).flush t = true) :
    (datsV m n 0 c).flushed 4 t = ((cfg0.win 4).blk t).view.read (Elt Ideal) (result n c) := by
  have ht : t.val < 192 := t.isLt
  obtain ⟨h0, h1, h2⟩ := idx4 t
  show (cfg0.win 4).cut (grid0.coords t) (outBlk n c t.val) = _
  funext y
  rw [View.read_apply]
  show outRow n c (t.val / 48) (t.val / 4 % 12) (t.val % 4) (y 1).val (y 2)
    = outRow n c (win0_4.index t 0 * 1 + 1 * (y 0).val) ((win0_4.index t 2 * 128 + 1 * (y 2).val) / 128)
        ((win0_4.index t 1 * 1024 + 1 * (y 1).val) / 1024) ((win0_4.index t 1 * 1024 + 1 * (y 1).val) % 1024)
        ⟨(win0_4.index t 2 * 128 + 1 * (y 2).val) % 128, _⟩
  have y0 : (y 0).val < 1 := (y 0).isLt
  have y1 : (y 1).val < 1024 := (y 1).isLt
  have y2 : (y 2).val < 128 := (y 2).isLt
  congr 1
  · omega
  · omega
  · omega
  · omega
  · apply Fin.ext; show (y 2).val = (win0_4.index t 2 * 128 + 1 * (y 2).val) % 128; omega

theorem blkSize : ∀ t : Fin cfg0.N, win0_4.xsize (grid0.coords t) 0 = 1 ∧ win0_4.xsize (grid0.coords t) 1 = 1024 ∧ win0_4.xsize (grid0.coords t) 2 = 128 := by
  decide +kernel

theorem final_out (c : Dev nD) : (datsV m n 0 c).arrAt 4 cfg0.N = result n c :=
  (datsV m n 0 c).arrAt_eq_of_cover 4 (result n c) (flushed_eqV m n c) fun i => by
    have i0 : (i 0 : Nat) < 4 := (i 0).isLt
    have i1 : (i 1 : Nat) < 4096 := (i 1).isLt
    have i2 : (i 2 : Nat) < 1536 := (i 2).isLt
    have hN : cfg0.N = 192 := by decide +kernel
    obtain ⟨t, hv⟩ : ∃ t : Fin cfg0.N, t.val = 48 * (i 0 : Nat) + 4 * ((i 2 : Nat) / 128) + (i 1 : Nat) / 1024 :=
      ⟨⟨48 * (i 0 : Nat) + 4 * ((i 2 : Nat) / 128) + (i 1 : Nat) / 1024, by rw [hN]; omega⟩, rfl⟩
    refine ⟨t, Gen.flush0_4 t, ?_⟩
    show i ∈ ((View.whole main_v11).slice (win0_4.rect t)).set
    rw [View.set_slice_whole, Rect.mem_set_unit]
    intro a
    obtain ⟨h0, h1, h2⟩ := idx4 t
    obtain ⟨s0, s1, s2⟩ := blkSize t
    match a with
    | ⟨0, _⟩ =>
      show win0_4.index t 0 * 1 ≤ (i 0 : Nat) ∧ (i 0 : Nat) < win0_4.index t 0 * 1 + win0_4.xsize (grid0.coords t) 0
      omega
    | ⟨1, _⟩ =>
      show win0_4.index t 1 * 1024 ≤ (i 1 : Nat) ∧ (i 1 : Nat) < win0_4.index t 1 * 1024 + win0_4.xsize (grid0.coords t) 1
      omega
    | ⟨2, _⟩ =>
      show win0_4.index t 2 * 128 ≤ (i 2 : Nat) ∧ (i 2 : Nat) < win0_4.index t 2 * 128 + win0_4.xsize (grid0.coords t) 2
      omega

theorem enter (c : Dev nD) : (Pipeline.ΦA spec0 c : sProp 𝕄) ⊢ iprop(between n c 0 ∗ ∃ r, prngReg c r) := by
  unfold Pipeline.ΦA between
  iintro ⟨HS, HP⟩
  ihave HS := rest_scr c (fun _ => (0 : EReal)) $$ HS
  icases HS with ⟨%s, %hs, HS⟩
  isplitl [HS]
  · iexists s
    isplitr
    · ipureintro; intro h; exact absurd rfl h
    iexact HS
  iexact HP

theorem leave (c : Dev nD) (t : ℕ) : iprop(between n c t ∗ ∃ r, prngReg c r) ⊢ (Pipeline.ΦA spec0 c : sProp 𝕄) := by
  unfold Pipeline.ΦA between
  iintro ⟨⟨%s, %hs, HS⟩, HP⟩
  isplitl [HS]
  · iapply (scr_rest c s); iexact HS
  iexact HP

/-- The run ends with the result array at the weighted values, the arguments unchanged. -/
theorem runV (H : Holds m n) : θ_run defs (onTc (τ := τ) (main (F := Ideal))) ⟨m, fun _ => 0, ρ⟩ (fun r => ∀ c : Dev nD,
      r.2.mem ((c.tc : Thread nD τ).loc main_v11) = result n c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_track cfgs (datsV m n) 0 Gen.launch0 defs₀ 𝒱₀ m ρ main (hbody := body_obligationV m n H)
    (hshare := fun c w => by fin_cases w <;> rfl) (howed := fun _ _ => rfl) (V := Gen.V m) (hmain := Gen.hmain m 𝒱₀)
    (hA := fun _ _ => rfl) (hin := fun c => enter n c) (hout := fun c => leave n c _)
    (Q' := fun r => ∀ c : Dev nD,
      r.2.mem ((c.tc : Thread nD τ).loc main_v11) = result n c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    (hQ' := fun r h c =>
      ⟨((h.1 c).1 4).trans (final_out m n c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)

end

end Cert.KernelIdeal.Hand
-- ==== Proof.Equate.lean ====
/- The same attention told twice: in base two, a block of rows at a time and masked by a weight of zero, and in base e
   over all keys at once. Both give a row the same weights. -/
module

public import proofs.«01_k».proof.Proof.Math

@[expose] public section

noncomputable section

namespace Cert.Stick

open Idealize.ShloMosaic

/-- The logarithm of the logistic function. -/
def lg (z : ℝ) : ℝ := min z 0 - Real.log (1 + Real.exp (-max z (-z)))

theorem log_two_pos : 0 < Real.log 2 := Real.log_pos (by norm_num)

theorem rpow_scaled (x : ℝ) : Real.rpow 2 (x / Real.log 2) = Real.exp x := by
  show (2 : ℝ) ^ (x / Real.log 2) = _
  rw [Real.rpow_def_of_pos (by norm_num), mul_div_cancel₀ _ log_two_pos.ne']

theorem lb_scaled (z : ℝ) : lb (z / Real.log 2) = lg z / Real.log 2 := by
  have h := log_two_pos
  have h1 : max (z / Real.log 2) (-(z / Real.log 2)) = max z (-z) / Real.log 2 := by
    rw [← neg_div, max_div_div_right h.le]
  have h2 : min (z / Real.log 2) 0 = min z 0 / Real.log 2 := by
    rw [show (0 : ℝ) = 0 / Real.log 2 by simp, min_div_div_right h.le]; simp
  unfold lb lg
  rw [h1, h2, zero_sub, ← neg_div, rpow_scaled, sub_div, div_eq_mul_inv (Real.log (1 + _))]

/-- What a key leaves, as a logarithm, for the row at position `row`. -/
def remN (z : ℕ → ℝ) (row s : ℕ) : ℝ := if s < row then lg (z s) - z s else 0

/-- The weight of a key for the row at position `row`. -/
def wN (z : ℕ → ℝ) (row s : ℕ) : ℝ :=
  if s < row then Real.exp (lg (z s) + ∑ s' ∈ Finset.Ico (s + 1) 4096, remN z row s') else 0

section
variable {q k : ℕ → Fin 128 → ℝ} {v : ℕ → Fin 128 → EReal} {b : ℝ} {T r : ℕ} {z : ℕ → ℝ}
  (hz : ∀ s, zz q k b r s = z s / Real.log 2) (hT : T + 1024 ≤ 4096) (hr : r < 1024)
include hz

theorem rem_scaled (s : ℕ) : rem q k b T r s = remN z (T + r) s / Real.log 2 := by
  unfold rem remN
  by_cases h : s < T + r
  · rw [if_pos h, if_pos h, hz, lb_scaled, sub_div]
  · rw [if_neg h, if_neg h, zero_div]

include hT hr

theorem rest_scaled (s : ℕ) : rest q k b T r s = (∑ s' ∈ Finset.Ico s 4096, remN z (T + r) s') / Real.log 2 := by
  unfold rest
  rw [Finset.sum_div]
  rw [Finset.sum_congr rfl fun s' _ => rem_scaled (T := T) hz s']
  refine Finset.sum_subset (Finset.Ico_subset_Ico le_rfl hT) fun s' h1 h2 => ?_
  rw [Finset.mem_Ico] at h1 h2
  rw [remN, if_neg (by omega), zero_div]

theorem weight_scaled (s : ℕ) : Ideal.exp2 (ww q k b T r s) = ((wN z (T + r) s : ℝ) : EReal) := by
  unfold ww wN
  by_cases h : s < T + r
  · rw [if_pos h, if_pos h, hz, lb_scaled, rest_scaled hz hT hr, ← add_div, Ideal.exp2_coe, rpow_scaled]
  · rw [if_neg h, if_neg h, EReal.coe_zero]; rfl

theorem av_scaled (d : Fin 128) : av q k v b T r 0 d = ∑ s : Fin 4096, v s.val d * ((wN z (T + r) s.val : ℝ) : EReal) := by
  unfold av
  rw [← Finset.sum_range (fun s => v s d * ((wN z (T + r) s : ℝ) : EReal)), Finset.range_eq_Ico]
  rw [Finset.sum_congr rfl fun s' _ => by rw [weight_scaled hz hT hr s', mul_comm]]
  refine Finset.sum_subset (Finset.Ico_subset_Ico le_rfl hT) fun s h1 h2 => ?_
  rw [Finset.mem_Ico] at h1 h2
  rw [wN, if_neg (by omega), EReal.coe_zero, mul_zero]

end

end Cert.Stick
-- ==== Proof.Cumulate.lean ====
/- A window sum that takes, at every position, all the positions from it on along the last axis: the cumulative sum from
   the end. -/
module

public import Idealize.ShloMosaic.PureOps
public import Idealize.ShloMosaic.Lib.Pointwise

@[expose] public section

noncomputable section

namespace Cert.Stick

open Idealize.ShloMosaic

theorem foldl_add_sum {ι : Type} (f : ι → EReal) : ∀ (l : List ι) (v : EReal), l.foldl (fun r n => r + f n) v = v + (l.map f).sum
  | [], v => by simp
  | a :: l, v => by rw [List.foldl_cons, foldl_add_sum f l, List.map_cons, List.sum_cons, add_assoc]

/-- A window sum is the sum over the window's positions, a position outside giving the initial value. -/
theorem window_sum {s t u : Shape} (window strides lo hi : Fin s.rank → Nat) (x : FVec Ideal s .f32) (init : FVec Ideal u .f32)
    (h : s.ReduceWindows window strides lo hi t) (hu : 0 < u.numel) (v : EReal) (hv : ∀ i, init i = v) (j : t.Idx) :
    Host.reduceWindowAdd window strides lo hi x init h hu j
      = v + ∑ i : (⟨s.rank, window⟩ : Shape).Idx,
          (if hin : ∀ a, lo a ≤ (j (a.cast h.1.symm)).val * strides a + (i a).val ∧ (j (a.cast h.1.symm)).val * strides a + (i a).val - lo a < s.size a
            then x (fun a => ⟨(j (a.cast h.1.symm)).val * strides a + (i a).val - lo a, (hin a).2⟩) else v) := by
  show Ideal.hostReduceWindowAdd window strides lo hi h x (init (Shape.Idx.first hu)) j = _
  rw [hv]
  unfold Ideal.hostReduceWindowAdd Host.reduceWindow
  dsimp only
  rw [foldl_add_sum, ← Fin.sum_univ_def, ← Equiv.sum_comp (⟨s.rank, window⟩ : Shape).rowMajor]
  simp only [Equiv.symm_apply_apply]

/-- The cumulative sum from the end, of 4096 numbers. -/
theorem window_from (x : FVec Ideal ⟨4, ![4, 12, 4096, 4096]⟩ .f32) (init : FVec Ideal ⟨0, ![]⟩ .f32)
    (h : (⟨4, ![4, 12, 4096, 4096]⟩ : Shape).ReduceWindows ![1, 1, 1, 4096] ![1, 1, 1, 1] ![0, 0, 0, 0] ![0, 0, 0, 4095] ⟨4, ![4, 12, 4096, 4096]⟩)
    (hu : 0 < (⟨0, ![]⟩ : Shape).numel) (h0 : ∀ i, init i = (0 : EReal))
    (a : Fin 4) (b : Fin 12) (r s : Fin 4096) :
    Host.reduceWindowAdd ![1, 1, 1, 4096] ![1, 1, 1, 1] ![0, 0, 0, 0] ![0, 0, 0, 4095] x init h hu (ix4 a b r s)
      = ∑ e : Fin 4096, (if hs : s.val + e.val < 4096 then x (ix4 a b r ⟨s.val + e.val, hs⟩) else (0 : EReal)) := by
  rw [window_sum _ _ _ _ x init h hu 0 h0, zero_add]
  rw [← Fintype.sum_equiv (⟨fun e : Fin 4096 => ix4 (n0 := 1) (n1 := 1) (n2 := 1) (n3 := 4096) 0 0 0 e, fun i => i 3, fun _ => rfl, fun i => by
    refine Eq.trans ?_ (ix4_eta i)
    show ix4 (0 : Fin 1) (0 : Fin 1) (0 : Fin 1) (i 3) = ix4 (i 0) (i 1) (i 2) (i 3)
    rw [Subsingleton.elim (α := Fin 1) (i 0) 0, Subsingleton.elim (α := Fin 1) (i 1) 0, Subsingleton.elim (α := Fin 1) (i 2) 0]
    rfl⟩ : Fin 4096 ≃ (⟨4, ![1, 1, 1, 4096]⟩ : Shape).Idx) _ _ (fun _ => rfl)]
  refine Finset.sum_congr rfl fun e _ => ?_
  by_cases hs : s.val + e.val < 4096
  · rw [dif_pos hs, dif_pos]
    · congr 1
      funext i
      apply Fin.ext
      match i with
      | ⟨0, _⟩ => show a.val * 1 + 0 - 0 = a.val; omega
      | ⟨1, _⟩ => show b.val * 1 + 0 - 0 = b.val; omega
      | ⟨2, _⟩ => show r.val * 1 + 0 - 0 = r.val; omega
      | ⟨3, _⟩ => show s.val * 1 + e.val - 0 = s.val + e.val; omega
    · intro i
      match i with
      | ⟨0, _⟩ => show 0 ≤ a.val * 1 + 0 ∧ a.val * 1 + 0 - 0 < 4; omega
      | ⟨1, _⟩ => show 0 ≤ b.val * 1 + 0 ∧ b.val * 1 + 0 - 0 < 12; omega
      | ⟨2, _⟩ => show 0 ≤ r.val * 1 + 0 ∧ r.val * 1 + 0 - 0 < 4096; omega
      | ⟨3, _⟩ => show 0 ≤ s.val * 1 + e.val ∧ s.val * 1 + e.val - 0 < 4096; omega
  · rw [dif_neg hs, dif_neg]
    intro hin
    have h3 : s.val * 1 + e.val - 0 < 4096 := (hin 3).2
    omega

/-- The sum over the positions from `s` on, of numbers given at every position. -/
theorem sum_from (s : Fin 4096) (g : ℕ → EReal) :
    (∑ e : Fin 4096, (if s.val + e.val < 4096 then g (s.val + e.val) else 0)) = ∑ s' ∈ Finset.Ico s.val 4096, g s' := by
  have hs := s.isLt
  rw [← Finset.sum_range (fun e => if s.val + e < 4096 then g (s.val + e) else 0), Finset.sum_Ico_eq_sum_range]
  symm
  rw [Finset.sum_congr rfl (g := fun e => if s.val + e < 4096 then g (s.val + e) else 0) fun e he => by
    rw [Finset.mem_range] at he; rw [if_pos (by omega)]]
  refine Finset.sum_subset (fun e he => ?_) fun e h1 h2 => ?_
  · rw [Finset.mem_range] at he ⊢; omega
  · rw [Finset.mem_range] at h1 h2; rw [if_neg (by omega)]

end Cert.Stick
-- ==== Proof.Ref.lean ====
/- The reference's attention read at an index: its scores, what the keys leave, its weights and its result, as formulas over
   the real numbers. -/
module

public import proofs.«01_k».proof.Proof.Equate
public import proofs.«01_k».proof.Proof.Cumulate
public import proofs.«01_k».proof.Proof.Gen.ReferenceIdeal.Run
public import Idealize.ShloMosaic.Lib.Pointwise
public import Idealize.ShloMosaic.Lib.IdealHost

@[expose] public section

noncomputable section

namespace Cert.ReferenceIdeal.Hand

open Idealize.ShloMosaic Idealize.ShloMosaic.TcCoe
open Cert.ReferenceIdeal Cert.ReferenceIdeal.Gen Cert.ReferenceIdeal.Value
open Cert.Stick

/-! ## The stages -/

/-- The scores: scaled products, and the head's bias. -/
def scoreR (q k : FVec Ideal S4x4096x12x128 .f32) (b : FVec Ideal S12 .f32) : FVec Ideal S4x12x4096x4096 .f32 :=
  addf (Host.divf (Host.dotGeneral dot_S4x4096x12x128_S4x4096x12x128_S4x12x4096x4096_3_3_1_1_02_02 none q k) (broadcastInDim S4x12x4096x4096 ![] bcast_S_S4x12x4096x4096 (Host.sqrt (constant S_ .f32 0x43000000#32)))) (broadcastInDim S4x12x4096x4096 ![0, 1, 2, 3] bcast_S1x12x1x1_S4x12x4096x4096_0_1_2_3 (broadcastInDim S1x12x1x1 ![1] bcast_S12_S1x12x1x1_1 b))

def zeroR : FVec Ideal S4x12x4096x4096 .f32 := broadcastInDim S4x12x4096x4096 ![] bcast_S_S4x12x4096x4096 (constant S_ .f32 0x00000000#32)

def zeroS : FVec Ideal S4x12x4096x4096 .f32 := broadcastInDim S4x12x4096x4096 ![] bcast_S_S4x12x4096x4096 (id (constant S_ .f32 0x00000000#32))

/-- The logarithm of the logistic function. -/
def lgR (z : FVec Ideal S4x12x4096x4096 .f32) : FVec Ideal S4x12x4096x4096 .f32 :=
  Host.negf (select (cmpf .une (subf (Host.negf z) zeroR) (subf (Host.negf z) zeroR)) (addf (Host.negf z) zeroR) (addf (maximumf (Host.negf z) zeroR) (Host.log1p (Host.exp (Host.negf (Host.absf (subf (Host.negf z) zeroR)))))))

/-- Where the key is before the row. -/
def beforeR : IVec S4x12x4096x4096 1 :=
  broadcastInDim S4x12x4096x4096 ![2, 3] bcast_S4096x4096_S4x12x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- What a key leaves. -/
def remR (z : FVec Ideal S4x12x4096x4096 .f32) : FVec Ideal S4x12x4096x4096 .f32 := select beforeR (subf (lgR z) z) zeroS

/-- The cumulative sum from the end. -/
def fromR (x : FVec Ideal S4x12x4096x4096 .f32) : FVec Ideal S4x12x4096x4096 .f32 :=
  Host.reduceWindowAdd ![1, 1, 1, 4096] ![1, 1, 1, 1] ![0, 0, 0, 0] ![0, 0, 0, 4095] x (broadcastInDim S_ ![] bcast_S_S_ (constant S_ .f32 0x00000000#32)) reduceWindows_S4x12x4096x4096_S4x12x4096x4096_w1s1p0_0_w1s1p0_0_w1s1p0_0_w4096s1p0_4095 h_S_

/-- The weights. -/
def weightR (z : FVec Ideal S4x12x4096x4096 .f32) : FVec Ideal S4x12x4096x4096 .f32 :=
  select beforeR (Host.exp (addf (lgR z) (subf (fromR (remR z)) (remR z)))) zeroS

/-- The weighted values, the heads side by side. -/
def outR (v : FVec Ideal S4x4096x12x128 .f32) (w : FVec Ideal S4x12x4096x4096 .f32) : FVec Ideal S4x4096x1536 .f32 :=
  shapeCast _ (transpose S4x4096x12x128 [0, 3, 1, 2] (Host.dotGeneral dot_S4x4096x12x128_S4x12x4096x4096_S4x12x128x4096_1_3_3_2_02_01 none v w) transposes_S4x12x128x4096_S4x4096x12x128_0_3_1_2) shapeCasts_S4x4096x12x128_S4x4096x1536

theorem res_eq (m : (ℓ : Loc nD τ sig) → Buf (Elt Ideal) ℓ) (c : Dev nD) :
    res_main_v23 m c = outR (m ((c.tc : Thread nD τ).loc main_arg2)) (weightR (scoreR (m ((c.tc : Thread nD τ).loc main_arg0)) (m ((c.tc : Thread nD τ).loc main_arg1)) (m ((c.tc : Thread nD τ).loc main_arg3)))) := by
  unfold res_main_v23 outR weightR fromR remR lgR beforeR zeroR zeroS scoreR
  rfl

/-! ## Their values -/

theorem bits_0 : Ideal.ofBits .f32 0#32 = 0 := by simp [Ideal.ofBits, Ideal.ieee]

theorem bits_128 : Ideal.ofBits .f32 0x43000000#32 = ((128 : ℝ) : EReal) := by
  simp [Ideal.ofBits, Ideal.ieee, -EReal.coe_mul]; norm_num

theorem sqrt_128 : Ideal.sqrt (Ideal.ofBits .f32 0x43000000#32) = ((Real.sqrt 128 : ℝ) : EReal) := by
  rw [bits_128, Ideal.sqrt_coe, if_neg (by norm_num)]

theorem sqrt_128_pos : 0 < Real.sqrt 128 := Real.sqrt_pos.mpr (by norm_num)

theorem div_real (x y : ℝ) (hy : y ≠ 0) : Ideal.div (x : EReal) (y : EReal) = ((x / y : ℝ) : EReal) := by
  rw [Ideal.div_coe hy, ← EReal.coe_mul, mul_one_div]

theorem zeroS_at (i : S4x12x4096x4096.Idx) : zeroS i = 0 := by
  show Ideal.ofBits .f32 0#32 = 0
  exact bits_0

theorem select_before {α : Type} (s r : Fin 4096) (x y : α) :
    Scalar.select (IntOp.cmpi CmpIPredicate.slt (BitVec.ofNat 32 s.val) (BitVec.ofNat 32 r.val)) x y = if s.val < r.val then x else y := by
  have hs := s.isLt
  have hr := r.isLt
  have n : ∀ k : ℕ, k < 4096 → (BitVec.ofNat 32 k).toInt = (k : ℤ) := by
    intro k hk
    have hm : (BitVec.ofNat 32 k).toNat = k := by rw [BitVec.toNat_ofNat]; omega
    rw [BitVec.toInt_eq_toNat_of_lt (by omega), hm]
  have h : ((BitVec.ofNat 32 s.val).slt (BitVec.ofNat 32 r.val)) = decide (s.val < r.val) := by
    rw [BitVec.slt_eq_decide, n _ hs, n _ hr]
    simp
  by_cases hh : s.val < r.val <;> simp [Scalar.select, IntOp.cmpi, h, hh]

theorem before_at (a : Fin 4) (h : Fin 12) (r s : Fin 4096) :
    beforeR (ix4 a h r s) = IntOp.cmpi CmpIPredicate.slt (BitVec.ofNat 32 s.val) (BitVec.ofNat 32 r.val) := by
  unfold beforeR
  pointwise

theorem score_at (q k : FVec Ideal S4x4096x12x128 .f32) (b : FVec Ideal S12 .f32) (a : Fin 4) (h : Fin 12) (r s : Fin 4096)
    (qr kr : Fin 128 → ℝ) (br : ℝ) (hq : ∀ d, q (ix4 a r h d) = (qr d : EReal)) (hk : ∀ d, k (ix4 a s h d) = (kr d : EReal))
    (hb : b (ix1 h) = (br : EReal)) :
    scoreR q k b (ix4 a h r s) = (((∑ d, qr d * kr d) / Real.sqrt 128 + br : ℝ) : EReal) := by
  unfold scoreR
  pointwise
  rw [sqrt_128, Finset.sum_congr rfl fun d _ => by rw [hq d, hk d, ← EReal.coe_mul], ← coe_sum, div_real _ _ sqrt_128_pos.ne', hb,
    ← EReal.coe_add]

theorem lg_at (z : FVec Ideal S4x12x4096x4096 .f32) (a : Fin 4) (h : Fin 12) (r s : Fin 4096) (x : ℝ) (hz : z (ix4 a h r s) = (x : EReal)) :
    lgR z (ix4 a h r s) = ((lg x : ℝ) : EReal) := by
  unfold lgR zeroR
  pointwise
  have hpos : 0 < 1 + Real.exp (-max (-x) x) := by positivity
  rw [hz, if_neg (fun h => h rfl), Ideal.absf_def, ← EReal.coe_neg, ← EReal.coe_neg, ← coe_max, ← EReal.coe_neg, neg_neg, Ideal.exp_coe, Ideal.log1p, ← EReal.coe_one,
    ← EReal.coe_add, Ideal.log_coe, if_neg (not_le.mpr hpos), ← EReal.coe_zero, ← coe_max, ← EReal.coe_add, ← EReal.coe_neg]
  congr 1
  unfold lg
  rw [max_comm (-x) x, show max (-x) 0 = -min x 0 by rw [← neg_zero, max_neg_neg]; simp]
  ring

section
variable (z : FVec Ideal S4x12x4096x4096 .f32) (a : Fin 4) (h : Fin 12) (r : Fin 4096) (zr : ℕ → ℝ)
  (hz : ∀ s : Fin 4096, z (ix4 a h r s) = (zr s.val : EReal))
include hz

theorem rem_at (s : Fin 4096) : remR z (ix4 a h r s) = ((remN zr r.val s.val : ℝ) : EReal) := by
  show Scalar.select (beforeR (ix4 a h r s)) (lgR z (ix4 a h r s) - z (ix4 a h r s)) (zeroS (ix4 a h r s)) = _
  rw [before_at, select_before, zeroS_at, lg_at z a h r s _ (hz s), hz, ← EReal.coe_sub, remN]
  by_cases hh : s.val < r.val
  · rw [if_pos hh, if_pos hh]
  · rw [if_neg hh, if_neg hh, EReal.coe_zero]

theorem from_at (s : Fin 4096) :
    fromR (remR z) (ix4 a h r s) = ((∑ s' ∈ Finset.Ico s.val 4096, remN zr r.val s' : ℝ) : EReal) := by
  unfold fromR
  have h0 : ∀ i, (broadcastInDim S_ ![] bcast_S_S_ (constant S_ .f32 0x00000000#32) : FVec Ideal S_ .f32) i = (0 : EReal) := fun i => bits_0
  rw [window_from (remR z) (broadcastInDim S_ ![] bcast_S_S_ (constant S_ .f32 0x00000000#32)) _ _ h0 a h r s, coe_sum, ← sum_from s (fun s' => ((remN zr r.val s' : ℝ) : EReal))]
  refine Finset.sum_congr rfl fun e _ => ?_
  by_cases hs : s.val + e.val < 4096
  · rw [dif_pos hs, if_pos hs, rem_at z a h r zr hz]
  · rw [dif_neg hs, if_neg hs]

theorem weight_at (s : Fin 4096) : weightR z (ix4 a h r s) = ((wN zr r.val s.val : ℝ) : EReal) := by
  show Scalar.select (beforeR (ix4 a h r s)) (Ideal.exp (lgR z (ix4 a h r s) + (fromR (remR z) (ix4 a h r s) - remR z (ix4 a h r s)))) (zeroS (ix4 a h r s)) = _
  rw [before_at, select_before, zeroS_at, lg_at z a h r s _ (hz s), from_at z a h r zr hz, rem_at z a h r zr hz,
    Finset.sum_eq_sum_Ico_succ_bot s.isLt, ← EReal.coe_sub, ← EReal.coe_add, Ideal.exp_coe, wN, add_sub_cancel_left]
  by_cases hh : s.val < r.val
  · rw [if_pos hh, if_pos hh]
  · rw [if_neg hh, if_neg hh, EReal.coe_zero]

end

theorem out_at (v : FVec Ideal S4x4096x12x128 .f32) (w : FVec Ideal S4x12x4096x4096 .f32) (a : Fin 4) (t : Fin 4096) (j : Fin 1536) :
    outR v w (ix3 a t j) = ∑ s : Fin 4096, v (ix4 a s ⟨j.val / 128, by omega⟩ ⟨j.val % 128, by omega⟩) * w (ix4 a ⟨j.val / 128, by omega⟩ t s) := by
  unfold outR
  pointwise

end Cert.ReferenceIdeal.Hand
-- ==== Proof.Attention.lean ====
/- The attention kernel and its reference compute one function of finite queries, keys and biases and of any values. -/
module

public import proofs.«01_k».proof.Defs
public import proofs.«01_k».proof.Proof.Gen.Pre_finite
public import proofs.«01_k».proof.Proof.Value
public import proofs.«01_k».proof.Proof.Ref
public import Idealize.ShloMosaic.Lib.StableHlo.ReadAt
public import Idealize.ShloMosaic.Lib.ReduceAll

@[expose] public section

noncomputable section

namespace Cert.KernelIdeal.Hand

open Idealize.ShloMosaic Idealize.ShloMosaic.TcCoe Idealize.SL.Sem
open Cert.KernelIdeal Cert.KernelIdeal.Gen
open Cert.Stick
open Cert.ReferenceIdeal.Hand (sqrt_128 sqrt_128_pos div_real)

/-! ## What the precondition says -/

theorem bits_inf : Ideal.ofBits .f32 0x7F800000#32 = ⊤ := by
  simp [Ideal.ofBits, Ideal.ieee]

/-- A number below the infinity in absolute value is real. -/
theorem real_of_below (x : EReal) (h : FloatOps.cmpf (F := Ideal) (φ := .f32) .olt (max x (-x)) (Ideal.ofBits .f32 0x7F800000#32) = 1#1) : x = ((x.toReal : ℝ) : EReal) := by
  have hlt : max x (-x) < ⊤ := by
    by_contra hn
    have h' : BitVec.ofBool (decide (max x (-x) < Ideal.ofBits .f32 0x7F800000#32)) = 1#1 := h
    rw [bits_inf, decide_eq_false hn] at h'
    exact absurd h' (by decide)
  have h1 : x ≠ ⊤ := fun e => by rw [e] at hlt; simp at hlt
  have h2 : x ≠ ⊥ := fun e => by rw [e] at hlt; simp at hlt
  exact (EReal.coe_toReal h1 h2).symm

theorem and_one {x y : BitVec 1} (h : IntOp.andi x y = 1#1) : x = 1#1 ∧ y = 1#1 := by
  revert x y; decide

theorem finite_of (q k v : FVec Ideal S4x4096x12x128 .f32) (b : FVec Ideal S12 .f32)
    (h : Cert.Pre_finite.fn (F := Ideal) q k v b = fun _ => 1#1) :
    (∀ i, q i = (((q i : EReal).toReal : ℝ) : EReal)) ∧ (∀ i, k i = (((k i : EReal).toReal : ℝ) : EReal)) ∧ (∀ i, b i = (((b i : EReal).toReal : ℝ) : EReal)) := by
  have h0 := congrFun h ix0
  unfold Cert.Pre_finite.fn at h0
  obtain ⟨h1, hb⟩ := and_one h0
  obtain ⟨hq, hk⟩ := and_one h1
  refine ⟨fun i => ?_, fun i => ?_, fun i => ?_⟩
  · exact real_of_below (q i) (Host.reduce_andi_eq_one _ _ _ _ _ hq i (Subsingleton.elim _ _))
  · exact real_of_below (k i) (Host.reduce_andi_eq_one _ _ _ _ _ hk i (Subsingleton.elim _ _))
  · exact real_of_below (b i) (Host.reduce_andi_eq_one _ _ _ _ _ hb i (Subsingleton.elim _ _))

/-! ## The numbers of a launch -/

/-- An argument by batch, position and head, zero outside. -/
def raw (X : FVec Ideal S4x4096x12x128 .f32) (a r h : ℕ) (d : Fin 128) : EReal :=
  if hh : a < 4 ∧ r < 4096 ∧ h < 12 then X (ix4 ⟨a, hh.1⟩ ⟨r, hh.2.1⟩ ⟨h, hh.2.2⟩ d) else 0

theorem raw_at (X : FVec Ideal S4x4096x12x128 .f32) (a : Fin 4) (r : Fin 4096) (h : Fin 12) (d : Fin 128) :
    raw X a.val r.val h.val d = X (ix4 a r h d) := by
  unfold raw
  rw [dif_pos ⟨a.isLt, r.isLt, h.isLt⟩]

/-- A bias by head, zero outside. -/
def rawB (X : FVec Ideal S12 .f32) (h : ℕ) : EReal := if hh : h < 12 then X (ix1 ⟨h, hh⟩) else 0

theorem rawB_at (X : FVec Ideal S12 .f32) (h : Fin 12) : rawB X h.val = X (ix1 h) := by
  unfold rawB
  rw [dif_pos h.isLt]

variable (m : (ℓ : Loc nD τ sig) → Buf (Elt Ideal) ℓ)

/-- What the call reads: queries and biases in base two. -/
def numsOf : Nums where
  q := fun c a h r d => (raw (m ((c.tc : Thread nD τ).loc main_arg0)) a r h d).toReal / (Real.sqrt 128 * Real.log 2)
  k := fun c a h r d => (raw (m ((c.tc : Thread nD τ).loc main_arg1)) a r h d).toReal
  v := fun c a h r d => raw (m ((c.tc : Thread nD τ).loc main_arg2)) a r h d
  b := fun c h => (rawB (m ((c.tc : Thread nD τ).loc main_arg3)) h).toReal / Real.log 2

theorem bits_2 : Ideal.ofBits .f32 0x40000000#32 = ((2 : ℝ) : EReal) := by
  simp [Ideal.ofBits, Ideal.ieee, -EReal.coe_mul]; norm_num

theorem log_2 : Ideal.log (Ideal.ofBits .f32 0x40000000#32) = ((Real.log 2 : ℝ) : EReal) := by
  rw [bits_2, Ideal.log_coe, if_neg (by norm_num)]

theorem holds (h : Cert.Pre_KernelIdeal_finite m) : Holds m (numsOf m) where
  q := fun c a hh r d => by
    obtain ⟨hq, hk, hb⟩ := finite_of _ _ _ _ (h c)
    show StableHlo.after hostOps0 (fun b => m (c, b)) main_v6 (ix4 a hh r d) = _
    unfold hostOps0
    after_reads_at
    show Ideal.div (m ((c.tc : Thread nD τ).loc main_arg0) (ix4 a r hh d)) _ = (((raw _ a.val r.val hh.val d).toReal / (Real.sqrt 128 * Real.log 2) : ℝ) : EReal)
    rw [raw_at, sqrt_128, log_2, ← EReal.coe_mul, hq, div_real _ _ (mul_pos sqrt_128_pos log_two_pos).ne', EReal.toReal_coe]
  k := fun c a hh r d => by
    obtain ⟨hq, hk, hb⟩ := finite_of _ _ _ _ (h c)
    show StableHlo.after hostOps0 (fun b => m (c, b)) main_v7 (ix4 a hh r d) = _
    unfold hostOps0
    after_reads_at
    show m ((c.tc : Thread nD τ).loc main_arg1) (ix4 a r hh d) = (((raw _ a.val r.val hh.val d).toReal : ℝ) : EReal)
    rw [raw_at, ← hk]
  v := fun c a hh r d => by
    show StableHlo.after hostOps0 (fun b => m (c, b)) main_v8 (ix4 a hh r d) = _
    unfold hostOps0
    after_reads_at
    show m ((c.tc : Thread nD τ).loc main_arg2) (ix4 a r hh d) = raw _ a.val r.val hh.val d
    rw [raw_at]
  b := fun c hh => by
    obtain ⟨hq, hk, hb⟩ := finite_of _ _ _ _ (h c)
    show StableHlo.after hostOps0 (fun b => m (c, b)) main_v10 (ix1 hh) = _
    unfold hostOps0
    after_reads_at
    show Ideal.div (m ((c.tc : Thread nD τ).loc main_arg3) (ix1 hh)) _ = (((rawB _ hh.val).toReal / Real.log 2 : ℝ) : EReal)
    rw [rawB_at, log_2, hb, div_real _ _ log_two_pos.ne', EReal.toReal_coe]

/-- The kernel's result is the reference's. -/
theorem result_ref (h : Cert.Pre_KernelIdeal_finite m) (c : Dev nD) :
    result (numsOf m) c = Cert.ReferenceIdeal.Hand.outR (m ((c.tc : Thread nD τ).loc main_arg2))
      (Cert.ReferenceIdeal.Hand.weightR (Cert.ReferenceIdeal.Hand.scoreR (m ((c.tc : Thread nD τ).loc main_arg0)) (m ((c.tc : Thread nD τ).loc main_arg1))
        (m ((c.tc : Thread nD τ).loc main_arg3)))) := by
  obtain ⟨hq, hk, hb⟩ := finite_of _ _ _ _ (h c)
  funext i
  obtain ⟨a, t, j, rfl⟩ : ∃ (a : Fin 4) (t : Fin 4096) (j : Fin 1536), i = ix3 a t j := ⟨i 0, i 1, i 2, by
    funext x; match x with | ⟨0, _⟩ => rfl | ⟨1, _⟩ => rfl | ⟨2, _⟩ => rfl⟩
  have hj : j.val / 128 < 12 := by omega
  let hd : Fin 12 := ⟨j.val / 128, hj⟩
  let zr : ℕ → ℝ := fun s => (∑ d, (raw (m ((c.tc : Thread nD τ).loc main_arg0)) a.val t.val hd.val d).toReal * (raw (m ((c.tc : Thread nD τ).loc main_arg1)) a.val s hd.val d).toReal) / Real.sqrt 128
    + (rawB (m ((c.tc : Thread nD τ).loc main_arg3)) hd.val).toReal
  have hz : ∀ s : Fin 4096, Cert.ReferenceIdeal.Hand.scoreR (m ((c.tc : Thread nD τ).loc main_arg0)) (m ((c.tc : Thread nD τ).loc main_arg1))
        (m ((c.tc : Thread nD τ).loc main_arg3)) (ix4 a hd t s) = (zr s.val : EReal) := fun s => by
    refine Cert.ReferenceIdeal.Hand.score_at _ _ _ a hd t s _ _ _ (fun d => ?_) (fun d => ?_) ?_
    · rw [raw_at]; exact hq _
    · rw [raw_at]; exact hk _
    · rw [rawB_at]; exact hb _
  have hT : 1024 * (t.val / 1024) + 1024 ≤ 4096 := by omega
  have hr : t.val % 1024 < 1024 := by omega
  have ht : 1024 * (t.val / 1024) + t.val % 1024 = t.val := by omega
  have hz2 : ∀ s, zz (fun r d => (numsOf m).q c a.val hd.val (1024 * (t.val / 1024) + r) d) ((numsOf m).k c a.val hd.val) ((numsOf m).b c hd.val) (t.val % 1024) s
      = zr s / Real.log 2 := fun s => by
    have l2 := log_two_pos.ne'
    have s2 := sqrt_128_pos.ne'
    show (∑ d, (raw _ a.val (1024 * (t.val / 1024) + t.val % 1024) hd.val d).toReal / (Real.sqrt 128 * Real.log 2) * (raw _ a.val s hd.val d).toReal) + _ / Real.log 2
      = ((∑ d, _) / Real.sqrt 128 + _) / Real.log 2
    rw [ht, add_div, div_div, Finset.sum_div]
    congr 1
    exact Finset.sum_congr rfl fun d _ => by rw [div_mul_eq_mul_div]
  rw [Cert.ReferenceIdeal.Hand.out_at]
  show av (fun r d => (numsOf m).q c a.val hd.val (1024 * (t.val / 1024) + r) d) ((numsOf m).k c a.val hd.val) ((numsOf m).v c a.val hd.val) ((numsOf m).b c hd.val)
    (1024 * (t.val / 1024)) (t.val % 1024) 0 ⟨j.val % 128, _⟩ = _
  rw [av_scaled hz2 hT hr, ht]
  refine Finset.sum_congr rfl fun s _ => ?_
  rw [Cert.ReferenceIdeal.Hand.weight_at _ a hd t zr hz s]
  congr 1
  exact raw_at _ a s hd _

end Cert.KernelIdeal.Hand
-- ==== Proof.Norm.lean ====
/- The normed row of an activation and its product with a matrix, over the extended reals. -/
module

public import Idealize.ShloMosaic.PureOps.Ideal

@[expose] public section

noncomputable section

namespace Cert.Layer

open Idealize.ShloMosaic

/-- An entry of a row over the row's root mean square, times its gain. -/
def normed (x g : Fin 1024 → EReal) (d : Fin 1024) : EReal :=
  x d * Ideal.rsqrt (Ideal.div (∑ e, x e * x e) (Ideal.ofBits .f32 1149239296#32) + Ideal.ofBits .f32 897988541#32) * g d

/-- The normed row's product with a column. -/
def projected (x g w : Fin 1024 → EReal) : EReal := ∑ d, normed x g d * w d

end Cert.Layer

end
-- ==== Proof.Project.lean ====
/- What the call that norms the rows and multiplies them by a matrix leaves: the normed rows are made at the first of a row
   block's four points and kept in the scratch for the other three. -/
module

public import proofs.«01_k».proof.Proof.Norm
public import proofs.«01_k».proof.Proof.Gen.Kernel3Ideal.Frame
public import Idealize.ShloMosaic.Lib.Pipeline.Value
public import proofs.«01_k».proof.Proof.Gen.Reference3Ideal.Run
public import Idealize.ShloMosaic.Lib.Pointwise
public import Idealize.ShloMosaic.Lib.IdealHost
public import Idealize.ShloMosaic.Lib.Tactic
public import Idealize.ShloMosaic.Lib.StableHlo.ReadAt

@[expose] public section

noncomputable section

namespace Cert.Kernel3Ideal.Hand

open Idealize.ShloMosaic Idealize.ShloMosaic.TcCoe Idealize.SL.Sem
open Cert.Kernel3Ideal Cert.Kernel3Ideal.Gen
open Cert.Layer

/-! ## The two payloads at an index -/

theorem normed_at (x : Vec Ideal S2048x1024 .f32) (g : Vec Ideal S1x1024 .f32) (r : Fin 2048) (d : Fin 1024) :
    k0_pay1 x g (ix2 r d) = normed (fun e => x (ix2 r e)) (fun e => g (ix2 0 e)) d := by
  pointwise [k0_pay1]
  rfl

theorem product_at (h : Vec Ideal S2048x1024 .bf16) (w : Vec Ideal S1024x1024 .bf16) (r : Fin 2048) (d : Fin 1024) :
    k0_pay2 h w (ix2 r d) = ∑ e : Fin 1024, (h (ix2 r e) : EReal) * w (ix2 e d) := by
  pointwise [k0_pay2]

/-! ## What a point leaves -/

variable {F : FTy → Type} [FloatOps F]

theorem hz : (![0, 0] : Fin 2 → Nat) = fun _ => 0 := funext fun a => by fin_cases a <;> rfl

theorem out_A (c : Dev nD) (i : grid0.Coords) (a2 : Memref sig .tc .vmem S2048x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S2048x1024 .f32) (h5 : a5.IsWhole) (a6 : Memref sig .tc .vmem S2048x1024 .bf16) (h6 : a6.IsWhole)
    (hc : cond0_0 i) (x0 : Vec F S2048x1024 .f32) (x1 : Vec F S1x1024 .f32) (x2 : Vec F S1024x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S2048x1024) _ hz]
  simp only [View.readAt_eq_ld, h2.read_unread, h3.read_unread, h4.read_unread, View.ld_unit_zero (S := S2048x1024) hz,
    View.ld_unit_zero (S := S1x1024) hz, View.ld_unit_zero (S := S1024x1024) hz]

theorem sout_A (c : Dev nD) (i : grid0.Coords) (a2 : Memref sig .tc .vmem S2048x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S2048x1024 .f32) (h5 : a5.IsWhole) (a6 : Memref sig .tc .vmem S2048x1024 .bf16) (h6 : a6.IsWhole)
    (hc : cond0_0 i) (x0 : Vec F S2048x1024 .f32) (x1 : Vec F S1x1024 .f32) (x2 : Vec F S1024x1024 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S2048x1024) hz,
    View.ld_unit_zero (S := S1x1024) hz]

theorem out_B (c : Dev nD) (i : grid0.Coords) (a2 : Memref sig .tc .vmem S2048x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S2048x1024 .f32) (h5 : a5.IsWhole) (a6 : Memref sig .tc .vmem S2048x1024 .bf16) (h6 : a6.IsWhole)
    (hc : ¬cond0_0 i) (x0 : Vec F S2048x1024 .f32) (x1 : Vec F S1x1024 .f32) (x2 : Vec F S1024x1024 .bf16) (xs : Vec F S2048x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h4.read_unread, h6.read_unread, View.ld_unit_zero (S := S2048x1024) hz,
    View.ld_unit_zero (S := S1024x1024) hz]

/-! ## The blocks that a point reads -/

theorem idxX : ∀ t : Fin cfg0.N, win0_0.index t (0 : Fin 2) = t.val / 4 ∧ win0_0.index t (1 : Fin 2) = 0 :=
  (by decide +kernel : ∀ t : Fin grid0.N, _)
theorem idxG : ∀ t : Fin cfg0.N, win0_1.index t (0 : Fin 2) = 0 ∧ win0_1.index t (1 : Fin 2) = 0 :=
  (by decide +kernel : ∀ t : Fin grid0.N, _)
theorem idxW : ∀ t : Fin cfg0.N, win0_2.index t (0 : Fin 2) = 0 ∧ win0_2.index t (1 : Fin 2) = t.val % 4 :=
  (by decide +kernel : ∀ t : Fin grid0.N, _)

variable (m : (ℓ : Loc nD τ sig) → Buf (Elt Ideal) ℓ) (ρ : Dev nD → PrngReg)

/-- Row `i` of the activations, the batches one after another. -/
def row (c : Dev nD) (i : Fin 16384) (e : Fin 1024) : EReal :=
  m ((c.tc : Thread nD τ).loc main_arg0) (ix3 ⟨i.val / 4096, by omega⟩ ⟨i.val % 4096, by omega⟩ e)

/-- The gains. -/
def gain (c : Dev nD) (e : Fin 1024) : EReal := m ((c.tc : Thread nD τ).loc main_arg1) (ix1 e)

/-- Column `j` of the matrix. -/
def column (c : Dev nD) (j : Fin 4096) (e : Fin 1024) : EReal := m ((c.tc : Thread nD τ).loc main_arg2) (ix2 e j)

theorem x_at (c : Dev nD) (t : Fin cfg0.N) (r : Fin 2048) (e : Fin 1024) (i : Fin 16384) (hi : i.val = 2048 * (t.val / 4) + r.val) :
    iblk m c 0 t (ix2 r e) = row m c i e := by
  obtain ⟨h0, h1⟩ := idxX t
  have h : V m c main_v0 (ix2 i e) = row m c i e := by
    show StableHlo.after hostOps0 (fun b => m (c, b)) main_v0 (ix2 i e) = _
    unfold hostOps0
    after_reads_at
    rfl
  rw [← h]
  unfold iblk
  rw [View.read_apply]
  show V m c main_v0 _ = V m c main_v0 _
  congr 1
  funext a
  apply Fin.ext
  match a with
  | ⟨0, _⟩ => show win0_0.index t 0 * 2048 + 1 * r.val = i.val; omega
  | ⟨1, _⟩ => show win0_0.index t 1 * 1024 + 1 * e.val = e.val; omega

theorem g_at (c : Dev nD) (t : Fin cfg0.N) (e : Fin 1024) : iblk m c 1 t (ix2 0 e) = gain m c e := by
  obtain ⟨h0, h1⟩ := idxG t
  have h : V m c main_v2 (ix2 0 e) = gain m c e := by
    show StableHlo.after hostOps0 (fun b => m (c, b)) main_v2 (ix2 0 e) = _
    unfold hostOps0
    after_reads_at
    rfl
  rw [← h]
  unfold iblk
  rw [View.read_apply]
  show V m c main_v2 _ = V m c main_v2 _
  congr 1
  funext a
  apply Fin.ext
  match a with
  | ⟨0, _⟩ => show win0_1.index t 0 * 1 + 1 * 0 = 0; omega
  | ⟨1, _⟩ => show win0_1.index t 1 * 1024 + 1 * e.val = e.val; omega

theorem w_at (c : Dev nD) (t : Fin cfg0.N) (e d : Fin 1024) (j : Fin 4096) (hj : j.val = 1024 * (t.val % 4) + d.val) :
    iblk m c 2 t (ix2 e d) = column m c j e := by
  obtain ⟨h0, h1⟩ := idxW t
  have h : V m c main_v1 (ix2 e j) = column m c j e := by
    show StableHlo.after hostOps0 (fun b => m (c, b)) main_v1 (ix2 e j) = _
    unfold hostOps0
    after_reads_at
    rfl
  rw [← h]
  unfold iblk
  rw [View.read_apply]
  show V m c main_v1 _ = V m c main_v1 _
  congr 1
  funext a
  apply Fin.ext
  match a with
  | ⟨0, _⟩ => show win0_2.index t 0 * 1024 + 1 * e.val = e.val; omega
  | ⟨1, _⟩ => show win0_2.index t 1 * 1024 + 1 * d.val = j.val; omega

/-! ## The scratch and the output after a point -/

theorem pay1_at (c : Dev nD) (t : Fin cfg0.N) (r : Fin 2048) (d : Fin 1024) (i : Fin 16384) (hi : i.val = 2048 * (t.val / 4) + r.val) :
    k0_pay1 (iblk m c 0 t) (iblk m c 1 t) (ix2 r d) = normed (row m c i) (gain m c) d := by
  rw [normed_at]
  congr 1
  · funext e; exact x_at m c t r e i hi
  · funext e; exact g_at m c t e

theorem first_fst (c : Dev nD) (t : Fin cfg0.N) (h0 : t.val % 4 = 0) :
    (outsAt0 m c t.val t.isLt).1 = k0_pay2 (k0_pay1 (iblk m c 0 t) (iblk m c 1 t)) (iblk m c 2 t) := by
  have e := congrArg Prod.fst (outsAt0_A m c t h0)
  dsimp only at e
  rw [e, out_A]

theorem first_snd (c : Dev nD) (t : Fin cfg0.N) (h0 : t.val % 4 = 0) :
    (outsAt0 m c t.val t.isLt).2 = k0_pay1 (iblk m c 0 t) (iblk m c 1 t) := by
  have e := congrArg Prod.snd (outsAt0_A m c t h0)
  dsimp only at e
  rw [e, sout_A]

theorem later_fst (c : Dev nD) (t : Fin cfg0.N) (h0 : ¬t.val % 4 = 0) :
    (outsAt0 m c t.val t.isLt).1 = k0_pay2 (outsAt0 m c (t.val - 1) (Nat.lt_of_le_of_lt (Nat.sub_le _ _) t.isLt)).2 (iblk m c 2 t) := by
  have e := congrArg Prod.fst (outsAt0_B m c t h0)
  dsimp only at e
  rw [e, out_B]

theorem later_snd (c : Dev nD) (t : Fin cfg0.N) (h0 : ¬t.val % 4 = 0) :
    (outsAt0 m c t.val t.isLt).2 = (outsAt0 m c (t.val - 1) (Nat.lt_of_le_of_lt (Nat.sub_le _ _) t.isLt)).2 := by
  have e := congrArg Prod.snd (outsAt0_B m c t h0)
  dsimp only at e
  rw [e]
  unfold sout0_B_0
  with_reducible rfl

/-- After every point the scratch holds the normed rows of the point's row block. -/
theorem scratch_at (c : Dev nD) : ∀ (n : ℕ) (hn : n < cfg0.N) (r : Fin 2048) (d : Fin 1024) (i : Fin 16384) (hi : i.val = 2048 * (n / 4) + r.val),
    (outsAt0 m c n hn).2 (ix2 r d) = normed (row m c i) (gain m c) d := by
  intro n
  induction n with
  | zero =>
    intro hn r d i hi
    rw [first_snd m c ⟨0, hn⟩ rfl]
    exact pay1_at m c ⟨0, hn⟩ r d i hi
  | succ n ih =>
    intro hn r d i hi
    by_cases h0 : (n + 1) % 4 = 0
    · rw [first_snd m c ⟨n + 1, hn⟩ h0]
      exact pay1_at m c ⟨n + 1, hn⟩ r d i hi
    · rw [later_snd m c ⟨n + 1, hn⟩ h0]
      exact ih (by omega) r d i (by omega)

/-- The output block of a point is its scratch's product with the point's columns. -/
theorem block_eq (c : Dev nD) (t : Fin cfg0.N) : (outsAt0 m c t.val t.isLt).1 = k0_pay2 (outsAt0 m c t.val t.isLt).2 (iblk m c 2 t) := by
  by_cases h0 : t.val % 4 = 0
  · rw [first_fst m c t h0, first_snd m c t h0]
  · rw [later_fst m c t h0, later_snd m c t h0]

theorem block_at (c : Dev nD) (t : Fin cfg0.N) (r : Fin 2048) (d : Fin 1024) (i : Fin 16384) (j : Fin 4096)
    (hi : i.val = 2048 * (t.val / 4) + r.val) (hj : j.val = 1024 * (t.val % 4) + d.val) :
    (outsAt0 m c t.val t.isLt).1 (ix2 r d) = projected (row m c i) (gain m c) (column m c j) := by
  rw [block_eq, product_at]
  unfold projected
  refine Finset.sum_congr rfl fun e _ => ?_
  rw [scratch_at m c t.val t.isLt r e i hi, w_at m c t e d j hj]

theorem idxO : ∀ t : Fin cfg0.N, win0_3.index t (0 : Fin 2) = t.val / 4 ∧ win0_3.index t (1 : Fin 2) = t.val % 4 :=
  (by decide +kernel : ∀ t : Fin grid0.N, _)

theorem idx_inj (t t' : Fin cfg0.N) (h : win0_3.index t = win0_3.index t') : t = t' := by
  obtain ⟨h0, h1⟩ := idxO t
  obtain ⟨h0', h1'⟩ := idxO t'
  rw [h] at h0 h1
  apply Fin.ext
  omega

theorem flushes : ∀ t : Fin cfg0.N, (cfg0.win 3).flush t = true := (by decide +kernel : ∀ t : Fin grid0.N, _)

/-- What the call leaves. -/
theorem final_at (c : Dev nD) (i : Fin 16384) (j : Fin 4096) :
    (dats m 0 c).arrAt 3 cfg0.N (ix2 i j) = projected (row m c i) (gain m c) (column m c j) := by
  have hN : cfg0.N = 32 := N_0
  have ht : 4 * (i.val / 2048) + j.val / 1024 < cfg0.N := by omega
  obtain ⟨h0, h1⟩ := idxO ⟨_, ht⟩
  dsimp only at h0 h1
  have hb := congrFun ((dats m 0 c).read_blk_arrAt_eq_flushed 3 (fun t t' _ _ hne => (cfg0.win 3).disjoint_blk fun h => hne (idx_inj t t' h))
    cfg0.N ⟨_, ht⟩ ht (flushes _)) (ix2 ⟨i.val % 2048, by omega⟩ ⟨j.val % 1024, by omega⟩)
  rw [View.read_apply] at hb
  refine Eq.trans ?_ (hb.trans ?_)
  · show (dats m 0 c).arrAt 3 cfg0.N _ = (dats m 0 c).arrAt 3 cfg0.N _
    congr 1
    funext b
    apply Fin.ext
    match b with
    | ⟨0, _⟩ => show i.val = win0_3.index _ 0 * 2048 + 1 * (i.val % 2048); omega
    | ⟨1, _⟩ => show j.val = win0_3.index _ 1 * 1024 + 1 * (j.val % 1024); omega
  · refine Eq.trans ?_ (block_at m c ⟨_, ht⟩ ⟨i.val % 2048, by omega⟩ ⟨j.val % 1024, by omega⟩ i j
      (by show i.val = 2048 * ((4 * (i.val / 2048) + j.val / 1024) / 4) + i.val % 2048; omega)
      (by show j.val = 1024 * ((4 * (i.val / 2048) + j.val / 1024) % 4) + j.val % 1024; omega))
    show (dats m 0 c).after 3 ⟨_, ht⟩ (ix2 ⟨i.val % 2048, _⟩ ⟨j.val % 1024, _⟩) = _
    rw [after0_3]

/-! ## After the host operations -/

/-- The buffers at the call's end. -/
def exit (c : Dev nD) : Valuation τ sig (Elt Ideal) :=
  Pipeline.withArrays spec0 c (V0 m c) fun w => (dats m 0 c).arrAt w cfg0.N

theorem exit_v3 (c : Dev nD) : exit m c (Proc.devRef .tc main_v3) = (dats m 0 c).arrAt 3 cfg0.N := by
  unfold exit
  exact Pipeline.withArrays_arr spec0 launch0.win.arr_inj c _ _ 3

theorem run : θ_run defs (onTc (τ := τ) (main (F := Ideal))) ⟨m, fun _ => 0, ρ⟩ (fun r => ∀ c : Dev nD,
      r.2.mem ((c.tc : Thread nD τ).loc main_v3) = (dats m 0 c).arrAt 3 cfg0.N
      ∧ r.2.mem ((c.tc : Thread nD τ).loc main_v9) = StableHlo.after hostOps1 (exit m c) (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h.1 c).1 3, (h.1 c).2 main_v9 (Pipeline.mem_restRefs_of main_v9 (by decide) (by decide)), h.2 c⟩)
    (θ_run_and (run_main m ρ) (unchanged m ρ))

/-- The state that the host cuts out: fifteen rows, from before the first one and from the product's end. -/
def stateOf (p : Vec Ideal S16384x4096 .f32) : Vec Ideal S4x15x1536 .f32 :=
  extractStridedSlice S4x15x1536 ![0, 15, 0] (concatenate S4x30x1536 1
    [⟨S4x15x1536, extractStridedSlice S4x15x1536 ![0, 1, 0] (broadcastInDim S4x16x1536 ![] bcast_S_S4x16x1536 (constant (F := Ideal) S_ .f32 0x00000000#32)) slices_S4x16x1536_S4x15x1536_0_1_0⟩,
     ⟨S4x15x1536, extractStridedSlice S4x15x1536 ![0, 4081, 0] (shapeCast S4x4096x4096 p shapeCasts_S16384x4096_S4x4096x4096) slices_S4x4096x4096_S4x15x1536_0_4081_0⟩]
    concatenates_S4x15x1536_S4x15x1536_S4x30x1536_d1) slices_S4x30x1536_S4x15x1536_0_15_0

theorem state_eq (c : Dev nD) : StableHlo.after hostOps1 (exit m c) (Proc.devRef .tc main_v9) = stateOf ((dats m 0 c).arrAt 3 cfg0.N) := by
  rw [← exit_v3]
  unfold stateOf
  after_results_simp <;> rfl

theorem state_at (p : Vec Ideal S16384x4096 .f32) (a : Fin 4) (r : Fin 15) (d : Fin 1536) :
    stateOf p (ix3 a r d) = p (ix2 ⟨4096 * a.val + (4081 + r.val), by omega⟩ ⟨d.val, by omega⟩) := by
  pointwise [stateOf]
  simp only [Nat.mul_comm a.val 4096]
end Cert.Kernel3Ideal.Hand

/-! ## The reference -/

namespace Cert.Reference3Ideal.Hand

open Idealize.ShloMosaic Idealize.ShloMosaic.TcCoe
open Cert.Reference3Ideal Cert.Reference3Ideal.Gen
open Cert.Layer

theorem bits_0 : Ideal.ofBits .f32 0#32 = 0 := by simp [Ideal.ofBits, Ideal.ieee]

/-- The normed activations. -/
def normR (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- Their product with the matrix, the batches one after another. -/
def outR (x : FVec Ideal S4x4096x1024 .f32) (g : FVec Ideal S1024 .f32) (w : FVec Ideal S1024x4096 .f32) : FVec Ideal S16384x4096 .f32 :=
  shapeCast _ (Host.dotGeneral dot_S4x4096x1024_S1024x4096_S4x4096x4096_2_0_01_1_n_n none (normR x g) w) shapeCasts_S4x4096x4096_S16384x4096

theorem norm_at (x : FVec Ideal S4x4096x1024 .f32) (g : FVec Ideal S1024 .f32) (a : Fin 4) (t : Fin 4096) (d : Fin 1024) :
    normR x g (ix3 a t d) = normed (fun e => x (ix3 a t e)) (fun e => g (ix1 e)) d := by
  pointwise [normR]
  rfl

theorem out_at (x : FVec Ideal S4x4096x1024 .f32) (g : FVec Ideal S1024 .f32) (w : FVec Ideal S1024x4096 .f32) (i : Fin 16384) (j : Fin 4096) :
    outR x g w (ix2 i j) = projected (fun e => x (ix3 ⟨i.val / 4096, by omega⟩ ⟨i.val % 4096, by omega⟩ e)) (fun e => g (ix1 e)) (fun e => w (ix2 e j)) := by
  unfold projected
  simp only [← norm_at]
  pointwise [outR]
  try rfl

/-- What the call leaves is the reference at the same activations, gains and matrix. -/
theorem result_ref (m : (ℓ : Loc Cert.Kernel3Ideal.nD Cert.Kernel3Ideal.τ Cert.Kernel3Ideal.sig) → Buf (Elt Ideal) ℓ) (c : Dev Cert.Kernel3Ideal.nD) :
    (Cert.Kernel3Ideal.Gen.dats m 0 c).arrAt 3 Cert.Kernel3Ideal.cfg0.N = outR (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) := by
  funext o
  obtain ⟨i, j, rfl⟩ : ∃ (i : Fin 16384) (j : Fin 4096), o = ix2 i j := ⟨o 0, o 1, funext fun a => by fin_cases a <;> rfl⟩
  exact (Cert.Kernel3Ideal.Hand.final_at m c i j).trans (out_at _ _ _ i j).symm

/-- The state: the last fifteen rows of the first columns, after fifteen rows of zeros. -/
def stateR (x : FVec Ideal S4x4096x1024 .f32) (g : FVec Ideal S1024 .f32) (w : FVec Ideal S1024x4096 .f32) : FVec Ideal S4x15x1536 .f32 :=
  extractStridedSlice S4x15x1536 ![0, 4096, 0] (concatenate S4x4111x1536 1 [⟨S4x15x1536, (broadcastInDim S4x15x1536 ![] bcast_S_S4x15x1536 (constant (F := Ideal) S_ .f32 0x00000000#32))⟩,
    ⟨S4x4096x1536, (extractStridedSlice S4x4096x1536 ![0, 0, 0] (Host.dotGeneral dot_S4x4096x1024_S1024x4096_S4x4096x4096_2_0_01_1_n_n none (normR x g) w) slices_S4x4096x4096_S4x4096x1536_0_0_0)⟩] concatenates_S4x15x1536_S4x4096x1536_S4x4111x1536_d1) slices_S4x4111x1536_S4x15x1536_0_4096_0

theorem stateR_at (x : FVec Ideal S4x4096x1024 .f32) (g : FVec Ideal S1024 .f32) (w : FVec Ideal S1024x4096 .f32) (a : Fin 4) (r : Fin 15) (d : Fin 1536) :
    stateR x g w (ix3 a r d) = projected (fun e => x (ix3 a ⟨4081 + r.val, by omega⟩ e)) (fun e => g (ix1 e)) (fun e => w (ix2 e ⟨d.val, by omega⟩)) := by
  unfold projected
  simp only [← norm_at]
  pointwise [stateR]
  rw [dif_neg (by omega)]
  have hr : 4096 + r.val - 15 = 4081 + r.val := by omega
  simp only [hr]

/-- The host cuts the reference's state out of what the call leaves. -/
theorem state_ref (m : (ℓ : Loc Cert.Kernel3Ideal.nD Cert.Kernel3Ideal.τ Cert.Kernel3Ideal.sig) → Buf (Elt Ideal) ℓ) (c : Dev Cert.Kernel3Ideal.nD) :
    StableHlo.after Cert.Kernel3Ideal.Gen.hostOps1 (Cert.Kernel3Ideal.Hand.exit m c) (Proc.devRef .tc Cert.Kernel3Ideal.main_v9)
      = stateR (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) := by
  rw [Cert.Kernel3Ideal.Hand.state_eq]
  funext o
  obtain ⟨a, r, d, rfl⟩ : ∃ (a : Fin 4) (r : Fin 15) (d : Fin 1536), o = ix3 a r d := ⟨o 0, o 1, o 2, eq_ix3 o⟩
  rw [Cert.Kernel3Ideal.Hand.state_at, Cert.Kernel3Ideal.Hand.final_at, stateR_at]
  unfold Cert.Kernel3Ideal.Hand.row Cert.Kernel3Ideal.Hand.gain Cert.Kernel3Ideal.Hand.column
  congr 1
  funext e
  congr 1
  congr 1
  · apply Fin.ext
    show (4096 * a.val + (4081 + r.val)) / 4096 = a.val
    omega
  · apply Fin.ext
    show (4096 * a.val + (4081 + r.val)) % 4096 = 4081 + r.val
    omega

end Cert.Reference3Ideal.Hand

end
-- ==== Proof.InBody.lean ====
/- The body of the call that norms the rows and makes queries, keys, values and the rest: five stages, each done at some
   columns of the grid, over a state of plain vectors; and the triple of each. -/
module

public import proofs.«01_k».proof.Proof.Gen.Kernel2Ideal.Frame
public import Idealize.ShloMosaic.Lib.VecWindow
public import Idealize.ShloMosaic.Lib.Pipeline.TableIdle

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ
abbrev Eff (F : FTy → Type) : Type → Type := TpuEff nD τ sig (Elt F) Λ₀ .tc

section Access

variable (𝒱 : Variants) (c : Dev nD) (bd : Option 𝒱.V) (E : Set ℕ)
variable {s : Shape} {e : EltTy} {α : Type}

/-- A load of a memref owned at `x` reads a window of `x`. -/
theorem wp_load_owns {cs : CoreSpace} (m : Memref sig .tc cs s e) (x : Vec F s e) (off size : Fin s.rank → ℕ)
    (inb : ∀ a, off a + size a ≤ s.size a) {hl : m.view.LoadsAt (Rect.unit off size inb).toLoadRect}
    {k : ((Rect.unit off size inb).toLoadRect.shape.Idx → Elt F e) → Prog (Eff F) α} {Q : α → sProp 𝕄} :
    (owns (c : Thread nD τ) m fullShare x : sProp 𝕄)
      ⊢ iprop((owns (c : Thread nD τ) m fullShare x -∗ wp frame (wpE (defs₀ (F := F)) 𝒱 (c : Thread nD τ) bd) E (k (window x off size inb)) Q)
        -∗ wp frame (wpE (defs₀ (F := F)) 𝒱 (c : Thread nD τ) bd) E (.op (.load m (Rect.unit off size inb).toLoadRect hl) k) Q) := by
  rw [owns_eq_rep]
  rw [← View.readAt_rep_unit (v := m.view) (x := x) (inb := inb) (h := rfl) (inb' := inb)]
  exact wp_load 𝒱 (c : Thread nD τ) bd E (m.view.setOn_subset_set _)

/-- A whole store at a unit-stride rectangle of a memref owned at `x` leaves it owned at `x` with the payload put there. -/
theorem wp_store_owns (m : Memref sig .tc .vmem s e) (x : Vec F s e) (off size : Fin s.rank → ℕ)
    (inb : ∀ a, off a + size a ≤ s.size a) (w : (Rect.unit off size inb).shape.Idx → Elt F e)
    {hx : (m.access (Rect.unit off size inb)).Stores Finset.univ} {hm : Finset.univ = Finset.univ ∨ ∀ a, (Rect.unit off size inb).stride a = 1}
    {k : PUnit → Prog (Eff F) α} {Q : α → sProp 𝕄} :
    (owns (c : Thread nD τ) m fullShare x : sProp 𝕄)
      ⊢ iprop((owns (c : Thread nD τ) m fullShare (put x off size w) -∗ wp frame (wpE (defs₀ (F := F)) 𝒱 (c : Thread nD τ) bd) E (k ⟨⟩) Q)
        -∗ wp frame (wpE (defs₀ (F := F)) 𝒱 (c : Thread nD τ) bd) E (.op (.store m (Rect.unit off size inb) w Finset.univ hx hm) k) Q) := by
  rw [owns_eq_rep, owns_eq_rep]
  have h := wp_store_writes₀ (defs := defs₀ (F := F)) 𝒱 (c : Thread nD τ) bd E (Q := Q) (m := m) (r := Rect.unit off size inb) (w := w) (hx := hx) (hm := hm) (k := k)
    (S := m.view.set) (f := m.view.rep x) (View.setOn_slice_subset_set m.view _ _)
  iintro H HK
  ihave H2 := h $$ H
  iapply H2
  iintro H
  iapply HK
  ihave H' := (pointsTo_rep_of_read (c : Thread nD τ) m _ fullShare (put x off size w) (View.read_writes_rep_unit m.view x inb w rfl)) $$ H
  iexact H'

end Access

/-! ## The payloads -/

/-- The normed rows, kept in low precision. -/
def normPay (v19 : Vec F S2048x1024 .f32) (v21 : Vec F S1x1024 .f32) : FVec F S2048x1024 .bf16 :=
  have v20 : FVec F S2048x1024 .f32 := shapeCast S2048x1024 v19 shapeCasts_S2048x1024_S2048x1024
  have v22 : FVec F S1x1024 .f32 := shapeCast S1x1024 v21 shapeCasts_S1x1024_S1x1024
  have v23 : FVec F S2048x1024 .f32 := mulf v20 v20
  have v24 : FVec F S2048 .f32 := multiReduction .add [1] S2048 v23 0x00000000#32 reduces_S2048x1024_S2048 (.inl rfl) rfl
  have v25 : FVec F S2048x1 .f32 := shapeCast S2048x1 v24 shapeCasts_S2048_S2048x1
  have v26 : FVec F S2048x1 .f32 := broadcast S2048x1 (Scalar.ofBits .f32 0x44800000#32)
  have v27 : FVec F S2048x1 .f32 := divf v25 v26
  have v28 : FVec F S2048x1 .f32 := broadcast S2048x1 (Scalar.ofBits .f32 0x358637BD#32)
  have v29 : FVec F S2048x1 .f32 := addf v27 v28
  have v30 : FVec F S2048x1 .f32 := rsqrt v29
  have v31 : FVec F S2048x1024 .f32 := broadcastTo S2048x1024 v30 broadcasts_S2048x1_S2048x1024
  have v32 : FVec F S2048x1024 .f32 := mulf v20 v31
  have v33 : FVec F S2048x1024 .f32 := broadcastTo S2048x1024 v22 broadcasts_S1x1024_S2048x1024
  have v34 : FVec F S2048x1024 .f32 := mulf v32 v33
  have v35 : FVec F S2048x1024 .bf16 := truncf .bf16 v34 bitsLt_bf16_f32
  shapeCast S2048x1024 v35 shapeCasts_S2048x1024_S2048x1024

/-- The product with two heads' columns. -/
def pairPay (h : Vec F S2048x1024 .bf16) (w : Vec F S1024x256 .bf16) : FVec F S2048x256 .f32 :=
  matmul dot_S2048x1024_S1024x256_S2048x256_1_0_0_1_n_n none h (shapeCast S1024x256 w shapeCasts_S1024x256_S1024x256) (constant S2048x256 .f32 0x00000000#32)

/-- The first and the second of two heads. -/
def leftPay (p : FVec F S2048x256 .f32) : FVec F S2048x128 .f32 := extractStridedSlice S2048x128 ![0, 0] p slices_S2048x256_o0_0_S2048x128
def rightPay (p : FVec F S2048x256 .f32) : FVec F S2048x128 .f32 := extractStridedSlice S2048x128 ![0, 128] p slices_S2048x256_o0_128_S2048x128

/-- A head as it is stored. -/
def headPay (x : FVec F S2048x128 .f32) : FVec F S1x1x2048x128 .f32 := shapeCast S1x1x2048x128 x shapeCasts_S2048x128_S1x1x2048x128

/-- A head of queries as it is stored: scaled, in low precision. -/
def queryPay (x : FVec F S2048x128 .f32) : FVec F S1x1x2048x128 .bf16 :=
  shapeCast S1x1x2048x128 (truncf .bf16 (mulf x (broadcast S2048x128 (Named.named κ "q_scale" 0x3E0293EE#32))) bitsLt_bf16_f32) shapeCasts_S2048x128_S1x1x2048x128

/-- The product with a whole block of columns. -/
def restPay (h : Vec F S2048x1024 .bf16) (w : Vec F S1024x512 .bf16) : FVec F S2048x512 .f32 :=
  matmul dot_S2048x1024_S1024x512_S2048x512_1_0_0_1_n_n none h (shapeCast S1024x512 w shapeCasts_S1024x512_S1024x512) (constant S2048x512 .f32 0x00000000#32)

/-! ## The state -/

/-- The memrefs the body reads and writes. -/
structure Mems where
  arg2 : Memref sig .tc .vmem S2048x1024 .f32
  arg3 : Memref sig .tc .vmem S1x1024 .f32
  arg4 : Memref sig .tc .vmem S1024x512 .bf16
  arg5 : Memref sig .tc .vmem S1x4x2048x128 .bf16
  arg6 : Memref sig .tc .vmem S1x4x2048x128 .f32
  arg7 : Memref sig .tc .vmem S1x4x2048x128 .f32
  arg8 : Memref sig .tc .vmem S2048x512 .f32
  arg9 : Memref sig .tc .vmem S2048x1024 .bf16

structure Whole (a : Mems) : Prop where
  h2 : a.arg2.IsWhole
  h3 : a.arg3.IsWhole
  h4 : a.arg4.IsWhole
  h5 : a.arg5.IsWhole
  h6 : a.arg6.IsWhole
  h7 : a.arg7.IsWhole
  h8 : a.arg8.IsWhole
  h9 : a.arg9.IsWhole

/-- What the body reads: rows, gains, columns. -/
structure In (F : FTy → Type) where
  x : Vec F S2048x1024 .f32
  g : Vec F S1x1024 .f32
  w : Vec F S1024x512 .bf16

/-- What it writes: a block of queries, of keys, of values, of the rest, and the normed rows it keeps. -/
structure St (F : FTy → Type) where
  q : Vec F S1x4x2048x128 .bf16
  k : Vec F S1x4x2048x128 .f32
  v : Vec F S1x4x2048x128 .f32
  r : Vec F S2048x512 .f32
  h : Vec F S2048x1024 .bf16

/-- The memrefs owned, at an input and a state. -/
def own (c : Dev nD) (a : Mems) (e : In F) (s : St F) : sProp 𝕄 :=
  iprop(owns (c : Thread nD τ) a.arg2 fullShare e.x ∗ owns (c : Thread nD τ) a.arg3 fullShare e.g ∗ owns (c : Thread nD τ) a.arg4 fullShare e.w
    ∗ owns (c : Thread nD τ) a.arg5 fullShare s.q ∗ owns (c : Thread nD τ) a.arg6 fullShare s.k ∗ owns (c : Thread nD τ) a.arg7 fullShare s.v
    ∗ owns (c : Thread nD τ) a.arg8 fullShare s.r ∗ owns (c : Thread nD τ) a.arg9 fullShare s.h)

/-- A block of four heads with each head's part replaced. -/
def put4 {e : EltTy} (x : Vec F S1x4x2048x128 e) (p0 p1 p2 p3 : Vec F S1x1x2048x128 e) : Vec F S1x4x2048x128 e :=
  put (put (put (put x ![0, 0, 0, 0] S1x1x2048x128.size p0) ![0, 1, 0, 0] S1x1x2048x128.size p1) ![0, 2, 0, 0] S1x1x2048x128.size p2) ![0, 3, 0, 0] S1x1x2048x128.size p3

/-- The rows kept, read. -/
def rows (s : St F) : Vec F S2048x1024 .bf16 := window s.h ![0, 0] S2048x1024.size facts.inb_S2048x1024_S2048x1024_0_0

/-- The two halves of the block of columns. -/
def colsL (e : In F) : Vec F S1024x256 .bf16 := window e.w ![0, 0] S1024x256.size facts.inb_S1024x512_S1024x256_0_0
def colsR (e : In F) : Vec F S1024x256 .bf16 := window e.w ![0, 256] S1024x256.size facts.inb_S1024x512_S1024x256_0_256

def normSt (e : In F) (s : St F) : St F :=
  { s with
    h := put s.h ![0, 0] S2048x1024.size (normPay (window e.x ![0, 0] S2048x1024.size facts.inb_S2048x1024_S2048x1024_0_0)
      (window e.g ![0, 0] S1x1024.size facts.inb_S1x1024_S1x1024_0_0)) }
def querySt (e : In F) (s : St F) : St F :=
  { s with
    q := put4 s.q (queryPay (leftPay (pairPay (rows s) (colsL e)))) (queryPay (rightPay (pairPay (rows s) (colsL e))))
      (queryPay (leftPay (pairPay (rows s) (colsR e)))) (queryPay (rightPay (pairPay (rows s) (colsR e)))) }
def keySt (e : In F) (s : St F) : St F :=
  { s with
    k := put4 s.k (headPay (leftPay (pairPay (rows s) (colsL e)))) (headPay (rightPay (pairPay (rows s) (colsL e))))
      (headPay (leftPay (pairPay (rows s) (colsR e)))) (headPay (rightPay (pairPay (rows s) (colsR e)))) }
def valueSt (e : In F) (s : St F) : St F :=
  { s with
    v := put4 s.v (headPay (leftPay (pairPay (rows s) (colsL e)))) (headPay (rightPay (pairPay (rows s) (colsL e))))
      (headPay (leftPay (pairPay (rows s) (colsR e)))) (headPay (rightPay (pairPay (rows s) (colsR e)))) }
def restSt (e : In F) (s : St F) : St F :=
  { s with r := put s.r ![0, 0] S2048x512.size (restPay (rows s) (window e.w ![0, 0] S1024x512.size facts.inb_S1024x512_S1024x512_0_0)) }

/-! ## The stages -/

/-- Whether a point is the first of its rows, as the body decides it. -/
def cond1 (i : grid0.Coords) : BitVec 1 := Scalar.cmpi .ne (Scalar.extui (Scalar.cmpi .eq (BitVec.ofNat 32 (i 1).val) 0#32) : BitVec 32) 0#32

def normP (a : Mems) (h : Whole a) : Prog (Eff F) PUnit :=
  .op (.load a.arg2 (Rect.unit (s := S2048x1024) ![0, 0] S2048x1024.size facts.inb_S2048x1024_S2048x1024_0_0).toLoadRect (View.loadsAt_vmem facts.h_S2048x1024)) fun x =>
  .op (.load a.arg3 (Rect.unit (s := S1x1024) ![0, 0] S1x1024.size facts.inb_S1x1024_S1x1024_0_0).toLoadRect (View.loadsAt_vmem facts.h_S1x1024)) fun g =>
  .op (.load a.arg9 (Rect.unit (s := S2048x1024) ![0, 0] S2048x1024.size facts.inb_S2048x1024_S2048x1024_0_0).toLoadRect (View.loadsAt_vmem facts.h_S2048x1024)) fun _ =>
  .op (.store a.arg9 (Rect.unit (s := S2048x1024) ![0, 0] S2048x1024.size facts.inb_S2048x1024_S2048x1024_0_0) (normPay x g) Finset.univ (View.stores_vmem facts.h_S2048x1024 (h.h9.storeExact_slice rfl _ facts.packedbf16_S2048x1024_S2048x1024_0_0) (fun _ => rfl)) (.inl rfl)) fun _ =>
  .ret ⟨⟩

def queryP (a : Mems) (h : Whole a) : Prog (Eff F) PUnit :=
  .op (.load a.arg9 (Rect.unit (s := S2048x1024) ![0, 0] S2048x1024.size facts.inb_S2048x1024_S2048x1024_0_0).toLoadRect (View.loadsAt_vmem facts.h_S2048x1024)) fun h0 =>
  .op (.load a.arg4 (Rect.unit (s := S1024x512) ![0, 0] S1024x256.size facts.inb_S1024x512_S1024x256_0_0).toLoadRect (View.loadsAt_vmem facts.h_S1024x256)) fun w0 =>
  .op (.load a.arg5 (Rect.unit (s := S1x4x2048x128) ![0, 0, 0, 0] S1x1x2048x128.size facts.inb_S1x4x2048x128_S1x1x2048x128_0_0_0_0).toLoadRect (View.loadsAt_vmem facts.h_S1x1x2048x128)) fun _ =>
  .op (.store a.arg5 (Rect.unit (s := S1x4x2048x128) ![0, 0, 0, 0] S1x1x2048x128.size facts.inb_S1x4x2048x128_S1x1x2048x128_0_0_0_0) (queryPay (leftPay (pairPay h0 w0))) Finset.univ (View.stores_vmem facts.h_S1x1x2048x128 (h.h5.storeExact_slice rfl _ facts.packedbf16_S1x4x2048x128_S1x1x2048x128_0_0_0_0) (fun _ => rfl)) (.inl rfl)) fun _ =>
  .op (.load a.arg5 (Rect.unit (s := S1x4x2048x128) ![0, 1, 0, 0] S1x1x2048x128.size facts.inb_S1x4x2048x128_S1x1x2048x128_0_1_0_0).toLoadRect (View.loadsAt_vmem facts.h_S1x1x2048x128)) fun _ =>
  .op (.store a.arg5 (Rect.unit (s := S1x4x2048x128) ![0, 1, 0, 0] S1x1x2048x128.size facts.inb_S1x4x2048x128_S1x1x2048x128_0_1_0_0) (queryPay (rightPay (pairPay h0 w0))) Finset.univ (View.stores_vmem facts.h_S1x1x2048x128 (h.h5.storeExact_slice rfl _ facts.packedbf16_S1x4x2048x128_S1x1x2048x128_0_1_0_0) (fun _ => rfl)) (.inl rfl)) fun _ =>
  .op (.load a.arg9 (Rect.unit (s := S2048x1024) ![0, 0] S2048x1024.size facts.inb_S2048x1024_S2048x1024_0_0).toLoadRect (View.loadsAt_vmem facts.h_S2048x1024)) fun h1 =>
  .op (.load a.arg4 (Rect.unit (s := S1024x512) ![0, 256] S1024x256.size facts.inb_S1024x512_S1024x256_0_256).toLoadRect (View.loadsAt_vmem facts.h_S1024x256)) fun w1 =>
  .op (.load a.arg5 (Rect.unit (s := S1x4x2048x128) ![0, 2, 0, 0] S1x1x2048x128.size facts.inb_S1x4x2048x128_S1x1x2048x128_0_2_0_0).toLoadRect (View.loadsAt_vmem facts.h_S1x1x2048x128)) fun _ =>
  .op (.store a.arg5 (Rect.unit (s := S1x4x2048x128) ![0, 2, 0, 0] S1x1x2048x128.size facts.inb_S1x4x2048x128_S1x1x2048x128_0_2_0_0) (queryPay (leftPay (pairPay h1 w1))) Finset.univ (View.stores_vmem facts.h_S1x1x2048x128 (h.h5.storeExact_slice rfl _ facts.packedbf16_S1x4x2048x128_S1x1x2048x128_0_2_0_0) (fun _ => rfl)) (.inl rfl)) fun _ =>
  .op (.load a.arg5 (Rect.unit (s := S1x4x2048x128) ![0, 3, 0, 0] S1x1x2048x128.size facts.inb_S1x4x2048x128_S1x1x2048x128_0_3_0_0).toLoadRect (View.loadsAt_vmem facts.h_S1x1x2048x128)) fun _ =>
  .op (.store a.arg5 (Rect.unit (s := S1x4x2048x128) ![0, 3, 0, 0] S1x1x2048x128.size facts.inb_S1x4x2048x128_S1x1x2048x128_0_3_0_0) (queryPay (rightPay (pairPay h1 w1))) Finset.univ (View.stores_vmem facts.h_S1x1x2048x128 (h.h5.storeExact_slice rfl _ facts.packedbf16_S1x4x2048x128_S1x1x2048x128_0_3_0_0) (fun _ => rfl)) (.inl rfl)) fun _ =>
  .ret ⟨⟩

def keyP (a : Mems) (h : Whole a) : Prog (Eff F) PUnit :=
  .op (.load a.arg9 (Rect.unit (s := S2048x1024) ![0, 0] S2048x1024.size facts.inb_S2048x1024_S2048x1024_0_0).toLoadRect (View.loadsAt_vmem facts.h_S2048x1024)) fun h0 =>
  .op (.load a.arg4 (Rect.unit (s := S1024x512) ![0, 0] S1024x256.size facts.inb_S1024x512_S1024x256_0_0).toLoadRect (View.loadsAt_vmem facts.h_S1024x256)) fun w0 =>
  .op (.load a.arg6 (Rect.unit (s := S1x4x2048x128) ![0, 0, 0, 0] S1x1x2048x128.size facts.inb_S1x4x2048x128_S1x1x2048x128_0_0_0_0).toLoadRect (View.loadsAt_vmem facts.h_S1x1x2048x128)) fun _ =>
  .op (.store a.arg6 (Rect.unit (s := S1x4x2048x128) ![0, 0, 0, 0] S1x1x2048x128.size facts.inb_S1x4x2048x128_S1x1x2048x128_0_0_0_0) (headPay (leftPay (pairPay h0 w0))) Finset.univ (View.stores_vmem_bits_univ facts.h_S1x1x2048x128 rfl) (.inl rfl)) fun _ =>
  .op (.load a.arg6 (Rect.unit (s := S1x4x2048x128) ![0, 1, 0, 0] S1x1x2048x128.size facts.inb_S1x4x2048x128_S1x1x2048x128_0_1_0_0).toLoadRect (View.loadsAt_vmem facts.h_S1x1x2048x128)) fun _ =>
  .op (.store a.arg6 (Rect.unit (s := S1x4x2048x128) ![0, 1, 0, 0] S1x1x2048x128.size facts.inb_S1x4x2048x128_S1x1x2048x128_0_1_0_0) (headPay (rightPay (pairPay h0 w0))) Finset.univ (View.stores_vmem_bits_univ facts.h_S1x1x2048x128 rfl) (.inl rfl)) fun _ =>
  .op (.load a.arg9 (Rect.unit (s := S2048x1024) ![0, 0] S2048x1024.size facts.inb_S2048x1024_S2048x1024_0_0).toLoadRect (View.loadsAt_vmem facts.h_S2048x1024)) fun h1 =>
  .op (.load a.arg4 (Rect.unit (s := S1024x512) ![0, 256] S1024x256.size facts.inb_S1024x512_S1024x256_0_256).toLoadRect (View.loadsAt_vmem facts.h_S1024x256)) fun w1 =>
  .op (.load a.arg6 (Rect.unit (s := S1x4x2048x128) ![0, 2, 0, 0] S1x1x2048x128.size facts.inb_S1x4x2048x128_S1x1x2048x128_0_2_0_0).toLoadRect (View.loadsAt_vmem facts.h_S1x1x2048x128)) fun _ =>
  .op (.store a.arg6 (Rect.unit (s := S1x4x2048x128) ![0, 2, 0, 0] S1x1x2048x128.size facts.inb_S1x4x2048x128_S1x1x2048x128_0_2_0_0) (headPay (leftPay (pairPay h1 w1))) Finset.univ (View.stores_vmem_bits_univ facts.h_S1x1x2048x128 rfl) (.inl rfl)) fun _ =>
  .op (.load a.arg6 (Rect.unit (s := S1x4x2048x128) ![0, 3, 0, 0] S1x1x2048x128.size facts.inb_S1x4x2048x128_S1x1x2048x128_0_3_0_0).toLoadRect (View.loadsAt_vmem facts.h_S1x1x2048x128)) fun _ =>
  .op (.store a.arg6 (Rect.unit (s := S1x4x2048x128) ![0, 3, 0, 0] S1x1x2048x128.size facts.inb_S1x4x2048x128_S1x1x2048x128_0_3_0_0) (headPay (rightPay (pairPay h1 w1))) Finset.univ (View.stores_vmem_bits_univ facts.h_S1x1x2048x128 rfl) (.inl rfl)) fun _ =>
  .ret ⟨⟩

def valueP (a : Mems) (h : Whole a) : Prog (Eff F) PUnit :=
  .op (.load a.arg9 (Rect.unit (s := S2048x1024) ![0, 0] S2048x1024.size facts.inb_S2048x1024_S2048x1024_0_0).toLoadRect (View.loadsAt_vmem facts.h_S2048x1024)) fun h0 =>
  .op (.load a.arg4 (Rect.unit (s := S1024x512) ![0, 0] S1024x256.size facts.inb_S1024x512_S1024x256_0_0).toLoadRect (View.loadsAt_vmem facts.h_S1024x256)) fun w0 =>
  .op (.load a.arg7 (Rect.unit (s := S1x4x2048x128) ![0, 0, 0, 0] S1x1x2048x128.size facts.inb_S1x4x2048x128_S1x1x2048x128_0_0_0_0).toLoadRect (View.loadsAt_vmem facts.h_S1x1x2048x128)) fun _ =>
  .op (.store a.arg7 (Rect.unit (s := S1x4x2048x128) ![0, 0, 0, 0] S1x1x2048x128.size facts.inb_S1x4x2048x128_S1x1x2048x128_0_0_0_0) (headPay (leftPay (pairPay h0 w0))) Finset.univ (View.stores_vmem_bits_univ facts.h_S1x1x2048x128 rfl) (.inl rfl)) fun _ =>
  .op (.load a.arg7 (Rect.unit (s := S1x4x2048x128) ![0, 1, 0, 0] S1x1x2048x128.size facts.inb_S1x4x2048x128_S1x1x2048x128_0_1_0_0).toLoadRect (View.loadsAt_vmem facts.h_S1x1x2048x128)) fun _ =>
  .op (.store a.arg7 (Rect.unit (s := S1x4x2048x128) ![0, 1, 0, 0] S1x1x2048x128.size facts.inb_S1x4x2048x128_S1x1x2048x128_0_1_0_0) (headPay (rightPay (pairPay h0 w0))) Finset.univ (View.stores_vmem_bits_univ facts.h_S1x1x2048x128 rfl) (.inl rfl)) fun _ =>
  .op (.load a.arg9 (Rect.unit (s := S2048x1024) ![0, 0] S2048x1024.size facts.inb_S2048x1024_S2048x1024_0_0).toLoadRect (View.loadsAt_vmem facts.h_S2048x1024)) fun h1 =>
  .op (.load a.arg4 (Rect.unit (s := S1024x512) ![0, 256] S1024x256.size facts.inb_S1024x512_S1024x256_0_256).toLoadRect (View.loadsAt_vmem facts.h_S1024x256)) fun w1 =>
  .op (.load a.arg7 (Rect.unit (s := S1x4x2048x128) ![0, 2, 0, 0] S1x1x2048x128.size facts.inb_S1x4x2048x128_S1x1x2048x128_0_2_0_0).toLoadRect (View.loadsAt_vmem facts.h_S1x1x2048x128)) fun _ =>
  .op (.store a.arg7 (Rect.unit (s := S1x4x2048x128) ![0, 2, 0, 0] S1x1x2048x128.size facts.inb_S1x4x2048x128_S1x1x2048x128_0_2_0_0) (headPay (leftPay (pairPay h1 w1))) Finset.univ (View.stores_vmem_bits_univ facts.h_S1x1x2048x128 rfl) (.inl rfl)) fun _ =>
  .op (.load a.arg7 (Rect.unit (s := S1x4x2048x128) ![0, 3, 0, 0] S1x1x2048x128.size facts.inb_S1x4x2048x128_S1x1x2048x128_0_3_0_0).toLoadRect (View.loadsAt_vmem facts.h_S1x1x2048x128)) fun _ =>
  .op (.store a.arg7 (Rect.unit (s := S1x4x2048x128) ![0, 3, 0, 0] S1x1x2048x128.size facts.inb_S1x4x2048x128_S1x1x2048x128_0_3_0_0) (headPay (rightPay (pairPay h1 w1))) Finset.univ (View.stores_vmem_bits_univ facts.h_S1x1x2048x128 rfl) (.inl rfl)) fun _ =>
  .ret ⟨⟩

def restP (a : Mems) (h : Whole a) : Prog (Eff F) PUnit :=
  .op (.load a.arg9 (Rect.unit (s := S2048x1024) ![0, 0] S2048x1024.size facts.inb_S2048x1024_S2048x1024_0_0).toLoadRect (View.loadsAt_vmem facts.h_S2048x1024)) fun h0 =>
  .op (.load a.arg4 (Rect.unit (s := S1024x512) ![0, 0] S1024x512.size facts.inb_S1024x512_S1024x512_0_0).toLoadRect (View.loadsAt_vmem facts.h_S1024x512)) fun w =>
  .op (.load a.arg8 (Rect.unit (s := S2048x512) ![0, 0] S2048x512.size facts.inb_S2048x512_S2048x512_0_0).toLoadRect (View.loadsAt_vmem facts.h_S2048x512)) fun _ =>
  .op (.store a.arg8 (Rect.unit (s := S2048x512) ![0, 0] S2048x512.size facts.inb_S2048x512_S2048x512_0_0) (restPay h0 w) Finset.univ (View.stores_vmem_bits_univ facts.h_S2048x512 rfl) (.inl rfl)) fun _ =>
  .ret ⟨⟩

/-- The stages in order, from the last. -/
def body5 (i : grid0.Coords) (a : Mems) (h : Whole a) : Prog (Eff F) PUnit := if k0_cond5 i = 1#1 then restP a h else .ret ⟨⟩
def body4 (i : grid0.Coords) (a : Mems) (h : Whole a) : Prog (Eff F) PUnit :=
  if k0_cond4 i = 1#1 then valueP a h >>= fun _ => body5 i a h else body5 i a h
def body3 (i : grid0.Coords) (a : Mems) (h : Whole a) : Prog (Eff F) PUnit :=
  if k0_cond3 i = 1#1 then keyP a h >>= fun _ => body4 i a h else body4 i a h
def body2 (i : grid0.Coords) (a : Mems) (h : Whole a) : Prog (Eff F) PUnit :=
  if k0_cond2 i = 1#1 then queryP a h >>= fun _ => body3 i a h else body3 i a h
def bodyP (i : grid0.Coords) (a : Mems) (h : Whole a) : Prog (Eff F) PUnit :=
  if cond1 i = 1#1 then normP a h >>= fun _ => body2 i a h else body2 i a h

theorem body_eq (i : grid0.Coords) (a : Mems) (h : Whole a) : cc0_sb_in_proj (F := F) i a.arg2 h.h2 a.arg3 h.h3 a.arg4 h.h4 a.arg5 h.h5 a.arg6 h.h6 a.arg7 h.h7 a.arg8 h.h8 a.arg9 h.h9 = bodyP i a h := by
  sl_kernel_rfl

/-! ## The triples -/

variable (𝒱 : Variants) (c : Dev nD) (bd : Option 𝒱.V) (E : Set ℕ)

theorem wp_norm (a : Mems) (h : Whole a) (e : In F) (s : St F) {Q : PUnit → sProp 𝕄} :
    own c a e s ⊢ iprop((own c a e (normSt e s) -∗ Q ⟨⟩) -∗ wp frame (wpE (defs₀ (F := F)) 𝒱 (c : Thread nD τ) bd) E (normP a h) Q) := by
  unfold own normP
  iintro ⟨H2, H3, H4, H5, H6, H7, H8, H9⟩ HK
  iapply (wp_load_owns 𝒱 c bd E a.arg2 e.x ![0, 0] S2048x1024.size facts.inb_S2048x1024_S2048x1024_0_0) $$ H2; iintro H2
  iapply (wp_load_owns 𝒱 c bd E a.arg3 e.g ![0, 0] S1x1024.size facts.inb_S1x1024_S1x1024_0_0) $$ H3; iintro H3
  iapply (wp_load_owns 𝒱 c bd E a.arg9 s.h ![0, 0] S2048x1024.size facts.inb_S2048x1024_S2048x1024_0_0) $$ H9; iintro H9
  iapply (wp_store_owns 𝒱 c bd E a.arg9 s.h ![0, 0] S2048x1024.size facts.inb_S2048x1024_S2048x1024_0_0) $$ H9; iintro H9
  rw [wp_ret]; imodintro
  iapply HK
  dsimp only [normSt]
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem wp_query (a : Mems) (h : Whole a) (e : In F) (s : St F) {Q : PUnit → sProp 𝕄} :
    own c a e s ⊢ iprop((own c a e (querySt e s) -∗ Q ⟨⟩) -∗ wp frame (wpE (defs₀ (F := F)) 𝒱 (c : Thread nD τ) bd) E (queryP a h) Q) := by
  unfold own queryP
  iintro ⟨H2, H3, H4, H5, H6, H7, H8, H9⟩ HK
  iapply (wp_load_owns 𝒱 c bd E a.arg9 s.h ![0, 0] S2048x1024.size facts.inb_S2048x1024_S2048x1024_0_0) $$ H9; iintro H9
  iapply (wp_load_owns 𝒱 c bd E a.arg4 e.w ![0, 0] S1024x256.size facts.inb_S1024x512_S1024x256_0_0) $$ H4; iintro H4
  iapply (wp_load_owns 𝒱 c bd E a.arg5 _ ![0, 0, 0, 0] S1x1x2048x128.size facts.inb_S1x4x2048x128_S1x1x2048x128_0_0_0_0) $$ H5; iintro H5
  iapply (wp_store_owns 𝒱 c bd E a.arg5 _ ![0, 0, 0, 0] S1x1x2048x128.size facts.inb_S1x4x2048x128_S1x1x2048x128_0_0_0_0) $$ H5; iintro H5
  iapply (wp_load_owns 𝒱 c bd E a.arg5 _ ![0, 1, 0, 0] S1x1x2048x128.size facts.inb_S1x4x2048x128_S1x1x2048x128_0_1_0_0) $$ H5; iintro H5
  iapply (wp_store_owns 𝒱 c bd E a.arg5 _ ![0, 1, 0, 0] S1x1x2048x128.size facts.inb_S1x4x2048x128_S1x1x2048x128_0_1_0_0) $$ H5; iintro H5
  iapply (wp_load_owns 𝒱 c bd E a.arg9 s.h ![0, 0] S2048x1024.size facts.inb_S2048x1024_S2048x1024_0_0) $$ H9; iintro H9
  iapply (wp_load_owns 𝒱 c bd E a.arg4 e.w ![0, 256] S1024x256.size facts.inb_S1024x512_S1024x256_0_256) $$ H4; iintro H4
  iapply (wp_load_owns 𝒱 c bd E a.arg5 _ ![0, 2, 0, 0] S1x1x2048x128.size facts.inb_S1x4x2048x128_S1x1x2048x128_0_2_0_0) $$ H5; iintro H5
  iapply (wp_store_owns 𝒱 c bd E a.arg5 _ ![0, 2, 0, 0] S1x1x2048x128.size facts.inb_S1x4x2048x128_S1x1x2048x128_0_2_0_0) $$ H5; iintro H5
  iapply (wp_load_owns 𝒱 c bd E a.arg5 _ ![0, 3, 0, 0] S1x1x2048x128.size facts.inb_S1x4x2048x128_S1x1x2048x128_0_3_0_0) $$ H5; iintro H5
  iapply (wp_store_owns 𝒱 c bd E a.arg5 _ ![0, 3, 0, 0] S1x1x2048x128.size facts.inb_S1x4x2048x128_S1x1x2048x128_0_3_0_0) $$ H5; iintro H5
  rw [wp_ret]; imodintro
  iapply HK
  dsimp only [querySt]
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem wp_key (a : Mems) (h : Whole a) (e : In F) (s : St F) {Q : PUnit → sProp 𝕄} :
    own c a e s ⊢ iprop((own c a e (keySt e s) -∗ Q ⟨⟩) -∗ wp frame (wpE (defs₀ (F := F)) 𝒱 (c : Thread nD τ) bd) E (keyP a h) Q) := by
  unfold own keyP
  iintro ⟨H2, H3, H4, H5, H6, H7, H8, H9⟩ HK
  iapply (wp_load_owns 𝒱 c bd E a.arg9 s.h ![0, 0] S2048x1024.size facts.inb_S2048x1024_S2048x1024_0_0) $$ H9; iintro H9
  iapply (wp_load_owns 𝒱 c bd E a.arg4 e.w ![0, 0] S1024x256.size facts.inb_S1024x512_S1024x256_0_0) $$ H4; iintro H4
  iapply (wp_load_owns 𝒱 c bd E a.arg6 _ ![0, 0, 0, 0] S1x1x2048x128.size facts.inb_S1x4x2048x128_S1x1x2048x128_0_0_0_0) $$ H6; iintro H6
  iapply (wp_store_owns 𝒱 c bd E a.arg6 _ ![0, 0, 0, 0] S1x1x2048x128.size facts.inb_S1x4x2048x128_S1x1x2048x128_0_0_0_0) $$ H6; iintro H6
  iapply (wp_load_owns 𝒱 c bd E a.arg6 _ ![0, 1, 0, 0] S1x1x2048x128.size facts.inb_S1x4x2048x128_S1x1x2048x128_0_1_0_0) $$ H6; iintro H6
  iapply (wp_store_owns 𝒱 c bd E a.arg6 _ ![0, 1, 0, 0] S1x1x2048x128.size facts.inb_S1x4x2048x128_S1x1x2048x128_0_1_0_0) $$ H6; iintro H6
  iapply (wp_load_owns 𝒱 c bd E a.arg9 s.h ![0, 0] S2048x1024.size facts.inb_S2048x1024_S2048x1024_0_0) $$ H9; iintro H9
  iapply (wp_load_owns 𝒱 c bd E a.arg4 e.w ![0, 256] S1024x256.size facts.inb_S1024x512_S1024x256_0_256) $$ H4; iintro H4
  iapply (wp_load_owns 𝒱 c bd E a.arg6 _ ![0, 2, 0, 0] S1x1x2048x128.size facts.inb_S1x4x2048x128_S1x1x2048x128_0_2_0_0) $$ H6; iintro H6
  iapply (wp_store_owns 𝒱 c bd E a.arg6 _ ![0, 2, 0, 0] S1x1x2048x128.size facts.inb_S1x4x2048x128_S1x1x2048x128_0_2_0_0) $$ H6; iintro H6
  iapply (wp_load_owns 𝒱 c bd E a.arg6 _ ![0, 3, 0, 0] S1x1x2048x128.size facts.inb_S1x4x2048x128_S1x1x2048x128_0_3_0_0) $$ H6; iintro H6
  iapply (wp_store_owns 𝒱 c bd E a.arg6 _ ![0, 3, 0, 0] S1x1x2048x128.size facts.inb_S1x4x2048x128_S1x1x2048x128_0_3_0_0) $$ H6; iintro H6
  rw [wp_ret]; imodintro
  iapply HK
  dsimp only [keySt]
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem wp_value (a : Mems) (h : Whole a) (e : In F) (s : St F) {Q : PUnit → sProp 𝕄} :
    own c a e s ⊢ iprop((own c a e (valueSt e s) -∗ Q ⟨⟩) -∗ wp frame (wpE (defs₀ (F := F)) 𝒱 (c : Thread nD τ) bd) E (valueP a h) Q) := by
  unfold own valueP
  iintro ⟨H2, H3, H4, H5, H6, H7, H8, H9⟩ HK
  iapply (wp_load_owns 𝒱 c bd E a.arg9 s.h ![0, 0] S2048x1024.size facts.inb_S2048x1024_S2048x1024_0_0) $$ H9; iintro H9
  iapply (wp_load_owns 𝒱 c bd E a.arg4 e.w ![0, 0] S1024x256.size facts.inb_S1024x512_S1024x256_0_0) $$ H4; iintro H4
  iapply (wp_load_owns 𝒱 c bd E a.arg7 _ ![0, 0, 0, 0] S1x1x2048x128.size facts.inb_S1x4x2048x128_S1x1x2048x128_0_0_0_0) $$ H7; iintro H7
  iapply (wp_store_owns 𝒱 c bd E a.arg7 _ ![0, 0, 0, 0] S1x1x2048x128.size facts.inb_S1x4x2048x128_S1x1x2048x128_0_0_0_0) $$ H7; iintro H7
  iapply (wp_load_owns 𝒱 c bd E a.arg7 _ ![0, 1, 0, 0] S1x1x2048x128.size facts.inb_S1x4x2048x128_S1x1x2048x128_0_1_0_0) $$ H7; iintro H7
  iapply (wp_store_owns 𝒱 c bd E a.arg7 _ ![0, 1, 0, 0] S1x1x2048x128.size facts.inb_S1x4x2048x128_S1x1x2048x128_0_1_0_0) $$ H7; iintro H7
  iapply (wp_load_owns 𝒱 c bd E a.arg9 s.h ![0, 0] S2048x1024.size facts.inb_S2048x1024_S2048x1024_0_0) $$ H9; iintro H9
  iapply (wp_load_owns 𝒱 c bd E a.arg4 e.w ![0, 256] S1024x256.size facts.inb_S1024x512_S1024x256_0_256) $$ H4; iintro H4
  iapply (wp_load_owns 𝒱 c bd E a.arg7 _ ![0, 2, 0, 0] S1x1x2048x128.size facts.inb_S1x4x2048x128_S1x1x2048x128_0_2_0_0) $$ H7; iintro H7
  iapply (wp_store_owns 𝒱 c bd E a.arg7 _ ![0, 2, 0, 0] S1x1x2048x128.size facts.inb_S1x4x2048x128_S1x1x2048x128_0_2_0_0) $$ H7; iintro H7
  iapply (wp_load_owns 𝒱 c bd E a.arg7 _ ![0, 3, 0, 0] S1x1x2048x128.size facts.inb_S1x4x2048x128_S1x1x2048x128_0_3_0_0) $$ H7; iintro H7
  iapply (wp_store_owns 𝒱 c bd E a.arg7 _ ![0, 3, 0, 0] S1x1x2048x128.size facts.inb_S1x4x2048x128_S1x1x2048x128_0_3_0_0) $$ H7; iintro H7
  rw [wp_ret]; imodintro
  iapply HK
  dsimp only [valueSt]
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem wp_rest (a : Mems) (h : Whole a) (e : In F) (s : St F) {Q : PUnit → sProp 𝕄} :
    own c a e s ⊢ iprop((own c a e (restSt e s) -∗ Q ⟨⟩) -∗ wp frame (wpE (defs₀ (F := F)) 𝒱 (c : Thread nD τ) bd) E (restP a h) Q) := by
  unfold own restP
  iintro ⟨H2, H3, H4, H5, H6, H7, H8, H9⟩ HK
  iapply (wp_load_owns 𝒱 c bd E a.arg9 s.h ![0, 0] S2048x1024.size facts.inb_S2048x1024_S2048x1024_0_0) $$ H9; iintro H9
  iapply (wp_load_owns 𝒱 c bd E a.arg4 e.w ![0, 0] S1024x512.size facts.inb_S1024x512_S1024x512_0_0) $$ H4; iintro H4
  iapply (wp_load_owns 𝒱 c bd E a.arg8 s.r ![0, 0] S2048x512.size facts.inb_S2048x512_S2048x512_0_0) $$ H8; iintro H8
  iapply (wp_store_owns 𝒱 c bd E a.arg8 s.r ![0, 0] S2048x512.size facts.inb_S2048x512_S2048x512_0_0) $$ H8; iintro H8
  rw [wp_ret]; imodintro
  iapply HK
  dsimp only [restSt]
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The state the stages lead to. -/
def bodySt5 (i : grid0.Coords) (e : In F) (s : St F) : St F := if k0_cond5 i = 1#1 then restSt e s else s
def bodySt4 (i : grid0.Coords) (e : In F) (s : St F) : St F := bodySt5 i e (if k0_cond4 i = 1#1 then valueSt e s else s)
def bodySt3 (i : grid0.Coords) (e : In F) (s : St F) : St F := bodySt4 i e (if k0_cond3 i = 1#1 then keySt e s else s)
def bodySt2 (i : grid0.Coords) (e : In F) (s : St F) : St F := bodySt3 i e (if k0_cond2 i = 1#1 then querySt e s else s)
def bodySt (i : grid0.Coords) (e : In F) (s : St F) : St F := bodySt2 i e (if cond1 i = 1#1 then normSt e s else s)

theorem wp_body5 (i : grid0.Coords) (a : Mems) (h : Whole a) (e : In F) (s : St F) {Q : PUnit → sProp 𝕄} :
    own c a e s ⊢ iprop((own c a e (bodySt5 i e s) -∗ Q ⟨⟩) -∗ wp frame (wpE (defs₀ (F := F)) 𝒱 (c : Thread nD τ) bd) E (body5 i a h) Q) := by
  unfold body5 bodySt5
  by_cases h1 : k0_cond5 i = 1#1
  · rw [if_pos h1, if_pos h1]
    exact wp_rest 𝒱 c bd E a h e s
  · rw [if_neg h1, if_neg h1]
    iintro H HK
    rw [wp_ret]; imodintro
    iapply HK
    iexact H

theorem wp_body4 (i : grid0.Coords) (a : Mems) (h : Whole a) (e : In F) (s : St F) {Q : PUnit → sProp 𝕄} :
    own c a e s ⊢ iprop((own c a e (bodySt4 i e s) -∗ Q ⟨⟩) -∗ wp frame (wpE (defs₀ (F := F)) 𝒱 (c : Thread nD τ) bd) E (body4 i a h) Q) := by
  unfold body4 bodySt4
  by_cases h1 : k0_cond4 i = 1#1
  · rw [if_pos h1, if_pos h1, wp_bind]
    iintro H HK
    iapply (wp_value 𝒱 c bd E a h e s) $$ H; iintro H
    iapply (wp_body5 𝒱 c bd E i a h e _) $$ H
    iexact HK
  · rw [if_neg h1, if_neg h1]
    exact wp_body5 𝒱 c bd E i a h e s

theorem wp_body3 (i : grid0.Coords) (a : Mems) (h : Whole a) (e : In F) (s : St F) {Q : PUnit → sProp 𝕄} :
    own c a e s ⊢ iprop((own c a e (bodySt3 i e s) -∗ Q ⟨⟩) -∗ wp frame (wpE (defs₀ (F := F)) 𝒱 (c : Thread nD τ) bd) E (body3 i a h) Q) := by
  unfold body3 bodySt3
  by_cases h1 : k0_cond3 i = 1#1
  · rw [if_pos h1, if_pos h1, wp_bind]
    iintro H HK
    iapply (wp_key 𝒱 c bd E a h e s) $$ H; iintro H
    iapply (wp_body4 𝒱 c bd E i a h e _) $$ H
    iexact HK
  · rw [if_neg h1, if_neg h1]
    exact wp_body4 𝒱 c bd E i a h e s

theorem wp_body2 (i : grid0.Coords) (a : Mems) (h : Whole a) (e : In F) (s : St F) {Q : PUnit → sProp 𝕄} :
    own c a e s ⊢ iprop((own c a e (bodySt2 i e s) -∗ Q ⟨⟩) -∗ wp frame (wpE (defs₀ (F := F)) 𝒱 (c : Thread nD τ) bd) E (body2 i a h) Q) := by
  unfold body2 bodySt2
  by_cases h1 : k0_cond2 i = 1#1
  · rw [if_pos h1, if_pos h1, wp_bind]
    iintro H HK
    iapply (wp_query 𝒱 c bd E a h e s) $$ H; iintro H
    iapply (wp_body3 𝒱 c bd E i a h e _) $$ H
    iexact HK
  · rw [if_neg h1, if_neg h1]
    exact wp_body3 𝒱 c bd E i a h e s

theorem wp_body (i : grid0.Coords) (a : Mems) (h : Whole a) (e : In F) (s : St F) {Q : PUnit → sProp 𝕄} :
    own c a e s ⊢ iprop((own c a e (bodySt i e s) -∗ Q ⟨⟩) -∗ wp frame (wpE (defs₀ (F := F)) 𝒱 (c : Thread nD τ) bd) E (bodyP i a h) Q) := by
  unfold bodyP bodySt
  by_cases h1 : cond1 i = 1#1
  · rw [if_pos h1, if_pos h1, wp_bind]
    iintro H HK
    iapply (wp_norm 𝒱 c bd E a h e s) $$ H; iintro H
    iapply (wp_body2 𝒱 c bd E i a h e _) $$ H
    iexact HK
  · rw [if_neg h1, if_neg h1]
    exact wp_body2 𝒱 c bd E i a h e s

end Cert.Kernel2Ideal.Hand
-- ==== Proof.InFrame.lean ====
/- The body at a point of the grid, and the run of the call that makes queries, keys, values and the rest: it ends, with
   the arguments unchanged and every semaphore at zero. -/
module

public import proofs.«01_k».proof.Proof.InBody

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-- The memrefs of a point. -/
def mems (t : Fin cfg0.N) : Mems where
  arg2 := win0_0.stage (cfg0.slots t 0)
  arg3 := win0_1.stage (cfg0.slots t 1)
  arg4 := win0_2.stage (cfg0.slots t 2)
  arg5 := win0_3.stage (cfg0.slots t 3)
  arg6 := win0_4.stage (cfg0.slots t 4)
  arg7 := win0_5.stage (cfg0.slots t 5)
  arg8 := win0_6.stage (cfg0.slots t 6)
  arg9 := Memref.whole cc0_scratch0

theorem whole (t : Fin cfg0.N) : Whole (mems t) where
  h2 := hstage0_0 ((cfg0.slots t 0).cast nbuf0_0)
  h3 := hstage0_1 ((cfg0.slots t 1).cast nbuf0_1)
  h4 := hstage0_2 ((cfg0.slots t 2).cast nbuf0_2)
  h5 := hstage0_3 ((cfg0.slots t 3).cast nbuf0_3)
  h6 := hstage0_4 ((cfg0.slots t 4).cast nbuf0_4)
  h7 := hstage0_5 ((cfg0.slots t 5).cast nbuf0_5)
  h8 := hstage0_6 ((cfg0.slots t 6).cast nbuf0_6)
  h9 := Memref.isWhole_whole _

/-- What a point reads. -/
def ins (c : Dev nD) (t : Fin cfg0.N) : In F where
  x := iblk m c 0 t
  g := iblk m c 1 t
  w := iblk m c 2 t

theorem bodyAt_eq (t : Fin cfg0.N) : (Gen.bodyAt0 t : Prog (Eff F) PUnit) = bodyP (grid0.coords t) (mems t) (whole t) :=
  body_eq (grid0.coords t) (mems t) (whole t)

/-- The scratch at a state's rows. -/
def scr (c : Dev nD) (h : Vec F S2048x1024 .bf16) : sProp 𝕄 := owns (c : Thread nD τ) (Memref.whole cc0_scratch0) fullShare h

/-- The staging buffers of a point at an input and a state. -/
def staged (c : Dev nD) (t : Fin cfg0.N) (e : In F) (s : St F) : sProp 𝕄 :=
  iprop(owns (c : Thread nD τ) (win0_0.stage (cfg0.slots t 0)) fullShare e.x ∗ owns (c : Thread nD τ) (win0_1.stage (cfg0.slots t 1)) fullShare e.g
    ∗ owns (c : Thread nD τ) (win0_2.stage (cfg0.slots t 2)) fullShare e.w ∗ owns (c : Thread nD τ) (win0_3.stage (cfg0.slots t 3)) fullShare s.q
    ∗ owns (c : Thread nD τ) (win0_4.stage (cfg0.slots t 4)) fullShare s.k ∗ owns (c : Thread nD τ) (win0_5.stage (cfg0.slots t 5)) fullShare s.v
    ∗ owns (c : Thread nD τ) (win0_6.stage (cfg0.slots t 6)) fullShare s.r)

/-- The body at a point: scratch and outputs go from one state to the next. -/
theorem wp_point (c : Dev nD) (t : Fin cfg0.N) (e : In F) (s : St F) {Q : PUnit → sProp 𝕄} :
    iprop(scr c s.h ∗ staged c t e s) ⊢
    iprop((scr c (bodySt (grid0.coords t) e s).h ∗ staged c t e (bodySt (grid0.coords t) e s) -∗ Q ⟨⟩)
      -∗ wp frame (wpE (defs₀ (F := F)) 𝒱₀ (c : Thread nD τ) none) Set.univ (Gen.bodyAt0 t) Q) := by
  rw [bodyAt_eq]
  unfold scr staged
  iintro ⟨S0, H0, H1, H2, H3, H4, H5, H6⟩ HK
  ihave H : own c (mems t) e s $$ [S0 H0 H1 H2 H3 H4 H5 H6]
  · unfold own mems
    isplitl [H0]; · iexact H0
    isplitl [H1]; · iexact H1
    isplitl [H2]; · iexact H2
    isplitl [H3]; · iexact H3
    isplitl [H4]; · iexact H4
    isplitl [H5]; · iexact H5
    isplitl [H6]; · iexact H6
    iexact S0
  iapply (wp_body 𝒱₀ c none Set.univ (grid0.coords t) (mems t) (whole t) e s) $$ H
  unfold own
  iintro ⟨H0, H1, H2, H3, H4, H5, H6, S0⟩
  iapply HK
  isplitl [S0]; · iexact S0
  isplitl [H0]; · iexact H0
  isplitl [H1]; · iexact H1
  isplitl [H2]; · iexact H2
  isplitl [H3]; · iexact H3
  isplitl [H4]; · iexact H4
  isplitl [H5]; · iexact H5
  iexact H6

/-- The region's own buffer is the scratch at some rows. -/
theorem rest_scr (c : Dev nD) : (Pipeline.scopedRest spec0 c : sProp 𝕄) ⊢ iprop(∃ h : Vec F S2048x1024 .bf16, scr c h) := by
  rw [scopedRest0_eq]
  iintro ⟨%f0, H0⟩
  iexists f0
  unfold scr
  simp only [owns_whole]
  iexact H0

theorem scr_rest (c : Dev nD) (h : Vec F S2048x1024 .bf16) : (scr c h : sProp 𝕄) ⊢ Pipeline.scopedRest spec0 c := by
  rw [scopedRest0_eq]
  unfold scr
  simp only [owns_whole]
  iintro H0
  iexists h; iexact H0

/-! ## The run -/

/-- The proof data: the inputs left as they are, nothing named of the outputs. -/
def dat (c : Dev nD) : Dat τ (Elt F) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ := fun _ => Pipeline.ΦA spec0 c
  q := fun _ => fullShare
  owed := fun _ => 0
  recorded := fun _ => ∅

def dats : (p : Fin 1) → (c : Dev nD) → Dat τ (Elt F) Unit ℕ (UR sig nD τ) ℕ (cfgs p) c := fun _ c => dat m c

/-- Only the outputs are not named. -/
def fgt : Fin cfg0.W → Bool := fun w => decide (3 ≤ w.val)

theorem defs₀_row (t : Fin cfg0.N) : (defs₀ (F := F)) .tc cfg0.body (cfg0.bodyArgs t (cfg0.slots t)) = Gen.bodyAt0 t := by
  unfold defs₀; rw [Defs.onTc_tc]

theorem before0 (c : Dev nD) (t : Fin cfg0.N) (d) : (dat m c).before 0 t d = iblk m c 0 t := Gen.before0_0_of m (dat m c) rfl (fun _ => rfl) t d
theorem before1 (c : Dev nD) (t : Fin cfg0.N) (d) : (dat m c).before 1 t d = iblk m c 1 t := Gen.before0_1_of m (dat m c) rfl (fun _ => rfl) t d
theorem before2 (c : Dev nD) (t : Fin cfg0.N) (d) : (dat m c).before 2 t d = iblk m c 2 t := Gen.before0_2_of m (dat m c) rfl (fun _ => rfl) t d

theorem body_obligation (c : Dev nD) : Pipeline.BodyObligationLoose (dat m c) defs₀ 𝒱₀ () Set.univ fgt := by
  intro t
  rw [Gen.bigSep_W0, Gen.bigSep_W0, defs₀_row]
  simp only [before0, before1, before2]
  show iprop(Pipeline.ΦA spec0 c ∗ (dat m c).owesAt () t.castSucc
      ∗ (∃ _d, owns (c : Thread nD τ) (win0_0.stage (cfg0.slots t 0)) fullShare (iblk m c 0 t))
      ∗ (∃ _d, owns (c : Thread nD τ) (win0_1.stage (cfg0.slots t 1)) fullShare (iblk m c 1 t))
      ∗ (∃ _d, owns (c : Thread nD τ) (win0_2.stage (cfg0.slots t 2)) fullShare (iblk m c 2 t))
      ∗ (∃ X, owns (c : Thread nD τ) (win0_3.stage (cfg0.slots t 3)) fullShare X)
      ∗ (∃ X, owns (c : Thread nD τ) (win0_4.stage (cfg0.slots t 4)) fullShare X)
      ∗ (∃ X, owns (c : Thread nD τ) (win0_5.stage (cfg0.slots t 5)) fullShare X)
      ∗ (∃ X, owns (c : Thread nD τ) (win0_6.stage (cfg0.slots t 6)) fullShare X)) ⊢
    wp frame (wpE (defs₀ (F := F)) 𝒱₀ (c : Thread nD τ) none) Set.univ (Gen.bodyAt0 t) fun _ =>
      iprop(Pipeline.ΦA spec0 c ∗ (dat m c).owesAt () t.succ
        ∗ owns (c : Thread nD τ) (win0_0.stage (cfg0.slots t 0)) fullShare (iblk m c 0 t)
        ∗ owns (c : Thread nD τ) (win0_1.stage (cfg0.slots t 1)) fullShare (iblk m c 1 t)
        ∗ owns (c : Thread nD τ) (win0_2.stage (cfg0.slots t 2)) fullShare (iblk m c 2 t)
        ∗ (∃ X, owns (c : Thread nD τ) (win0_3.stage (cfg0.slots t 3)) fullShare X)
        ∗ (∃ X, owns (c : Thread nD τ) (win0_4.stage (cfg0.slots t 4)) fullShare X)
        ∗ (∃ X, owns (c : Thread nD τ) (win0_5.stage (cfg0.slots t 5)) fullShare X)
        ∗ (∃ X, owns (c : Thread nD τ) (win0_6.stage (cfg0.slots t 6)) fullShare X))
  unfold Pipeline.ΦA
  iintro ⟨⟨HS, HP⟩, HO, ⟨%d0, H0⟩, ⟨%d1, H1⟩, ⟨%d2, H2⟩, ⟨%q, H3⟩, ⟨%k, H4⟩, ⟨%v, H5⟩, ⟨%r, H6⟩⟩
  ihave HS := rest_scr c $$ HS
  icases HS with ⟨%h, HS⟩
  iapply (wp_point c t (ins m c t) ⟨q, k, v, r, h⟩) $$ [HS H0 H1 H2 H3 H4 H5 H6]
  · isplitl [HS]; · iexact HS
    unfold staged
    isplitl [H0]; · iexact H0
    isplitl [H1]; · iexact H1
    isplitl [H2]; · iexact H2
    isplitl [H3]; · iexact H3
    isplitl [H4]; · iexact H4
    isplitl [H5]; · iexact H5
    iexact H6
  unfold staged
  iintro ⟨HS, H0, H1, H2, H3, H4, H5, H6⟩
  isplitl [HS HP]
  · isplitl [HS]
    · iapply (scr_rest c _); iexact HS
    iexact HP
  isplitl [HO]; · iexact HO
  isplitl [H0]; · iexact H0
  isplitl [H1]; · iexact H1
  isplitl [H2]; · iexact H2
  isplitl [H3]; · iexists _; iexact H3
  isplitl [H4]; · iexists _; iexact H4
  isplitl [H5]; · iexists _; iexact H5
  iexists _; iexact H6

/-- The run ends, the arguments unchanged and every semaphore at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) 0 Gen.launch0 defs₀ 𝒱₀ fgt m ρ main (hbody := body_obligation m)
    (hshare := fun c w => by fin_cases w <;> rfl) (howed := fun _ _ => rfl) (V := Gen.V m) (hmain := Gen.hmain m 𝒱₀)
    (hA := fun _ _ => rfl) (hΦ := fun _ _ => rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
    (hQ' := fun r h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

end Cert.Kernel2Ideal.Hand
-- ==== Proof.InAt.lean ====
/- The call that makes queries, keys, values and the rest, read at an index: its stages as sums of products, and the
   state after a point. -/
module

public import proofs.«01_k».proof.Proof.InFrame
public import proofs.«01_k».proof.Proof.Norm
public import Idealize.ShloMosaic.Lib.Pointwise
public import Idealize.ShloMosaic.Lib.IdealHost

@[expose] public section

noncomputable section

namespace Cert.Kernel2Ideal.Hand

open Cert.Kernel2Ideal Cert.Kernel2Ideal.Gen
open Idealize.ShloMosaic Idealize.ShloMosaic.TcCoe
open Idealize.ShloMosaic.VecWindow (window put)
open Cert.Layer

/-- What the queries are scaled by. -/
def qScale : EReal := ((((Real.sqrt 128) * (Real.log 2))⁻¹ : ℝ) : EReal)

/-! ## Windows and stores -/

section Buffers

variable {F : FTy → Type} [FloatOps F] [Named F]

theorem put_all {α : Type} {s : Shape} (x : s.Idx → α) (off : Fin s.rank → ℕ) (hoff : ∀ a, off a = 0) (w : s.Idx → α) :
    put x off s.size w = w := by
  funext y
  have h : ∀ a, off a ≤ (y a).val ∧ (y a).val < off a + s.size a := by
    intro a
    have := (y a).isLt
    have := hoff a
    omega
  refine (dif_pos h).trans (congrArg w (funext fun a => Fin.ext ?_))
  show (y a).val - off a = (y a).val
  have := hoff a
  omega

theorem window_all {α : Type} {s : Shape} (x : s.Idx → α) (off : Fin s.rank → ℕ) (hoff : ∀ a, off a = 0) (inb : ∀ a, off a + s.size a ≤ s.size a) :
    window x off s.size inb = x := by
  funext y
  refine congrArg x (funext fun a => Fin.ext ?_)
  show off a + 1 * (y a).val = (y a).val
  have := hoff a
  omega

theorem zero2 (a : Fin 2) : (![0, 0] : Fin 2 → ℕ) a = 0 := by fin_cases a <;> rfl

theorem rows_eq (s : St F) : rows s = s.h := window_all (s := S2048x1024) s.h ![0, 0] zero2 _

theorem colsL_at (e : In F) (k : Fin 1024) (d : Fin 256) (j : Fin 512) (hj : j.val = d.val) : colsL e (ix2 k d) = e.w (ix2 k j) := by
  refine congrArg e.w (funext fun a => Fin.ext ?_)
  fin_cases a
  · show 0 + 1 * k.val = k.val
    omega
  · show 0 + 1 * d.val = j.val
    omega

theorem colsR_at (e : In F) (k : Fin 1024) (d : Fin 256) (j : Fin 512) (hj : j.val = 256 + d.val) : colsR e (ix2 k d) = e.w (ix2 k j) := by
  refine congrArg e.w (funext fun a => Fin.ext ?_)
  fin_cases a
  · show 0 + 1 * k.val = k.val
    omega
  · show 256 + 1 * d.val = j.val
    omega

theorem put_head {e : EltTy} (x : Vec F S1x4x2048x128 e) (n : ℕ) (w : Vec F S1x1x2048x128 e) (a : Fin 4) (r : Fin 2048) (d : Fin 128)
    (hn : a.val = n) : put x ![0, n, 0, 0] S1x1x2048x128.size w (ix4 0 a r d) = w (ix4 0 0 r d) := by
  have h : ∀ b, (![0, n, 0, 0] : Fin 4 → ℕ) b ≤ ((ix4 0 a r d : S1x4x2048x128.Idx) b).val
      ∧ ((ix4 0 a r d : S1x4x2048x128.Idx) b).val < (![0, n, 0, 0] : Fin 4 → ℕ) b + S1x1x2048x128.size b := by
    intro b
    fin_cases b
    · show 0 ≤ 0 ∧ 0 < 0 + 1
      omega
    · show n ≤ a.val ∧ a.val < n + 1
      omega
    · show 0 ≤ r.val ∧ r.val < 0 + 2048
      have := r.isLt
      omega
    · show 0 ≤ d.val ∧ d.val < 0 + 128
      have := d.isLt
      omega
  refine (dif_pos h).trans (congrArg w (funext fun b => Fin.ext ?_))
  fin_cases b
  · rfl
  · show a.val - n = 0
    omega
  · rfl
  · rfl

theorem put_other {e : EltTy} (x : Vec F S1x4x2048x128 e) (n : ℕ) (w : Vec F S1x1x2048x128 e) (a : Fin 4) (r : Fin 2048) (d : Fin 128)
    (hn : a.val ≠ n) : put x ![0, n, 0, 0] S1x1x2048x128.size w (ix4 0 a r d) = x (ix4 0 a r d) := by
  refine dif_neg fun h => ?_
  have h' : n ≤ a.val ∧ a.val < n + 1 := h 1
  omega

/-- Every entry of a block of four heads comes from its head's part. -/
theorem put4_at {e : EltTy} (x : Vec F S1x4x2048x128 e) (p0 p1 p2 p3 : Vec F S1x1x2048x128 e) (G : Fin 4 → Fin 2048 → Fin 128 → Elt F e)
    (h0 : ∀ r d, p0 (ix4 0 0 r d) = G 0 r d) (h1 : ∀ r d, p1 (ix4 0 0 r d) = G 1 r d) (h2 : ∀ r d, p2 (ix4 0 0 r d) = G 2 r d)
    (h3 : ∀ r d, p3 (ix4 0 0 r d) = G 3 r d) (a : Fin 4) (r : Fin 2048) (d : Fin 128) : put4 x p0 p1 p2 p3 (ix4 0 a r d) = G a r d := by
  unfold put4
  match a with
  | ⟨0, _⟩ =>
    rw [put_other _ 3 _ _ _ _ (by simp), put_other _ 2 _ _ _ _ (by simp), put_other _ 1 _ _ _ _ (by simp), put_head _ 0 _ _ _ _ rfl]
    exact h0 r d
  | ⟨1, _⟩ =>
    rw [put_other _ 3 _ _ _ _ (by simp), put_other _ 2 _ _ _ _ (by simp), put_head _ 1 _ _ _ _ rfl]
    exact h1 r d
  | ⟨2, _⟩ =>
    rw [put_other _ 3 _ _ _ _ (by simp), put_head _ 2 _ _ _ _ rfl]
    exact h2 r d
  | ⟨3, _⟩ =>
    rw [put_head _ 3 _ _ _ _ rfl]
    exact h3 r d

/-! ## The state after a point, field by field -/

/-- The state after the norming stage. -/
def normedSt (i : grid0.Coords) (e : In F) (s : St F) : St F := if cond1 i = 1#1 then normSt e s else s

theorem body_h (i : grid0.Coords) (e : In F) (s : St F) : (bodySt i e s).h = (normedSt i e s).h := by
  unfold bodySt bodySt2 bodySt3 bodySt4 bodySt5 normedSt
  split_ifs <;> rfl

theorem body_q (i : grid0.Coords) (e : In F) (s : St F) :
    (bodySt i e s).q = if k0_cond2 i = 1#1 then (querySt e (normedSt i e s)).q else s.q := by
  unfold bodySt bodySt2 bodySt3 bodySt4 bodySt5 normedSt
  split_ifs <;> rfl

theorem body_k (i : grid0.Coords) (e : In F) (s : St F) :
    (bodySt i e s).k = if k0_cond3 i = 1#1 then (keySt e (normedSt i e s)).k else s.k := by
  unfold bodySt bodySt2 bodySt3 bodySt4 bodySt5 normedSt
  split_ifs <;> rfl

theorem body_v (i : grid0.Coords) (e : In F) (s : St F) :
    (bodySt i e s).v = if k0_cond4 i = 1#1 then (valueSt e (normedSt i e s)).v else s.v := by
  unfold bodySt bodySt2 bodySt3 bodySt4 bodySt5 normedSt
  split_ifs <;> rfl

theorem body_r (i : grid0.Coords) (e : In F) (s : St F) :
    (bodySt i e s).r = if k0_cond5 i = 1#1 then (restSt e (normedSt i e s)).r else s.r := by
  unfold bodySt bodySt2 bodySt3 bodySt4 bodySt5 normedSt
  split_ifs <;> rfl

end Buffers

/-! ## The stages over the extended reals -/

theorem norm_at (x : Vec Ideal S2048x1024 .f32) (g : Vec Ideal S1x1024 .f32) (r : Fin 2048) (d : Fin 1024) :
    normPay x g (ix2 r d) = normed (fun e => x (ix2 r e)) (fun e => g (ix2 0 e)) d := by
  pointwise [normPay]
  rfl

theorem pair_at (h : Vec Ideal S2048x1024 .bf16) (w : Vec Ideal S1024x256 .bf16) (r : Fin 2048) (d : Fin 256) :
    pairPay h w (ix2 r d) = ∑ e : Fin 1024, (h (ix2 r e) : EReal) * w (ix2 e d) := by
  pointwise [pairPay]

theorem rest_at (h : Vec Ideal S2048x1024 .bf16) (w : Vec Ideal S1024x512 .bf16) (r : Fin 2048) (d : Fin 512) :
    restPay h w (ix2 r d) = ∑ e : Fin 1024, (h (ix2 r e) : EReal) * w (ix2 e d) := by
  pointwise [restPay]

theorem left_at (p : FVec Ideal S2048x256 .f32) (r : Fin 2048) (d : Fin 128) :
    leftPay p (ix2 r d) = p (ix2 r ⟨d.val, by omega⟩) := by
  refine congrArg p (funext fun a => Fin.ext ?_)
  fin_cases a
  · show 0 + r.val = r.val
    omega
  · show 0 + d.val = d.val
    omega

theorem right_at (p : FVec Ideal S2048x256 .f32) (r : Fin 2048) (d : Fin 128) :
    rightPay p (ix2 r d) = p (ix2 r ⟨128 + d.val, by omega⟩) := by
  refine congrArg p (funext fun a => Fin.ext ?_)
  fin_cases a
  · show 0 + r.val = r.val
    omega
  · rfl

theorem head_at (x : FVec Ideal S2048x128 .f32) (r : Fin 2048) (d : Fin 128) : headPay x (ix4 0 0 r d) = x (ix2 r d) := by
  pointwise [headPay]
  try rfl

theorem query_at (x : FVec Ideal S2048x128 .f32) (r : Fin 2048) (d : Fin 128) :
    queryPay x (ix4 0 0 r d) = (x (ix2 r d) : EReal) * qScale := by
  pointwise [queryPay]
  try rfl

/-- The product of the kept rows with a head's columns. -/
def headSum (h : Vec Ideal S2048x1024 .bf16) (w : Vec Ideal S1024x512 .bf16) (a : Fin 4) (r : Fin 2048) (d : Fin 128) : EReal :=
  ∑ e : Fin 1024, (h (ix2 r e) : EReal) * w (ix2 e ⟨128 * a.val + d.val, by omega⟩)

theorem part0 (e : In Ideal) (s : St Ideal) (r : Fin 2048) (d : Fin 128) : leftPay (pairPay (rows s) (colsL e)) (ix2 r d) = headSum s.h e.w 0 r d := by
  rw [left_at, pair_at, rows_eq]
  exact Finset.sum_congr rfl fun k _ => by rw [colsL_at e k _ ⟨128 * (0 : Fin 4).val + d.val, by show 128 * 0 + d.val < 512; omega⟩ (by show 128 * 0 + d.val = d.val; omega)]

theorem part1 (e : In Ideal) (s : St Ideal) (r : Fin 2048) (d : Fin 128) : rightPay (pairPay (rows s) (colsL e)) (ix2 r d) = headSum s.h e.w 1 r d := by
  rw [right_at, pair_at, rows_eq]
  exact Finset.sum_congr rfl fun k _ => by rw [colsL_at e k _ ⟨128 * (1 : Fin 4).val + d.val, by show 128 * 1 + d.val < 512; omega⟩ (by show 128 * 1 + d.val = 128 + d.val; omega)]

theorem part2 (e : In Ideal) (s : St Ideal) (r : Fin 2048) (d : Fin 128) : leftPay (pairPay (rows s) (colsR e)) (ix2 r d) = headSum s.h e.w 2 r d := by
  rw [left_at, pair_at, rows_eq]
  exact Finset.sum_congr rfl fun k _ => by rw [colsR_at e k _ ⟨128 * (2 : Fin 4).val + d.val, by show 128 * 2 + d.val < 512; omega⟩ (by show 128 * 2 + d.val = 256 + d.val; omega)]

theorem part3 (e : In Ideal) (s : St Ideal) (r : Fin 2048) (d : Fin 128) : rightPay (pairPay (rows s) (colsR e)) (ix2 r d) = headSum s.h e.w 3 r d := by
  rw [right_at, pair_at, rows_eq]
  exact Finset.sum_congr rfl fun k _ => by rw [colsR_at e k _ ⟨128 * (3 : Fin 4).val + d.val, by show 128 * 3 + d.val < 512; omega⟩ (by show 128 * 3 + d.val = 256 + (128 + d.val); omega)]

theorem querySt_at (e : In Ideal) (s : St Ideal) (a : Fin 4) (r : Fin 2048) (d : Fin 128) :
    (querySt e s).q (ix4 0 a r d) = headSum s.h e.w a r d * qScale :=
  put4_at s.q _ _ _ _ (fun a r d => headSum s.h e.w a r d * qScale)
    (fun r d => (query_at _ r d).trans (congrArg (· * qScale) (part0 e s r d)))
    (fun r d => (query_at _ r d).trans (congrArg (· * qScale) (part1 e s r d)))
    (fun r d => (query_at _ r d).trans (congrArg (· * qScale) (part2 e s r d)))
    (fun r d => (query_at _ r d).trans (congrArg (· * qScale) (part3 e s r d))) a r d

theorem keySt_at (e : In Ideal) (s : St Ideal) (a : Fin 4) (r : Fin 2048) (d : Fin 128) :
    (keySt e s).k (ix4 0 a r d) = headSum s.h e.w a r d :=
  put4_at s.k _ _ _ _ (headSum s.h e.w) (fun r d => (head_at _ r d).trans (part0 e s r d)) (fun r d => (head_at _ r d).trans (part1 e s r d))
    (fun r d => (head_at _ r d).trans (part2 e s r d)) (fun r d => (head_at _ r d).trans (part3 e s r d)) a r d

theorem valueSt_at (e : In Ideal) (s : St Ideal) (a : Fin 4) (r : Fin 2048) (d : Fin 128) :
    (valueSt e s).v (ix4 0 a r d) = headSum s.h e.w a r d :=
  put4_at s.v _ _ _ _ (headSum s.h e.w) (fun r d => (head_at _ r d).trans (part0 e s r d)) (fun r d => (head_at _ r d).trans (part1 e s r d))
    (fun r d => (head_at _ r d).trans (part2 e s r d)) (fun r d => (head_at _ r d).trans (part3 e s r d)) a r d

theorem restSt_at (e : In Ideal) (s : St Ideal) (r : Fin 2048) (d : Fin 512) :
    (restSt e s).r (ix2 r d) = ∑ k : Fin 1024, (s.h (ix2 r k) : EReal) * e.w (ix2 k d) := by
  show put s.r ![0, 0] S2048x512.size _ (ix2 r d) = _
  rw [put_all (s := S2048x512) s.r ![0, 0] zero2, rest_at, rows_eq, window_all (s := S1024x512) e.w ![0, 0] zero2]

theorem normSt_at (e : In Ideal) (s : St Ideal) (r : Fin 2048) (d : Fin 1024) :
    (normSt e s).h (ix2 r d) = normed (fun k => e.x (ix2 r k)) (fun k => e.g (ix2 0 k)) d := by
  show put s.h ![0, 0] S2048x1024.size _ (ix2 r d) = _
  rw [put_all (s := S2048x1024) s.h ![0, 0] zero2, norm_at, window_all (s := S2048x1024) e.x ![0, 0] zero2, window_all (s := S1x1024) e.g ![0, 0] zero2]

end Cert.Kernel2Ideal.Hand
-- ==== Proof.InValue.lean ====
/- What the call that makes queries, keys, values and the rest leaves: its run, followed through its grid, ends with every
   entry at its normed row's product with its column. -/
module

public import proofs.«01_k».proof.Proof.InAt
public import Idealize.ShloMosaic.Lib.Pipeline.Value
public import Idealize.ShloMosaic.Lib.StableHlo.ReadAt

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Layer

local notation "𝕄" => MT nD τ sig Unit (Elt Ideal) ℕ (UR sig nD τ) ℕ

variable (m : (ℓ : Loc nD τ sig) → Buf (Elt Ideal) ℓ) (ρ : Dev nD → PrngReg)

/-! ## What the call reads -/

/-- Row `n` of the activations, the batches one after another. -/
def row (c : Dev nD) (n : ℕ) (e : Fin 1024) : EReal :=
  m ((c.tc : Thread nD τ).loc main_arg0) (ix3 ⟨n / 4096 % 4, by omega⟩ ⟨n % 4096, by omega⟩ e)

/-- The gains. -/
def gain (c : Dev nD) (e : Fin 1024) : EReal := m ((c.tc : Thread nD τ).loc main_arg1) (ix1 e)

/-- Column `j` of the matrix. -/
def column (c : Dev nD) (j : ℕ) (e : Fin 1024) : EReal := m ((c.tc : Thread nD τ).loc main_arg2) (ix2 e ⟨j % 7168, by omega⟩)

/-- The normed row `n`'s product with column `j`. -/
def entry (c : Dev nD) (n j : ℕ) : EReal := projected (row m c n) (gain m c) (column m c j)

/-! ## The grid -/

theorem idxX : ∀ t : Fin cfg0.N, win0_0.index t (0 : Fin 2) = t.val / 14 ∧ win0_0.index t (1 : Fin 2) = 0 :=
  (by decide +kernel : ∀ t : Fin grid0.N, _)
theorem idxG : ∀ t : Fin cfg0.N, win0_1.index t (0 : Fin 2) = 0 ∧ win0_1.index t (1 : Fin 2) = 0 :=
  (by decide +kernel : ∀ t : Fin grid0.N, _)
theorem idxW : ∀ t : Fin cfg0.N, win0_2.index t (0 : Fin 2) = 0 ∧ win0_2.index t (1 : Fin 2) = t.val % 14 :=
  (by decide +kernel : ∀ t : Fin grid0.N, _)
theorem idxQ : ∀ t : Fin cfg0.N, win0_3.index t (0 : Fin 4) = t.val / 28 ∧ win0_3.index t (1 : Fin 4) = min (t.val % 14) 2
    ∧ win0_3.index t (2 : Fin 4) = t.val / 14 % 2 ∧ win0_3.index t (3 : Fin 4) = 0 :=
  (by decide +kernel : ∀ t : Fin grid0.N, _)
theorem idxK : ∀ t : Fin cfg0.N, win0_4.index t (0 : Fin 4) = t.val / 28 ∧ win0_4.index t (1 : Fin 4) = min (max (t.val % 14) 3) 5 - 3
    ∧ win0_4.index t (2 : Fin 4) = t.val / 14 % 2 ∧ win0_4.index t (3 : Fin 4) = 0 :=
  (by decide +kernel : ∀ t : Fin grid0.N, _)
theorem idxV : ∀ t : Fin cfg0.N, win0_5.index t (0 : Fin 4) = t.val / 28 ∧ win0_5.index t (1 : Fin 4) = min (max (t.val % 14) 6) 8 - 6
    ∧ win0_5.index t (2 : Fin 4) = t.val / 14 % 2 ∧ win0_5.index t (3 : Fin 4) = 0 :=
  (by decide +kernel : ∀ t : Fin grid0.N, _)
theorem idxR : ∀ t : Fin cfg0.N, win0_6.index t (0 : Fin 2) = t.val / 14 ∧ win0_6.index t (1 : Fin 2) = max (t.val % 14) 9 - 9 :=
  (by decide +kernel : ∀ t : Fin grid0.N, _)

/-- Which stages a point runs. -/
theorem conds : ∀ t : Fin cfg0.N, (cond1 (grid0.coords t) = 1#1 ↔ t.val % 14 = 0) ∧ (k0_cond2 (grid0.coords t) = 1#1 ↔ t.val % 14 < 3)
    ∧ (k0_cond3 (grid0.coords t) = 1#1 ↔ 3 ≤ t.val % 14 ∧ t.val % 14 < 6) ∧ (k0_cond4 (grid0.coords t) = 1#1 ↔ 6 ≤ t.val % 14 ∧ t.val % 14 < 9)
    ∧ (k0_cond5 (grid0.coords t) = 1#1 ↔ 9 ≤ t.val % 14) :=
  (by decide +kernel : ∀ t : Fin grid0.N, _)

theorem idleQ : ∀ t : Fin cfg0.N, cfg0.idle 3 (cfg0.grid.coords t) = decide (3 ≤ t.val % 14) := (by decide +kernel : ∀ t : Fin grid0.N, _)
theorem idleK : ∀ t : Fin cfg0.N, cfg0.idle 4 (cfg0.grid.coords t) = decide (t.val % 14 < 3 ∨ 6 ≤ t.val % 14) := (by decide +kernel : ∀ t : Fin grid0.N, _)
theorem idleV : ∀ t : Fin cfg0.N, cfg0.idle 5 (cfg0.grid.coords t) = decide (t.val % 14 < 6 ∨ 9 ≤ t.val % 14) := (by decide +kernel : ∀ t : Fin grid0.N, _)
theorem idleR : ∀ t : Fin cfg0.N, cfg0.idle 6 (cfg0.grid.coords t) = decide (t.val % 14 < 9) := (by decide +kernel : ∀ t : Fin grid0.N, _)

theorem flushQ : ∀ t : Fin cfg0.N, (cfg0.win 3).flush t = decide (t.val % 14 = 0 ∨ t.val % 14 = 1 ∨ t.val % 14 = 13) := (by decide +kernel : ∀ t : Fin grid0.N, _)
theorem flushK : ∀ t : Fin cfg0.N, (cfg0.win 4).flush t = decide (t.val % 14 = 3 ∨ t.val % 14 = 4 ∨ t.val % 14 = 13) := (by decide +kernel : ∀ t : Fin grid0.N, _)
theorem flushV : ∀ t : Fin cfg0.N, (cfg0.win 5).flush t = decide (t.val % 14 = 6 ∨ t.val % 14 = 7 ∨ t.val % 14 = 13) := (by decide +kernel : ∀ t : Fin grid0.N, _)
theorem flushR : ∀ t : Fin cfg0.N, (cfg0.win 6).flush t = decide (9 ≤ t.val % 14) := (by decide +kernel : ∀ t : Fin grid0.N, _)

/-- Before which points an output's buffer holds nothing that is still to be written back. -/
theorem freshQ : ∀ n ≤ cfg0.N, cfg0.fresh 3 n = decide (n % 14 ≤ 2) :=
  cfg0.fresh_tab 3 (fun n => decide (n % 14 ≤ 2)) rfl (by
    intro t
    have : t.val < 112 := t.isLt
    rw [flushQ t, idleQ t, Bool.eq_iff_iff]
    simp only [Bool.or_eq_true, Bool.and_eq_true, decide_eq_true_eq]
    omega)
theorem freshK : ∀ n ≤ cfg0.N, cfg0.fresh 4 n = decide (n % 14 ≤ 5) :=
  cfg0.fresh_tab 4 (fun n => decide (n % 14 ≤ 5)) rfl (by
    intro t
    have : t.val < 112 := t.isLt
    rw [flushK t, idleK t, Bool.eq_iff_iff]
    simp only [Bool.or_eq_true, Bool.and_eq_true, decide_eq_true_eq]
    omega)
theorem freshV : ∀ n ≤ cfg0.N, cfg0.fresh 5 n = decide (n % 14 ≤ 8) :=
  cfg0.fresh_tab 5 (fun n => decide (n % 14 ≤ 8)) rfl (by
    intro t
    have : t.val < 112 := t.isLt
    rw [flushV t, idleV t, Bool.eq_iff_iff]
    simp only [Bool.or_eq_true, Bool.and_eq_true, decide_eq_true_eq]
    omega)

/-! ## The blocks that a point reads -/

theorem x_at (c : Dev nD) (t : Fin cfg0.N) (r : Fin 2048) (e : Fin 1024) : (ins m c t).x (ix2 r e) = row m c (2048 * (t.val / 14) + r.val) e := by
  have ht : t.val < 112 := t.isLt
  obtain ⟨h0, h1⟩ := idxX t
  have h : ∀ i : Fin 16384, V m c main_v0 (ix2 i e) = m ((c.tc : Thread nD τ).loc main_arg0) (ix3 ⟨i.val / 4096, by omega⟩ ⟨i.val % 4096, by omega⟩ e) := by
    intro i
    show StableHlo.after hostOps0 (fun b => m (c, b)) main_v0 (ix2 i e) = _
    unfold hostOps0
    after_reads_at
  have hn : 2048 * (t.val / 14) + r.val < 16384 := by omega
  have h' : V m c main_v0 (ix2 ⟨2048 * (t.val / 14) + r.val, hn⟩ e) = row m c (2048 * (t.val / 14) + r.val) e := by
    rw [h]
    refine congrArg _ (funext fun a => Fin.ext ?_)
    match a with
    | ⟨0, _⟩ => show (2048 * (t.val / 14) + r.val) / 4096 = (2048 * (t.val / 14) + r.val) / 4096 % 4; omega
    | ⟨1, _⟩ => rfl
    | ⟨2, _⟩ => rfl
  rw [← h']
  show iblk m c 0 t (ix2 r e) = _
  unfold iblk
  rw [View.read_apply]
  show V m c main_v0 _ = V m c main_v0 _
  refine congrArg _ (funext fun a => Fin.ext ?_)
  match a with
  | ⟨0, _⟩ => show win0_0.index t 0 * 2048 + 1 * r.val = 2048 * (t.val / 14) + r.val; omega
  | ⟨1, _⟩ => show win0_0.index t 1 * 1024 + 1 * e.val = e.val; omega

theorem g_at (c : Dev nD) (t : Fin cfg0.N) (e : Fin 1024) : (ins m c t).g (ix2 0 e) = gain m c e := by
  obtain ⟨h0, h1⟩ := idxG t
  have h : V m c main_v2 (ix2 0 e) = gain m c e := by
    show StableHlo.after hostOps0 (fun b => m (c, b)) main_v2 (ix2 0 e) = _
    unfold hostOps0
    after_reads_at
    rfl
  rw [← h]
  show iblk m c 1 t (ix2 0 e) = _
  unfold iblk
  rw [View.read_apply]
  show V m c main_v2 _ = V m c main_v2 _
  refine congrArg _ (funext fun a => Fin.ext ?_)
  match a with
  | ⟨0, _⟩ => show win0_1.index t 0 * 1 + 1 * 0 = 0; omega
  | ⟨1, _⟩ => show win0_1.index t 1 * 1024 + 1 * e.val = e.val; omega

theorem w_at (c : Dev nD) (t : Fin cfg0.N) (e : Fin 1024) (d : Fin 512) : (ins m c t).w (ix2 e d) = column m c (512 * (t.val % 14) + d.val) e := by
  obtain ⟨h0, h1⟩ := idxW t
  have h : ∀ j : Fin 7168, V m c main_v1 (ix2 e j) = m ((c.tc : Thread nD τ).loc main_arg2) (ix2 e j) := by
    intro j
    show StableHlo.after hostOps0 (fun b => m (c, b)) main_v1 (ix2 e j) = _
    unfold hostOps0
    after_reads_at
  have h' : V m c main_v1 (ix2 e ⟨(512 * (t.val % 14) + d.val) % 7168, by omega⟩) = column m c (512 * (t.val % 14) + d.val) e := h _
  rw [← h']
  show iblk m c 2 t (ix2 e d) = _
  unfold iblk
  rw [View.read_apply]
  show V m c main_v1 _ = V m c main_v1 _
  refine congrArg _ (funext fun a => Fin.ext ?_)
  match a with
  | ⟨0, _⟩ => show win0_2.index t 0 * 1024 + 1 * e.val = e.val; omega
  | ⟨1, _⟩ => show win0_2.index t 1 * 512 + 1 * d.val = (512 * (t.val % 14) + d.val) % 7168; omega

/-! ## What a point leaves -/

/-- The rows kept are the normed rows of row block `i`. -/
def Kept (c : Dev nD) (i : ℕ) (h : Vec Ideal S2048x1024 .bf16) : Prop :=
  ∀ (r : Fin 2048) (d : Fin 1024), h (ix2 r d) = normed (row m c (2048 * i + r.val)) (gain m c) d

theorem kept_normed (c : Dev nD) (t : Fin cfg0.N) (s : St Ideal) (hs : t.val % 14 ≠ 0 → Kept m c (t.val / 14) s.h) :
    Kept m c (t.val / 14) (normedSt (grid0.coords t) (ins m c t) s).h := by
  intro r d
  unfold normedSt
  by_cases h : t.val % 14 = 0
  · rw [if_pos ((conds t).1.mpr h), normSt_at]
    congr 1
    · funext e; exact x_at m c t r e
    · funext e; exact g_at m c t e
  · rw [if_neg (fun h' => h ((conds t).1.mp h'))]
    exact hs h r d

theorem sum_entry (c : Dev nD) (t : Fin cfg0.N) (h : Vec Ideal S2048x1024 .bf16) (hk : Kept m c (t.val / 14) h) (r : Fin 2048) (d : Fin 512) :
    (∑ k : Fin 1024, (h (ix2 r k) : EReal) * (ins m c t).w (ix2 k d)) = entry m c (2048 * (t.val / 14) + r.val) (512 * (t.val % 14) + d.val) := by
  unfold entry projected
  exact Finset.sum_congr rfl fun k _ => by rw [hk r k, w_at]

theorem head_entry (c : Dev nD) (t : Fin cfg0.N) (h : Vec Ideal S2048x1024 .bf16) (hk : Kept m c (t.val / 14) h) (a : Fin 4) (r : Fin 2048) (d : Fin 128) :
    headSum h (ins m c t).w a r d = entry m c (2048 * (t.val / 14) + r.val) (512 * (t.val % 14) + (128 * a.val + d.val)) :=
  sum_entry m c t h hk r _

/-- The blocks of queries, keys, values and the rest after a point. -/
def qBlk (c : Dev nD) (t : ℕ) : Vec Ideal S1x4x2048x128 .bf16 :=
  fun y => (entry m c (2048 * (t / 14) + (y 2).val) (512 * min (t % 14) 2 + (128 * (y 1).val + (y 3).val)) * qScale : EReal)
def kBlk (c : Dev nD) (t : ℕ) : Vec Ideal S1x4x2048x128 .f32 :=
  fun y => entry m c (2048 * (t / 14) + (y 2).val) (512 * min (max (t % 14) 3) 5 + (128 * (y 1).val + (y 3).val))
def vBlk (c : Dev nD) (t : ℕ) : Vec Ideal S1x4x2048x128 .f32 :=
  fun y => entry m c (2048 * (t / 14) + (y 2).val) (512 * min (max (t % 14) 6) 8 + (128 * (y 1).val + (y 3).val))
def rBlk (c : Dev nD) (t : ℕ) : Vec Ideal S2048x512 .f32 :=
  fun y => entry m c (2048 * (t / 14) + (y 0).val) (512 * max (t % 14) 9 + (y 1).val)

theorem idx_heads (y : S1x4x2048x128.Idx) : ∃ (a : Fin 4) (r : Fin 2048) (d : Fin 128), y = ix4 0 a r d :=
  ⟨y 1, y 2, y 3, funext fun b => by
    match b with
    | ⟨0, _⟩ => exact Fin.ext (by have : (y 0).val < 1 := (y 0).isLt; show (y 0).val = 0; omega)
    | ⟨1, _⟩ => rfl
    | ⟨2, _⟩ => rfl
    | ⟨3, _⟩ => rfl⟩

variable (c : Dev nD) (t : Fin cfg0.N) (s : St Ideal) (hs : t.val % 14 ≠ 0 → Kept m c (t.val / 14) s.h)

include hs in
theorem step_h : t.val % 14 ≠ 13 → Kept m c ((t.val + 1) / 14) (bodySt (grid0.coords t) (ins m c t) s).h := by
  intro h
  rw [body_h, show (t.val + 1) / 14 = t.val / 14 by omega]
  exact kept_normed m c t s hs

include hs in
theorem step_q : (bodySt (grid0.coords t) (ins m c t) s).q = if t.val % 14 < 3 then qBlk m c t.val else s.q := by
  rw [body_q]
  by_cases h : t.val % 14 < 3
  · rw [if_pos ((conds t).2.1.mpr h), if_pos h]
    funext y
    obtain ⟨a, r, d, rfl⟩ := idx_heads y
    rw [querySt_at, head_entry m c t _ (kept_normed m c t s hs)]
    show _ = entry m c (2048 * (t.val / 14) + r.val) (512 * min (t.val % 14) 2 + (128 * a.val + d.val)) * qScale
    rw [show min (t.val % 14) 2 = t.val % 14 by omega]
  · rw [if_neg (fun h' => h ((conds t).2.1.mp h')), if_neg h]

include hs in
theorem step_k : (bodySt (grid0.coords t) (ins m c t) s).k = if 3 ≤ t.val % 14 ∧ t.val % 14 < 6 then kBlk m c t.val else s.k := by
  rw [body_k]
  by_cases h : 3 ≤ t.val % 14 ∧ t.val % 14 < 6
  · rw [if_pos ((conds t).2.2.1.mpr h), if_pos h]
    funext y
    obtain ⟨a, r, d, rfl⟩ := idx_heads y
    rw [keySt_at, head_entry m c t _ (kept_normed m c t s hs)]
    show _ = entry m c (2048 * (t.val / 14) + r.val) (512 * min (max (t.val % 14) 3) 5 + (128 * a.val + d.val))
    rw [show min (max (t.val % 14) 3) 5 = t.val % 14 by omega]
  · rw [if_neg (fun h' => h ((conds t).2.2.1.mp h')), if_neg h]

include hs in
theorem step_v : (bodySt (grid0.coords t) (ins m c t) s).v = if 6 ≤ t.val % 14 ∧ t.val % 14 < 9 then vBlk m c t.val else s.v := by
  rw [body_v]
  by_cases h : 6 ≤ t.val % 14 ∧ t.val % 14 < 9
  · rw [if_pos ((conds t).2.2.2.1.mpr h), if_pos h]
    funext y
    obtain ⟨a, r, d, rfl⟩ := idx_heads y
    rw [valueSt_at, head_entry m c t _ (kept_normed m c t s hs)]
    show _ = entry m c (2048 * (t.val / 14) + r.val) (512 * min (max (t.val % 14) 6) 8 + (128 * a.val + d.val))
    rw [show min (max (t.val % 14) 6) 8 = t.val % 14 by omega]
  · rw [if_neg (fun h' => h ((conds t).2.2.2.1.mp h')), if_neg h]

include hs in
theorem step_r : (bodySt (grid0.coords t) (ins m c t) s).r = if 9 ≤ t.val % 14 then rBlk m c t.val else s.r := by
  rw [body_r]
  by_cases h : 9 ≤ t.val % 14
  · rw [if_pos ((conds t).2.2.2.2.mpr h), if_pos h]
    funext y
    obtain ⟨r, d, rfl⟩ : ∃ (r : Fin 2048) (d : Fin 512), y = ix2 r d := ⟨y 0, y 1, funext fun a => by fin_cases a <;> rfl⟩
    rw [restSt_at, sum_entry m c t _ (kept_normed m c t s hs)]
    show _ = entry m c (2048 * (t.val / 14) + r.val) (512 * max (t.val % 14) 9 + d.val)
    rw [show max (t.val % 14) 9 = t.val % 14 by omega]
  · rw [if_neg (fun h' => h ((conds t).2.2.2.2.mp h')), if_neg h]

/-! ## The data of the run -/

/-- Between points, the scratch: past the first point of a row block it holds that block's normed rows. -/
def between (c : Dev nD) (t : ℕ) : sProp 𝕄 := iprop(∃ h : Vec Ideal S2048x1024 .bf16, ⌜t % 14 ≠ 0 → Kept m c (t / 14) h⌝ ∗ scr c h)

def datV (c : Dev nD) : Dat τ (Elt Ideal) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => qBlk m c t.val
    | ⟨4, _⟩ => kBlk m c t.val
    | ⟨5, _⟩ => vBlk m c t.val
    | ⟨6, _⟩ => rBlk m c t.val
  Φ := fun t => iprop(between m c t.val ∗ ∃ r, prngReg c r)
  q := fun _ => fullShare
  owed := fun _ => 0
  recorded := fun _ => ∅

def datsV : (p : Fin 1) → (c : Dev nD) → Dat τ (Elt Ideal) Unit ℕ (UR sig nD τ) ℕ (cfgs p) c := fun _ c => datV m c

theorem beforeV0 (c : Dev nD) (t : Fin cfg0.N) (d) : (datV m c).before 0 t d = iblk m c 0 t := Gen.before0_0_of m (datV m c) rfl (fun _ => rfl) t d
theorem beforeV1 (c : Dev nD) (t : Fin cfg0.N) (d) : (datV m c).before 1 t d = iblk m c 1 t := Gen.before0_1_of m (datV m c) rfl (fun _ => rfl) t d
theorem beforeV2 (c : Dev nD) (t : Fin cfg0.N) (d) : (datV m c).before 2 t d = iblk m c 2 t := Gen.before0_2_of m (datV m c) rfl (fun _ => rfl) t d

/-- What a point that runs no stage of an output finds of it. -/
theorem found_q (c : Dev nD) (t : Fin cfg0.N) (d) (h : 3 ≤ t.val % 14) : (datV m c).before 3 t d = qBlk m c t.val := by
  have hlt : t.val < 112 := t.isLt
  have carry : ∀ n, 3 ≤ n % 14 → qBlk m c n = qBlk m c (n - 1) := fun n hn => by
    unfold qBlk
    rw [show (n - 1) / 14 = n / 14 by omega, show min ((n - 1) % 14) 2 = min (n % 14) 2 by omega]
  rw [(datV m c).before_out_traj 3 rfl (fun _ _ => rfl) (fun t h0 hi hf => by
    rw [idleQ t, decide_eq_true_eq] at hi
    exact carry t.val hi) t.val t rfl d, freshQ t.val (Nat.le_of_lt t.isLt), if_neg (by rw [decide_eq_true_eq]; omega)]
  exact (carry t.val h).symm

theorem found_k (c : Dev nD) (t : Fin cfg0.N) (d) (h : 6 ≤ t.val % 14) : (datV m c).before 4 t d = kBlk m c t.val := by
  have hlt : t.val < 112 := t.isLt
  have carry : ∀ n, 6 ≤ n % 14 → kBlk m c n = kBlk m c (n - 1) := fun n hn => by
    unfold kBlk
    rw [show (n - 1) / 14 = n / 14 by omega, show min (max ((n - 1) % 14) 3) 5 = min (max (n % 14) 3) 5 by omega]
  rw [(datV m c).before_out_traj 4 rfl (fun _ _ => rfl) (fun t h0 hi hf => by
    rw [idleK t, decide_eq_true_eq] at hi
    rw [freshK t.val (Nat.le_of_lt t.isLt), decide_eq_false_iff_not] at hf
    exact carry t.val (by omega)) t.val t rfl d, freshK t.val (Nat.le_of_lt t.isLt), if_neg (by rw [decide_eq_true_eq]; omega)]
  exact (carry t.val h).symm

theorem found_v (c : Dev nD) (t : Fin cfg0.N) (d) (h : 9 ≤ t.val % 14) : (datV m c).before 5 t d = vBlk m c t.val := by
  have hlt : t.val < 112 := t.isLt
  have carry : ∀ n, 9 ≤ n % 14 → vBlk m c n = vBlk m c (n - 1) := fun n hn => by
    unfold vBlk
    rw [show (n - 1) / 14 = n / 14 by omega, show min (max ((n - 1) % 14) 6) 8 = min (max (n % 14) 6) 8 by omega]
  rw [(datV m c).before_out_traj 5 rfl (fun _ _ => rfl) (fun t h0 hi hf => by
    rw [idleV t, decide_eq_true_eq] at hi
    rw [freshV t.val (Nat.le_of_lt t.isLt), decide_eq_false_iff_not] at hf
    exact carry t.val (by omega)) t.val t rfl d, freshV t.val (Nat.le_of_lt t.isLt), if_neg (by rw [decide_eq_true_eq]; omega)]
  exact (carry t.val h).symm

/-- A buffer is left as the point should leave it: at the point's block, or, where no stage wrote it, as it was found. -/
theorem leave_of (c : Dev nD) (w : Fin cfg0.W) (t : Fin cfg0.N) (X d : (cfg0.win w).block.Idx → Elt Ideal (cfg0.win w).elt)
    (h1 : cfg0.idle w (cfg0.grid.coords t) = false → X = (datV m c).after w t)
    (h2 : cfg0.idle w (cfg0.grid.coords t) = true → X = (datV m c).before w t d)
    (h3 : cfg0.idle w (cfg0.grid.coords t) = true → (cfg0.win w).flush t = true → X = (datV m c).after w t) :
    (owns (c : Thread nD τ) ((cfg0.win w).stage (cfg0.slots t w)) fullShare X : sProp 𝕄) ⊢ (datV m c).leavesExact w t := by
  unfold Dat.leavesExact
  generalize hi : cfg0.idle w (cfg0.grid.coords t) = i at *
  generalize hf : (cfg0.win w).flush t = f at *
  cases i
  · rw [h1 rfl]
  · cases f
    · rw [h2 rfl]
      iintro H
      iexists d
      iexact H
    · rw [h3 rfl rfl]

theorem body_exact (c : Dev nD) : BodyObligation (datV m c) defs₀ 𝒱₀ () Set.univ := by
  intro t
  have hlt : t.val < 112 := t.isLt
  rw [Gen.bigSep_W0, Gen.bigSep_W0, defs₀_row]
  simp only [beforeV0, beforeV1, beforeV2]
  show iprop((between m c t.val ∗ ∃ r, prngReg c r) ∗ (datV m c).owesAt () t.castSucc
      ∗ (∃ _d, owns (c : Thread nD τ) (win0_0.stage (cfg0.slots t 0)) fullShare (iblk m c 0 t))
      ∗ (∃ _d, owns (c : Thread nD τ) (win0_1.stage (cfg0.slots t 1)) fullShare (iblk m c 1 t))
      ∗ (∃ _d, owns (c : Thread nD τ) (win0_2.stage (cfg0.slots t 2)) fullShare (iblk m c 2 t))
      ∗ (∃ d, owns (c : Thread nD τ) (win0_3.stage (cfg0.slots t 3)) fullShare ((datV m c).before 3 t d))
      ∗ (∃ d, owns (c : Thread nD τ) (win0_4.stage (cfg0.slots t 4)) fullShare ((datV m c).before 4 t d))
      ∗ (∃ d, owns (c : Thread nD τ) (win0_5.stage (cfg0.slots t 5)) fullShare ((datV m c).before 5 t d))
      ∗ (∃ d, owns (c : Thread nD τ) (win0_6.stage (cfg0.slots t 6)) fullShare ((datV m c).before 6 t d))) ⊢
    wp frame (wpE (defs₀ (F := Ideal)) 𝒱₀ (c : Thread nD τ) none) Set.univ (Gen.bodyAt0 t) fun _ =>
      iprop((between m c (t.val + 1) ∗ ∃ r, prngReg c r) ∗ (datV m c).owesAt () t.succ
        ∗ owns (c : Thread nD τ) (win0_0.stage (cfg0.slots t 0)) fullShare (iblk m c 0 t)
        ∗ owns (c : Thread nD τ) (win0_1.stage (cfg0.slots t 1)) fullShare (iblk m c 1 t)
        ∗ owns (c : Thread nD τ) (win0_2.stage (cfg0.slots t 2)) fullShare (iblk m c 2 t)
        ∗ (datV m c).leavesExact 3 t ∗ (datV m c).leavesExact 4 t ∗ (datV m c).leavesExact 5 t ∗ (datV m c).leavesExact 6 t)
  unfold between
  iintro ⟨⟨⟨%h, %hk, HS⟩, HP⟩, HO, ⟨%d0, H0⟩, ⟨%d1, H1⟩, ⟨%d2, H2⟩, ⟨%q, H3⟩, ⟨%k, H4⟩, ⟨%v, H5⟩, ⟨%r, H6⟩⟩
  obtain ⟨s, hsd⟩ : ∃ s : St Ideal, s = ⟨(datV m c).before 3 t q, (datV m c).before 4 t k, (datV m c).before 5 t v, (datV m c).before 6 t r, h⟩ := ⟨_, rfl⟩
  have hq : (datV m c).before 3 t q = s.q := by rw [hsd]
  have hkk : (datV m c).before 4 t k = s.k := by rw [hsd]
  have hv : (datV m c).before 5 t v = s.v := by rw [hsd]
  have hr : (datV m c).before 6 t r = s.r := by rw [hsd]
  have hh : h = s.h := by rw [hsd]
  have hs : t.val % 14 ≠ 0 → Kept m c (t.val / 14) s.h := hh ▸ hk
  rw [hq, hkk, hv, hr, hh]
  iapply (wp_point c t (ins m c t) s) $$ [HS H0 H1 H2 H3 H4 H5 H6]
  · isplitl [HS]; · iexact HS
    unfold staged
    isplitl [H0]; · iexact H0
    isplitl [H1]; · iexact H1
    isplitl [H2]; · iexact H2
    isplitl [H3]; · iexact H3
    isplitl [H4]; · iexact H4
    isplitl [H5]; · iexact H5
    iexact H6
  unfold staged
  iintro ⟨HS, H0, H1, H2, H3, H4, H5, H6⟩
  isplitl [HS HP]
  · isplitl [HS]
    · iexists _
      isplitr
      · ipureintro; exact fun h' => step_h m c t s hs (by omega)
      iexact HS
    iexact HP
  isplitl [HO]; · iexact HO
  isplitl [H0]; · iexact H0
  isplitl [H1]; · iexact H1
  isplitl [H2]; · iexact H2
  isplitl [H3]
  · iapply (leave_of m c 3 t (bodySt (grid0.coords t) (ins m c t) s).q q
      (fun hi => by
        rw [idleQ t, decide_eq_false_iff_not] at hi
        exact (step_q m c t s hs).trans (if_pos (by omega)))
      (fun hi => by
        rw [idleQ t, decide_eq_true_eq] at hi
        exact ((step_q m c t s hs).trans (if_neg (by omega))).trans hq.symm)
      (fun hi hf => by
        rw [idleQ t, decide_eq_true_eq] at hi
        exact (((step_q m c t s hs).trans (if_neg (by omega))).trans hq.symm).trans (found_q m c t q hi)))
    iexact H3
  isplitl [H4]
  · iapply (leave_of m c 4 t (bodySt (grid0.coords t) (ins m c t) s).k k
      (fun hi => by
        rw [idleK t, decide_eq_false_iff_not] at hi
        exact (step_k m c t s hs).trans (if_pos (by omega)))
      (fun hi => by
        rw [idleK t, decide_eq_true_eq] at hi
        exact ((step_k m c t s hs).trans (if_neg (by omega))).trans hkk.symm)
      (fun hi hf => by
        rw [idleK t, decide_eq_true_eq] at hi
        rw [flushK t, decide_eq_true_eq] at hf
        exact (((step_k m c t s hs).trans (if_neg (by omega))).trans hkk.symm).trans (found_k m c t k (by omega))))
    iexact H4
  isplitl [H5]
  · iapply (leave_of m c 5 t (bodySt (grid0.coords t) (ins m c t) s).v v
      (fun hi => by
        rw [idleV t, decide_eq_false_iff_not] at hi
        exact (step_v m c t s hs).trans (if_pos (by omega)))
      (fun hi => by
        rw [idleV t, decide_eq_true_eq] at hi
        exact ((step_v m c t s hs).trans (if_neg (by omega))).trans hv.symm)
      (fun hi hf => by
        rw [idleV t, decide_eq_true_eq] at hi
        rw [flushV t, decide_eq_true_eq] at hf
        exact (((step_v m c t s hs).trans (if_neg (by omega))).trans hv.symm).trans (found_v m c t v (by omega))))
    iexact H5
  iapply (leave_of m c 6 t (bodySt (grid0.coords t) (ins m c t) s).r r
    (fun hi => by
      rw [idleR t, decide_eq_false_iff_not] at hi
      exact (step_r m c t s hs).trans (if_pos (by omega)))
    (fun hi => by
      rw [idleR t, decide_eq_true_eq] at hi
      exact ((step_r m c t s hs).trans (if_neg (by omega))).trans hr.symm)
    (fun hi hf => by
      rw [idleR t, decide_eq_true_eq] at hi
      rw [flushR t, decide_eq_true_eq] at hf
      exact absurd hf (by omega)))
  iexact H6

theorem body_obligationV (c : Dev nD) : Pipeline.BodyObligationLoose (datV m c) defs₀ 𝒱₀ () Set.univ := (body_exact m c).loose

/-! ## The result arrays -/

/-- The queries: batch, head, position, feature. -/
def queries (c : Dev nD) : Buf (Elt Ideal) ((c : Thread nD τ).loc main_v3_0) :=
  (fun i => (entry m c (4096 * (i 0).val + (i 2).val) (128 * (i 1).val + (i 3).val) * qScale : EReal) : Vec Ideal S4x12x4096x128 .bf16)

/-- The keys. -/
def keys (c : Dev nD) : Buf (Elt Ideal) ((c : Thread nD τ).loc main_v3_1) :=
  (fun i => entry m c (4096 * (i 0).val + (i 2).val) (1536 + (128 * (i 1).val + (i 3).val)) : Vec Ideal S4x12x4096x128 .f32)

/-- The values. -/
def values (c : Dev nD) : Buf (Elt Ideal) ((c : Thread nD τ).loc main_v3_2) :=
  (fun i => entry m c (4096 * (i 0).val + (i 2).val) (3072 + (128 * (i 1).val + (i 3).val)) : Vec Ideal S4x12x4096x128 .f32)

/-- The rest. -/
def rest (c : Dev nD) : Buf (Elt Ideal) ((c : Thread nD τ).loc main_v3_3) :=
  (fun i => entry m c (i 0).val (4608 + (i 1).val) : Vec Ideal S16384x2560 .f32)

theorem flushed_q (c : Dev nD) (t : Fin cfg0.N) (hf : (cfg0.win 3).flush t = true) :
    (datsV m 0 c).flushed 3 t = ((cfg0.win 3).blk t).view.read (Elt Ideal) (queries m c) := by
  have ht : t.val < 112 := t.isLt
  obtain ⟨h0, h1, h2, h3⟩ := idxQ t
  show (cfg0.win 3).cut (grid0.coords t) (qBlk m c t.val) = _
  funext y
  rw [View.read_apply]
  have y0 : (y 0).val < 1 := (y 0).isLt
  have y1 : (y 1).val < 4 := (y 1).isLt
  have y2 : (y 2).val < 2048 := (y 2).isLt
  have y3 : (y 3).val < 128 := (y 3).isLt
  show entry m c (2048 * (t.val / 14) + (y 2).val) (512 * min (t.val % 14) 2 + (128 * (y 1).val + (y 3).val)) * qScale
    = entry m c (4096 * (win0_3.index t 0 * 1 + 1 * (y 0).val) + (win0_3.index t 2 * 2048 + 1 * (y 2).val))
        (128 * (win0_3.index t 1 * 4 + 1 * (y 1).val) + (win0_3.index t 3 * 128 + 1 * (y 3).val)) * qScale
  congr 2 <;> omega

theorem flushed_k (c : Dev nD) (t : Fin cfg0.N) (hf : (cfg0.win 4).flush t = true) :
    (datsV m 0 c).flushed 4 t = ((cfg0.win 4).blk t).view.read (Elt Ideal) (keys m c) := by
  have ht : t.val < 112 := t.isLt
  obtain ⟨h0, h1, h2, h3⟩ := idxK t
  show (cfg0.win 4).cut (grid0.coords t) (kBlk m c t.val) = _
  funext y
  rw [View.read_apply]
  have y0 : (y 0).val < 1 := (y 0).isLt
  have y1 : (y 1).val < 4 := (y 1).isLt
  have y2 : (y 2).val < 2048 := (y 2).isLt
  have y3 : (y 3).val < 128 := (y 3).isLt
  show entry m c (2048 * (t.val / 14) + (y 2).val) (512 * min (max (t.val % 14) 3) 5 + (128 * (y 1).val + (y 3).val))
    = entry m c (4096 * (win0_4.index t 0 * 1 + 1 * (y 0).val) + (win0_4.index t 2 * 2048 + 1 * (y 2).val))
        (1536 + (128 * (win0_4.index t 1 * 4 + 1 * (y 1).val) + (win0_4.index t 3 * 128 + 1 * (y 3).val)))
  congr 1 <;> omega

theorem flushed_v (c : Dev nD) (t : Fin cfg0.N) (hf : (cfg0.win 5).flush t = true) :
    (datsV m 0 c).flushed 5 t = ((cfg0.win 5).blk t).view.read (Elt Ideal) (values m c) := by
  have ht : t.val < 112 := t.isLt
  obtain ⟨h0, h1, h2, h3⟩ := idxV t
  show (cfg0.win 5).cut (grid0.coords t) (vBlk m c t.val) = _
  funext y
  rw [View.read_apply]
  have y0 : (y 0).val < 1 := (y 0).isLt
  have y1 : (y 1).val < 4 := (y 1).isLt
  have y2 : (y 2).val < 2048 := (y 2).isLt
  have y3 : (y 3).val < 128 := (y 3).isLt
  show entry m c (2048 * (t.val / 14) + (y 2).val) (512 * min (max (t.val % 14) 6) 8 + (128 * (y 1).val + (y 3).val))
    = entry m c (4096 * (win0_5.index t 0 * 1 + 1 * (y 0).val) + (win0_5.index t 2 * 2048 + 1 * (y 2).val))
        (3072 + (128 * (win0_5.index t 1 * 4 + 1 * (y 1).val) + (win0_5.index t 3 * 128 + 1 * (y 3).val)))
  congr 1 <;> omega

theorem flushed_r (c : Dev nD) (t : Fin cfg0.N) (hf : (cfg0.win 6).flush t = true) :
    (datsV m 0 c).flushed 6 t = ((cfg0.win 6).blk t).view.read (Elt Ideal) (rest m c) := by
  have ht : t.val < 112 := t.isLt
  obtain ⟨h0, h1⟩ := idxR t
  show (cfg0.win 6).cut (grid0.coords t) (rBlk m c t.val) = _
  funext y
  rw [View.read_apply]
  have y0 : (y 0).val < 2048 := (y 0).isLt
  have y1 : (y 1).val < 512 := (y 1).isLt
  show entry m c (2048 * (t.val / 14) + (y 0).val) (512 * max (t.val % 14) 9 + (y 1).val)
    = entry m c (win0_6.index t 0 * 2048 + 1 * (y 0).val) (4608 + (win0_6.index t 1 * 512 + 1 * (y 1).val))
  congr 1 <;> omega

theorem sizeQ : ∀ t : Fin cfg0.N, win0_3.xsize (grid0.coords t) 0 = 1 ∧ win0_3.xsize (grid0.coords t) 1 = 4 ∧ win0_3.xsize (grid0.coords t) 2 = 2048 ∧ win0_3.xsize (grid0.coords t) 3 = 128 := by
  decide +kernel
theorem sizeK : ∀ t : Fin cfg0.N, win0_4.xsize (grid0.coords t) 0 = 1 ∧ win0_4.xsize (grid0.coords t) 1 = 4 ∧ win0_4.xsize (grid0.coords t) 2 = 2048 ∧ win0_4.xsize (grid0.coords t) 3 = 128 := by
  decide +kernel
theorem sizeV : ∀ t : Fin cfg0.N, win0_5.xsize (grid0.coords t) 0 = 1 ∧ win0_5.xsize (grid0.coords t) 1 = 4 ∧ win0_5.xsize (grid0.coords t) 2 = 2048 ∧ win0_5.xsize (grid0.coords t) 3 = 128 := by
  decide +kernel
theorem sizeR : ∀ t : Fin cfg0.N, win0_6.xsize (grid0.coords t) 0 = 2048 ∧ win0_6.xsize (grid0.coords t) 1 = 512 := by
  decide +kernel

/-- The point of a group's last column `j` in row block `i`. -/
theorem point (i j : ℕ) (hi : i < 8) (hj : j < 14) : ∃ t : Fin cfg0.N, t.val / 14 = i ∧ t.val % 14 = j ∧ t.val / 28 = i / 2 := by
  have hN : cfg0.N = 112 := N_0
  exact ⟨⟨14 * i + j, by rw [hN]; omega⟩, by show (14 * i + j) / 14 = i; omega, by show (14 * i + j) % 14 = j; omega, by show (14 * i + j) / 28 = i / 2; omega⟩

theorem final_q (c : Dev nD) : (datsV m 0 c).arrAt 3 cfg0.N = queries m c :=
  (datsV m 0 c).arrAt_eq_of_cover 3 (queries m c) (flushed_q m c) fun i => by
    have i0 : (i 0 : Nat) < 4 := (i 0).isLt
    have i1 : (i 1 : Nat) < 12 := (i 1).isLt
    have i2 : (i 2 : Nat) < 4096 := (i 2).isLt
    have i3 : (i 3 : Nat) < 128 := (i 3).isLt
    obtain ⟨j, hj, hf⟩ : ∃ j, min j 2 = (i 1 : Nat) / 4 ∧ (j = 0 ∨ j = 1 ∨ j = 13) := by
      obtain h | h | h : (i 1 : Nat) / 4 = 0 ∨ (i 1 : Nat) / 4 = 1 ∨ (i 1 : Nat) / 4 = 2 := by omega
      · exact ⟨0, by omega, by omega⟩
      · exact ⟨1, by omega, by omega⟩
      · exact ⟨13, by omega, by omega⟩
    obtain ⟨t, ti, tj, tb⟩ := point (2 * (i 0 : Nat) + (i 2 : Nat) / 2048) j (by omega) (by omega)
    refine ⟨t, by rw [flushQ t, decide_eq_true_eq]; omega, ?_⟩
    show i ∈ ((View.whole main_v3_0).slice (win0_3.rect t)).set
    rw [View.set_slice_whole, Rect.mem_set_unit]
    intro a
    obtain ⟨h0, h1, h2, h3⟩ := idxQ t
    obtain ⟨s0, s1, s2, s3⟩ := sizeQ t
    match a with
    | ⟨0, _⟩ =>
      show win0_3.index t 0 * 1 ≤ (i 0 : Nat) ∧ (i 0 : Nat) < win0_3.index t 0 * 1 + win0_3.xsize (grid0.coords t) 0
      omega
    | ⟨1, _⟩ =>
      show win0_3.index t 1 * 4 ≤ (i 1 : Nat) ∧ (i 1 : Nat) < win0_3.index t 1 * 4 + win0_3.xsize (grid0.coords t) 1
      omega
    | ⟨2, _⟩ =>
      show win0_3.index t 2 * 2048 ≤ (i 2 : Nat) ∧ (i 2 : Nat) < win0_3.index t 2 * 2048 + win0_3.xsize (grid0.coords t) 2
      omega
    | ⟨3, _⟩ =>
      show win0_3.index t 3 * 128 ≤ (i 3 : Nat) ∧ (i 3 : Nat) < win0_3.index t 3 * 128 + win0_3.xsize (grid0.coords t) 3
      omega

theorem final_k (c : Dev nD) : (datsV m 0 c).arrAt 4 cfg0.N = keys m c :=
  (datsV m 0 c).arrAt_eq_of_cover 4 (keys m c) (flushed_k m c) fun i => by
    have i0 : (i 0 : Nat) < 4 := (i 0).isLt
    have i1 : (i 1 : Nat) < 12 := (i 1).isLt
    have i2 : (i 2 : Nat) < 4096 := (i 2).isLt
    have i3 : (i 3 : Nat) < 128 := (i 3).isLt
    obtain ⟨j, hj, hf⟩ : ∃ j, min (max j 3) 5 - 3 = (i 1 : Nat) / 4 ∧ (j = 3 ∨ j = 4 ∨ j = 13) := by
      obtain h | h | h : (i 1 : Nat) / 4 = 0 ∨ (i 1 : Nat) / 4 = 1 ∨ (i 1 : Nat) / 4 = 2 := by omega
      · exact ⟨3, by omega, by omega⟩
      · exact ⟨4, by omega, by omega⟩
      · exact ⟨13, by omega, by omega⟩
    obtain ⟨t, ti, tj, tb⟩ := point (2 * (i 0 : Nat) + (i 2 : Nat) / 2048) j (by omega) (by omega)
    refine ⟨t, by rw [flushK t, decide_eq_true_eq]; omega, ?_⟩
    show i ∈ ((View.whole main_v3_1).slice (win0_4.rect t)).set
    rw [View.set_slice_whole, Rect.mem_set_unit]
    intro a
    obtain ⟨h0, h1, h2, h3⟩ := idxK t
    obtain ⟨s0, s1, s2, s3⟩ := sizeK t
    match a with
    | ⟨0, _⟩ =>
      show win0_4.index t 0 * 1 ≤ (i 0 : Nat) ∧ (i 0 : Nat) < win0_4.index t 0 * 1 + win0_4.xsize (grid0.coords t) 0
      omega
    | ⟨1, _⟩ =>
      show win0_4.index t 1 * 4 ≤ (i 1 : Nat) ∧ (i 1 : Nat) < win0_4.index t 1 * 4 + win0_4.xsize (grid0.coords t) 1
      omega
    | ⟨2, _⟩ =>
      show win0_4.index t 2 * 2048 ≤ (i 2 : Nat) ∧ (i 2 : Nat) < win0_4.index t 2 * 2048 + win0_4.xsize (grid0.coords t) 2
      omega
    | ⟨3, _⟩ =>
      show win0_4.index t 3 * 128 ≤ (i 3 : Nat) ∧ (i 3 : Nat) < win0_4.index t 3 * 128 + win0_4.xsize (grid0.coords t) 3
      omega

theorem final_v (c : Dev nD) : (datsV m 0 c).arrAt 5 cfg0.N = values m c :=
  (datsV m 0 c).arrAt_eq_of_cover 5 (values m c) (flushed_v m c) fun i => by
    have i0 : (i 0 : Nat) < 4 := (i 0).isLt
    have i1 : (i 1 : Nat) < 12 := (i 1).isLt
    have i2 : (i 2 : Nat) < 4096 := (i 2).isLt
    have i3 : (i 3 : Nat) < 128 := (i 3).isLt
    obtain ⟨j, hj, hf⟩ : ∃ j, min (max j 6) 8 - 6 = (i 1 : Nat) / 4 ∧ (j = 6 ∨ j = 7 ∨ j = 13) := by
      obtain h | h | h : (i 1 : Nat) / 4 = 0 ∨ (i 1 : Nat) / 4 = 1 ∨ (i 1 : Nat) / 4 = 2 := by omega
      · exact ⟨6, by omega, by omega⟩
      · exact ⟨7, by omega, by omega⟩
      · exact ⟨13, by omega, by omega⟩
    obtain ⟨t, ti, tj, tb⟩ := point (2 * (i 0 : Nat) + (i 2 : Nat) / 2048) j (by omega) (by omega)
    refine ⟨t, by rw [flushV t, decide_eq_true_eq]; omega, ?_⟩
    show i ∈ ((View.whole main_v3_2).slice (win0_5.rect t)).set
    rw [View.set_slice_whole, Rect.mem_set_unit]
    intro a
    obtain ⟨h0, h1, h2, h3⟩ := idxV t
    obtain ⟨s0, s1, s2, s3⟩ := sizeV t
    match a with
    | ⟨0, _⟩ =>
      show win0_5.index t 0 * 1 ≤ (i 0 : Nat) ∧ (i 0 : Nat) < win0_5.index t 0 * 1 + win0_5.xsize (grid0.coords t) 0
      omega
    | ⟨1, _⟩ =>
      show win0_5.index t 1 * 4 ≤ (i 1 : Nat) ∧ (i 1 : Nat) < win0_5.index t 1 * 4 + win0_5.xsize (grid0.coords t) 1
      omega
    | ⟨2, _⟩ =>
      show win0_5.index t 2 * 2048 ≤ (i 2 : Nat) ∧ (i 2 : Nat) < win0_5.index t 2 * 2048 + win0_5.xsize (grid0.coords t) 2
      omega
    | ⟨3, _⟩ =>
      show win0_5.index t 3 * 128 ≤ (i 3 : Nat) ∧ (i 3 : Nat) < win0_5.index t 3 * 128 + win0_5.xsize (grid0.coords t) 3
      omega

theorem final_r (c : Dev nD) : (datsV m 0 c).arrAt 6 cfg0.N = rest m c :=
  (datsV m 0 c).arrAt_eq_of_cover 6 (rest m c) (flushed_r m c) fun i => by
    have i0 : (i 0 : Nat) < 16384 := (i 0).isLt
    have i1 : (i 1 : Nat) < 2560 := (i 1).isLt
    obtain ⟨t, ti, tj, tb⟩ := point ((i 0 : Nat) / 2048) (9 + (i 1 : Nat) / 512) (by omega) (by omega)
    refine ⟨t, by rw [flushR t, decide_eq_true_eq]; omega, ?_⟩
    show i ∈ ((View.whole main_v3_3).slice (win0_6.rect t)).set
    rw [View.set_slice_whole, Rect.mem_set_unit]
    intro a
    obtain ⟨h0, h1⟩ := idxR t
    obtain ⟨s0, s1⟩ := sizeR t
    match a with
    | ⟨0, _⟩ =>
      show win0_6.index t 0 * 2048 ≤ (i 0 : Nat) ∧ (i 0 : Nat) < win0_6.index t 0 * 2048 + win0_6.xsize (grid0.coords t) 0
      omega
    | ⟨1, _⟩ =>
      show win0_6.index t 1 * 512 ≤ (i 1 : Nat) ∧ (i 1 : Nat) < win0_6.index t 1 * 512 + win0_6.xsize (grid0.coords t) 1
      omega

theorem enter (c : Dev nD) : (Pipeline.ΦA spec0 c : sProp 𝕄) ⊢ iprop(between m c 0 ∗ ∃ r, prngReg c r) := by
  unfold Pipeline.ΦA between
  iintro ⟨HS, HP⟩
  ihave HS := rest_scr c $$ HS
  icases HS with ⟨%h, HS⟩
  isplitl [HS]
  · iexists h
    isplitr
    · ipureintro; intro h; exact absurd rfl h
    iexact HS
  iexact HP

theorem leave (c : Dev nD) (t : ℕ) : iprop(between m c t ∗ ∃ r, prngReg c r) ⊢ (Pipeline.ΦA spec0 c : sProp 𝕄) := by
  unfold Pipeline.ΦA between
  iintro ⟨⟨%h, %hs, HS⟩, HP⟩
  isplitl [HS]
  · iapply (scr_rest c h); iexact HS
  iexact HP

/-- The run ends with queries, keys, values and the rest at their entries, the arguments unchanged. -/
theorem runV : θ_run defs (onTc (τ := τ) (main (F := Ideal))) ⟨m, fun _ => 0, ρ⟩ (fun r => ∀ c : Dev nD,
      r.2.mem ((c.tc : Thread nD τ).loc main_v3_0) = queries m c
      ∧ r.2.mem ((c.tc : Thread nD τ).loc main_v3_1) = keys m c
      ∧ r.2.mem ((c.tc : Thread nD τ).loc main_v3_2) = values m c
      ∧ r.2.mem ((c.tc : Thread nD τ).loc main_v3_3) = rest m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame_track cfgs (datsV m) 0 Gen.launch0 defs₀ 𝒱₀ m ρ main (hbody := body_obligationV m)
    (hshare := fun c w => by fin_cases w <;> rfl) (howed := fun _ _ => rfl) (V := Gen.V m) (hmain := Gen.hmain m 𝒱₀)
    (hA := fun _ _ => rfl) (hin := fun c => enter m c) (hout := fun c => leave m c _)
    (Q' := fun r => ∀ c : Dev nD,
      r.2.mem ((c.tc : Thread nD τ).loc main_v3_0) = queries m c
      ∧ r.2.mem ((c.tc : Thread nD τ).loc main_v3_1) = keys m c
      ∧ r.2.mem ((c.tc : Thread nD τ).loc main_v3_2) = values m c
      ∧ r.2.mem ((c.tc : Thread nD τ).loc main_v3_3) = rest m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    (hQ' := fun r h c =>
      ⟨((h.1 c).1 3).trans (final_q m c), ((h.1 c).1 4).trans (final_k m c), ((h.1 c).1 5).trans (final_v m c), ((h.1 c).1 6).trans (final_r m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)

end Cert.Kernel2Ideal.Hand
-- ==== Proof.InRef.lean ====
/- The plain mathematics of the call that makes queries, keys, values and the rest, read at an index, and that the call
   leaves it. -/
module

public import proofs.«01_k».proof.Proof.InValue
public import proofs.«01_k».proof.Proof.Gen.Reference2Ideal.Run

@[expose] public section

noncomputable section

namespace Cert.Reference2Ideal.Hand

open Idealize.ShloMosaic Idealize.ShloMosaic.TcCoe
open Cert.Reference2Ideal Cert.Reference2Ideal.Gen
open Cert.Layer

theorem bits_0 : Ideal.ofBits .f32 0#32 = 0 := by simp [Ideal.ofBits, Ideal.ieee]

/-- The normed activations. -/
def normR (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- Their product with the matrix. -/
def dotR (x : FVec Ideal S4x4096x1024 .f32) (g : FVec Ideal S1024 .f32) (w : FVec Ideal S1024x7168 .f32) : FVec Ideal S4x4096x7168 .f32 :=
  Host.dotGeneral dot_S4x4096x1024_S1024x7168_S4x4096x7168_2_0_01_1_n_n none (normR x g) w

/-- The four parts of the product. -/
def queryR (p : FVec Ideal S4x4096x7168 .f32) : FVec Ideal S4x12x4096x128 .bf16 :=
  transpose S4x12x4096x128 [0, 2, 1, 3] (truncf .bf16 (Host.divf (shapeCast _ (extractStridedSlice S4x4096x1536 ![0, 0, 0] p slices_S4x4096x7168_S4x4096x1536_0_0_0) shapeCasts_S4x4096x1536_S4x4096x12x128) (broadcastInDim S4x4096x12x128 ![] bcast_S_S4x4096x12x128 (mulf (Host.sqrt (constant S_ .f32 0x43000000#32)) (Host.log (constant S_ .f32 0x40000000#32))))) bitsLt_bf16_f32) transposes_S4x4096x12x128_S4x12x4096x128_0_2_1_3
def keyR (p : FVec Ideal S4x4096x7168 .f32) : FVec Ideal S4x12x4096x128 .f32 :=
  transpose S4x12x4096x128 [0, 2, 1, 3] (shapeCast _ (extractStridedSlice S4x4096x1536 ![0, 0, 1536] p slices_S4x4096x7168_S4x4096x1536_0_0_1536) shapeCasts_S4x4096x1536_S4x4096x12x128) transposes_S4x4096x12x128_S4x12x4096x128_0_2_1_3
def valueR (p : FVec Ideal S4x4096x7168 .f32) : FVec Ideal S4x12x4096x128 .f32 :=
  transpose S4x12x4096x128 [0, 2, 1, 3] (shapeCast _ (extractStridedSlice S4x4096x1536 ![0, 0, 3072] p slices_S4x4096x7168_S4x4096x1536_0_0_3072) shapeCasts_S4x4096x1536_S4x4096x12x128) transposes_S4x4096x12x128_S4x12x4096x128_0_2_1_3
def restR (p : FVec Ideal S4x4096x7168 .f32) : FVec Ideal S16384x2560 .f32 :=
  shapeCast _ (extractStridedSlice S4x4096x2560 ![0, 0, 4608] p slices_S4x4096x7168_S4x4096x2560_0_0_4608) shapeCasts_S4x4096x2560_S16384x2560

theorem norm_at (x : FVec Ideal S4x4096x1024 .f32) (g : FVec Ideal S1024 .f32) (a : Fin 4) (t : Fin 4096) (d : Fin 1024) :
    normR x g (ix3 a t d) = normed (fun e => x (ix3 a t e)) (fun e => g (ix1 e)) d := by
  pointwise [normR]
  rfl

theorem dot_at (x : FVec Ideal S4x4096x1024 .f32) (g : FVec Ideal S1024 .f32) (w : FVec Ideal S1024x7168 .f32) (a : Fin 4) (t : Fin 4096) (j : Fin 7168) :
    dotR x g w (ix3 a t j) = projected (fun e => x (ix3 a t e)) (fun e => g (ix1 e)) (fun e => w (ix2 e j)) := by
  unfold projected
  simp only [← norm_at]
  pointwise [dotR]
  try rfl

theorem bits_128 : Ideal.ofBits .f32 0x43000000#32 = ((128 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

/-- Dividing by the square root of the head's width and the logarithm of two is multiplying by their product's inverse. -/
theorem scale_eq (x : EReal) :
    Ideal.div x (Ideal.sqrt (Ideal.ofBits .f32 0x43000000#32) * Ideal.log (Ideal.ofBits .f32 0x40000000#32)) = x * Cert.Kernel2Ideal.Hand.qScale := by
  rw [bits_128, bits_2, Ideal.sqrt_coe, Ideal.log_coe, if_neg (by norm_num), if_neg (by norm_num), ← EReal.coe_mul,
    Ideal.div_coe (mul_ne_zero (Real.sqrt_ne_zero'.mpr (by norm_num)) (Real.log_pos (by norm_num)).ne'), one_div]
  rfl

theorem query_at (p : FVec Ideal S4x4096x7168 .f32) (a : Fin 4) (h : Fin 12) (t : Fin 4096) (d : Fin 128) :
    queryR p (ix4 a h t d) = (p (ix3 a t ⟨h.val * 128 + d.val, by omega⟩) : EReal) * Cert.Kernel2Ideal.Hand.qScale := by
  rw [← scale_eq]
  pointwise [queryR]

theorem key_at (p : FVec Ideal S4x4096x7168 .f32) (a : Fin 4) (h : Fin 12) (t : Fin 4096) (d : Fin 128) :
    keyR p (ix4 a h t d) = p (ix3 a t ⟨1536 + (h.val * 128 + d.val), by omega⟩) := by
  pointwise [keyR]

theorem value_at (p : FVec Ideal S4x4096x7168 .f32) (a : Fin 4) (h : Fin 12) (t : Fin 4096) (d : Fin 128) :
    valueR p (ix4 a h t d) = p (ix3 a t ⟨3072 + (h.val * 128 + d.val), by omega⟩) := by
  pointwise [valueR]

theorem rest_at (p : FVec Ideal S4x4096x7168 .f32) (i : Fin 16384) (j : Fin 2560) :
    restR p (ix2 i j) = p (ix3 ⟨i.val / 4096, by omega⟩ ⟨i.val % 4096, by omega⟩ ⟨4608 + j.val, by omega⟩) := by
  pointwise [restR]

/-! ## The call leaves these -/

section Results

open Cert.Kernel2Ideal.Hand (entry row gain column queries keys values rest)

variable (m : (ℓ : Loc Cert.Kernel2Ideal.nD Cert.Kernel2Ideal.τ Cert.Kernel2Ideal.sig) → Buf (Elt Ideal) ℓ) (c : Dev Cert.Kernel2Ideal.nD)

/-- The product of the activations, gains and matrix the call reads. -/
def prodOf : FVec Ideal S4x4096x7168 .f32 :=
  dotR (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))

theorem prod_at (a : Fin 4) (t : Fin 4096) (j : Fin 7168) (n k : ℕ) (hn : n = 4096 * a.val + t.val) (hk : k = j.val) :
    prodOf m c (ix3 a t j) = entry m c n k := by
  subst hn hk
  unfold prodOf
  rw [dot_at]
  unfold entry
  congr 1
  · funext e
    unfold row
    refine congrArg _ (funext fun b => Fin.ext ?_)
    match b with
    | ⟨0, _⟩ => show a.val = (4096 * a.val + t.val) / 4096 % 4; omega
    | ⟨1, _⟩ => show t.val = (4096 * a.val + t.val) % 4096; omega
    | ⟨2, _⟩ => rfl
  · funext e
    unfold column
    refine congrArg _ (funext fun b => Fin.ext ?_)
    match b with
    | ⟨0, _⟩ => rfl
    | ⟨1, _⟩ => show j.val = j.val % 7168; omega

theorem idx4_of (o : S4x12x4096x128.Idx) : ∃ (a : Fin 4) (h : Fin 12) (t : Fin 4096) (d : Fin 128), o = ix4 a h t d :=
  ⟨o 0, o 1, o 2, o 3, funext fun b => by fin_cases b <;> rfl⟩

theorem queries_ref : queries m c = queryR (prodOf m c) := by
  funext o
  obtain ⟨a, h, t, d, rfl⟩ := idx4_of o
  rw [query_at, prod_at m c a t _ (4096 * a.val + t.val) (128 * h.val + d.val) rfl (by show 128 * h.val + d.val = h.val * 128 + d.val; omega)]
  rfl

theorem keys_ref : keys m c = keyR (prodOf m c) := by
  funext o
  obtain ⟨a, h, t, d, rfl⟩ := idx4_of o
  rw [key_at, prod_at m c a t _ (4096 * a.val + t.val) (1536 + (128 * h.val + d.val)) rfl (by show 1536 + (128 * h.val + d.val) = 1536 + (h.val * 128 + d.val); omega)]
  rfl

theorem values_ref : values m c = valueR (prodOf m c) := by
  funext o
  obtain ⟨a, h, t, d, rfl⟩ := idx4_of o
  rw [value_at, prod_at m c a t _ (4096 * a.val + t.val) (3072 + (128 * h.val + d.val)) rfl (by show 3072 + (128 * h.val + d.val) = 3072 + (h.val * 128 + d.val); omega)]
  rfl

theorem rest_ref : rest m c = restR (prodOf m c) := by
  funext o
  obtain ⟨i, j, rfl⟩ : ∃ (i : Fin 16384) (j : Fin 2560), o = ix2 i j := ⟨o 0, o 1, funext fun a => by fin_cases a <;> rfl⟩
  rw [rest_at, prod_at m c _ _ _ i.val (4608 + j.val) (by show i.val = 4096 * (i.val / 4096) + i.val % 4096; omega) rfl]
  rfl

end Results

end Cert.Reference2Ideal.Hand
-- ==== Proof.TailMath.lean ====
/- The layer's memory attention and gates for one row, over the extended reals: as the call computes them, which divides the
   weighted values by the weights' sum, and as the plain mathematics does, which divides the weights. -/
module

public import Idealize.ShloMosaic.PureOps.Ideal
public import Idealize.ShloMosaic.Lib.Pointwise

@[expose] public section

noncomputable section

namespace Cert.Tail

open Idealize.ShloMosaic

/-- The scale of the logits: the literal nearest 1/√128. -/
def scale : EReal := Ideal.ofBits .f32 1035273459#32

/-- Where the maximum of the logits starts. -/
def lowest : EReal := Ideal.ofBits .f32 4286578688#32

/-- An entry of a query over the query's root mean square, times its gain. -/
def normedQ (q g : Fin 128 → EReal) (d : Fin 128) : EReal :=
  q d * Ideal.rsqrt (Ideal.div (∑ e, q e * q e) (Ideal.ofBits .f32 1124073472#32) + Ideal.ofBits .f32 897988541#32) * g d

/-- A logit, its query scaled first. -/
def logit (q g k : Fin 128 → EReal) : EReal := ∑ d, normedQ q g d * scale * k d

/-- A weight before it is divided by the weights' sum. -/
def weight (s : Fin 256 → EReal) (j : Fin 256) : EReal := Ideal.exp (s j - Finset.univ.fold max lowest s)

/-- The weighted values over the weights' sum. -/
def attend (s v : Fin 256 → EReal) : EReal := Ideal.div (∑ j, weight s j * v j) (∑ j, weight s j)

def silu (x : EReal) : EReal := x * Ideal.logistic x

/-- One gated entry of one head's memory attention. -/
def head (q g : Fin 128 → EReal) (k : Fin 256 → Fin 128 → EReal) (v : Fin 256 → EReal) (gate : EReal) : EReal :=
  attend (fun j => logit q g (k j)) v * silu gate

/-- An entry of the row that the projection out multiplies: `br` the mixer's row, `z` the row of the gates and the memory's
    queries, `k` and `v` the memory's keys and values, their heads one after another. -/
def act (br z : ℕ → EReal) (k v : ℕ → ℕ → EReal) (g : Fin 128 → EReal) (e : ℕ) : EReal :=
  if e < 1536 then br e * silu (z e)
  else head (fun d => z (1536 + 128 * ((e - 1536) / 128) + d.val)) g (fun j d => k j.val (128 * ((e - 1536) / 128) + d.val))
    (fun j => v j.val (e - 1536)) (z (2048 + (e - 1536)))

/-- Row `t` of batch `a`, zero past its end. -/
def rowN {n : ℕ} (X : (⟨3, ![4, 4096, n]⟩ : Shape).Idx → EReal) (a : Fin 4) (t : Fin 4096) (e : ℕ) : EReal :=
  if h : e < n then X (ix3 a t ⟨e, h⟩) else 0

/-- The memory of batch `a`, its heads one after another, zero past its end. -/
def memN (X : (⟨4, ![4, 256, 4, 128]⟩ : Shape).Idx → EReal) (a : Fin 4) (j e : ℕ) : EReal :=
  if h : j < 256 ∧ e < 512 then X (ix4 a ⟨j, h.1⟩ ⟨e / 128, by omega⟩ ⟨e % 128, by omega⟩) else 0

/-- An entry of the layer's result. -/
def tail (x : (⟨3, ![4, 4096, 1024]⟩ : Shape).Idx → EReal) (br : (⟨3, ![4, 4096, 1536]⟩ : Shape).Idx → EReal)
    (z : (⟨3, ![4, 4096, 2560]⟩ : Shape).Idx → EReal) (k v : (⟨4, ![4, 256, 4, 128]⟩ : Shape).Idx → EReal)
    (g : (⟨1, ![128]⟩ : Shape).Idx → EReal) (w : (⟨2, ![2048, 1024]⟩ : Shape).Idx → EReal) (a : Fin 4) (t : Fin 4096) (d : Fin 1024) : EReal :=
  x (ix3 a t d) + ∑ e : Fin 2048, act (rowN br a t) (rowN z a t) (memN k a) (memN v a) (fun d => g (ix1 d)) e.val * w (ix2 e d)

/-! ## The plain form -/

theorem lowest_eq : lowest = ⊥ := by simp [lowest, Ideal.ofBits, Ideal.ieee]

theorem sum_mul_real {ι : Type} (s : Finset ι) (f : ι → EReal) (c : ℝ) (hc : 0 ≤ c) : (∑ i ∈ s, f i) * (c : EReal) = ∑ i ∈ s, f i * (c : EReal) := by
  classical
  induction s using Finset.induction with
  | empty => simp
  | insert a s ha ih =>
    rw [Finset.sum_insert ha, Finset.sum_insert ha, EReal.right_distrib_of_nonneg_of_ne_top (by exact_mod_cast hc) (EReal.coe_ne_top c), ih]

theorem scale_real : ∃ c : ℝ, 0 ≤ c ∧ scale = (c : EReal) := by
  refine ⟨(11863283 : ℝ) * (2 : ℝ) ^ (-27 : ℤ), by positivity, ?_⟩
  simp [scale, Ideal.ofBits, Ideal.ieee, -EReal.coe_mul]

/-- The logit, scaled last. -/
theorem logit_eq (q g k : Fin 128 → EReal) : logit q g k = (∑ d, normedQ q g d * k d) * scale := by
  obtain ⟨c, hc, h⟩ := scale_real
  unfold logit
  rw [h, sum_mul_real _ _ c hc]
  exact Finset.sum_congr rfl fun d _ => by rw [mul_right_comm]

theorem fold_real {ι : Type} (s : Finset ι) (hs : s.Nonempty) (f : ι → ℝ) : ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

theorem sum_real {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- At real logits dividing the weighted values is weighting by the divided weights. -/
theorem attend_eq (s : Fin 256 → ℝ) (v : Fin 256 → EReal) :
    attend (fun j => (s j : EReal)) v
      = ∑ j, v j * Ideal.div (weight (fun j => (s j : EReal)) j) (∑ j, weight (fun j => (s j : EReal)) j) := by
  obtain ⟨M, hM⟩ := fold_real Finset.univ ⟨0, Finset.mem_univ _⟩ s
  have hw : ∀ j, weight (fun j => (s j : EReal)) j = ((Real.exp (s j - M) : ℝ) : EReal) := by
    intro j
    unfold weight
    rw [lowest_eq, hM, ← EReal.coe_sub, Ideal.exp_coe]
  have hpos : 0 < ∑ j, Real.exp (s j - M) := Finset.sum_pos (fun j _ => Real.exp_pos _) ⟨0, Finset.mem_univ _⟩
  unfold attend
  simp only [hw]
  rw [sum_real, Ideal.div_coe hpos.ne', sum_mul_real _ _ _ (by positivity)]
  refine Finset.sum_congr rfl fun j _ => ?_
  rw [Ideal.div_coe hpos.ne', mul_comm (v j), mul_right_comm]

/-! ## Real gains and keys give real logits -/

theorem bits_128 : Ideal.ofBits .f32 1124073472#32 = ((128 : ℝ) : EReal) := by
  simp [Ideal.ofBits, Ideal.ieee, -EReal.coe_mul]; norm_num

theorem eps_real : ∃ c : ℝ, 0 < c ∧ Ideal.ofBits .f32 897988541#32 = (c : EReal) := by
  refine ⟨(8796093 : ℝ) * (2 : ℝ) ^ (-43 : ℤ), by positivity, ?_⟩
  simp [Ideal.ofBits, Ideal.ieee, -EReal.coe_mul]

/-- A normed entry is real whatever the query is: where the query has an infinite entry, its root mean square is infinite too. -/
theorem normedQ_real (q : Fin 128 → EReal) (g : Fin 128 → ℝ) (d : Fin 128) : ∃ s : ℝ, normedQ q (fun d => (g d : EReal)) d = (s : EReal) := by
  obtain ⟨ε, hε, he⟩ := eps_real
  by_cases hq : ∀ e, q e ≠ ⊤ ∧ q e ≠ ⊥
  · have hr : ∀ e, ∃ r : ℝ, q e = (r : EReal) := fun e => ⟨(q e).toReal, (EReal.coe_toReal (hq e).1 (hq e).2).symm⟩
    choose r hr using hr
    have hm : 0 < (∑ e, r e * r e) * (1 / 128) + ε := by
      have : 0 ≤ ∑ e, r e * r e := Finset.sum_nonneg fun e _ => mul_self_nonneg _
      positivity
    refine ⟨r d * (Real.sqrt ((∑ e, r e * r e) * (1 / 128) + ε))⁻¹ * g d, ?_⟩
    unfold normedQ
    simp only [hr]
    rw [show (∑ e, (r e : EReal) * (r e : EReal)) = ((∑ e, r e * r e : ℝ) : EReal) from by
      rw [← sum_real]; exact Finset.sum_congr rfl fun e _ => (EReal.coe_mul _ _).symm]
    rw [bits_128, he, Ideal.div_coe (by norm_num), ← EReal.coe_mul, ← EReal.coe_add]
    rw [show Ideal.rsqrt (((∑ e, r e * r e) * (1 / 128) + ε : ℝ) : EReal) = (((Real.sqrt ((∑ e, r e * r e) * (1 / 128) + ε))⁻¹ : ℝ) : EReal) from by
      show (if _ < 0 then (⊥ : EReal) else if _ = 0 then ⊤ else _) = _
      rw [if_neg hm.le.not_gt, if_neg hm.ne']]
    rw [← EReal.coe_mul, ← EReal.coe_mul]
  · obtain ⟨e, he'⟩ := not_forall.mp hq
    have hsq : q e * q e = ⊤ := by
      by_cases ht : q e = ⊤
      · rw [ht]; exact EReal.top_mul_top
      · have hb : q e = ⊥ := by
          by_contra hb
          exact he' ⟨ht, hb⟩
        rw [hb]; exact EReal.bot_mul_bot
    have hnn : ∀ i, 0 ≤ q i * q i := by
      intro i
      rcases le_total 0 (q i) with h | h
      · exact mul_nonneg h h
      · exact EReal.mul_nonneg_iff.mpr (Or.inr ⟨h, h⟩)
    have hsum : ∑ i, q i * q i = ⊤ :=
      top_le_iff.mp (hsq ▸ Finset.single_le_sum (f := fun i => q i * q i) (fun i _ => hnn i) (Finset.mem_univ e))
    refine ⟨0, ?_⟩
    unfold normedQ
    rw [hsum, bits_128, he, Ideal.div_coe (by norm_num), EReal.top_mul_coe_of_pos (by norm_num), EReal.top_add_coe]
    show q d * 0 * _ = _
    rw [mul_zero, zero_mul]
    rfl

theorem logit_real (q : Fin 128 → EReal) (g k : Fin 128 → ℝ) : ∃ s : ℝ, logit q (fun d => (g d : EReal)) (fun d => (k d : EReal)) = (s : EReal) := by
  obtain ⟨c, hc, hs⟩ := scale_real
  choose n hn using normedQ_real q g
  refine ⟨∑ d, n d * c * k d, ?_⟩
  unfold logit
  rw [← sum_real]
  refine Finset.sum_congr rfl fun d _ => ?_
  rw [hn, hs, EReal.coe_mul _ (k d), EReal.coe_mul _ c]

end Cert.Tail

end
-- ==== Proof.TailAt.lean ====
/- The call that closes a layer, read at an index: the gated rows that its scratch holds, and their product with the matrix. -/
module

public import proofs.«01_k».proof.Proof.TailMath
public import proofs.«01_k».proof.Proof.Gen.Kernel4Ideal.Value
public import Idealize.ShloMosaic.Lib.Pointwise
public import Idealize.ShloMosaic.Lib.IdealHost
public import Idealize.ShloMosaic.Lib.Tactic

@[expose] public section

noncomputable section

namespace Cert.Kernel4Ideal.Hand

open Idealize.ShloMosaic Idealize.ShloMosaic.TcCoe Idealize.SL.Sem
open Cert.Kernel4Ideal Cert.Kernel4Ideal.Gen Cert.Kernel4Ideal.Value
open Cert.Tail

/-! ## The payloads at an index -/

section Payloads

variable (q mg : Vec Ideal S1x512x128 .f32) (k v : Vec Ideal S1x256x128 .f32) (g : Vec Ideal S1x128 .f32) (r : Fin 512) (d : Fin 128)

theorem gated_at (b z : Vec Ideal S1x512x1536 .f32) (r : Fin 512) (d : Fin 1536) :
    k0_pay3 b z (ix2 r d) = b (ix3 0 r d) * silu (z (ix3 0 r d)) := by
  pointwise [k0_pay3]
  rfl

/-- A head's gated entry, of the query, gate, keys, values and gains that the body loads. -/
def headOf : EReal :=
  head (fun e => q (ix3 0 r e)) (fun e => g (ix2 0 e)) (fun j e => k (ix3 0 j e)) (fun j => v (ix3 0 j d)) (mg (ix3 0 r d))

theorem head0_at : k0_pay7 (k0_pay4 k) (k0_pay5 v) (k0_pay6 q g) mg (ix2 r d) = headOf q mg k v g r d := by
  pointwise [k0_pay7, k0_pay4, k0_pay5, k0_pay6]
  rfl

theorem head1_at : k0_pay13 (k0_pay8 q) (k0_pay9 k) (k0_pay10 v) (k0_pay11 g) (k0_pay12 q) (FloatOps.ofBits FTy.f32 897988541#32) mg (ix2 r d)
    = headOf q mg k v g r d := by
  pointwise [k0_pay13, k0_pay8, k0_pay9, k0_pay10, k0_pay11, k0_pay12]
  rfl

theorem head2_at : k0_pay17 (k0_pay14 q) (k0_pay15 k) (k0_pay16 v) g mg (ix2 r d) = headOf q mg k v g r d := by
  pointwise [k0_pay17, k0_pay14, k0_pay15, k0_pay16]
  rfl

theorem head3_at : k0_pay1 (k0_pay19 (k0_pay18 q) k v g mg) (ix2 r d) = headOf q mg k v g r d := by
  pointwise [k0_pay1, k0_pay19, k0_pay18]
  rfl

theorem out_at (x : Vec Ideal S1x512x1024 .f32) (a : Vec Ideal S512x2048 .bf16) (w : Vec Ideal S2048x1024 .bf16) (r : Fin 512) (d : Fin 1024) :
    k0_pay2 x a w (ix3 0 r d) = x (ix3 0 r d) + ∑ e : Fin 2048, (a (ix2 r e) : EReal) * w (ix2 e d) := by
  pointwise [k0_pay2]

end Payloads

end Cert.Kernel4Ideal.Hand

end
-- ==== Proof.TailOut.lean ====
/- What a point of the call that closes a layer leaves in its output block: the residual plus the gated rows' product with
   the matrix, the rows' five column ranges read back from the scratch. -/
module

public import proofs.«01_k».proof.Proof.TailAt
public import Idealize.ShloMosaic.Lib.Pipeline.ValueKit.Tiles

@[expose] public section

noncomputable section

namespace Cert.Kernel4Ideal.Hand

open Idealize.ShloMosaic Idealize.ShloMosaic.TcCoe Idealize.SL.Sem
open Cert.Kernel4Ideal Cert.Kernel4Ideal.Gen Cert.Kernel4Ideal.Value
open Cert.Tail

theorem hz2 : (![0, 0] : Fin 2 → Nat) = fun _ => 0 := funext fun a => by fin_cases a <;> rfl
theorem hz3 : (![0, 0, 0] : Fin 3 → Nat) = fun _ => 0 := funext fun a => by fin_cases a <;> rfl

/-- A head's gated entry is the row's entry at the head's columns. -/
theorem headOf_eq (br z : ℕ → EReal) (kk vv : ℕ → ℕ → EReal) (gg : Fin 128 → EReal) (r : Fin 512) (h : ℕ)
    (q mg : Vec Ideal S1x512x128 .f32) (k v : Vec Ideal S1x256x128 .f32) (g : Vec Ideal S1x128 .f32)
    (hq : ∀ d : Fin 128, q (ix3 0 r d) = z (1536 + (128 * h + d.val))) (hm : ∀ d : Fin 128, mg (ix3 0 r d) = z (2048 + (128 * h + d.val)))
    (hk : ∀ (j : Fin 256) (d : Fin 128), k (ix3 0 j d) = kk j.val (128 * h + d.val))
    (hv : ∀ (j : Fin 256) (d : Fin 128), v (ix3 0 j d) = vv j.val (128 * h + d.val)) (hg : ∀ d : Fin 128, g (ix2 0 d) = gg d)
    (d : Fin 128) (e : ℕ) (he : e = 1536 + 128 * h + d.val) : headOf q mg k v g r d = act br z kk vv gg e := by
  unfold act headOf
  rw [if_neg (by omega)]
  have h1 : (e - 1536) / 128 = h := by omega
  have h2 : e - 1536 = 128 * h + d.val := by omega
  rw [h1, h2, hm]
  simp only [hq, hk, hv, hg, Nat.add_assoc]

/-- Membership in a range of the row's columns. -/
theorem mem_cols (o n : ℕ) (inb : ∀ a, (![0, o] : Fin 2 → ℕ) a + (![512, n] : Fin 2 → ℕ) a ≤ S512x2048.size a) (r : Fin 512) (e : Fin 2048)
    (h : o ≤ e.val ∧ e.val < o + n) : (ix2 r e : S512x2048.Idx) ∈ (Rect.unit (s := S512x2048) ![0, o] ![512, n] inb).set := by
  have hx : (ix2 r e : S512x2048.Idx) = (Rect.unit (s := S512x2048) ![0, o] ![512, n] inb).idx (ix2 (n0 := 512) (n1 := n) r ⟨e.val - o, by omega⟩) := by
    funext a
    apply Fin.ext
    match a with
    | ⟨0, _⟩ => show r.val = 0 + 1 * r.val; omega
    | ⟨1, _⟩ => show e.val = o + 1 * (e.val - o); omega
  rw [hx]
  exact LoadRect.idx_mem _ _

/-- A load of a head's columns. -/
theorem ld_cols {n : ℕ} (X : Vec Ideal ⟨3, ![1, n, 512]⟩ .f32) (o : ℕ)
    (inb : ∀ a, (![0, 0, o] : Fin 3 → ℕ) a + (![1, n, 128] : Fin 3 → ℕ) a ≤ (⟨3, ![1, n, 512]⟩ : Shape).size a) (r : Fin n) (d : Fin 128)
    (e : Fin 512) (he : e.val = o + d.val) :
    View.ld X (Rect.unit (s := ⟨3, ![1, n, 512]⟩) ![0, 0, o] ![1, n, 128] inb) (ix3 0 r d) = X (ix3 0 r e) := by
  refine View.ld_unit_apply_of X _ _ _ _ _ fun a => ?_
  match a with
  | ⟨0, _⟩ => rfl
  | ⟨1, _⟩ => show r.val = 0 + r.val; omega
  | ⟨2, _⟩ => exact he

theorem eq_ix2 {a b : ℕ} (x : (⟨2, ![a, b]⟩ : Shape).Idx) : x = ix2 (x 0) (x 1) := by
  funext i
  match i with
  | ⟨0, _⟩ => rfl
  | ⟨1, _⟩ => rfl

theorem out_A (c : Dev nD) (i : grid0.Coords) (arg2 : Memref sig .tc .vmem S1x512x1536 .f32) (harg2 : arg2.IsWhole) (arg3 : Memref sig .tc .vmem S1x512x1536 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x128 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S1x512x1024 .f32) (harg11 : arg11.IsWhole) (arg12 : Memref sig .tc .vmem S512x2048 .bf16) (harg12 : arg12.IsWhole)
    (x0 : Vec Ideal S1x512x1536 .f32) (x1 : Vec Ideal S1x512x1536 .f32) (x2 : Vec Ideal S1x512x512 .f32) (x3 : Vec Ideal S1x512x512 .f32) (x4 : Vec Ideal S1x256x512 .f32) (x5 : Vec Ideal S1x256x512 .f32) (x6 : Vec Ideal S1x128 .f32) (x7 : Vec Ideal S1x512x1024 .f32) (x8 : Vec Ideal S2048x1024 .bf16)
    (br z : ℕ → EReal) (kk vv : ℕ → ℕ → EReal) (gg : Fin 128 → EReal) (r : Fin 512) (d : Fin 1024)
    (h0 : ∀ e : Fin 1536, x0 (ix3 0 r e) = br e.val) (h1 : ∀ e : Fin 1536, x1 (ix3 0 r e) = z e.val)
    (h2 : ∀ e : Fin 512, x2 (ix3 0 r e) = z (1536 + e.val)) (h3 : ∀ e : Fin 512, x3 (ix3 0 r e) = z (2048 + e.val))
    (h4 : ∀ (j : Fin 256) (e : Fin 512), x4 (ix3 0 j e) = kk j.val e.val) (h5 : ∀ (j : Fin 256) (e : Fin 512), x5 (ix3 0 j e) = vv j.val e.val)
    (h6 : ∀ e : Fin 128, x6 (ix2 0 e) = gg e) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8 (ix3 0 r d)
      = x7 (ix3 0 r d) + ∑ e : Fin 2048, act br z kk vv gg e.val * x8 (ix2 e d) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread]
  rw [out_at, View.ld_unit_zero (S := S1x512x1024) hz3, View.ld_unit_zero (S := S2048x1024) hz2]
  congr 1
  refine Finset.sum_congr rfl fun e _ => ?_
  congr 1
  rw [View.readCov_eq_canon']
  have he : (Rect.unit (s := S512x2048) ![0, 0] S512x2048.size inb_S512x2048_S512x2048_0_0).toLoadRect.idx (ix2 r e) = ix2 r e := by
    funext a
    apply Fin.ext
    match a with
    | ⟨0, _⟩ => show 0 + 1 * r.val = r.val; omega
    | ⟨1, _⟩ => show 0 + 1 * e.val = e.val; omega
  show View.canon _ ((Rect.unit (s := S512x2048) ![0, 0] S512x2048.size inb_S512x2048_S512x2048_0_0).toLoadRect.idx (ix2 r e)) = _
  rw [he]
  refine View.canon_eq_of_allAt _ _ _ ?_ ?_
  · rcases Nat.lt_or_ge e.val 1536 with h | h
    · exact ⟨_, .tail _ (.tail _ (.tail _ (.tail _ (.head _)))), mem_cols 0 1536 inb_S512x2048_S512x1536_0_0 r e ⟨by omega, by omega⟩⟩
    rcases Nat.lt_or_ge e.val 1664 with h | h
    · exact ⟨_, .tail _ (.tail _ (.tail _ (.head _))), mem_cols 1536 128 inb_S512x2048_S512x128_0_1536 r e ⟨by omega, by omega⟩⟩
    rcases Nat.lt_or_ge e.val 1792 with h | h
    · exact ⟨_, .tail _ (.tail _ (.head _)), mem_cols 1664 128 inb_S512x2048_S512x128_0_1664 r e ⟨by omega, by omega⟩⟩
    rcases Nat.lt_or_ge e.val 1920 with h | h
    · exact ⟨_, .tail _ (.head _), mem_cols 1792 128 inb_S512x2048_S512x128_0_1792 r e ⟨by omega, by omega⟩⟩
    · exact ⟨_, .head _, mem_cols 1920 128 inb_S512x2048_S512x128_0_1920 r e ⟨by omega, by omega⟩⟩
  intro p hp
  simp only [List.mem_cons, List.not_mem_nil, or_false] at hp
  rcases hp with rfl | rfl | rfl | rfl | rfl
  · intro x hx
    have ha := congrArg (fun i : S512x2048.Idx => (i 0).val) hx
    have hb := congrArg (fun i : S512x2048.Idx => (i 1).val) hx
    replace ha : 0 + 1 * (x 0).val = r.val := ha
    replace hb : 1920 + 1 * (x 1).val = e.val := hb
    obtain rfl : x 0 = r := Fin.ext (by omega)
    dsimp only
    refine (congrArg _ (eq_ix2 x)).trans ?_
    refine (head3_at _ _ _ _ _ _ _).trans ?_
    refine headOf_eq br z kk vv gg (x 0) 3 _ _ _ _ _ ?_ ?_ ?_ ?_ ?_ (x 1) e.val (by omega)
    · intro d'; exact (ld_cols x2 384 _ (x 0) d' ⟨384 + d'.val, by omega⟩ rfl).trans (h2 _)
    · intro d'; exact (ld_cols x3 384 _ (x 0) d' ⟨384 + d'.val, by omega⟩ rfl).trans (h3 _)
    · intro j d'; exact (ld_cols x4 384 _ j d' ⟨384 + d'.val, by omega⟩ rfl).trans (h4 _ _)
    · intro j d'; exact (ld_cols x5 384 _ j d' ⟨384 + d'.val, by omega⟩ rfl).trans (h5 _ _)
    · intro d'; rw [View.ld_unit_zero (S := S1x128) hz2]; exact h6 d'
  · intro x hx
    have ha := congrArg (fun i : S512x2048.Idx => (i 0).val) hx
    have hb := congrArg (fun i : S512x2048.Idx => (i 1).val) hx
    replace ha : 0 + 1 * (x 0).val = r.val := ha
    replace hb : 1792 + 1 * (x 1).val = e.val := hb
    obtain rfl : x 0 = r := Fin.ext (by omega)
    dsimp only
    refine (congrArg _ (eq_ix2 x)).trans ?_
    refine (head2_at _ _ _ _ _ _ _).trans ?_
    refine headOf_eq br z kk vv gg (x 0) 2 _ _ _ _ _ ?_ ?_ ?_ ?_ ?_ (x 1) e.val (by omega)
    · intro d'; exact (ld_cols x2 256 _ (x 0) d' ⟨256 + d'.val, by omega⟩ rfl).trans (h2 _)
    · intro d'; exact (ld_cols x3 256 _ (x 0) d' ⟨256 + d'.val, by omega⟩ rfl).trans (h3 _)
    · intro j d'; exact (ld_cols x4 256 _ j d' ⟨256 + d'.val, by omega⟩ rfl).trans (h4 _ _)
    · intro j d'; exact (ld_cols x5 256 _ j d' ⟨256 + d'.val, by omega⟩ rfl).trans (h5 _ _)
    · intro d'; rw [View.ld_unit_zero (S := S1x128) hz2]; exact h6 d'
  · intro x hx
    have ha := congrArg (fun i : S512x2048.Idx => (i 0).val) hx
    have hb := congrArg (fun i : S512x2048.Idx => (i 1).val) hx
    replace ha : 0 + 1 * (x 0).val = r.val := ha
    replace hb : 1664 + 1 * (x 1).val = e.val := hb
    obtain rfl : x 0 = r := Fin.ext (by omega)
    dsimp only
    refine (congrArg _ (eq_ix2 x)).trans ?_
    refine (head1_at _ _ _ _ _ _ _).trans ?_
    refine headOf_eq br z kk vv gg (x 0) 1 _ _ _ _ _ ?_ ?_ ?_ ?_ ?_ (x 1) e.val (by omega)
    · intro d'; exact (ld_cols x2 128 _ (x 0) d' ⟨128 + d'.val, by omega⟩ rfl).trans (h2 _)
    · intro d'; exact (ld_cols x3 128 _ (x 0) d' ⟨128 + d'.val, by omega⟩ rfl).trans (h3 _)
    · intro j d'; exact (ld_cols x4 128 _ j d' ⟨128 + d'.val, by omega⟩ rfl).trans (h4 _ _)
    · intro j d'; exact (ld_cols x5 128 _ j d' ⟨128 + d'.val, by omega⟩ rfl).trans (h5 _ _)
    · intro d'; rw [View.ld_unit_zero (S := S1x128) hz2]; exact h6 d'
  · intro x hx
    have ha := congrArg (fun i : S512x2048.Idx => (i 0).val) hx
    have hb := congrArg (fun i : S512x2048.Idx => (i 1).val) hx
    replace ha : 0 + 1 * (x 0).val = r.val := ha
    replace hb : 1536 + 1 * (x 1).val = e.val := hb
    obtain rfl : x 0 = r := Fin.ext (by omega)
    dsimp only
    refine (congrArg _ (eq_ix2 x)).trans ?_
    refine (head0_at _ _ _ _ _ _ _).trans ?_
    refine headOf_eq br z kk vv gg (x 0) 0 _ _ _ _ _ ?_ ?_ ?_ ?_ ?_ (x 1) e.val (by omega)
    · intro d'; exact (ld_cols x2 0 _ (x 0) d' ⟨0 + d'.val, by omega⟩ rfl).trans (h2 _)
    · intro d'; exact (ld_cols x3 0 _ (x 0) d' ⟨0 + d'.val, by omega⟩ rfl).trans (h3 _)
    · intro j d'; exact (ld_cols x4 0 _ j d' ⟨0 + d'.val, by omega⟩ rfl).trans (h4 _ _)
    · intro j d'; exact (ld_cols x5 0 _ j d' ⟨0 + d'.val, by omega⟩ rfl).trans (h5 _ _)
    · intro d'; rw [View.ld_unit_zero (S := S1x128) hz2]; exact h6 d'
  · intro x hx
    have ha := congrArg (fun i : S512x2048.Idx => (i 0).val) hx
    have hb := congrArg (fun i : S512x2048.Idx => (i 1).val) hx
    replace ha : 0 + 1 * (x 0).val = r.val := ha
    replace hb : 0 + 1 * (x 1).val = e.val := hb
    obtain rfl : x 0 = r := Fin.ext (by omega)
    have hl : (x 1).val < 1536 := (x 1).isLt
    dsimp only
    refine (congrArg _ (eq_ix2 x)).trans ?_
    refine (gated_at _ _ _ _).trans ?_
    rw [View.ld_unit_zero (S := S1x512x1536) hz3, View.ld_unit_zero (S := S1x512x1536) hz3]
    unfold act
    rw [if_pos (by omega), ← hb, Nat.zero_add, Nat.one_mul]
    exact congrArg₂ (fun a b => a * silu b) (h0 (x 1)) (h1 (x 1))

end Cert.Kernel4Ideal.Hand

end
-- ==== Proof.TailValue.lean ====
/- What the call that closes a layer leaves: at each of its 32 points one batch's 512 rows. -/
module

public import proofs.«01_k».proof.Proof.TailOut
public import Idealize.ShloMosaic.Lib.StableHlo.ReadAt

@[expose] public section

noncomputable section

namespace Cert.Kernel4Ideal.Hand

open Idealize.ShloMosaic Idealize.ShloMosaic.TcCoe Idealize.SL.Sem
open Cert.Kernel4Ideal Cert.Kernel4Ideal.Gen Cert.Kernel4Ideal.Value
open Cert.Tail

/-! ## The blocks that a point reads -/

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = t.val % 8 ∧ win0_2.index t (2 : Fin 3) = 3 :=
  (by decide +kernel : ∀ t : Fin grid0.N, _)
theorem idx3 : ∀ t : Fin cfg0.N, win0_3.index t (0 : Fin 3) = t.val / 8 ∧ win0_3.index t (1 : Fin 3) = t.val % 8 ∧ win0_3.index t (2 : Fin 3) = 4 :=
  (by decide +kernel : ∀ t : Fin grid0.N, _)
theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 8 ∧ win0_5.index t (1 : Fin 3) = 0 ∧ win0_5.index t (2 : Fin 3) = 0 :=
  (by decide +kernel : ∀ t : Fin grid0.N, _)
theorem idx7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)
theorem idx9 : ∀ t : Fin cfg0.N, win0_9.index t (0 : Fin 3) = t.val / 8 ∧ win0_9.index t (1 : Fin 3) = t.val % 8 ∧ win0_9.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

variable (m : (ℓ : Loc nD τ sig) → Buf (Elt Ideal) ℓ)

theorem branch_at (c : Dev nD) (t : Fin cfg0.N) (r : Fin 512) (e : Fin 1536) (a : Fin 4) (i : Fin 4096) (ha : a.val = t.val / 8) (hi : i.val = 512 * (t.val % 8) + r.val)
    (e' : Fin 1536) (he : e'.val = 0 + e.val) :
    iblk m c 0 t (ix3 0 r e) = m ((c.tc : Thread nD τ).loc main_arg1) (ix3 a i e') := by
  obtain ⟨h0, h1, h2⟩ := idx0 t
  rw [← V_main_arg1 m c]
  unfold iblk
  rw [View.read_apply]
  show V m c main_arg1 _ = V m c main_arg1 _
  congr 1
  funext b
  apply Fin.ext
  match b with
  | ⟨0, _⟩ => show win0_0.index t 0 * 1 + 1 * 0 = a.val; omega
  | ⟨1, _⟩ => show win0_0.index t 1 * 512 + 1 * r.val = i.val; omega
  | ⟨2, _⟩ => show win0_0.index t 2 * 1536 + 1 * e.val = e'.val; omega

/-- No block of the gates is cut, so the gates' buffer is the block. -/
theorem gate_at (c : Dev nD) (t : Fin cfg0.N) (r : Fin 512) (e : Fin 1536) (a : Fin 4) (i : Fin 4096) (ha : a.val = t.val / 8) (hi : i.val = 512 * (t.val % 8) + r.val)
    (e' : Fin 2560) (he : e'.val = 0 + e.val) :
    X0_1 m c t (ix3 0 r e) = m ((c.tc : Thread nD τ).loc main_arg2) (ix3 a i e') := by
  obtain ⟨h0, h1, h2⟩ := idx1 t
  rw [← V_main_arg2 m c]
  unfold X0_1 Pipeline.Window.fill
  rw [dif_pos (moved0_1 t _)]
  unfold iblk
  rw [View.read_apply]
  show V m c main_arg2 _ = V m c main_arg2 _
  congr 1
  funext b
  apply Fin.ext
  match b with
  | ⟨0, _⟩ => show win0_1.index t 0 * 1 + 1 * 0 = a.val; omega
  | ⟨1, _⟩ => show win0_1.index t 1 * 512 + 1 * r.val = i.val; omega
  | ⟨2, _⟩ => show win0_1.index t 2 * 1536 + 1 * e.val = e'.val; omega

theorem query_at (c : Dev nD) (t : Fin cfg0.N) (r : Fin 512) (e : Fin 512) (a : Fin 4) (i : Fin 4096) (ha : a.val = t.val / 8) (hi : i.val = 512 * (t.val % 8) + r.val)
    (e' : Fin 2560) (he : e'.val = 1536 + e.val) :
    iblk m c 2 t (ix3 0 r e) = m ((c.tc : Thread nD τ).loc main_arg2) (ix3 a i e') := by
  obtain ⟨h0, h1, h2⟩ := idx2 t
  rw [← V_main_arg2 m c]
  unfold iblk
  rw [View.read_apply]
  show V m c main_arg2 _ = V m c main_arg2 _
  congr 1
  funext b
  apply Fin.ext
  match b with
  | ⟨0, _⟩ => show win0_2.index t 0 * 1 + 1 * 0 = a.val; omega
  | ⟨1, _⟩ => show win0_2.index t 1 * 512 + 1 * r.val = i.val; omega
  | ⟨2, _⟩ => show win0_2.index t 2 * 512 + 1 * e.val = e'.val; omega

theorem mgate_at (c : Dev nD) (t : Fin cfg0.N) (r : Fin 512) (e : Fin 512) (a : Fin 4) (i : Fin 4096) (ha : a.val = t.val / 8) (hi : i.val = 512 * (t.val % 8) + r.val)
    (e' : Fin 2560) (he : e'.val = 2048 + e.val) :
    iblk m c 3 t (ix3 0 r e) = m ((c.tc : Thread nD τ).loc main_arg2) (ix3 a i e') := by
  obtain ⟨h0, h1, h2⟩ := idx3 t
  rw [← V_main_arg2 m c]
  unfold iblk
  rw [View.read_apply]
  show V m c main_arg2 _ = V m c main_arg2 _
  congr 1
  funext b
  apply Fin.ext
  match b with
  | ⟨0, _⟩ => show win0_3.index t 0 * 1 + 1 * 0 = a.val; omega
  | ⟨1, _⟩ => show win0_3.index t 1 * 512 + 1 * r.val = i.val; omega
  | ⟨2, _⟩ => show win0_3.index t 2 * 512 + 1 * e.val = e'.val; omega

theorem x_at (c : Dev nD) (t : Fin cfg0.N) (r : Fin 512) (e : Fin 1024) (a : Fin 4) (i : Fin 4096) (ha : a.val = t.val / 8) (hi : i.val = 512 * (t.val % 8) + r.val)
    (e' : Fin 1024) (he : e'.val = 0 + e.val) :
    iblk m c 7 t (ix3 0 r e) = m ((c.tc : Thread nD τ).loc main_arg0) (ix3 a i e') := by
  obtain ⟨h0, h1, h2⟩ := idx7 t
  rw [← V_main_arg0 m c]
  unfold iblk
  rw [View.read_apply]
  show V m c main_arg0 _ = V m c main_arg0 _
  congr 1
  funext b
  apply Fin.ext
  match b with
  | ⟨0, _⟩ => show win0_7.index t 0 * 1 + 1 * 0 = a.val; omega
  | ⟨1, _⟩ => show win0_7.index t 1 * 512 + 1 * r.val = i.val; omega
  | ⟨2, _⟩ => show win0_7.index t 2 * 1024 + 1 * e.val = e'.val; omega

theorem key_at (c : Dev nD) (t : Fin cfg0.N) (j : Fin 256) (e : Fin 512) (a : Fin 4) (ha : a.val = t.val / 8) :
    iblk m c 4 t (ix3 0 j e) = memN (m ((c.tc : Thread nD τ).loc main_arg3)) a j.val e.val := by
  obtain ⟨h0, h1, h2⟩ := idx4 t
  have h : V m c main_v1 (ix3 a j e) = memN (m ((c.tc : Thread nD τ).loc main_arg3)) a j.val e.val := by
    unfold memN
    rw [dif_pos ⟨j.isLt, e.isLt⟩]
    show StableHlo.after hostOps0 (fun b => m (c, b)) main_v1 (ix3 a j e) = _
    unfold hostOps0
    after_reads_at
  rw [← h]
  unfold iblk
  rw [View.read_apply]
  show V m c main_v1 _ = V m c main_v1 _
  congr 1
  funext b
  apply Fin.ext
  match b with
  | ⟨0, _⟩ => show win0_4.index t 0 * 1 + 1 * 0 = a.val; omega
  | ⟨1, _⟩ => show win0_4.index t 1 * 256 + 1 * j.val = j.val; omega
  | ⟨2, _⟩ => show win0_4.index t 2 * 512 + 1 * e.val = e.val; omega

theorem value_at (c : Dev nD) (t : Fin cfg0.N) (j : Fin 256) (e : Fin 512) (a : Fin 4) (ha : a.val = t.val / 8) :
    iblk m c 5 t (ix3 0 j e) = memN (m ((c.tc : Thread nD τ).loc main_arg4)) a j.val e.val := by
  obtain ⟨h0, h1, h2⟩ := idx5 t
  have h : V m c main_v2 (ix3 a j e) = memN (m ((c.tc : Thread nD τ).loc main_arg4)) a j.val e.val := by
    unfold memN
    rw [dif_pos ⟨j.isLt, e.isLt⟩]
    show StableHlo.after hostOps0 (fun b => m (c, b)) main_v2 (ix3 a j e) = _
    unfold hostOps0
    after_reads_at
  rw [← h]
  unfold iblk
  rw [View.read_apply]
  show V m c main_v2 _ = V m c main_v2 _
  congr 1
  funext b
  apply Fin.ext
  match b with
  | ⟨0, _⟩ => show win0_5.index t 0 * 1 + 1 * 0 = a.val; omega
  | ⟨1, _⟩ => show win0_5.index t 1 * 256 + 1 * j.val = j.val; omega
  | ⟨2, _⟩ => show win0_5.index t 2 * 512 + 1 * e.val = e.val; omega

theorem gain_at (c : Dev nD) (t : Fin cfg0.N) (d : Fin 128) :
    iblk m c 6 t (ix2 0 d) = m ((c.tc : Thread nD τ).loc main_arg5) (ix1 d) := by
  obtain ⟨h0, h1⟩ := idx6 t
  have h : V m c main_v3 (ix2 0 d) = m ((c.tc : Thread nD τ).loc main_arg5) (ix1 d) := by
    show StableHlo.after hostOps0 (fun b => m (c, b)) main_v3 (ix2 0 d) = _
    unfold hostOps0
    after_reads_at
  rw [← h]
  unfold iblk
  rw [View.read_apply]
  show V m c main_v3 _ = V m c main_v3 _
  congr 1
  funext b
  apply Fin.ext
  match b with
  | ⟨0, _⟩ => show win0_6.index t 0 * 1 + 1 * 0 = 0; omega
  | ⟨1, _⟩ => show win0_6.index t 1 * 128 + 1 * d.val = d.val; omega

theorem w_at (c : Dev nD) (t : Fin cfg0.N) (e : Fin 2048) (d : Fin 1024) :
    iblk m c 8 t (ix2 e d) = m ((c.tc : Thread nD τ).loc main_arg6) (ix2 e d) := by
  obtain ⟨h0, h1⟩ := idx8 t
  have h : V m c main_v0 (ix2 e d) = m ((c.tc : Thread nD τ).loc main_arg6) (ix2 e d) := by
    show StableHlo.after hostOps0 (fun b => m (c, b)) main_v0 (ix2 e d) = _
    unfold hostOps0
    after_reads_at
  rw [← h]
  unfold iblk
  rw [View.read_apply]
  show V m c main_v0 _ = V m c main_v0 _
  congr 1
  funext b
  apply Fin.ext
  match b with
  | ⟨0, _⟩ => show win0_8.index t 0 * 2048 + 1 * e.val = e.val; omega
  | ⟨1, _⟩ => show win0_8.index t 1 * 1024 + 1 * d.val = d.val; omega

/-! ## What the call leaves -/

theorem block_at (c : Dev nD) (t : Fin cfg0.N) (r : Fin 512) (d : Fin 1024) (a : Fin 4) (i : Fin 4096) (ha : a.val = t.val / 8)
    (hi : i.val = 512 * (t.val % 8) + r.val) :
    outsAt0 m c t (ix3 0 r d) = tail (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) a i d := by
  unfold outsAt0
  refine (out_A c _ _ _ _ _ _ _ _ _ _ _ _ _ _ _ _ _ _ _ _ _ _ _ _ _ _ _ _ _ _ _ _ (rowN (m ((c.tc : Thread nD τ).loc main_arg1)) a i)
    (rowN (m ((c.tc : Thread nD τ).loc main_arg2)) a i) (memN (m ((c.tc : Thread nD τ).loc main_arg3)) a) (memN (m ((c.tc : Thread nD τ).loc main_arg4)) a)
    (fun d => m ((c.tc : Thread nD τ).loc main_arg5) (ix1 d)) r d ?_ ?_ ?_ ?_ ?_ ?_ ?_).trans ?_
  · intro e
    unfold rowN
    rw [dif_pos e.isLt]
    exact branch_at m c t r e a i ha hi _ (by simp)
  · intro e
    unfold rowN
    rw [dif_pos (by omega)]
    exact gate_at m c t r e a i ha hi _ (by simp)
  · intro e
    unfold rowN
    rw [dif_pos (by omega)]
    exact query_at m c t r e a i ha hi _ rfl
  · intro e
    unfold rowN
    rw [dif_pos (by omega)]
    exact mgate_at m c t r e a i ha hi _ rfl
  · intro j e
    exact key_at m c t j e a ha
  · intro j e
    exact value_at m c t j e a ha
  · intro e
    exact gain_at m c t e
  · unfold tail
    rw [x_at m c t r d a i ha hi d (by simp)]
    congr 1
    refine Finset.sum_congr rfl fun e _ => ?_
    congr 1
    exact w_at m c t e d

theorem flushes9 : ∀ t : Fin cfg0.N, (cfg0.win 9).flush t = true := (by decide +kernel : ∀ t : Fin grid0.N, _)

theorem final_at (c : Dev nD) (a : Fin 4) (i : Fin 4096) (d : Fin 1024) :
    (dats m 0 c).arrAt 9 cfg0.N (ix3 a i d) = tail (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) a i d := by
  have hN : cfg0.N = 32 := N_0
  have ht : 8 * a.val + i.val / 512 < cfg0.N := by omega
  obtain ⟨h0, h1, h2⟩ := idx9 ⟨8 * a.val + i.val / 512, ht⟩
  dsimp only at h0 h1 h2
  have hb := congrFun (blocks9 m c ⟨8 * a.val + i.val / 512, ht⟩ (flushes9 _)) (ix3 0 ⟨i.val % 512, by omega⟩ d)
  rw [View.read_apply, flushed9] at hb
  refine Eq.trans ?_ (hb.trans ?_)
  · congr 1
    funext b
    apply Fin.ext
    match b with
    | ⟨0, _⟩ => show a.val = win0_9.index _ 0 * 1 + 1 * 0; omega
    | ⟨1, _⟩ => show i.val = win0_9.index _ 1 * 512 + 1 * (i.val % 512); omega
    | ⟨2, _⟩ => show d.val = win0_9.index _ 2 * 1024 + 1 * d.val; omega
  · refine Eq.trans ?_ (block_at m c ⟨8 * a.val + i.val / 512, ht⟩ ⟨i.val % 512, by omega⟩ d a i ?_ ?_)
    · rfl
    · show a.val = (8 * a.val + i.val / 512) / 8; omega
    · show i.val = 512 * ((8 * a.val + i.val / 512) % 8) + i.val % 512; omega

end Cert.Kernel4Ideal.Hand

end
-- ==== Proof.TailRef.lean ====
/- The plain mathematics of a layer's closing, read at an index, and that the call leaves it. -/
module

public import proofs.«01_k».proof.Proof.TailValue
public import proofs.«01_k».proof.Proof.Gen.Reference4Ideal.Run
public import proofs.«01_k».proof.Proof.Gen.Pre_finite_memory
public import proofs.«01_k».proof.Defs
public import Idealize.ShloMosaic.Lib.ReduceAll

@[expose] public section

noncomputable section

namespace Cert.Reference4Ideal.Hand

open Idealize.ShloMosaic Idealize.ShloMosaic.TcCoe
open Cert.Reference4Ideal Cert.Reference4Ideal.Gen
open Cert.Tail

/-- The memory's queries, a head's columns on an axis of their own. -/
def queryR (z : FVec Ideal S4x4096x2560 .f32) : FVec Ideal S4x4096x4x128 .f32 :=
  shapeCast _ (extractStridedSlice S4x4096x512 ![0, 0, 1536] z slices_S4x4096x2560_S4x4096x512_0_0_1536) shapeCasts_S4x4096x512_S4x4096x4x128

/-- The normed queries. -/
def normR (q : FVec Ideal S4x4096x4x128 .f32) (g : FVec Ideal S128 .f32) : FVec Ideal S4x4096x4x128 .f32 :=
  mulf (mulf q (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf q q) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 g))

/-- The logits. -/
def logitR (q : FVec Ideal S4x4096x4x128 .f32) (k : FVec Ideal S4x256x4x128 .f32) : FVec Ideal S4x4x4096x256 .f32 :=
  mulf (Host.dotGeneral dot_S4x4096x4x128_S4x256x4x128_S4x4x4096x256_3_3_1_1_02_02 none q k) (broadcastInDim S4x4x4096x256 ![] bcast_S_S4x4x4096x256 (constant S_ .f32 0x3DB504F3#32))

/-- A row's greatest logit. -/
def maxR (s : FVec Ideal S4x4x4096x256 .f32) : FVec Ideal S4x4x4096 .f32 :=
  Host.reduce FloatOps.maximumf s (constant S_ .f32 0xFF800000#32) reducesTo_S4x4x4096x256_S4x4x4096_d3 h_S_

/-- The weights before the division. -/
def expR (s : FVec Ideal S4x4x4096x256 .f32) (M : FVec Ideal S4x4x4096 .f32) : FVec Ideal S4x4x4096x256 .f32 :=
  Host.exp (subf s (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) M))))

/-- The weights. -/
def softR (w : FVec Ideal S4x4x4096x256 .f32) : FVec Ideal S4x4x4096x256 .f32 :=
  Host.divf w (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd w (constant S_ .f32 0x00000000#32) reducesTo_S4x4x4096x256_S4x4x4096_d3 h_S_)))

/-- The memory's answer, the heads one after another. -/
def memR (v : FVec Ideal S4x256x4x128 .f32) (p : FVec Ideal S4x4x4096x256 .f32) : FVec Ideal S4x4096x512 .f32 :=
  shapeCast _ (transpose S4x4096x4x128 [0, 3, 1, 2] (Host.dotGeneral dot_S4x256x4x128_S4x4x4096x256_S4x4x128x4096_1_3_3_2_02_01 none v p) transposes_S4x4x128x4096_S4x4096x4x128_0_3_1_2) shapeCasts_S4x4096x4x128_S4x4096x512

/-- The gated mixer's rows. -/
def leftR (b : FVec Ideal S4x4096x1536 .f32) (z : FVec Ideal S4x4096x2560 .f32) : FVec Ideal S4x4096x1536 .f32 :=
  mulf b (mulf (extractStridedSlice S4x4096x1536 ![0, 0, 0] z slices_S4x4096x2560_S4x4096x1536_0_0_0) (Host.divf (broadcastInDim S4x4096x1536 ![] bcast_S_S4x4096x1536 (constant S_ .f32 0x3F800000#32)) (addf (broadcastInDim S4x4096x1536 ![] bcast_S_S4x4096x1536 (constant S_ .f32 0x3F800000#32)) (Host.exp (Host.negf (extractStridedSlice S4x4096x1536 ![0, 0, 0] z slices_S4x4096x2560_S4x4096x1536_0_0_0))))))

/-- The memory's gated answer. -/
def rightR (o : FVec Ideal S4x4096x512 .f32) (z : FVec Ideal S4x4096x2560 .f32) : FVec Ideal S4x4096x512 .f32 :=
  mulf o (mulf (extractStridedSlice S4x4096x512 ![0, 0, 2048] z slices_S4x4096x2560_S4x4096x512_0_0_2048) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 2048] z slices_S4x4096x2560_S4x4096x512_0_0_2048))))))

/-- Both, side by side. -/
def bothR (l : FVec Ideal S4x4096x1536 .f32) (r : FVec Ideal S4x4096x512 .f32) : FVec Ideal S4x4096x2048 .f32 :=
  concatenate S4x4096x2048 2 [⟨S4x4096x1536, l⟩, ⟨S4x4096x512, r⟩] concatenates_S4x4096x1536_S4x4096x512_S4x4096x2048_d2

/-- The residual plus the projection out. -/
def projectR (x : FVec Ideal S4x4096x1024 .f32) (y : FVec Ideal S4x4096x2048 .f32) (w : FVec Ideal S2048x1024 .f32) : FVec Ideal S4x4096x1024 .f32 :=
  addf x (Host.dotGeneral dot_S4x4096x2048_S2048x1024_S4x4096x1024_2_0_01_1_n_n none y w)

/-- The weights of every query. -/
def weightR (z : FVec Ideal S4x4096x2560 .f32) (k : FVec Ideal S4x256x4x128 .f32) (g : FVec Ideal S128 .f32) : FVec Ideal S4x4x4096x256 .f32 :=
  softR (expR (logitR (normR (queryR z) g) k) (maxR (logitR (normR (queryR z) g) k)))

def outR (x : FVec Ideal S4x4096x1024 .f32) (b : FVec Ideal S4x4096x1536 .f32) (z : FVec Ideal S4x4096x2560 .f32) (k v : FVec Ideal S4x256x4x128 .f32)
    (g : FVec Ideal S128 .f32) (w : FVec Ideal S2048x1024 .f32) : FVec Ideal S4x4096x1024 .f32 :=
  projectR x (bothR (leftR b z) (rightR (memR v (weightR z k g)) z)) w

theorem res_eq (m : (ℓ : Loc nD τ sig) → Buf (Elt Ideal) ℓ) (c : Dev nD) :
    Value.res_main_v40 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_main_v40
  rfl

/-! ## The parts at an index -/

theorem query_at (z : FVec Ideal S4x4096x2560 .f32) (a : Fin 4) (t : Fin 4096) (h : Fin 4) (d : Fin 128) :
    queryR z (ix4 a t h d) = rowN z a t (1536 + (128 * h.val + d.val)) := by
  unfold rowN
  rw [dif_pos (by omega)]
  pointwise [queryR]
  congr 3
  omega

theorem norm_at (q : FVec Ideal S4x4096x4x128 .f32) (g : FVec Ideal S128 .f32) (a : Fin 4) (t : Fin 4096) (h : Fin 4) (d : Fin 128) :
    normR q g (ix4 a t h d) = normedQ (fun e => q (ix4 a t h e)) (fun e => g (ix1 e)) d := by
  pointwise [normR]
  try rfl

theorem logit_at (q : FVec Ideal S4x4096x4x128 .f32) (k : FVec Ideal S4x256x4x128 .f32) (a h : Fin 4) (t : Fin 4096) (j : Fin 256) :
    logitR q k (ix4 a h t j) = (∑ d : Fin 128, (q (ix4 a t h d) : EReal) * k (ix4 a j h d)) * scale := by
  pointwise [logitR]
  try rfl

theorem exp_at (s : FVec Ideal S4x4x4096x256 .f32) (M : FVec Ideal S4x4x4096 .f32) (a h : Fin 4) (t : Fin 4096) (j : Fin 256) :
    expR s M (ix4 a h t j) = Ideal.exp (s (ix4 a h t j) - max lowest (M (ix3 a h t))) := by
  pointwise [expR]
  try rfl

theorem soft_at (w : FVec Ideal S4x4x4096x256 .f32) (a h : Fin 4) (t : Fin 4096) (j : Fin 256) :
    softR w (ix4 a h t j) = Ideal.div (w (ix4 a h t j)) (∑ i : Fin 256, (w (ix4 a h t i) : EReal)) := by
  pointwise [softR]
  try rfl

theorem mem_at (v : FVec Ideal S4x256x4x128 .f32) (p : FVec Ideal S4x4x4096x256 .f32) (a : Fin 4) (t : Fin 4096) (e : Fin 512) :
    memR v p (ix3 a t e) = ∑ j : Fin 256, (v (ix4 a j ⟨e.val / 128, by omega⟩ ⟨e.val % 128, by omega⟩) : EReal) * p (ix4 a ⟨e.val / 128, by omega⟩ t j) := by
  pointwise [memR]
  try rfl

theorem left_at (b : FVec Ideal S4x4096x1536 .f32) (z : FVec Ideal S4x4096x2560 .f32) (a : Fin 4) (t : Fin 4096) (e : Fin 1536) :
    leftR b z (ix3 a t e) = b (ix3 a t e) * silu (rowN z a t e.val) := by
  unfold rowN
  rw [dif_pos (by omega)]
  pointwise [leftR]
  rfl

theorem right_at (o : FVec Ideal S4x4096x512 .f32) (z : FVec Ideal S4x4096x2560 .f32) (a : Fin 4) (t : Fin 4096) (e : Fin 512) :
    rightR o z (ix3 a t e) = o (ix3 a t e) * silu (rowN z a t (2048 + e.val)) := by
  unfold rowN
  rw [dif_pos (by omega)]
  pointwise [rightR]
  rfl

theorem both_left (l : FVec Ideal S4x4096x1536 .f32) (r : FVec Ideal S4x4096x512 .f32) (a : Fin 4) (t : Fin 4096) (e : Fin 2048) (he : e.val < 1536) :
    bothR l r (ix3 a t e) = l (ix3 a t ⟨e.val, he⟩) := by
  pointwise [bothR]
  rw [dif_pos he]

theorem both_right (l : FVec Ideal S4x4096x1536 .f32) (r : FVec Ideal S4x4096x512 .f32) (a : Fin 4) (t : Fin 4096) (e : Fin 2048) (he : ¬e.val < 1536) :
    bothR l r (ix3 a t e) = r (ix3 a t ⟨e.val - 1536, by omega⟩) := by
  pointwise [bothR]
  rw [dif_neg he]

theorem max_at (s : FVec Ideal S4x4x4096x256 .f32) (a h : Fin 4) (t : Fin 4096) :
    maxR s (ix3 a h t) = Finset.univ.fold max lowest (fun j : Fin 256 => (s (ix4 a h t j) : EReal)) := by
  have hr : S4x4x4096x256.Reduces [3] S4x4x4096 := by decide
  unfold maxR
  refine (Host.reduce_eq_fold_single FloatOps.maximumf s _ reducesTo_S4x4x4096x256_S4x4x4096_d3 hr h_S_ (ix3 a h t)).trans ?_
  have hf : (s ∘ hr.lift (ix3 a h t)) = fun j : Fin 256 => s (ix4 a h t j) := by
    funext j
    refine congrArg s ?_
    funext b
    apply Fin.ext
    match b with
    | ⟨0, _⟩ => rfl
    | ⟨1, _⟩ => rfl
    | ⟨2, _⟩ => rfl
    | ⟨3, _⟩ => rfl
  exact congrArg (fun f => Finset.fold max lowest f (Finset.univ : Finset (Fin 256))) hf

theorem project_at (x : FVec Ideal S4x4096x1024 .f32) (y : FVec Ideal S4x4096x2048 .f32) (w : FVec Ideal S2048x1024 .f32) (a : Fin 4) (t : Fin 4096) (d : Fin 1024) :
    projectR x y w (ix3 a t d) = x (ix3 a t d) + ∑ e : Fin 2048, (y (ix3 a t e) : EReal) * w (ix2 e d) := by
  pointwise [projectR]
  try rfl

/-! ## The row that the projection multiplies -/

theorem memN_at (K : FVec Ideal S4x256x4x128 .f32) (a : Fin 4) (j : Fin 256) (h : Fin 4) (d : Fin 128) :
    memN K a j.val (128 * h.val + d.val) = K (ix4 a j h d) := by
  unfold memN
  rw [dif_pos ⟨j.isLt, by omega⟩]
  have hh : h = ⟨(128 * h.val + d.val) / 128, by omega⟩ := Fin.ext (by show h.val = (128 * h.val + d.val) / 128; omega)
  have hd : d = ⟨(128 * h.val + d.val) % 128, by omega⟩ := Fin.ext (by show d.val = (128 * h.val + d.val) % 128; omega)
  exact congrArg₂ (fun h d => K (ix4 a j h d)) hh.symm hd.symm

/-- The logit of a row's head and an entry of the memory. -/
def logitOf (z : FVec Ideal S4x4096x2560 .f32) (k : FVec Ideal S4x256x4x128 .f32) (g : FVec Ideal S128 .f32) (a : Fin 4) (t : Fin 4096) (h : ℕ) (j : ℕ) : EReal :=
  logit (fun d => rowN z a t (1536 + 128 * h + d.val)) (fun d => g (ix1 d)) (fun d => memN k a j (128 * h + d.val))

theorem logitR_at (z : FVec Ideal S4x4096x2560 .f32) (k : FVec Ideal S4x256x4x128 .f32) (g : FVec Ideal S128 .f32) (a h : Fin 4) (t : Fin 4096) (j : Fin 256) :
    logitR (normR (queryR z) g) k (ix4 a h t j) = logitOf z k g a t h.val j.val := by
  unfold logitOf
  rw [logit_at, logit_eq]
  congr 1
  refine Finset.sum_congr rfl fun d _ => ?_
  rw [norm_at, memN_at]
  simp only [query_at, Nat.add_assoc]

theorem weightR_at (z : FVec Ideal S4x4096x2560 .f32) (k : FVec Ideal S4x256x4x128 .f32) (g : FVec Ideal S128 .f32) (a h : Fin 4) (t : Fin 4096) (j : Fin 256) :
    weightR z k g (ix4 a h t j) = Ideal.div (weight (fun j : Fin 256 => logitOf z k g a t h.val j.val) j)
      (∑ i, weight (fun j : Fin 256 => logitOf z k g a t h.val j.val) i) := by
  unfold weightR
  rw [soft_at]
  have hw : ∀ i : Fin 256, expR (logitR (normR (queryR z) g) k) (maxR (logitR (normR (queryR z) g) k)) (ix4 a h t i)
      = weight (fun j : Fin 256 => logitOf z k g a t h.val j.val) i := by
    intro i
    rw [exp_at, max_at]
    unfold weight
    simp only [logitR_at]
    rw [lowest_eq, bot_sup_eq]
  simp only [hw]

/-- Of real queries, gains and keys the row is the one that the call multiplies. -/
theorem row_at (b : FVec Ideal S4x4096x1536 .f32) (z : FVec Ideal S4x4096x2560 .f32) (k v : FVec Ideal S4x256x4x128 .f32) (g : FVec Ideal S128 .f32)
    (hs : ∀ (a : Fin 4) (t : Fin 4096) (h : ℕ) (_ : h < 4) (j : Fin 256), ∃ s : ℝ, logitOf z k g a t h j.val = (s : EReal))
    (a : Fin 4) (t : Fin 4096) (e : Fin 2048) :
    bothR (leftR b z) (rightR (memR v (weightR z k g)) z) (ix3 a t e)
      = act (rowN b a t) (rowN z a t) (memN k a) (memN v a) (fun d => g (ix1 d)) e.val := by
  unfold act
  by_cases he : e.val < 1536
  · rw [both_left _ _ _ _ _ he, if_pos he, left_at]
    congr 1
    unfold rowN
    rw [dif_pos he]
  · rw [both_right _ _ _ _ _ he, if_neg he, right_at]
    unfold head
    congr 1
    have hh : (e.val - 1536) / 128 < 4 := by omega
    rw [mem_at]
    choose s hs' using fun j : Fin 256 => hs a t ((e.val - 1536) / 128) hh j
    have hl : (fun j : Fin 256 => logit (fun d => rowN z a t (1536 + 128 * ((e.val - 1536) / 128) + d.val)) (fun d => g (ix1 d))
        (fun d => memN k a j.val (128 * ((e.val - 1536) / 128) + d.val))) = fun j => (s j : EReal) := funext hs'
    rw [hl, attend_eq]
    refine Finset.sum_congr rfl fun j _ => ?_
    have hv : v (ix4 a j ⟨(e.val - 1536) / 128, hh⟩ ⟨(e.val - 1536) % 128, by omega⟩) = memN v a j.val (e.val - 1536) := by
      rw [← memN_at v a j]
      refine congrArg (memN v a j.val) ?_
      show 128 * ((e.val - 1536) / 128) + (e.val - 1536) % 128 = e.val - 1536
      omega
    have hw : (fun j : Fin 256 => logitOf z k g a t ((e.val - 1536) / 128) j.val) = fun j => (s j : EReal) := funext hs'
    have hp := weightR_at z k g a ⟨(e.val - 1536) / 128, hh⟩ t j
    rw [hw] at hp
    rw [← hv, ← hp]

theorem out_at (x : FVec Ideal S4x4096x1024 .f32) (b : FVec Ideal S4x4096x1536 .f32) (z : FVec Ideal S4x4096x2560 .f32) (k v : FVec Ideal S4x256x4x128 .f32)
    (g : FVec Ideal S128 .f32) (w : FVec Ideal S2048x1024 .f32)
    (hs : ∀ (a : Fin 4) (t : Fin 4096) (h : ℕ) (_ : h < 4) (j : Fin 256), ∃ s : ℝ, logitOf z k g a t h j.val = (s : EReal))
    (a : Fin 4) (t : Fin 4096) (d : Fin 1024) : outR x b z k v g w (ix3 a t d) = tail x b z k v g w a t d := by
  unfold outR tail
  rw [project_at]
  congr 1
  refine Finset.sum_congr rfl fun e _ => ?_
  rw [row_at b z k v g hs]

/-! ## The precondition -/

theorem bits_inf : Ideal.ofBits .f32 0x7F800000#32 = ⊤ := by simp [Ideal.ofBits, Ideal.ieee]

/-- A number below the infinity in absolute value is real. -/
theorem real_of_below (x : EReal) (h : FloatOps.cmpf (F := Ideal) (φ := .f32) .olt (max x (-x)) (Ideal.ofBits .f32 0x7F800000#32) = 1#1) : x = ((x.toReal : ℝ) : EReal) := by
  have hlt : max x (-x) < ⊤ := by
    by_contra hn
    have h' : BitVec.ofBool (decide (max x (-x) < Ideal.ofBits .f32 0x7F800000#32)) = 1#1 := h
    rw [bits_inf, decide_eq_false hn] at h'
    exact absurd h' (by decide)
  have h1 : x ≠ ⊤ := fun e => by rw [e] at hlt; simp at hlt
  have h2 : x ≠ ⊥ := fun e => by rw [e] at hlt; simp at hlt
  exact (EReal.coe_toReal h1 h2).symm

theorem and_one {x y : BitVec 1} (h : IntOp.andi x y = 1#1) : x = 1#1 ∧ y = 1#1 := by
  revert x y; decide

theorem finite_of (x : FVec Ideal S4x4096x1024 .f32) (b : FVec Ideal S4x4096x1536 .f32) (z : FVec Ideal S4x4096x2560 .f32) (k v : FVec Ideal S4x256x4x128 .f32)
    (g : FVec Ideal S128 .f32) (w : FVec Ideal S2048x1024 .f32) (h : Cert.Pre_finite_memory.fn (F := Ideal) x b z k v g w = fun _ => 1#1) :
    (∀ i, ∃ s : ℝ, k i = (s : EReal)) ∧ ∀ i, ∃ s : ℝ, g i = (s : EReal) := by
  have h0 := congrFun h ix0
  unfold Cert.Pre_finite_memory.fn at h0
  obtain ⟨hk, hg⟩ := and_one h0
  refine ⟨fun i => ⟨(k i : EReal).toReal, ?_⟩, fun i => ⟨(g i : EReal).toReal, ?_⟩⟩
  · exact real_of_below (k i) (Host.reduce_andi_eq_one _ _ _ _ _ hk i (Subsingleton.elim _ _))
  · exact real_of_below (g i) (Host.reduce_andi_eq_one _ _ _ _ _ hg i (Subsingleton.elim _ _))

theorem real_logits (x : FVec Ideal S4x4096x1024 .f32) (b : FVec Ideal S4x4096x1536 .f32) (z : FVec Ideal S4x4096x2560 .f32) (k v : FVec Ideal S4x256x4x128 .f32)
    (g : FVec Ideal S128 .f32) (w : FVec Ideal S2048x1024 .f32) (h : Cert.Pre_finite_memory.fn (F := Ideal) x b z k v g w = fun _ => 1#1)
    (a : Fin 4) (t : Fin 4096) (hd : ℕ) (hh : hd < 4) (j : Fin 256) : ∃ s : ℝ, logitOf z k g a t hd j.val = (s : EReal) := by
  obtain ⟨hk, hg⟩ := finite_of x b z k v g w h
  have hk' : ∀ d : Fin 128, ∃ s : ℝ, memN k a j.val (128 * hd + d.val) = (s : EReal) := by
    intro d
    unfold memN
    rw [dif_pos ⟨j.isLt, by omega⟩]
    exact hk _
  choose κ hκ using hk'
  choose γ hγ using fun d : Fin 128 => hg (ix1 d)
  unfold logitOf
  simp only [hκ, hγ]
  exact logit_real _ γ κ

/-- What the call leaves is the reference at the same arguments. -/
theorem result_ref (m : (ℓ : Loc Cert.Kernel4Ideal.nD Cert.Kernel4Ideal.τ Cert.Kernel4Ideal.sig) → Buf (Elt Ideal) ℓ) (h : Cert.Pre_Kernel4Ideal_finite_memory m) (c : Dev Cert.Kernel4Ideal.nD) :
    (Cert.Kernel4Ideal.Gen.dats m 0 c).arrAt 9 Cert.Kernel4Ideal.cfg0.N = outR (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6)) := by
  funext o
  obtain ⟨a, t, d, rfl⟩ : ∃ (a : Fin 4) (t : Fin 4096) (d : Fin 1024), o = ix3 a t d := ⟨o 0, o 1, o 2, funext fun a => by fin_cases a <;> rfl⟩
  exact (Cert.Kernel4Ideal.Hand.final_at m c a t d).trans (out_at _ _ _ _ _ _ _ (real_logits _ _ _ _ _ _ _ (h c)) a t d).symm

end Cert.Reference4Ideal.Hand

end
-- ==== Proof.MemRun.lean ====
/- The two calls that make the memory's keys and values, run one after the other: what the results hold at the end is what the
   boundary after the last host operations says. -/
module

public import proofs.«01_k».proof.Proof.Gen.Kernel5Ideal
public import proofs.«01_k».proof.Proof.Gen.Kernel5Ideal.Frame

@[expose] public section

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the implicit arguments of the launch are found by unifying its conclusion with this one, through plain definitions
set_option backward.isDefEq.respectTransparency.types false in
/-- The run, with the results at the last boundary's contents and the arguments as they were. -/
theorem run : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v9 (by decide)), h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel5Ideal.Hand

end
-- ==== Proof.MemValue.lean ====
/- What the two calls that make the memory's keys and values leave: the first norms the memory's rows and multiplies them by
   the matrix, the second norms the product's four key heads; the values are the product's other columns. -/
module

public import proofs.«01_k».proof.Proof.Norm
public import proofs.«01_k».proof.Proof.TailMath
public import proofs.«01_k».proof.Proof.MemRun
public import Idealize.ShloMosaic.Lib.Pipeline.Value
public import Idealize.ShloMosaic.Lib.Pipeline.ValueKit.Tiles
public import Idealize.ShloMosaic.Lib.Pointwise
public import Idealize.ShloMosaic.Lib.IdealHost
public import Idealize.ShloMosaic.Lib.Tactic
public import Idealize.ShloMosaic.Lib.StableHlo.ReadAt

@[expose] public section

noncomputable section

namespace Cert.Kernel5Ideal.Hand

open Idealize.ShloMosaic Idealize.ShloMosaic.TcCoe Idealize.SL.Sem
open Cert.Kernel5Ideal Cert.Kernel5Ideal.Gen
open Cert.Layer Cert.Tail

/-! ## The payloads at an index -/

theorem normed_at (x : Vec Ideal S1024x1024 .f32) (g : Vec Ideal S1x1024 .f32) (r : Fin 1024) (d : Fin 1024) :
    k0_pay1 x g (ix2 r d) = normed (fun e => x (ix2 r e)) (fun e => g (ix2 0 e)) d := by
  pointwise [k0_pay1]
  rfl

theorem product_at (h : Vec Ideal S1024x1024 .bf16) (w : Vec Ideal S1024x1024 .bf16) (r : Fin 1024) (d : Fin 1024) :
    k0_pay2 h w (ix2 r d) = ∑ e : Fin 1024, (h (ix2 r e) : EReal) * w (ix2 e d) := by
  pointwise [k0_pay2]

theorem head0_at (x : Vec Ideal S1024x128 .f32) (g : Vec Ideal S1x128 .f32) (r : Fin 1024) (d : Fin 128) :
    k1_pay3 x g (ix2 r d) = normedQ (fun e => x (ix2 r e)) (fun e => g (ix2 0 e)) d := by
  pointwise [k1_pay3]
  rfl

theorem head1_at (x : Vec Ideal S1024x128 .f32) (g : Vec Ideal S1x128 .f32) (r : Fin 1024) (d : Fin 128) :
    k1_pay4 x g (ix2 r d) = normedQ (fun e => x (ix2 r e)) (fun e => g (ix2 0 e)) d := by
  pointwise [k1_pay4]
  rfl

theorem head2_at (x : Vec Ideal S1024x128 .f32) (g : Vec Ideal S1x128 .f32) (r : Fin 1024) (d : Fin 128) :
    k1_pay1 (k1_pay5 x) g (ix2 r d) = normedQ (fun e => x (ix2 r e)) (fun e => g (ix2 0 e)) d := by
  pointwise [k1_pay1, k1_pay5]
  rfl

theorem head3_at (x : Vec Ideal S1024x128 .f32) (g : Vec Ideal S1x128 .f32) (r : Fin 1024) (d : Fin 128) :
    k1_pay2 x g (ix2 r d) = normedQ (fun e => x (ix2 r e)) (fun e => g (ix2 0 e)) d := by
  pointwise [k1_pay2]
  rfl

/-! ## What a point leaves -/

theorem hz : (![0, 0] : Fin 2 → Nat) = fun _ => 0 := funext fun a => by fin_cases a <;> rfl

theorem out_A (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .bf16) (h6 : a6.IsWhole)
    (hc : cond0_0 i) (x0 : Vec Ideal S1024x1024 .f32) (x1 : Vec Ideal S1x1024 .f32) (x2 : Vec Ideal S1024x1024 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz,
    View.ld_unit_zero (S := S1x1024) hz]

/-- Membership in a head's columns. -/
theorem mem_cols (o : ℕ) (inb : ∀ a, (![0, o] : Fin 2 → ℕ) a + (![1024, 128] : Fin 2 → ℕ) a ≤ S1024x512.size a) (r : Fin 1024) (e : Fin 512)
    (h : o ≤ e.val ∧ e.val < o + 128) : (ix2 r e : S1024x512.Idx) ∈ (Rect.unit (s := S1024x512) ![0, o] ![1024, 128] inb).set := by
  have hx : (ix2 r e : S1024x512.Idx) = (Rect.unit (s := S1024x512) ![0, o] ![1024, 128] inb).idx (ix2 (n0 := 1024) (n1 := 128) r ⟨e.val - o, by omega⟩) := by
    funext a
    apply Fin.ext
    match a with
    | ⟨0, _⟩ => show r.val = 0 + 1 * r.val; omega
    | ⟨1, _⟩ => show e.val = o + 1 * (e.val - o); omega
  rw [hx]
  exact LoadRect.idx_mem _ _

/-- A load of a head's columns. -/
theorem ld_cols (X : Vec Ideal S1024x512 .f32) (o : ℕ) (inb : ∀ a, (![0, o] : Fin 2 → ℕ) a + (![1024, 128] : Fin 2 → ℕ) a ≤ S1024x512.size a)
    (r : Fin 1024) (d : Fin 128) (e : Fin 512) (he : e.val = o + d.val) :
    View.ld X (Rect.unit (s := S1024x512) ![0, o] ![1024, 128] inb) (ix2 r d) = X (ix2 r e) := by
  refine View.ld_unit_apply_of X _ _ _ _ _ fun a => ?_
  match a with
  | ⟨0, _⟩ => show r.val = 0 + r.val; omega
  | ⟨1, _⟩ => exact he

theorem eq_ix2 {a b : ℕ} (x : (⟨2, ![a, b]⟩ : Shape).Idx) : x = ix2 (x 0) (x 1) := by
  funext i
  match i with
  | ⟨0, _⟩ => rfl
  | ⟨1, _⟩ => rfl

/-- A head written at its columns, read at one of them. -/
theorem head_piece (x0 : Vec Ideal S1024x512 .f32) (x1 : Vec Ideal S1x128 .f32) (o h : ℕ) (ho : o = 128 * h) (hh : h < 4)
    (inb : ∀ a, (![0, o] : Fin 2 → ℕ) a + (![1024, 128] : Fin 2 → ℕ) a ≤ S1024x512.size a) (P : Vec Ideal S1024x128 .f32)
    (hP : ∀ (r : Fin 1024) (d : Fin 128), P (ix2 r d)
      = normedQ (fun e => View.ld x0 (Rect.unit (s := S1024x512) ![0, o] ![1024, 128] inb) (ix2 r e)) (fun e => View.ld x1 r1_1 (ix2 0 e)) d)
    (r : Fin 1024) (e : Fin 512) (x : S1024x128.Idx) (hx : (Rect.unit (s := S1024x512) ![0, o] ![1024, 128] inb).emb x = ix2 r e) :
    P x = normedQ (fun d => x0 (ix2 r ⟨128 * (e.val / 128) + d.val, by omega⟩)) (fun d => x1 (ix2 0 d)) ⟨e.val % 128, by omega⟩ := by
  have ha := congrArg (fun i : S1024x512.Idx => (i 0).val) hx
  have hb := congrArg (fun i : S1024x512.Idx => (i 1).val) hx
  replace ha : 0 + 1 * (x 0).val = r.val := ha
  replace hb : o + 1 * (x 1).val = e.val := hb
  have h1 : (x 1).val < 128 := (x 1).isLt
  obtain rfl : x 0 = r := Fin.ext (by omega)
  refine (congrArg _ (eq_ix2 x)).trans ?_
  refine (hP _ _).trans ?_
  have hd : (x 1 : Fin 128) = ⟨e.val % 128, by omega⟩ := Fin.ext (by show (x 1).val = e.val % 128; omega)
  rw [hd]
  congr 1
  · funext d
    exact ld_cols x0 o inb (x 0) d _ (by show 128 * (e.val / 128) + d.val = o + d.val; omega)
  · funext d
    rw [View.ld_unit_zero (S := S1x128) hz]

/-- The second call's block: each entry of a head over the head's root mean square. -/
theorem heads_at (x0 : Vec Ideal S1024x512 .f32) (x1 : Vec Ideal S1x128 .f32) (r : Fin 1024) (e : Fin 512) :
    out1_2 x0 x1 (ix2 r e)
      = normedQ (fun d => x0 (ix2 r ⟨128 * (e.val / 128) + d.val, by omega⟩)) (fun d => x1 (ix2 0 d)) ⟨e.val % 128, by omega⟩ := by
  unfold out1_2
  refine View.canon_eq_of_allAt _ _ _ ?_ ?_
  · rcases Nat.lt_or_ge e.val 128 with h | h
    · exact ⟨_, .tail _ (.tail _ (.tail _ (.head _))), mem_cols 0 inb_S1024x512_S1024x128_0_0 r e ⟨by omega, by omega⟩⟩
    rcases Nat.lt_or_ge e.val 256 with h | h
    · exact ⟨_, .tail _ (.tail _ (.head _)), mem_cols 128 inb_S1024x512_S1024x128_0_128 r e ⟨by omega, by omega⟩⟩
    rcases Nat.lt_or_ge e.val 384 with h | h
    · exact ⟨_, .tail _ (.head _), mem_cols 256 inb_S1024x512_S1024x128_0_256 r e ⟨by omega, by omega⟩⟩
    · exact ⟨_, .head _, mem_cols 384 inb_S1024x512_S1024x128_0_384 r e ⟨by omega, by omega⟩⟩
  intro p hp
  simp only [List.mem_cons, List.not_mem_nil, or_false] at hp
  rcases hp with rfl | rfl | rfl | rfl
  · intro x hx
    exact head_piece x0 x1 384 3 rfl (by omega) inb_S1024x512_S1024x128_0_384 _ (fun r d => head3_at _ _ r d) r e x hx
  · intro x hx
    exact head_piece x0 x1 256 2 rfl (by omega) inb_S1024x512_S1024x128_0_256 _ (fun r d => head2_at _ _ r d) r e x hx
  · intro x hx
    exact head_piece x0 x1 128 1 rfl (by omega) inb_S1024x512_S1024x128_0_128 _ (fun r d => head1_at _ _ r d) r e x hx
  · intro x hx
    exact head_piece x0 x1 0 0 rfl (by omega) inb_S1024x512_S1024x128_0_0 _ (fun r d => head0_at _ _ r d) r e x hx

/-! ## The product -/

theorem idxX : ∀ t : Fin cfg0.N, win0_0.index t (0 : Fin 2) = 0 ∧ win0_0.index t (1 : Fin 2) = 0 :=
  (by decide +kernel : ∀ t : Fin grid0.N, _)
theorem idxG : ∀ t : Fin cfg0.N, win0_1.index t (0 : Fin 2) = 0 ∧ win0_1.index t (1 : Fin 2) = 0 :=
  (by decide +kernel : ∀ t : Fin grid0.N, _)
theorem idxW : ∀ t : Fin cfg0.N, win0_2.index t (0 : Fin 2) = 0 ∧ win0_2.index t (1 : Fin 2) = 0 :=
  (by decide +kernel : ∀ t : Fin grid0.N, _)
theorem idxO : ∀ t : Fin cfg0.N, win0_3.index t (0 : Fin 2) = 0 ∧ win0_3.index t (1 : Fin 2) = 0 :=
  (by decide +kernel : ∀ t : Fin grid0.N, _)

variable (m : (ℓ : Loc nD τ sig) → Buf (Elt Ideal) ℓ) (ρ : Dev nD → PrngReg)

/-- Row `i` of the memory, the batches one after another. -/
def row (c : Dev nD) (i : Fin 1024) (e : Fin 1024) : EReal :=
  m ((c.tc : Thread nD τ).loc main_arg0) (ix3 ⟨i.val / 256, by omega⟩ ⟨i.val % 256, by omega⟩ e)

/-- The memory's gains. -/
def gain (c : Dev nD) (e : Fin 1024) : EReal := m ((c.tc : Thread nD τ).loc main_arg1) (ix1 e)

/-- Column `j` of the matrix. -/
def column (c : Dev nD) (j : Fin 1024) (e : Fin 1024) : EReal := m ((c.tc : Thread nD τ).loc main_arg2) (ix2 e j)

/-- The keys' gains. -/
def keyGain (c : Dev nD) (d : Fin 128) : EReal := m ((c.tc : Thread nD τ).loc main_arg3) (ix1 d)

/-- The product: a normed row of the memory times a column. -/
def kv (c : Dev nD) (i j : Fin 1024) : EReal := projected (row m c i) (gain m c) (column m c j)

theorem x_at (c : Dev nD) (t : Fin cfg0.N) (r e : Fin 1024) : iblk0 (V1 m ρ) c 0 t (ix2 r e) = row m c r e := by
  obtain ⟨h0, h1⟩ := idxX t
  have h : V1 m ρ c main_v0 (ix2 r e) = row m c r e := by
    show StableHlo.after hostOps0 (W0 m ρ c) main_v0 (ix2 r e) = _
    unfold hostOps0
    after_reads_at
    rfl
  rw [← h]
  unfold iblk0
  rw [View.read_apply]
  show V1 m ρ c main_v0 _ = V1 m ρ c main_v0 _
  congr 1
  funext a
  apply Fin.ext
  match a with
  | ⟨0, _⟩ => show win0_0.index t 0 * 1024 + 1 * r.val = r.val; omega
  | ⟨1, _⟩ => show win0_0.index t 1 * 1024 + 1 * e.val = e.val; omega

theorem g_at (c : Dev nD) (t : Fin cfg0.N) (e : Fin 1024) : iblk0 (V1 m ρ) c 1 t (ix2 0 e) = gain m c e := by
  obtain ⟨h0, h1⟩ := idxG t
  have h : V1 m ρ c main_v2 (ix2 0 e) = gain m c e := by
    show StableHlo.after hostOps0 (W0 m ρ c) main_v2 (ix2 0 e) = _
    unfold hostOps0
    after_reads_at
    rfl
  rw [← h]
  unfold iblk0
  rw [View.read_apply]
  show V1 m ρ c main_v2 _ = V1 m ρ c main_v2 _
  congr 1
  funext a
  apply Fin.ext
  match a with
  | ⟨0, _⟩ => show win0_1.index t 0 * 1 + 1 * 0 = 0; omega
  | ⟨1, _⟩ => show win0_1.index t 1 * 1024 + 1 * e.val = e.val; omega

theorem w_at (c : Dev nD) (t : Fin cfg0.N) (e j : Fin 1024) : iblk0 (V1 m ρ) c 2 t (ix2 e j) = column m c j e := by
  obtain ⟨h0, h1⟩ := idxW t
  have h : V1 m ρ c main_v1 (ix2 e j) = column m c j e := by
    show StableHlo.after hostOps0 (W0 m ρ c) main_v1 (ix2 e j) = _
    unfold hostOps0
    after_reads_at
    rfl
  rw [← h]
  unfold iblk0
  rw [View.read_apply]
  show V1 m ρ c main_v1 _ = V1 m ρ c main_v1 _
  congr 1
  funext a
  apply Fin.ext
  match a with
  | ⟨0, _⟩ => show win0_2.index t 0 * 1024 + 1 * e.val = e.val; omega
  | ⟨1, _⟩ => show win0_2.index t 1 * 1024 + 1 * j.val = j.val; omega

theorem block0_at (c : Dev nD) (t : Fin cfg0.N) (r j : Fin 1024) : outsAt0 (V1 m ρ) c t (ix2 r j) = kv m c r j := by
  unfold outsAt0
  rw [out_A, product_at]
  unfold kv projected
  refine Finset.sum_congr rfl fun e _ => ?_
  rw [normed_at, w_at]
  simp only [x_at, g_at]

theorem one0 : cfg0.N = 1 := by decide +kernel
theorem one1 : cfg1.N = 1 := by decide +kernel

/-- After the first call its result holds the product. -/
theorem kv_at (c : Dev nD) (r j : Fin 1024) : W2 m ρ c (Proc.devRef .tc main_v3) (ix2 r j) = kv m c r j := by
  have hN := one0
  obtain ⟨h0, h1⟩ := idxO ⟨0, by omega⟩
  have hb := congrFun ((dat0 (V1 m ρ) c).read_blk_arrAt_eq_flushed 3
    (fun t t' _ _ hn => absurd (Fin.ext (by omega)) hn) cfg0.N ⟨0, by omega⟩ (by show 0 < cfg0.N; omega) (flush0_3 _)) (ix2 r j)
  rw [View.read_apply] at hb
  refine (congrFun (W2_arr m ρ c 3) (ix2 r j)).trans ?_
  refine Eq.trans ?_ (hb.trans ?_)
  · show (dat0 (V1 m ρ) c).arrAt 3 cfg0.N _ = (dat0 (V1 m ρ) c).arrAt 3 cfg0.N _
    congr 1
    funext a
    apply Fin.ext
    match a with
    | ⟨0, _⟩ => show r.val = win0_3.index _ 0 * 1024 + 1 * r.val; omega
    | ⟨1, _⟩ => show j.val = win0_3.index _ 1 * 1024 + 1 * j.val; omega
  · refine Eq.trans ?_ (block0_at m ρ c ⟨0, by omega⟩ r j)
    show (dat0 (V1 m ρ) c).after 3 ⟨0, _⟩ (ix2 r j) = _
    rw [after0_3]

/-! ## The heads -/

theorem idxK : ∀ t : Fin cfg1.N, win1_0.index t (0 : Fin 2) = 0 ∧ win1_0.index t (1 : Fin 2) = 0 :=
  (by decide +kernel : ∀ t : Fin grid1.N, _)
theorem idxKG : ∀ t : Fin cfg1.N, win1_1.index t (0 : Fin 2) = 0 ∧ win1_1.index t (1 : Fin 2) = 0 :=
  (by decide +kernel : ∀ t : Fin grid1.N, _)
theorem idxKO : ∀ t : Fin cfg1.N, win1_2.index t (0 : Fin 2) = 0 ∧ win1_2.index t (1 : Fin 2) = 0 :=
  (by decide +kernel : ∀ t : Fin grid1.N, _)

theorem k_at (c : Dev nD) (t : Fin cfg1.N) (r : Fin 1024) (e : Fin 512) :
    iblk1 (V3 m ρ) c 0 t (ix2 r e) = kv m c r ⟨e.val, by omega⟩ := by
  obtain ⟨h0, h1⟩ := idxK t
  have h : V3 m ρ c main_v3 (ix2 r ⟨e.val, by omega⟩) = kv m c r ⟨e.val, by omega⟩ :=
    (congrFun (W3_of m ρ c main_v3 (by decide)) _).trans (kv_at m ρ c r _)
  rw [← h]
  unfold iblk1
  rw [View.read_apply]
  show V3 m ρ c main_v3 _ = V3 m ρ c main_v3 _
  congr 1
  funext a
  apply Fin.ext
  match a with
  | ⟨0, _⟩ => show win1_0.index t 0 * 1024 + 1 * r.val = r.val; omega
  | ⟨1, _⟩ => show win1_0.index t 1 * 512 + 1 * e.val = e.val; omega

theorem kg_at (c : Dev nD) (t : Fin cfg1.N) (d : Fin 128) : iblk1 (V3 m ρ) c 1 t (ix2 0 d) = keyGain m c d := by
  obtain ⟨h0, h1⟩ := idxKG t
  have h : V3 m ρ c main_v4 (ix2 0 d) = keyGain m c d := by
    have h3 : W2 m ρ c (Proc.devRef .tc main_arg3) = m ((c.tc : Thread nD τ).loc main_arg3) := W2_args m ρ c main_arg3 (by decide)
    unfold keyGain
    rw [← h3]
    show StableHlo.after hostOps1 (W2 m ρ c) main_v4 (ix2 0 d) = _
    unfold hostOps1
    after_reads_at
  rw [← h]
  unfold iblk1
  rw [View.read_apply]
  show V3 m ρ c main_v4 _ = V3 m ρ c main_v4 _
  congr 1
  funext a
  apply Fin.ext
  match a with
  | ⟨0, _⟩ => show win1_1.index t 0 * 1 + 1 * 0 = 0; omega
  | ⟨1, _⟩ => show win1_1.index t 1 * 128 + 1 * d.val = d.val; omega

/-- After the second call its result holds the normed heads. -/
theorem heads_after (c : Dev nD) (r : Fin 1024) (e : Fin 512) : W4 m ρ c (Proc.devRef .tc main_v5) (ix2 r e)
    = normedQ (fun d => kv m c r ⟨128 * (e.val / 128) + d.val, by omega⟩) (keyGain m c) ⟨e.val % 128, by omega⟩ := by
  have hN := one1
  obtain ⟨h0, h1⟩ := idxKO ⟨0, by omega⟩
  have hb := congrFun ((dat1 (V3 m ρ) c).read_blk_arrAt_eq_flushed 2
    (fun t t' _ _ hn => absurd (Fin.ext (by omega)) hn) cfg1.N ⟨0, by omega⟩ (by show 0 < cfg1.N; omega) (flush1_2 _)) (ix2 r e)
  rw [View.read_apply] at hb
  refine (congrFun (W4_arr m ρ c 2) (ix2 r e)).trans ?_
  refine Eq.trans ?_ (hb.trans ?_)
  · show (dat1 (V3 m ρ) c).arrAt 2 cfg1.N _ = (dat1 (V3 m ρ) c).arrAt 2 cfg1.N _
    congr 1
    funext a
    apply Fin.ext
    match a with
    | ⟨0, _⟩ => show r.val = win1_2.index _ 0 * 1024 + 1 * r.val; omega
    | ⟨1, _⟩ => show e.val = win1_2.index _ 1 * 512 + 1 * e.val; omega
  · show (dat1 (V3 m ρ) c).after 2 ⟨0, _⟩ (ix2 r e) = _
    rw [after1_2, heads_at]
    simp only [k_at, kg_at]

/-! ## The results -/

/-- The batches on an axis of their own. -/
theorem split_rows (x : Vec Ideal S1024x512 .f32) (a : Fin 4) (j : Fin 256) (e : Fin 512) :
    shapeCast S4x256x512 x shapeCasts_S1024x512_S4x256x512 (ix3 a j e) = x (ix2 ⟨256 * a.val + j.val, by omega⟩ e) := by
  pointwise []
  simp only [Nat.mul_comm]

/-- The heads on an axis of their own. -/
theorem split_heads (x : Vec Ideal S4x256x512 .f32) (a : Fin 4) (j : Fin 256) (h : Fin 4) (d : Fin 128) :
    shapeCast S4x256x4x128 x shapeCasts_S4x256x512_S4x256x4x128 (ix4 a j h d) = x (ix3 a j ⟨128 * h.val + d.val, by omega⟩) := by
  pointwise []
  simp only [Nat.mul_comm]

/-- The values' columns. -/
theorem right_half (x : Vec Ideal S1024x1024 .f32) (r : Fin 1024) (e : Fin 512) :
    extractStridedSlice S1024x512 ![0, 512] x slices_S1024x1024_S1024x512_0_512 (ix2 r e) = x (ix2 r ⟨512 + e.val, by omega⟩) := by
  pointwise []

theorem keys_read (v : Valuation τ sig (Elt Ideal)) (a : Fin 4) (j : Fin 256) (h : Fin 4) (d : Fin 128) :
    StableHlo.after hostOps2 v (Proc.devRef .tc main_v9) (ix4 a j h d)
      = v (Proc.devRef .tc main_v5) (ix2 ⟨256 * a.val + j.val, by omega⟩ ⟨128 * h.val + d.val, by omega⟩) := by
  have e : StableHlo.after hostOps2 v (Proc.devRef .tc main_v9)
      = shapeCast S4x256x4x128 (shapeCast S4x256x512 (v (Proc.devRef .tc main_v5)) shapeCasts_S1024x512_S4x256x512) shapeCasts_S4x256x512_S4x256x4x128 := by
    after_results_simp <;> rfl
  exact (congrFun e _).trans ((split_heads _ a j h d).trans (split_rows _ a j _))

theorem values_read (v : Valuation τ sig (Elt Ideal)) (a : Fin 4) (j : Fin 256) (h : Fin 4) (d : Fin 128) :
    StableHlo.after hostOps2 v (Proc.devRef .tc main_v10) (ix4 a j h d)
      = v (Proc.devRef .tc main_v3) (ix2 ⟨256 * a.val + j.val, by omega⟩ ⟨512 + (128 * h.val + d.val), by omega⟩) := by
  have e : StableHlo.after hostOps2 v (Proc.devRef .tc main_v10)
      = shapeCast S4x256x4x128 (shapeCast S4x256x512 (extractStridedSlice S1024x512 ![0, 512] (v (Proc.devRef .tc main_v3)) slices_S1024x1024_S1024x512_0_512) shapeCasts_S1024x512_S4x256x512) shapeCasts_S4x256x512_S4x256x4x128 := by
    after_results_simp <;> rfl
  exact (congrFun e _).trans ((split_heads _ a j h d).trans ((split_rows _ a j _).trans (right_half _ _ _)))

theorem keys_at (c : Dev nD) (a : Fin 4) (j : Fin 256) (h : Fin 4) (d : Fin 128) :
    W5 m ρ c (Proc.devRef .tc main_v9) (ix4 a j h d)
      = normedQ (fun d => kv m c ⟨256 * a.val + j.val, by omega⟩ ⟨128 * h.val + d.val, by omega⟩) (keyGain m c) d := by
  have e : W5 m ρ c (Proc.devRef .tc main_v9) (ix4 a j h d)
      = W4 m ρ c (Proc.devRef .tc main_v5) (ix2 ⟨256 * a.val + j.val, by omega⟩ ⟨128 * h.val + d.val, by omega⟩) := keys_read _ a j h d
  rw [e, heads_after]
  have h1 : (128 * h.val + d.val) / 128 = h.val := by omega
  have h2 : (128 * h.val + d.val) % 128 = d.val := by omega
  simp only [h1, h2]

theorem values_at (c : Dev nD) (a : Fin 4) (j : Fin 256) (h : Fin 4) (d : Fin 128) :
    W5 m ρ c (Proc.devRef .tc main_v10) (ix4 a j h d)
      = kv m c ⟨256 * a.val + j.val, by omega⟩ ⟨512 + (128 * h.val + d.val), by omega⟩ := by
  have e : W5 m ρ c (Proc.devRef .tc main_v10) (ix4 a j h d)
      = W4 m ρ c (Proc.devRef .tc main_v3) (ix2 ⟨256 * a.val + j.val, by omega⟩ ⟨512 + (128 * h.val + d.val), by omega⟩) := values_read _ a j h d
  rw [e]
  refine (congrFun (W4_of m ρ c main_v3 (by decide)) _).trans ?_
  exact (congrFun (W3_of m ρ c main_v3 (by decide)) _).trans (kv_at m ρ c _ _)

end Cert.Kernel5Ideal.Hand

end
-- ==== Proof.MemRef.lean ====
/- The memory's keys and values as plain mathematics, read at an index, and that the two calls leave them. -/
module

public import proofs.«01_k».proof.Proof.MemValue
public import proofs.«01_k».proof.Proof.Gen.Reference5Ideal.Run

@[expose] public section

noncomputable section

namespace Cert.Reference5Ideal.Hand

open Idealize.ShloMosaic Idealize.ShloMosaic.TcCoe
open Cert.Reference5Ideal Cert.Reference5Ideal.Gen
open Cert.Layer Cert.Tail

/-- The normed memory. -/
def normR (x : FVec Ideal S4x256x1024 .f32) (g : FVec Ideal S1024 .f32) : FVec Ideal S4x256x1024 .f32 :=
  mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 g))

/-- Its product with the matrix. -/
def kvR (x : FVec Ideal S4x256x1024 .f32) (g : FVec Ideal S1024 .f32) (w : FVec Ideal S1024x1024 .f32) : FVec Ideal S4x256x1024 .f32 :=
  Host.dotGeneral dot_S4x256x1024_S1024x1024_S4x256x1024_2_0_01_1_n_n none (normR x g) w

/-- The product's first columns, a head's on an axis of their own. -/
def headsR (p : FVec Ideal S4x256x1024 .f32) : FVec Ideal S4x256x4x128 .f32 :=
  shapeCast _ (extractStridedSlice S4x256x512 ![0, 0, 0] p slices_S4x256x1024_S4x256x512_0_0_0) shapeCasts_S4x256x512_S4x256x4x128

/-- The keys: the heads normed. -/
def keysR (q : FVec Ideal S4x256x4x128 .f32) (g : FVec Ideal S128 .f32) : FVec Ideal S4x256x4x128 .f32 :=
  mulf (mulf q (broadcastInDim S4x256x4x128 ![0, 1, 2, 3] bcast_S4x256x4x1_S4x256x4x128_0_1_2_3 (Host.rsqrt (addf (Host.divf (broadcastInDim S4x256x4x1 ![0, 1, 2] bcast_S4x256x4_S4x256x4x1_0_1_2 (Host.reduceAdd (mulf q q) (constant S_ .f32 0x00000000#32) reducesTo_S4x256x4x128_S4x256x4_d3 h_S_)) (broadcastInDim S4x256x4x1 ![] bcast_S_S4x256x4x1 (constant S_ .f32 0x43000000#32))) (broadcastInDim S4x256x4x1 ![] bcast_S_S4x256x4x1 (constant S_ .f32 0x358637BD#32)))))) (broadcastInDim S4x256x4x128 ![0, 1, 2, 3] bcast_S1x1x1x128_S4x256x4x128_0_1_2_3 (broadcastInDim S1x1x1x128 ![3] bcast_S128_S1x1x1x128_3 g))

/-- The values: the product's other columns. -/
def valuesR (p : FVec Ideal S4x256x1024 .f32) : FVec Ideal S4x256x4x128 .f32 :=
  shapeCast _ (extractStridedSlice S4x256x512 ![0, 0, 512] p slices_S4x256x1024_S4x256x512_0_0_512) shapeCasts_S4x256x512_S4x256x4x128

theorem norm_at (x : FVec Ideal S4x256x1024 .f32) (g : FVec Ideal S1024 .f32) (a : Fin 4) (t : Fin 256) (d : Fin 1024) :
    normR x g (ix3 a t d) = normed (fun e => x (ix3 a t e)) (fun e => g (ix1 e)) d := by
  pointwise [normR]
  rfl

theorem kv_at (x : FVec Ideal S4x256x1024 .f32) (g : FVec Ideal S1024 .f32) (w : FVec Ideal S1024x1024 .f32) (a : Fin 4) (t : Fin 256) (j : Fin 1024) :
    kvR x g w (ix3 a t j) = projected (fun e => x (ix3 a t e)) (fun e => g (ix1 e)) (fun e => w (ix2 e j)) := by
  unfold projected
  simp only [← norm_at]
  pointwise [kvR]

theorem heads_at (p : FVec Ideal S4x256x1024 .f32) (a : Fin 4) (t : Fin 256) (h : Fin 4) (d : Fin 128) :
    headsR p (ix4 a t h d) = p (ix3 a t ⟨128 * h.val + d.val, by omega⟩) := by
  pointwise [headsR]
  simp only [Nat.mul_comm]

theorem keys_at (q : FVec Ideal S4x256x4x128 .f32) (g : FVec Ideal S128 .f32) (a : Fin 4) (t : Fin 256) (h : Fin 4) (d : Fin 128) :
    keysR q g (ix4 a t h d) = normedQ (fun e => q (ix4 a t h e)) (fun e => g (ix1 e)) d := by
  pointwise [keysR]
  try rfl

theorem values_at (p : FVec Ideal S4x256x1024 .f32) (a : Fin 4) (t : Fin 256) (h : Fin 4) (d : Fin 128) :
    valuesR p (ix4 a t h d) = p (ix3 a t ⟨512 + (128 * h.val + d.val), by omega⟩) := by
  pointwise [valuesR]
  simp only [Nat.mul_comm]

theorem eq_ix4 {a b c d : ℕ} (x : (⟨4, ![a, b, c, d]⟩ : Shape).Idx) : x = ix4 (x 0) (x 1) (x 2) (x 3) := by
  funext i
  match i with
  | ⟨0, _⟩ => rfl
  | ⟨1, _⟩ => rfl
  | ⟨2, _⟩ => rfl
  | ⟨3, _⟩ => rfl

section Results

variable (m : (ℓ : Loc Cert.Kernel5Ideal.nD Cert.Kernel5Ideal.τ Cert.Kernel5Ideal.sig) → Buf (Elt Ideal) ℓ) (ρ : Dev Cert.Kernel5Ideal.nD → PrngReg)

/-- The product of the launch's memory, gains and matrix. -/
abbrev kvOf (c : Dev Cert.Kernel5Ideal.nD) : FVec Ideal S4x256x1024 .f32 :=
  kvR (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))

theorem kv_ref (c : Dev Cert.Kernel5Ideal.nD) (a : Fin 4) (t : Fin 256) (j : Fin 1024) :
    Cert.Kernel5Ideal.Hand.kv m c ⟨256 * a.val + t.val, by omega⟩ j = kvOf m c (ix3 a t j) := by
  refine Eq.trans ?_ (kv_at _ _ _ a t j).symm
  unfold Cert.Kernel5Ideal.Hand.kv
  congr 1
  funext e
  unfold Cert.Kernel5Ideal.Hand.row
  have h1 : (256 * a.val + t.val) / 256 = a.val := by omega
  have h2 : (256 * a.val + t.val) % 256 = t.val := by omega
  simp only [h1, h2]

/-- The keys that the calls leave are the reference's. -/
theorem keys_ref (c : Dev Cert.Kernel5Ideal.nD) :
    Cert.Kernel5Ideal.Gen.W5 m ρ c (Proc.devRef .tc Cert.Kernel5Ideal.main_v9)
      = keysR (headsR (kvOf m c)) (m ((c.tc : Thread Cert.Kernel5Ideal.nD Cert.Kernel5Ideal.τ).loc Cert.Kernel5Ideal.main_arg3)) := by
  funext o
  obtain ⟨a, t, h, d, rfl⟩ : ∃ (a : Fin 4) (t : Fin 256) (h : Fin 4) (d : Fin 128), o = ix4 a t h d := ⟨o 0, o 1, o 2, o 3, eq_ix4 o⟩
  refine (Cert.Kernel5Ideal.Hand.keys_at m ρ c a t h d).trans (Eq.trans ?_ (keys_at _ _ a t h d).symm)
  simp only [heads_at, kv_ref]
  rfl

/-- So are the values. -/
theorem values_ref (c : Dev Cert.Kernel5Ideal.nD) :
    Cert.Kernel5Ideal.Gen.W5 m ρ c (Proc.devRef .tc Cert.Kernel5Ideal.main_v10) = valuesR (kvOf m c) := by
  funext o
  obtain ⟨a, t, h, d, rfl⟩ : ∃ (a : Fin 4) (t : Fin 256) (h : Fin 4) (d : Fin 128), o = ix4 a t h d := ⟨o 0, o 1, o 2, o 3, eq_ix4 o⟩
  refine (Cert.Kernel5Ideal.Hand.values_at m ρ c a t h d).trans (Eq.trans ?_ (values_at _ a t h d).symm)
  exact kv_ref m c a t _

end Results

end Cert.Reference5Ideal.Hand

end
-- ==== Proof.SampleIn.lean ====
/- What the call that norms the sample group's rows and multiplies them by the attention layer's matrix leaves, and what the host
   cuts out of it: the keys and the values. -/
module

public import proofs.«01_k».proof.Proof.Norm
public import proofs.«01_k».proof.Proof.Gen.Kernel6Ideal.Frame
public import proofs.«01_k».proof.Proof.Gen.Reference6Ideal.Run
public import Idealize.ShloMosaic.Lib.Pipeline.Value
public import Idealize.ShloMosaic.Lib.Pointwise
public import Idealize.ShloMosaic.Lib.IdealHost
public import Idealize.ShloMosaic.Lib.Tactic
public import Idealize.ShloMosaic.Lib.StableHlo.ReadAt

@[expose] public section

noncomputable section

namespace Cert.Kernel6Ideal.Hand

open Idealize.ShloMosaic Idealize.ShloMosaic.TcCoe Idealize.SL.Sem
open Cert.Kernel6Ideal Cert.Kernel6Ideal.Gen
open Cert.Layer

/-! ## The two payloads at an index -/

theorem normed_at (x : Vec Ideal S128x1024 .f32) (g : Vec Ideal S1x1024 .f32) (r : Fin 128) (d : Fin 1024) :
    k0_pay1 x g (ix2 r d) = normed (fun e => x (ix2 r e)) (fun e => g (ix2 0 e)) d := by
  pointwise [k0_pay1]
  rfl

theorem product_at (h : Vec Ideal S128x1024 .bf16) (w : Vec Ideal S1024x1024 .bf16) (r : Fin 128) (d : Fin 1024) :
    k0_pay2 h w (ix2 r d) = ∑ e : Fin 1024, (h (ix2 r e) : EReal) * w (ix2 e d) := by
  pointwise [k0_pay2]

/-! ## What a point leaves -/

theorem hz : (![0, 0] : Fin 2 → Nat) = fun _ => 0 := funext fun a => by fin_cases a <;> rfl

section Points

variable (c : Dev nD) (i : grid0.Coords) (a2 : Memref sig .tc .vmem S128x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S128x1024 .f32) (h5 : a5.IsWhole) (a6 : Memref sig .tc .vmem S128x1024 .bf16) (h6 : a6.IsWhole)
    (x0 : Vec Ideal S128x1024 .f32) (x1 : Vec Ideal S1x1024 .f32) (x2 : Vec Ideal S1024x1024 .bf16)

theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S128x1024) _ hz]
  simp only [View.readAt_eq_ld, h2.read_unread, h3.read_unread, h4.read_unread, View.ld_unit_zero (S := S128x1024) hz,
    View.ld_unit_zero (S := S1x1024) hz, View.ld_unit_zero (S := S1024x1024) hz]

theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S128x1024) hz, View.ld_unit_zero (S := S1x1024) hz]

theorem out_B (hc : ¬cond0_0 i) (xs : Vec Ideal S128x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h4.read_unread, h6.read_unread, View.ld_unit_zero (S := S128x1024) hz, View.ld_unit_zero (S := S1024x1024) hz]

end Points

/-! ## The blocks that a point reads -/

theorem idxX : ∀ t : Fin cfg0.N, win0_0.index t (0 : Fin 2) = 0 ∧ win0_0.index t (1 : Fin 2) = 0 :=
  (by decide +kernel : ∀ t : Fin grid0.N, _)
theorem idxG : ∀ t : Fin cfg0.N, win0_1.index t (0 : Fin 2) = 0 ∧ win0_1.index t (1 : Fin 2) = 0 :=
  (by decide +kernel : ∀ t : Fin grid0.N, _)
theorem idxW : ∀ t : Fin cfg0.N, win0_2.index t (0 : Fin 2) = 0 ∧ win0_2.index t (1 : Fin 2) = t.val :=
  (by decide +kernel : ∀ t : Fin grid0.N, _)
theorem idxO : ∀ t : Fin cfg0.N, win0_3.index t (0 : Fin 2) = 0 ∧ win0_3.index t (1 : Fin 2) = t.val :=
  (by decide +kernel : ∀ t : Fin grid0.N, _)

variable (m : (ℓ : Loc nD τ sig) → Buf (Elt Ideal) ℓ) (ρ : Dev nD → PrngReg)

/-- Row `i` of the activations, the batches one after another. -/
def row (c : Dev nD) (i : Fin 128) (e : Fin 1024) : EReal :=
  m ((c.tc : Thread nD τ).loc main_arg0) (ix3 ⟨i.val / 4, by omega⟩ ⟨i.val % 4, by omega⟩ e)

/-- The gains. -/
def gain (c : Dev nD) (e : Fin 1024) : EReal := m ((c.tc : Thread nD τ).loc main_arg1) (ix1 e)

/-- Column `j` of the matrix. -/
def column (c : Dev nD) (j : Fin 7168) (e : Fin 1024) : EReal := m ((c.tc : Thread nD τ).loc main_arg2) (ix2 e j)

theorem x_at (c : Dev nD) (t : Fin cfg0.N) (r : Fin 128) (e : Fin 1024) : iblk m c 0 t (ix2 r e) = row m c r e := by
  obtain ⟨h0, h1⟩ := idxX t
  have h : V m c main_v0 (ix2 r e) = row m c r e := by
    show StableHlo.after hostOps0 (fun b => m (c, b)) main_v0 (ix2 r e) = _
    unfold hostOps0
    after_reads_at
    rfl
  rw [← h]
  unfold iblk
  rw [View.read_apply]
  show V m c main_v0 _ = V m c main_v0 _
  congr 1
  funext a
  apply Fin.ext
  match a with
  | ⟨0, _⟩ => show win0_0.index t 0 * 128 + 1 * r.val = r.val; omega
  | ⟨1, _⟩ => show win0_0.index t 1 * 1024 + 1 * e.val = e.val; omega

theorem g_at (c : Dev nD) (t : Fin cfg0.N) (e : Fin 1024) : iblk m c 1 t (ix2 0 e) = gain m c e := by
  obtain ⟨h0, h1⟩ := idxG t
  have h : V m c main_v2 (ix2 0 e) = gain m c e := by
    show StableHlo.after hostOps0 (fun b => m (c, b)) main_v2 (ix2 0 e) = _
    unfold hostOps0
    after_reads_at
    rfl
  rw [← h]
  unfold iblk
  rw [View.read_apply]
  show V m c main_v2 _ = V m c main_v2 _
  congr 1
  funext a
  apply Fin.ext
  match a with
  | ⟨0, _⟩ => show win0_1.index t 0 * 1 + 1 * 0 = 0; omega
  | ⟨1, _⟩ => show win0_1.index t 1 * 1024 + 1 * e.val = e.val; omega

theorem w_at (c : Dev nD) (t : Fin cfg0.N) (e d : Fin 1024) (j : Fin 7168) (hj : j.val = 1024 * t.val + d.val) :
    iblk m c 2 t (ix2 e d) = column m c j e := by
  obtain ⟨h0, h1⟩ := idxW t
  have h : V m c main_v1 (ix2 e j) = column m c j e := by
    show StableHlo.after hostOps0 (fun b => m (c, b)) main_v1 (ix2 e j) = _
    unfold hostOps0
    after_reads_at
    rfl
  rw [← h]
  unfold iblk
  rw [View.read_apply]
  show V m c main_v1 _ = V m c main_v1 _
  congr 1
  funext a
  apply Fin.ext
  match a with
  | ⟨0, _⟩ => show win0_2.index t 0 * 1024 + 1 * e.val = e.val; omega
  | ⟨1, _⟩ => show win0_2.index t 1 * 1024 + 1 * d.val = j.val; omega

/-! ## The scratch and the output after a point -/

theorem pay1_at (c : Dev nD) (t : Fin cfg0.N) (r : Fin 128) (d : Fin 1024) :
    k0_pay1 (iblk m c 0 t) (iblk m c 1 t) (ix2 r d) = normed (row m c r) (gain m c) d := by
  rw [normed_at]
  simp only [x_at, g_at]

/-- After every point the scratch holds the normed rows, and the output block their product with the point's columns. -/
theorem after_point (c : Dev nD) : ∀ (n : ℕ) (hn : n < cfg0.N), (∀ (r : Fin 128) (d : Fin 1024), (outsAt0 m c n hn).2 (ix2 r d) = normed (row m c r) (gain m c) d)
    ∧ (outsAt0 m c n hn).1 = k0_pay2 (outsAt0 m c n hn).2 (iblk m c 2 ⟨n, hn⟩) := by
  have hN : cfg0.N = 7 := N_0
  intro n
  induction n with
  | zero =>
    intro hn
    have e := outsAt0_A m c ⟨0, hn⟩ rfl
    dsimp only at e
    rw [e]
    dsimp only
    rw [out_A, sout_A]
    exact ⟨fun r d => pay1_at m c ⟨0, hn⟩ r d, rfl⟩
  | succ n ih =>
    intro hn
    have e := outsAt0_B m c ⟨n + 1, hn⟩ (by show ¬(n + 1) % 7 = 0; omega)
    dsimp only at e
    rw [e]
    dsimp only
    rw [out_B]
    have hs : ∀ xs : Vec Ideal S128x1024 .bf16, xs = (outsAt0 m c n (by omega)).2 → (∀ (r : Fin 128) (d : Fin 1024), xs (ix2 r d) = normed (row m c r) (gain m c) d) :=
      fun xs h r d => by rw [h]; exact (ih (by omega)).1 r d
    refine ⟨?_, ?_⟩
    · refine hs _ ?_
      unfold sout0_B_0
      rfl
    · unfold sout0_B_0
      rfl

theorem block_at (c : Dev nD) (t : Fin cfg0.N) (r : Fin 128) (d : Fin 1024) (j : Fin 7168) (hj : j.val = 1024 * t.val + d.val) :
    (outsAt0 m c t.val t.isLt).1 (ix2 r d) = projected (row m c r) (gain m c) (column m c j) := by
  rw [(after_point m c t.val t.isLt).2, product_at]
  unfold projected
  refine Finset.sum_congr rfl fun e _ => ?_
  rw [(after_point m c t.val t.isLt).1 r e, w_at m c t e d j hj]

theorem idx_inj : ∀ t t' : Fin cfg0.N, win0_3.index t = win0_3.index t' → t = t' :=
  (by decide +kernel : ∀ t t' : Fin grid0.N, win0_3.index t = win0_3.index t' → t = t')

theorem flushes : ∀ t : Fin cfg0.N, (cfg0.win 3).flush t = true := (by decide +kernel : ∀ t : Fin grid0.N, _)

/-- What the call leaves. -/
theorem final_at (c : Dev nD) (r : Fin 128) (j : Fin 7168) :
    (dats m 0 c).arrAt 3 cfg0.N (ix2 r j) = projected (row m c r) (gain m c) (column m c j) := by
  have hN : cfg0.N = 7 := N_0
  have ht : j.val / 1024 < cfg0.N := by omega
  obtain ⟨h0, h1⟩ := idxO ⟨j.val / 1024, ht⟩
  dsimp only at h0 h1
  have hb := congrFun ((dats m 0 c).read_blk_arrAt_eq_flushed 3 (fun t t' _ _ hne => (cfg0.win 3).disjoint_blk fun h => hne (idx_inj t t' h))
    cfg0.N ⟨j.val / 1024, ht⟩ ht (flushes _)) (ix2 r ⟨j.val % 1024, by omega⟩)
  rw [View.read_apply] at hb
  refine Eq.trans ?_ (hb.trans ?_)
  · show (dats m 0 c).arrAt 3 cfg0.N _ = (dats m 0 c).arrAt 3 cfg0.N _
    congr 1
    funext b
    apply Fin.ext
    match b with
    | ⟨0, _⟩ => show r.val = win0_3.index _ 0 * 128 + 1 * r.val; omega
    | ⟨1, _⟩ => show j.val = win0_3.index _ 1 * 1024 + 1 * (j.val % 1024); omega
  · refine Eq.trans ?_ (block_at m c ⟨j.val / 1024, ht⟩ r ⟨j.val % 1024, by omega⟩ j (by show j.val = 1024 * (j.val / 1024) + j.val % 1024; omega))
    show (dats m 0 c).after 3 ⟨j.val / 1024, ht⟩ (ix2 r ⟨j.val % 1024, _⟩) = _
    rw [after0_3]

/-! ## After the host operations -/

/-- The buffers at the call's end. -/
def exit (c : Dev nD) : Valuation τ sig (Elt Ideal) :=
  Pipeline.withArrays spec0 c (V0 m c) fun w => (dats m 0 c).arrAt w cfg0.N

theorem exit_at (c : Dev nD) (r : Fin 128) (j : Fin 7168) :
    exit m c (Proc.devRef .tc main_v3) (ix2 r j) = projected (row m c r) (gain m c) (column m c j) := by
  have e : exit m c (Proc.devRef .tc main_v3) = (dats m 0 c).arrAt 3 cfg0.N := by
    unfold exit
    exact Pipeline.withArrays_arr spec0 launch0.win.arr_inj c _ _ 3
  rw [e]
  exact final_at m c r j

theorem run : θ_run defs (onTc (τ := τ) (main (F := Ideal))) ⟨m, fun _ => 0, ρ⟩ (fun r => ∀ c : Dev nD,
      r.2.mem ((c.tc : Thread nD τ).loc main_v4) = StableHlo.after hostOps1 (exit m c) (Proc.devRef .tc main_v4)
      ∧ r.2.mem ((c.tc : Thread nD τ).loc main_v7) = StableHlo.after hostOps1 (exit m c) (Proc.devRef .tc main_v7)
      ∧ r.2.mem ((c.tc : Thread nD τ).loc main_v8) = StableHlo.after hostOps1 (exit m c) (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h.1 c).2 main_v4 (Pipeline.mem_restRefs_of main_v4 (by decide) (by decide)),
       (h.1 c).2 main_v7 (Pipeline.mem_restRefs_of main_v7 (by decide) (by decide)),
       (h.1 c).2 main_v8 (Pipeline.mem_restRefs_of main_v8 (by decide) (by decide)), h.2 c⟩)
    (θ_run_and (run_main m ρ) (unchanged m ρ))

/-- The batches on an axis of their own. -/
theorem split_rows (x : Vec Ideal S128x7168 .f32) (a : Fin 32) (t : Fin 4) (j : Fin 7168) :
    shapeCast S32x4x7168 x shapeCasts_S128x7168_S32x4x7168 (ix3 a t j) = x (ix2 ⟨4 * a.val + t.val, by omega⟩ j) := by
  pointwise []
  simp only [Nat.mul_comm]

/-- The product with its batches on an axis of their own. -/
theorem whole_at (c : Dev nD) (a : Fin 32) (t : Fin 4) (j : Fin 7168) :
    StableHlo.after hostOps1 (exit m c) (Proc.devRef .tc main_v4) (ix3 a t j)
      = projected (row m c ⟨4 * a.val + t.val, by omega⟩) (gain m c) (column m c j) := by
  have e : StableHlo.after hostOps1 (exit m c) (Proc.devRef .tc main_v4)
      = shapeCast S32x4x7168 (exit m c (Proc.devRef .tc main_v3)) shapeCasts_S128x7168_S32x4x7168 := by
    after_results_simp <;> rfl
  exact (congrFun e _).trans ((split_rows _ a t j).trans (exit_at m c _ j))

/-- The keys and the values are cut out of it. -/
theorem keys_eq (c : Dev nD) : StableHlo.after hostOps1 (exit m c) (Proc.devRef .tc main_v7)
    = shapeCast S32x4x12x128 (extractStridedSlice S32x4x1536 ![0, 0, 1536] (StableHlo.after hostOps1 (exit m c) (Proc.devRef .tc main_v4)) slices_S32x4x7168_S32x4x1536_0_0_1536) shapeCasts_S32x4x1536_S32x4x12x128 := by
  after_results_simp <;> rfl

theorem values_eq (c : Dev nD) : StableHlo.after hostOps1 (exit m c) (Proc.devRef .tc main_v8)
    = shapeCast S32x4x12x128 (extractStridedSlice S32x4x1536 ![0, 0, 3072] (StableHlo.after hostOps1 (exit m c) (Proc.devRef .tc main_v4)) slices_S32x4x7168_S32x4x1536_0_0_3072) shapeCasts_S32x4x1536_S32x4x12x128 := by
  after_results_simp <;> rfl

end Cert.Kernel6Ideal.Hand

namespace Cert.Reference6Ideal.Hand

open Idealize.ShloMosaic Idealize.ShloMosaic.TcCoe Idealize.SL.Sem
open Cert.Reference6Ideal Cert.Reference6Ideal.Gen
open Cert.Layer

/-- The normed activations. -/
def normR (x : FVec Ideal S32x4x1024 .f32) (g : FVec Ideal S1024 .f32) : FVec Ideal S32x4x1024 .f32 :=
  mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))

/-- Their product with the matrix. -/
def dotR (x : FVec Ideal S32x4x1024 .f32) (g : FVec Ideal S1024 .f32) (w : FVec Ideal S1024x7168 .f32) : FVec Ideal S32x4x7168 .f32 :=
  Host.dotGeneral dot_S32x4x1024_S1024x7168_S32x4x7168_2_0_01_1_n_n none (normR x g) w

theorem norm_at (x : FVec Ideal S32x4x1024 .f32) (g : FVec Ideal S1024 .f32) (a : Fin 32) (t : Fin 4) (d : Fin 1024) :
    normR x g (ix3 a t d) = normed (fun e => x (ix3 a t e)) (fun e => g (ix1 e)) d := by
  pointwise [normR]
  rfl

theorem dot_at (x : FVec Ideal S32x4x1024 .f32) (g : FVec Ideal S1024 .f32) (w : FVec Ideal S1024x7168 .f32) (a : Fin 32) (t : Fin 4) (j : Fin 7168) :
    dotR x g w (ix3 a t j) = projected (fun e => x (ix3 a t e)) (fun e => g (ix1 e)) (fun e => w (ix2 e j)) := by
  unfold projected
  simp only [← norm_at]
  pointwise [dotR]
  try rfl

/-- The call leaves the reference's product. -/
theorem whole_ref (m : (ℓ : Loc Cert.Kernel6Ideal.nD Cert.Kernel6Ideal.τ Cert.Kernel6Ideal.sig) → Buf (Elt Ideal) ℓ) (c : Dev Cert.Kernel6Ideal.nD) :
    StableHlo.after Cert.Kernel6Ideal.Gen.hostOps1 (Cert.Kernel6Ideal.Hand.exit m c) (Proc.devRef .tc Cert.Kernel6Ideal.main_v4)
      = dotR (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) := by
  funext i
  obtain ⟨a, t, j, rfl⟩ : ∃ (a : Fin 32) (t : Fin 4) (j : Fin 7168), i = ix3 a t j := ⟨i 0, i 1, i 2, eq_ix3 i⟩
  rw [Cert.Kernel6Ideal.Hand.whole_at, dot_at]
  unfold Cert.Kernel6Ideal.Hand.row Cert.Kernel6Ideal.Hand.gain Cert.Kernel6Ideal.Hand.column
  congr 1
  funext e
  congr 1
  congr 1
  · apply Fin.ext
    show (4 * a.val + t.val) / 4 = a.val
    omega
  · apply Fin.ext
    show (4 * a.val + t.val) % 4 = t.val
    omega

end Cert.Reference6Ideal.Hand

end
-- ==== Proof.PoolIn.lean ====
/- What the call that norms the sample group's rows and multiplies them by the pool layer's matrix leaves, and the state that the
   host puts together from it. -/
module

public import proofs.«01_k».proof.Proof.Norm
public import proofs.«01_k».proof.Proof.Gen.Kernel7Ideal.Frame
public import proofs.«01_k».proof.Proof.Gen.Reference7Ideal.Run
public import Idealize.ShloMosaic.Lib.Pipeline.Value
public import Idealize.ShloMosaic.Lib.Pointwise
public import Idealize.ShloMosaic.Lib.IdealHost
public import Idealize.ShloMosaic.Lib.Tactic
public import Idealize.ShloMosaic.Lib.StableHlo.ReadAt

@[expose] public section

noncomputable section

namespace Cert.Kernel7Ideal.Hand

open Idealize.ShloMosaic Idealize.ShloMosaic.TcCoe Idealize.SL.Sem
open Cert.Kernel7Ideal Cert.Kernel7Ideal.Gen
open Cert.Layer

/-! ## The two payloads at an index -/

theorem normed_at (x : Vec Ideal S128x1024 .f32) (g : Vec Ideal S1x1024 .f32) (r : Fin 128) (d : Fin 1024) :
    k0_pay1 x g (ix2 r d) = normed (fun e => x (ix2 r e)) (fun e => g (ix2 0 e)) d := by
  pointwise [k0_pay1]
  rfl

theorem product_at (h : Vec Ideal S128x1024 .bf16) (w : Vec Ideal S1024x1024 .bf16) (r : Fin 128) (d : Fin 1024) :
    k0_pay2 h w (ix2 r d) = ∑ e : Fin 1024, (h (ix2 r e) : EReal) * w (ix2 e d) := by
  pointwise [k0_pay2]

/-! ## What a point leaves -/

theorem hz : (![0, 0] : Fin 2 → Nat) = fun _ => 0 := funext fun a => by fin_cases a <;> rfl

section Points

variable (c : Dev nD) (i : grid0.Coords) (a2 : Memref sig .tc .vmem S128x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S128x1024 .f32) (h5 : a5.IsWhole) (a6 : Memref sig .tc .vmem S128x1024 .bf16) (h6 : a6.IsWhole)
    (x0 : Vec Ideal S128x1024 .f32) (x1 : Vec Ideal S1x1024 .f32) (x2 : Vec Ideal S1024x1024 .bf16)

theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S128x1024) _ hz]
  simp only [View.readAt_eq_ld, h2.read_unread, h3.read_unread, h4.read_unread, View.ld_unit_zero (S := S128x1024) hz,
    View.ld_unit_zero (S := S1x1024) hz, View.ld_unit_zero (S := S1024x1024) hz]

theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S128x1024) hz, View.ld_unit_zero (S := S1x1024) hz]

theorem out_B (hc : ¬cond0_0 i) (xs : Vec Ideal S128x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h4.read_unread, h6.read_unread, View.ld_unit_zero (S := S128x1024) hz, View.ld_unit_zero (S := S1024x1024) hz]

end Points

/-! ## The blocks that a point reads -/

theorem idxX : ∀ t : Fin cfg0.N, win0_0.index t (0 : Fin 2) = 0 ∧ win0_0.index t (1 : Fin 2) = 0 :=
  (by decide +kernel : ∀ t : Fin grid0.N, _)
theorem idxG : ∀ t : Fin cfg0.N, win0_1.index t (0 : Fin 2) = 0 ∧ win0_1.index t (1 : Fin 2) = 0 :=
  (by decide +kernel : ∀ t : Fin grid0.N, _)
theorem idxW : ∀ t : Fin cfg0.N, win0_2.index t (0 : Fin 2) = 0 ∧ win0_2.index t (1 : Fin 2) = t.val :=
  (by decide +kernel : ∀ t : Fin grid0.N, _)
theorem idxO : ∀ t : Fin cfg0.N, win0_3.index t (0 : Fin 2) = 0 ∧ win0_3.index t (1 : Fin 2) = t.val :=
  (by decide +kernel : ∀ t : Fin grid0.N, _)

variable (m : (ℓ : Loc nD τ sig) → Buf (Elt Ideal) ℓ) (ρ : Dev nD → PrngReg)

/-- Row `i` of the activations, the batches one after another. -/
def row (c : Dev nD) (i : Fin 128) (e : Fin 1024) : EReal :=
  m ((c.tc : Thread nD τ).loc main_arg0) (ix3 ⟨i.val / 4, by omega⟩ ⟨i.val % 4, by omega⟩ e)

/-- The gains. -/
def gain (c : Dev nD) (e : Fin 1024) : EReal := m ((c.tc : Thread nD τ).loc main_arg1) (ix1 e)

/-- Column `j` of the matrix. -/
def column (c : Dev nD) (j : Fin 4096) (e : Fin 1024) : EReal := m ((c.tc : Thread nD τ).loc main_arg2) (ix2 e j)

theorem x_at (c : Dev nD) (t : Fin cfg0.N) (r : Fin 128) (e : Fin 1024) : iblk m c 0 t (ix2 r e) = row m c r e := by
  obtain ⟨h0, h1⟩ := idxX t
  have h : V m c main_v0 (ix2 r e) = row m c r e := by
    show StableHlo.after hostOps0 (fun b => m (c, b)) main_v0 (ix2 r e) = _
    unfold hostOps0
    after_reads_at
    rfl
  rw [← h]
  unfold iblk
  rw [View.read_apply]
  show V m c main_v0 _ = V m c main_v0 _
  congr 1
  funext a
  apply Fin.ext
  match a with
  | ⟨0, _⟩ => show win0_0.index t 0 * 128 + 1 * r.val = r.val; omega
  | ⟨1, _⟩ => show win0_0.index t 1 * 1024 + 1 * e.val = e.val; omega

theorem g_at (c : Dev nD) (t : Fin cfg0.N) (e : Fin 1024) : iblk m c 1 t (ix2 0 e) = gain m c e := by
  obtain ⟨h0, h1⟩ := idxG t
  have h : V m c main_v2 (ix2 0 e) = gain m c e := by
    show StableHlo.after hostOps0 (fun b => m (c, b)) main_v2 (ix2 0 e) = _
    unfold hostOps0
    after_reads_at
    rfl
  rw [← h]
  unfold iblk
  rw [View.read_apply]
  show V m c main_v2 _ = V m c main_v2 _
  congr 1
  funext a
  apply Fin.ext
  match a with
  | ⟨0, _⟩ => show win0_1.index t 0 * 1 + 1 * 0 = 0; omega
  | ⟨1, _⟩ => show win0_1.index t 1 * 1024 + 1 * e.val = e.val; omega

theorem w_at (c : Dev nD) (t : Fin cfg0.N) (e d : Fin 1024) (j : Fin 4096) (hj : j.val = 1024 * t.val + d.val) :
    iblk m c 2 t (ix2 e d) = column m c j e := by
  obtain ⟨h0, h1⟩ := idxW t
  have h : V m c main_v1 (ix2 e j) = column m c j e := by
    show StableHlo.after hostOps0 (fun b => m (c, b)) main_v1 (ix2 e j) = _
    unfold hostOps0
    after_reads_at
    rfl
  rw [← h]
  unfold iblk
  rw [View.read_apply]
  show V m c main_v1 _ = V m c main_v1 _
  congr 1
  funext a
  apply Fin.ext
  match a with
  | ⟨0, _⟩ => show win0_2.index t 0 * 1024 + 1 * e.val = e.val; omega
  | ⟨1, _⟩ => show win0_2.index t 1 * 1024 + 1 * d.val = j.val; omega

/-! ## The scratch and the output after a point -/

theorem pay1_at (c : Dev nD) (t : Fin cfg0.N) (r : Fin 128) (d : Fin 1024) :
    k0_pay1 (iblk m c 0 t) (iblk m c 1 t) (ix2 r d) = normed (row m c r) (gain m c) d := by
  rw [normed_at]
  simp only [x_at, g_at]

/-- After every point the scratch holds the normed rows, and the output block their product with the point's columns. -/
theorem after_point (c : Dev nD) : ∀ (n : ℕ) (hn : n < cfg0.N), (∀ (r : Fin 128) (d : Fin 1024), (outsAt0 m c n hn).2 (ix2 r d) = normed (row m c r) (gain m c) d)
    ∧ (outsAt0 m c n hn).1 = k0_pay2 (outsAt0 m c n hn).2 (iblk m c 2 ⟨n, hn⟩) := by
  have hN : cfg0.N = 4 := N_0
  intro n
  induction n with
  | zero =>
    intro hn
    have e := outsAt0_A m c ⟨0, hn⟩ rfl
    dsimp only at e
    rw [e]
    dsimp only
    rw [out_A, sout_A]
    exact ⟨fun r d => pay1_at m c ⟨0, hn⟩ r d, rfl⟩
  | succ n ih =>
    intro hn
    have e := outsAt0_B m c ⟨n + 1, hn⟩ (by show ¬(n + 1) % 4 = 0; omega)
    dsimp only at e
    rw [e]
    dsimp only
    rw [out_B]
    have hs : ∀ xs : Vec Ideal S128x1024 .bf16, xs = (outsAt0 m c n (by omega)).2 → (∀ (r : Fin 128) (d : Fin 1024), xs (ix2 r d) = normed (row m c r) (gain m c) d) :=
      fun xs h r d => by rw [h]; exact (ih (by omega)).1 r d
    refine ⟨?_, ?_⟩
    · refine hs _ ?_
      unfold sout0_B_0
      rfl
    · unfold sout0_B_0
      rfl

theorem block_at (c : Dev nD) (t : Fin cfg0.N) (r : Fin 128) (d : Fin 1024) (j : Fin 4096) (hj : j.val = 1024 * t.val + d.val) :
    (outsAt0 m c t.val t.isLt).1 (ix2 r d) = projected (row m c r) (gain m c) (column m c j) := by
  rw [(after_point m c t.val t.isLt).2, product_at]
  unfold projected
  refine Finset.sum_congr rfl fun e _ => ?_
  rw [(after_point m c t.val t.isLt).1 r e, w_at m c t e d j hj]

theorem idx_inj : ∀ t t' : Fin cfg0.N, win0_3.index t = win0_3.index t' → t = t' :=
  (by decide +kernel : ∀ t t' : Fin grid0.N, win0_3.index t = win0_3.index t' → t = t')

theorem flushes : ∀ t : Fin cfg0.N, (cfg0.win 3).flush t = true := (by decide +kernel : ∀ t : Fin grid0.N, _)

/-- What the call leaves. -/
theorem final_at (c : Dev nD) (r : Fin 128) (j : Fin 4096) :
    (dats m 0 c).arrAt 3 cfg0.N (ix2 r j) = projected (row m c r) (gain m c) (column m c j) := by
  have hN : cfg0.N = 4 := N_0
  have ht : j.val / 1024 < cfg0.N := by omega
  obtain ⟨h0, h1⟩ := idxO ⟨j.val / 1024, ht⟩
  dsimp only at h0 h1
  have hb := congrFun ((dats m 0 c).read_blk_arrAt_eq_flushed 3 (fun t t' _ _ hne => (cfg0.win 3).disjoint_blk fun h => hne (idx_inj t t' h))
    cfg0.N ⟨j.val / 1024, ht⟩ ht (flushes _)) (ix2 r ⟨j.val % 1024, by omega⟩)
  rw [View.read_apply] at hb
  refine Eq.trans ?_ (hb.trans ?_)
  · show (dats m 0 c).arrAt 3 cfg0.N _ = (dats m 0 c).arrAt 3 cfg0.N _
    congr 1
    funext b
    apply Fin.ext
    match b with
    | ⟨0, _⟩ => show r.val = win0_3.index _ 0 * 128 + 1 * r.val; omega
    | ⟨1, _⟩ => show j.val = win0_3.index _ 1 * 1024 + 1 * (j.val % 1024); omega
  · refine Eq.trans ?_ (block_at m c ⟨j.val / 1024, ht⟩ r ⟨j.val % 1024, by omega⟩ j (by show j.val = 1024 * (j.val / 1024) + j.val % 1024; omega))
    show (dats m 0 c).after 3 ⟨j.val / 1024, ht⟩ (ix2 r ⟨j.val % 1024, _⟩) = _
    rw [after0_3]

/-! ## After the host operations -/

/-- The buffers at the call's end. -/
def exit (c : Dev nD) : Valuation τ sig (Elt Ideal) :=
  Pipeline.withArrays spec0 c (V0 m c) fun w => (dats m 0 c).arrAt w cfg0.N

theorem exit_at (c : Dev nD) (r : Fin 128) (j : Fin 4096) :
    exit m c (Proc.devRef .tc main_v3) (ix2 r j) = projected (row m c r) (gain m c) (column m c j) := by
  have e : exit m c (Proc.devRef .tc main_v3) = (dats m 0 c).arrAt 3 cfg0.N := by
    unfold exit
    exact Pipeline.withArrays_arr spec0 launch0.win.arr_inj c _ _ 3
  rw [e]
  exact final_at m c r j

theorem run : θ_run defs (onTc (τ := τ) (main (F := Ideal))) ⟨m, fun _ => 0, ρ⟩ (fun r => ∀ c : Dev nD,
      r.2.mem ((c.tc : Thread nD τ).loc main_v4) = StableHlo.after hostOps1 (exit m c) (Proc.devRef .tc main_v4)
      ∧ r.2.mem ((c.tc : Thread nD τ).loc main_v7) = StableHlo.after hostOps1 (exit m c) (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h.1 c).2 main_v4 (Pipeline.mem_restRefs_of main_v4 (by decide) (by decide)),
       (h.1 c).2 main_v7 (Pipeline.mem_restRefs_of main_v7 (by decide) (by decide)), h.2 c⟩)
    (θ_run_and (run_main m ρ) (unchanged m ρ))

/-- The batches on an axis of their own. -/
theorem split_rows (x : Vec Ideal S128x4096 .f32) (a : Fin 32) (t : Fin 4) (j : Fin 4096) :
    shapeCast S32x4x4096 x shapeCasts_S128x4096_S32x4x4096 (ix3 a t j) = x (ix2 ⟨4 * a.val + t.val, by omega⟩ j) := by
  pointwise []
  simp only [Nat.mul_comm]

/-- The product with its batches on an axis of their own. -/
theorem whole_at (c : Dev nD) (a : Fin 32) (t : Fin 4) (j : Fin 4096) :
    StableHlo.after hostOps1 (exit m c) (Proc.devRef .tc main_v4) (ix3 a t j)
      = projected (row m c ⟨4 * a.val + t.val, by omega⟩) (gain m c) (column m c j) := by
  have e : StableHlo.after hostOps1 (exit m c) (Proc.devRef .tc main_v4)
      = shapeCast S32x4x4096 (exit m c (Proc.devRef .tc main_v3)) shapeCasts_S128x4096_S32x4x4096 := by
    after_results_simp <;> rfl
  exact (congrFun e _).trans ((split_rows _ a t j).trans (exit_at m c _ j))

theorem exit_arg3 (c : Dev nD) : exit m c (Proc.devRef .tc main_arg3) = m ((c.tc : Thread nD τ).loc main_arg3) := by
  unfold exit
  exact (Pipeline.withArrays_of_ne spec0 c _ _ main_arg3 (by decide)).trans (V_main_arg3 m c)

/-- The state: the rows of the state before and the new ones, without the first four. -/
theorem state_eq (c : Dev nD) : StableHlo.after hostOps1 (exit m c) (Proc.devRef .tc main_v7)
    = extractStridedSlice S32x15x1536 ![0, 4, 0] (concatenate S32x19x1536 1 [⟨S32x15x1536, m ((c.tc : Thread nD τ).loc main_arg3)⟩,
        ⟨S32x4x1536, extractStridedSlice S32x4x1536 ![0, 0, 0] (StableHlo.after hostOps1 (exit m c) (Proc.devRef .tc main_v4)) slices_S32x4x4096_S32x4x1536_0_0_0⟩]
        concatenates_S32x15x1536_S32x4x1536_S32x19x1536_d1) slices_S32x19x1536_S32x15x1536_0_4_0 := by
  rw [← exit_arg3 m c]
  after_results_simp <;> rfl

end Cert.Kernel7Ideal.Hand

namespace Cert.Reference7Ideal.Hand

open Idealize.ShloMosaic Idealize.ShloMosaic.TcCoe Idealize.SL.Sem
open Cert.Reference7Ideal Cert.Reference7Ideal.Gen
open Cert.Layer

/-- The normed activations. -/
def normR (x : FVec Ideal S32x4x1024 .f32) (g : FVec Ideal S1024 .f32) : FVec Ideal S32x4x1024 .f32 :=
  mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))

/-- Their product with the matrix. -/
def dotR (x : FVec Ideal S32x4x1024 .f32) (g : FVec Ideal S1024 .f32) (w : FVec Ideal S1024x4096 .f32) : FVec Ideal S32x4x4096 .f32 :=
  Host.dotGeneral dot_S32x4x1024_S1024x4096_S32x4x4096_2_0_01_1_n_n none (normR x g) w

theorem norm_at (x : FVec Ideal S32x4x1024 .f32) (g : FVec Ideal S1024 .f32) (a : Fin 32) (t : Fin 4) (d : Fin 1024) :
    normR x g (ix3 a t d) = normed (fun e => x (ix3 a t e)) (fun e => g (ix1 e)) d := by
  pointwise [normR]
  rfl

theorem dot_at (x : FVec Ideal S32x4x1024 .f32) (g : FVec Ideal S1024 .f32) (w : FVec Ideal S1024x4096 .f32) (a : Fin 32) (t : Fin 4) (j : Fin 4096) :
    dotR x g w (ix3 a t j) = projected (fun e => x (ix3 a t e)) (fun e => g (ix1 e)) (fun e => w (ix2 e j)) := by
  unfold projected
  simp only [← norm_at]
  pointwise [dotR]
  try rfl

/-- The call leaves the reference's product. -/
theorem whole_ref (m : (ℓ : Loc Cert.Kernel7Ideal.nD Cert.Kernel7Ideal.τ Cert.Kernel7Ideal.sig) → Buf (Elt Ideal) ℓ) (c : Dev Cert.Kernel7Ideal.nD) :
    StableHlo.after Cert.Kernel7Ideal.Gen.hostOps1 (Cert.Kernel7Ideal.Hand.exit m c) (Proc.devRef .tc Cert.Kernel7Ideal.main_v4)
      = dotR (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) := by
  funext i
  obtain ⟨a, t, j, rfl⟩ : ∃ (a : Fin 32) (t : Fin 4) (j : Fin 4096), i = ix3 a t j := ⟨i 0, i 1, i 2, eq_ix3 i⟩
  rw [Cert.Kernel7Ideal.Hand.whole_at, dot_at]
  unfold Cert.Kernel7Ideal.Hand.row Cert.Kernel7Ideal.Hand.gain Cert.Kernel7Ideal.Hand.column
  congr 1
  funext e
  congr 1
  congr 1
  · apply Fin.ext
    show (4 * a.val + t.val) / 4 = a.val
    omega
  · apply Fin.ext
    show (4 * a.val + t.val) % 4 = t.val
    omega

end Cert.Reference7Ideal.Hand

end
-- ==== Proof.GateOut.lean ====
/- The call that gates the sample group's rows and multiplies them by the attention layer's last matrix, read at an index, and that it
   leaves what the plain mathematics does. -/
module

public import proofs.«01_k».proof.Proof.TailMath
public import proofs.«01_k».proof.Proof.Gen.Kernel8Ideal.Value
public import proofs.«01_k».proof.Proof.Gen.Reference8Ideal.Run
public import Idealize.ShloMosaic.Lib.Pipeline.Value
public import Idealize.ShloMosaic.Lib.Pipeline.ValueKit.Tiles
public import Idealize.ShloMosaic.Lib.Pointwise
public import Idealize.ShloMosaic.Lib.IdealHost
public import Idealize.ShloMosaic.Lib.Tactic
public import Idealize.ShloMosaic.Lib.StableHlo.ReadAt

@[expose] public section

noncomputable section

namespace Cert.Kernel8Ideal.Hand

open Idealize.ShloMosaic Idealize.ShloMosaic.TcCoe Idealize.SL.Sem
open Cert.Kernel8Ideal Cert.Kernel8Ideal.Gen
open Cert.Tail

/-- An entry of the result: the residual, the gated mixer's part of the product and the gated memory's. -/
def closed (x : EReal) (gate branch u : Fin 1536 → EReal) (mgate mo v : Fin 512 → EReal) : EReal :=
  x + (∑ e, branch e * silu (gate e) * u e + ∑ e, mo e * silu (mgate e) * v e)

theorem pay_at (gate : Vec Ideal S128x1536 .f32) (mg : Vec Ideal S128x512 .f32) (b : Vec Ideal S128x1536 .f32) (o : Vec Ideal S128x512 .f32)
    (u : Vec Ideal S1536x1024 .bf16) (v : Vec Ideal S512x1024 .bf16) (x : Vec Ideal S128x1024 .f32) (r : Fin 128) (d : Fin 1024) :
    k0_pay1 gate mg b o u v x (ix2 r d)
      = closed (x (ix2 r d)) (fun e => gate (ix2 r e)) (fun e => b (ix2 r e)) (fun e => u (ix2 e d)) (fun e => mg (ix2 r e)) (fun e => o (ix2 r e)) (fun e => v (ix2 e d)) := by
  pointwise [k0_pay1]
  rfl

theorem hz : (![0, 0] : Fin 2 → Nat) = fun _ => 0 := funext fun a => by fin_cases a <;> rfl

/-- Rows of the matrix from row `o` on. -/
theorem ld_rows (X : Vec Ideal S2048x1024 .bf16) (o n : ℕ) (inb : ∀ a, (![o, 0] : Fin 2 → ℕ) a + (![n, 1024] : Fin 2 → ℕ) a ≤ S2048x1024.size a)
    (r : Fin n) (d : Fin 1024) (e : Fin 2048) (he : e.val = o + r.val) :
    View.ld X (Rect.unit (s := S2048x1024) ![o, 0] ![n, 1024] inb) (ix2 r d) = X (ix2 e d) := by
  refine View.ld_unit_apply_of X _ _ _ _ _ fun a => ?_
  match a with
  | ⟨0, _⟩ => exact he
  | ⟨1, _⟩ => show d.val = 0 + d.val; omega

section Point

variable (c : Dev nD) (i : grid0.Coords) (a1 : Memref sig .tc .vmem S128x1536 .f32) (h1 : a1.IsWhole)
    (a2 : Memref sig .tc .vmem S128x1536 .f32) (h2 : a2.IsWhole) (a3 : Memref sig .tc .vmem S128x512 .f32) (h3 : a3.IsWhole)
    (a4 : Memref sig .tc .vmem S128x512 .f32) (h4 : a4.IsWhole) (a5 : Memref sig .tc .vmem S128x1024 .f32) (h5 : a5.IsWhole)
    (a6 : Memref sig .tc .vmem S2048x1024 .bf16) (h6 : a6.IsWhole) (a7 : Memref sig .tc .vmem S128x1024 .f32) (h7 : a7.IsWhole)
    (x0 x1 : Vec Ideal S128x1536 .f32) (x2 x3 : Vec Ideal S128x512 .f32) (x4 : Vec Ideal S128x1024 .f32) (x5 : Vec Ideal S2048x1024 .bf16)

theorem out_at (r : Fin 128) (d : Fin 1024) :
    out0_A_6 c i a1 h1 a2 h2 a3 h3 a4 h4 a5 h5 a6 h6 a7 h7 x0 x1 x2 x3 x4 x5 (ix2 r d)
      = closed (x4 (ix2 r d)) (fun e => x1 (ix2 r e)) (fun e => x0 (ix2 r e)) (fun e => x5 (ix2 ⟨e.val, by omega⟩ d))
          (fun e => x3 (ix2 r e)) (fun e => x2 (ix2 r e)) (fun e => x5 (ix2 ⟨1536 + e.val, by omega⟩ d)) := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S128x1536) hz, View.ld_unit_zero (S := S128x512) hz, View.ld_unit_zero (S := S128x1024) hz]
  rw [pay_at]
  have hu : ∀ e : Fin 1536, View.ld x5 (Rect.unit (s := S2048x1024) ![0, 0] S1536x1024.size inb_S2048x1024_S1536x1024_0_0) (ix2 e d)
      = x5 (ix2 ⟨e.val, by omega⟩ d) := fun e => ld_rows x5 0 1536 _ e d _ (by show e.val = 0 + e.val; omega)
  have hv : ∀ e : Fin 512, View.ld x5 (Rect.unit (s := S2048x1024) ![1536, 0] S512x1024.size inb_S2048x1024_S512x1024_1536_0) (ix2 e d)
      = x5 (ix2 ⟨1536 + e.val, by omega⟩ d) := fun e => ld_rows x5 1536 512 _ e d _ rfl
  exact congrArg₂ (fun u v => closed (x4 (ix2 r d)) (fun e => x1 (ix2 r e)) (fun e => x0 (ix2 r e)) u
    (fun e => x3 (ix2 r e)) (fun e => x2 (ix2 r e)) v) (funext hu) (funext hv)

end Point

/-! ## The blocks that the point reads -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 3 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 13 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

variable (m : (ℓ : Loc nD τ sig) → Buf (Elt Ideal) ℓ) (ρ : Dev nD → PrngReg)

/-- A row of the mixer's output. -/
def branch (c : Dev nD) (i : Fin 128) (e : Fin 1536) : EReal :=
  m ((c.tc : Thread nD τ).loc main_arg1) (ix3 ⟨i.val / 4, by omega⟩ ⟨i.val % 4, by omega⟩ e)

/-- A row of the projection in. -/
def projection (c : Dev nD) (i : Fin 128) (e : Fin 7168) : EReal :=
  m ((c.tc : Thread nD τ).loc main_arg2) (ix3 ⟨i.val / 4, by omega⟩ ⟨i.val % 4, by omega⟩ e)

/-- A row of the memory's answer. -/
def memory (c : Dev nD) (i : Fin 128) (e : Fin 512) : EReal :=
  m ((c.tc : Thread nD τ).loc main_arg3) (ix3 ⟨i.val / 4, by omega⟩ ⟨i.val % 4, by omega⟩ e)

/-- A row of the layer's input. -/
def residual (c : Dev nD) (i : Fin 128) (e : Fin 1024) : EReal :=
  m ((c.tc : Thread nD τ).loc main_arg0) (ix3 ⟨i.val / 4, by omega⟩ ⟨i.val % 4, by omega⟩ e)

/-- The matrix. -/
def matrix (c : Dev nD) (e : Fin 2048) (d : Fin 1024) : EReal := m ((c.tc : Thread nD τ).loc main_arg4) (ix2 e d)

theorem branch_entry (c : Dev nD) (i : Fin 128) (e : Fin 1536) : V m c main_v0 (ix2 i e) = branch m c i e := by
  show StableHlo.after hostOps0 (fun b => m (c, b)) main_v0 (ix2 i e) = _
  unfold hostOps0
  after_reads_at
  rfl

theorem projection_entry (c : Dev nD) (i : Fin 128) (e : Fin 7168) : V m c main_v1 (ix2 i e) = projection m c i e := by
  show StableHlo.after hostOps0 (fun b => m (c, b)) main_v1 (ix2 i e) = _
  unfold hostOps0
  after_reads_at
  rfl

theorem memory_entry (c : Dev nD) (i : Fin 128) (e : Fin 512) : V m c main_v2 (ix2 i e) = memory m c i e := by
  show StableHlo.after hostOps0 (fun b => m (c, b)) main_v2 (ix2 i e) = _
  unfold hostOps0
  after_reads_at
  rfl

theorem residual_entry (c : Dev nD) (i : Fin 128) (e : Fin 1024) : V m c main_v3 (ix2 i e) = residual m c i e := by
  show StableHlo.after hostOps0 (fun b => m (c, b)) main_v3 (ix2 i e) = _
  unfold hostOps0
  after_reads_at
  rfl

theorem matrix_entry (c : Dev nD) (e : Fin 2048) (d : Fin 1024) : V m c main_v4 (ix2 e d) = matrix m c e d := by
  show StableHlo.after hostOps0 (fun b => m (c, b)) main_v4 (ix2 e d) = _
  unfold hostOps0
  after_reads_at
  rfl

theorem branch_at (c : Dev nD) (t : Fin cfg0.N) (r : Fin 128) (e : Fin 1536) : iblk m c 0 t (ix2 r e) = branch m c r e := by
  obtain ⟨h0, h1⟩ := idx0 t
  rw [← branch_entry]
  unfold iblk
  rw [View.read_apply]
  show V m c main_v0 _ = V m c main_v0 _
  congr 1
  funext a
  apply Fin.ext
  match a with
  | ⟨0, _⟩ => show win0_0.index t 0 * 128 + 1 * r.val = r.val; omega
  | ⟨1, _⟩ => show win0_0.index t 1 * 1536 + 1 * e.val = e.val; omega

theorem gate_at (c : Dev nD) (t : Fin cfg0.N) (r : Fin 128) (e : Fin 1536) : X0_1 m c t (ix2 r e) = projection m c r ⟨4608 + e.val, by omega⟩ := by
  obtain ⟨h0, h1⟩ := idx1 t
  rw [← projection_entry]
  unfold X0_1 Pipeline.Window.fill
  rw [dif_pos (moved0_1 t (ix2 r e))]
  unfold iblk
  rw [View.read_apply]
  show V m c main_v1 _ = V m c main_v1 _
  congr 1
  funext a
  apply Fin.ext
  match a with
  | ⟨0, _⟩ => show win0_1.index t 0 * 128 + 1 * r.val = r.val; omega
  | ⟨1, _⟩ => show win0_1.index t 1 * 1536 + 1 * e.val = 4608 + e.val; omega

theorem memory_at (c : Dev nD) (t : Fin cfg0.N) (r : Fin 128) (e : Fin 512) : iblk m c 2 t (ix2 r e) = memory m c r e := by
  obtain ⟨h0, h1⟩ := idx2 t
  rw [← memory_entry]
  unfold iblk
  rw [View.read_apply]
  show V m c main_v2 _ = V m c main_v2 _
  congr 1
  funext a
  apply Fin.ext
  match a with
  | ⟨0, _⟩ => show win0_2.index t 0 * 128 + 1 * r.val = r.val; omega
  | ⟨1, _⟩ => show win0_2.index t 1 * 512 + 1 * e.val = e.val; omega

theorem mgate_at (c : Dev nD) (t : Fin cfg0.N) (r : Fin 128) (e : Fin 512) : iblk m c 3 t (ix2 r e) = projection m c r ⟨6656 + e.val, by omega⟩ := by
  obtain ⟨h0, h1⟩ := idx3 t
  rw [← projection_entry]
  unfold iblk
  rw [View.read_apply]
  show V m c main_v1 _ = V m c main_v1 _
  congr 1
  funext a
  apply Fin.ext
  match a with
  | ⟨0, _⟩ => show win0_3.index t 0 * 128 + 1 * r.val = r.val; omega
  | ⟨1, _⟩ => show win0_3.index t 1 * 512 + 1 * e.val = 6656 + e.val; omega

theorem residual_at (c : Dev nD) (t : Fin cfg0.N) (r : Fin 128) (e : Fin 1024) : iblk m c 4 t (ix2 r e) = residual m c r e := by
  obtain ⟨h0, h1⟩ := idx4 t
  rw [← residual_entry]
  unfold iblk
  rw [View.read_apply]
  show V m c main_v3 _ = V m c main_v3 _
  congr 1
  funext a
  apply Fin.ext
  match a with
  | ⟨0, _⟩ => show win0_4.index t 0 * 128 + 1 * r.val = r.val; omega
  | ⟨1, _⟩ => show win0_4.index t 1 * 1024 + 1 * e.val = e.val; omega

theorem matrix_at (c : Dev nD) (t : Fin cfg0.N) (e : Fin 2048) (d : Fin 1024) : iblk m c 5 t (ix2 e d) = matrix m c e d := by
  obtain ⟨h0, h1⟩ := idx5 t
  rw [← matrix_entry]
  unfold iblk
  rw [View.read_apply]
  show V m c main_v4 _ = V m c main_v4 _
  congr 1
  funext a
  apply Fin.ext
  match a with
  | ⟨0, _⟩ => show win0_5.index t 0 * 2048 + 1 * e.val = e.val; omega
  | ⟨1, _⟩ => show win0_5.index t 1 * 1024 + 1 * d.val = d.val; omega

/-- What the call leaves. -/
theorem final_at (c : Dev nD) (r : Fin 128) (d : Fin 1024) :
    (dats m 0 c).arrAt 6 cfg0.N (ix2 r d)
      = closed (residual m c r d) (fun e => projection m c r ⟨4608 + e.val, by omega⟩) (fun e => branch m c r e) (fun e => matrix m c ⟨e.val, by omega⟩ d)
          (fun e => projection m c r ⟨6656 + e.val, by omega⟩) (fun e => memory m c r e) (fun e => matrix m c ⟨1536 + e.val, by omega⟩ d) := by
  have hN : 0 < cfg0.N := by decide
  obtain ⟨h0, h1⟩ := idx6 ⟨0, hN⟩
  have hb := congrFun (Value.blocks6 m c ⟨0, hN⟩ (flush0_6 _)) (ix2 r d)
  rw [View.read_apply, Value.flushed6_A] at hb
  refine Eq.trans ?_ (hb.trans ?_)
  · show (dats m 0 c).arrAt 6 cfg0.N _ = (dats m 0 c).arrAt 6 cfg0.N _
    congr 1
    funext b
    apply Fin.ext
    match b with
    | ⟨0, _⟩ => show r.val = win0_6.index _ 0 * 128 + 1 * r.val; omega
    | ⟨1, _⟩ => show d.val = win0_6.index _ 1 * 1024 + 1 * d.val; omega
  · refine (out_at c _ _ _ _ _ _ _ _ _ _ _ _ _ _ _ _ _ _ _ _ _ r d).trans ?_
    simp only [branch_at, gate_at, memory_at, mgate_at, residual_at, matrix_at]

end Cert.Kernel8Ideal.Hand

namespace Cert.Reference8Ideal.Hand

open Idealize.ShloMosaic Idealize.ShloMosaic.TcCoe Idealize.SL.Sem
open Cert.Reference8Ideal Cert.Reference8Ideal.Gen
open Cert.Tail
open Cert.Kernel8Ideal.Hand (closed)

/-- The gated mixer's output. -/
def leftR (b : FVec Ideal S32x4x1536 .f32) (z : FVec Ideal S32x4x7168 .f32) : FVec Ideal S32x4x1536 .f32 :=
  mulf b (mulf (extractStridedSlice S32x4x1536 ![0, 0, 4608] z slices_S32x4x7168_S32x4x1536_0_0_4608) (Host.divf (broadcastInDim S32x4x1536 ![] bcast_S_S32x4x1536 (constant S_ .f32 0x3F800000#32)) (addf (broadcastInDim S32x4x1536 ![] bcast_S_S32x4x1536 (constant S_ .f32 0x3F800000#32)) (Host.exp (Host.negf (extractStridedSlice S32x4x1536 ![0, 0, 4608] z slices_S32x4x7168_S32x4x1536_0_0_4608))))))

/-- The memory's gated answer. -/
def rightR (o : FVec Ideal S32x4x512 .f32) (z : FVec Ideal S32x4x7168 .f32) : FVec Ideal S32x4x512 .f32 :=
  mulf o (mulf (extractStridedSlice S32x4x512 ![0, 0, 6656] z slices_S32x4x7168_S32x4x512_0_0_6656) (Host.divf (broadcastInDim S32x4x512 ![] bcast_S_S32x4x512 (constant S_ .f32 0x3F800000#32)) (addf (broadcastInDim S32x4x512 ![] bcast_S_S32x4x512 (constant S_ .f32 0x3F800000#32)) (Host.exp (Host.negf (extractStridedSlice S32x4x512 ![0, 0, 6656] z slices_S32x4x7168_S32x4x512_0_0_6656))))))

/-- Both, side by side. -/
def bothR (l : FVec Ideal S32x4x1536 .f32) (r : FVec Ideal S32x4x512 .f32) : FVec Ideal S32x4x2048 .f32 :=
  concatenate S32x4x2048 2 [⟨S32x4x1536, l⟩, ⟨S32x4x512, r⟩] concatenates_S32x4x1536_S32x4x512_S32x4x2048_d2

/-- The residual plus the projection out, the batches one after another. -/
def projectR (x : FVec Ideal S32x4x1024 .f32) (y : FVec Ideal S32x4x2048 .f32) (w : FVec Ideal S2048x1024 .f32) : FVec Ideal S128x1024 .f32 :=
  shapeCast _ (addf x (Host.dotGeneral dot_S32x4x2048_S2048x1024_S32x4x1024_2_0_01_1_n_n none y w)) shapeCasts_S32x4x1024_S128x1024

def outR (x : FVec Ideal S32x4x1024 .f32) (b : FVec Ideal S32x4x1536 .f32) (z : FVec Ideal S32x4x7168 .f32) (o : FVec Ideal S32x4x512 .f32)
    (w : FVec Ideal S2048x1024 .f32) : FVec Ideal S128x1024 .f32 :=
  projectR x (bothR (leftR b z) (rightR o z)) w

theorem left_at (b : FVec Ideal S32x4x1536 .f32) (z : FVec Ideal S32x4x7168 .f32) (a : Fin 32) (t : Fin 4) (e : Fin 1536) :
    leftR b z (ix3 a t e) = b (ix3 a t e) * silu (z (ix3 a t ⟨4608 + e.val, by omega⟩)) := by
  pointwise [leftR]
  rfl

theorem right_at (o : FVec Ideal S32x4x512 .f32) (z : FVec Ideal S32x4x7168 .f32) (a : Fin 32) (t : Fin 4) (e : Fin 512) :
    rightR o z (ix3 a t e) = o (ix3 a t e) * silu (z (ix3 a t ⟨6656 + e.val, by omega⟩)) := by
  pointwise [rightR]
  rfl

theorem both_left (l : FVec Ideal S32x4x1536 .f32) (r : FVec Ideal S32x4x512 .f32) (a : Fin 32) (t : Fin 4) (e : Fin 2048) (he : e.val < 1536) :
    bothR l r (ix3 a t e) = l (ix3 a t ⟨e.val, he⟩) := by
  pointwise [bothR]
  rw [dif_pos he]

theorem both_right (l : FVec Ideal S32x4x1536 .f32) (r : FVec Ideal S32x4x512 .f32) (a : Fin 32) (t : Fin 4) (e : Fin 2048) (he : ¬e.val < 1536) :
    bothR l r (ix3 a t e) = r (ix3 a t ⟨e.val - 1536, by omega⟩) := by
  pointwise [bothR]
  rw [dif_neg he]

theorem project_at (x : FVec Ideal S32x4x1024 .f32) (y : FVec Ideal S32x4x2048 .f32) (w : FVec Ideal S2048x1024 .f32) (i : Fin 128) (d : Fin 1024) :
    projectR x y w (ix2 i d) = x (ix3 ⟨i.val / 4, by omega⟩ ⟨i.val % 4, by omega⟩ d)
      + ∑ e : Fin 2048, (y (ix3 ⟨i.val / 4, by omega⟩ ⟨i.val % 4, by omega⟩ e) : EReal) * w (ix2 e d) := by
  pointwise [projectR]
  try rfl

/-- A sum over the columns of both is the sum over those of each. -/
theorem sum_both (f : Fin 2048 → EReal) :
    ∑ e, f e = ∑ e : Fin 1536, f ⟨e.val, by omega⟩ + ∑ e : Fin 512, f ⟨1536 + e.val, by omega⟩ :=
  Fin.sum_univ_add (a := 1536) (b := 512) f

theorem out_at (x : FVec Ideal S32x4x1024 .f32) (b : FVec Ideal S32x4x1536 .f32) (z : FVec Ideal S32x4x7168 .f32) (o : FVec Ideal S32x4x512 .f32)
    (w : FVec Ideal S2048x1024 .f32) (i : Fin 128) (d : Fin 1024) :
    outR x b z o w (ix2 i d)
      = closed (x (ix3 ⟨i.val / 4, by omega⟩ ⟨i.val % 4, by omega⟩ d)) (fun e => z (ix3 ⟨i.val / 4, by omega⟩ ⟨i.val % 4, by omega⟩ ⟨4608 + e.val, by omega⟩))
          (fun e => b (ix3 ⟨i.val / 4, by omega⟩ ⟨i.val % 4, by omega⟩ e)) (fun e => w (ix2 ⟨e.val, by omega⟩ d))
          (fun e => z (ix3 ⟨i.val / 4, by omega⟩ ⟨i.val % 4, by omega⟩ ⟨6656 + e.val, by omega⟩))
          (fun e => o (ix3 ⟨i.val / 4, by omega⟩ ⟨i.val % 4, by omega⟩ e)) (fun e => w (ix2 ⟨1536 + e.val, by omega⟩ d)) := by
  unfold outR closed
  rw [project_at, sum_both]
  refine congrArg₂ (· + ·) rfl (congrArg₂ (· + ·) (Finset.sum_congr rfl fun e _ => ?_) (Finset.sum_congr rfl fun e _ => ?_))
  · rw [both_left _ _ _ _ _ e.isLt, left_at]
  · rw [both_right _ _ _ _ _ (by show ¬1536 + e.val < 1536; omega), right_at]
    simp only [Nat.add_sub_cancel_left, Fin.eta]

/-- The call leaves the reference's result. -/
theorem final_ref (m : (ℓ : Loc Cert.Kernel8Ideal.nD Cert.Kernel8Ideal.τ Cert.Kernel8Ideal.sig) → Buf (Elt Ideal) ℓ) (c : Dev Cert.Kernel8Ideal.nD) :
    (Cert.Kernel8Ideal.Gen.dats m 0 c).arrAt 6 Cert.Kernel8Ideal.cfg0.N
      = outR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))
          (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) := by
  funext i
  obtain ⟨r, d, rfl⟩ : ∃ (r : Fin 128) (d : Fin 1024), i = ix2 r d := ⟨i 0, i 1, eq_ix2 i⟩
  rw [Cert.Kernel8Ideal.Hand.final_at, out_at]
  rfl

end Cert.Reference8Ideal.Hand

end
-- ==== Proof.PoolMix.lean ====
/- The call that mixes the averaged windows of the sample group, read at an index: what one point leaves in its block, from the
   rows that it puts one after another in its scratch. -/
module

public import proofs.«01_k».proof.Proof.Gen.Kernel9Ideal.Value
public import Idealize.ShloMosaic.Lib.Pipeline.Value
public import Idealize.ShloMosaic.Lib.Pipeline.ValueKit.Tiles
public import Idealize.ShloMosaic.Lib.Pointwise
public import Idealize.ShloMosaic.Lib.IdealHost
public import Idealize.ShloMosaic.Lib.Tactic
public import Idealize.ShloMosaic.Lib.StableHlo.ReadAt

@[expose] public section

noncomputable section

namespace Cert.Pool

open Idealize.ShloMosaic

/-- A window's length as a number. -/
def count (w : BitVec 32) : EReal := (FloatOps.sitofp FTy.f32 w : Ideal .f32)

/-- A window's mean less the token. -/
def average (w : BitVec 32) (s u : EReal) : EReal := Ideal.div s (count w) - u

/-- The mean over the window of the group `g`, of 2, 4, 8 or 16 rows up to the row's own, less the row. -/
def pooled (E : ℕ → ℕ → EReal) (g r e : ℕ) : EReal :=
  average (BitVec.ofNat 32 (2 ^ (g + 1))) (∑ i ∈ Finset.range (2 ^ (g + 1)), E (r + (15 - i)) (384 * g + e)) (E (r + 15) (384 * g + e))

/-- An entry of the mixer's output: the group's means through the group's matrix, scaled. -/
def mixed (E : ℕ → ℕ → EReal) (W : Fin 4 → Fin 384 → Fin 384 → EReal) (s : Fin 1536 → EReal) (r : ℕ) (d : Fin 1536) : EReal :=
  (∑ e : Fin 384, pooled E (d.val / 384) r e.val * W ⟨d.val / 384, by omega⟩ e ⟨d.val % 384, by omega⟩) * s d

theorem mixed_of (E : ℕ → ℕ → EReal) (W : Fin 4 → Fin 384 → Fin 384 → EReal) (s : Fin 1536 → EReal) (r : ℕ) (d : Fin 1536)
    (g : Fin 4) (x : Fin 384) (hd : d.val = 384 * g.val + x.val) (A B : Fin 384 → EReal) (S : EReal)
    (hA : ∀ e, A e = pooled E g.val r e.val) (hB : ∀ e, B e = W g e x) (hS : S = s d) :
    (∑ e, A e * B e) * S = mixed E W s r d := by
  unfold mixed
  obtain ⟨h1, h2⟩ : d.val / 384 = g.val ∧ d.val % 384 = x.val := by have := g.isLt; have := x.isLt; omega
  simp only [h1, h2, hA, hB, hS, Fin.eta]

end Cert.Pool

namespace Cert.Kernel9Ideal.Hand

open Idealize.ShloMosaic Idealize.ShloMosaic.TcCoe Idealize.SL.Sem
open Cert.Kernel9Ideal Cert.Kernel9Ideal.Gen
open Cert.Pool

/-- The tokens stand after as many others that every window is full. -/
theorem full2 (r : Fin 4) : IntOp.minsi (IntOp.addi (IntOp.addi (Scalar.addi (Scalar.addi 8192#32 (Scalar.muli 0#32 4#32)) 0#32) (BitVec.ofNat 32 r.val)) 1#32) 2#32 = 2#32 := by
  revert r; decide
theorem full4 (r : Fin 4) : IntOp.minsi (IntOp.addi (IntOp.addi (Scalar.addi (Scalar.addi 8192#32 (Scalar.muli 0#32 4#32)) 0#32) (BitVec.ofNat 32 r.val)) 1#32) 4#32 = 4#32 := by
  revert r; decide
theorem full8 (r : Fin 4) : IntOp.minsi (IntOp.addi (IntOp.addi (Scalar.addi (Scalar.addi 8192#32 (Scalar.muli 0#32 4#32)) 0#32) (BitVec.ofNat 32 r.val)) 1#32) 8#32 = 8#32 := by
  revert r; decide
theorem full16 (r : Fin 4) : IntOp.minsi (IntOp.addi (IntOp.addi (Scalar.addi (Scalar.addi 8192#32 (Scalar.muli 0#32 4#32)) 0#32) (BitVec.ofNat 32 r.val)) 1#32) 16#32 = 16#32 := by
  revert r; decide

theorem mean2_at (i : grid0.Coords) (a b : Vec Ideal S4x384 .f32) (r : Fin 4) (d : Fin 384) :
    k0_pay6 i a b (ix2 r d) = average 2#32 (a (ix2 r d) + b (ix2 r d)) (a (ix2 r d)) := by
  pointwise [k0_pay6]
  rw [full2]
  rfl

theorem mean4_at (a b c d : Vec Ideal S4x384 .f32) (r : Fin 4) (e : Fin 384) :
    k0_pay9 (k0_pay8 0#32 a b c d) (ix2 r e) = average 4#32 (a (ix2 r e) + b (ix2 r e) + c (ix2 r e) + d (ix2 r e)) (a (ix2 r e)) := by
  pointwise [k0_pay9, k0_pay8]
  rw [full4]
  rfl

theorem mean8_at (u s : Vec Ideal S4x384 .f32) (r : Fin 4) (e : Fin 384) :
    k0_pay12 u s (Scalar.addi 8192#32 (Scalar.muli 0#32 4#32)) (ix2 r e) = average 8#32 (s (ix2 r e)) (u (ix2 r e)) := by
  pointwise [k0_pay12]
  rw [full8]
  rfl

theorem mean16_at (u s : Vec Ideal S4x384 .f32) (r : Fin 4) (e : Fin 384) :
    k0_pay1 u s (k0_pay16 0#32) (ix2 r e) = average 16#32 (s (ix2 r e)) (u (ix2 r e)) := by
  pointwise [k0_pay1, k0_pay16]
  rw [full16]
  rfl

theorem sum8_at (a b c d e f g h : Vec Ideal S4x384 .f32) (j : S4x384.Idx) :
    k0_pay11 a b c d e f g h j = a j + b j + c j + d j + e j + f j + g j + h j := rfl

theorem sum16_at (a b c d e f g h k l m n o p q s : Vec Ideal S4x384 .f32) (j : S4x384.Idx) :
    k0_pay15 (k0_pay14 a b c d) e f g h k l m n o p q s j
      = a j + b j + c j + d j + e j + f j + g j + h j + k j + l j + m j + n j + o j + p j + q j + s j := rfl

theorem mixed2_at (a : Vec Ideal S4x384 .bf16) (b : Vec Ideal S1x384x384 .bf16) (s : Vec Ideal S1x384 .f32) (r : Fin 4) (d : Fin 384) :
    k0_pay7 a b s (ix3 0 r d) = (∑ e : Fin 384, a (ix2 r e) * b (ix3 0 e d)) * s (ix2 0 d) := by
  pointwise [k0_pay7]
  try rfl

/-- The four products are the same text. -/
theorem mixed4_eq (a : Vec Ideal S4x384 .bf16) (b : Vec Ideal S1x384x384 .bf16) (s : Vec Ideal S1x384 .f32) : k0_pay10 a b s = k0_pay7 a b s := rfl
theorem mixed8_eq (a : Vec Ideal S4x384 .bf16) (b : Vec Ideal S1x384x384 .bf16) (s : Vec Ideal S1x384 .f32) : k0_pay13 a b s = k0_pay7 a b s := rfl
theorem mixed16_eq (a : Vec Ideal S4x384 .bf16) (b : Vec Ideal S1x384x384 .bf16) (s : Vec Ideal S1x384 .f32) : k0_pay2 a b s = k0_pay7 a b s := rfl

theorem before_at (v : Vec Ideal S1x16x1536 .f32) (r : Fin 16) (d : Fin 1536) : k0_pay3 v (ix2 r d) = v (ix3 0 r d) := by
  pointwise [k0_pay3]
  try rfl

theorem tokens_at (v : Vec Ideal S1x4x1536 .f32) (r : Fin 4) (d : Fin 1536) : k0_pay5 v (ix2 r d) = v (ix3 0 r d) := by
  pointwise [k0_pay5]
  try rfl

/-- What was stored last is read back from where it was stored. -/
theorem read_back {S : Shape} {e : EltTy} {κ : Kind} {sp : Space} (v : View sig κ sp S e) (R : Rect S) (w : R.shape.Idx → Elt Ideal e)
    (L : List (View.Piece (Elt Ideal) S e)) : v.readCov (⟨R, w⟩ :: L) R.toLoadRect = w := by
  rw [View.readCov_eq_canon']
  funext j
  exact View.canon_cons_emb R w L j

theorem mem_rows (o n : ℕ) (inb : ∀ a, (![o, 0] : Fin 2 → ℕ) a + (![n, 1536] : Fin 2 → ℕ) a ≤ S32x1536.size a) (r : Fin 32) (e : Fin 1536)
    (h : o ≤ r.val ∧ r.val < o + n) : (ix2 r e : S32x1536.Idx) ∈ (Rect.unit (s := S32x1536) ![o, 0] ![n, 1536] inb).set := by
  have hx : (ix2 r e : S32x1536.Idx) = (Rect.unit (s := S32x1536) ![o, 0] ![n, 1536] inb).idx (ix2 (n0 := n) (n1 := 1536) ⟨r.val - o, by omega⟩ e) := by
    funext a
    apply Fin.ext
    match a with
    | ⟨0, _⟩ => show r.val = o + 1 * (r.val - o); omega
    | ⟨1, _⟩ => show e.val = 0 + 1 * e.val; omega
  rw [hx]
  exact LoadRect.idx_mem _ _

theorem eq_ix2 {a b : ℕ} (x : (⟨2, ![a, b]⟩ : Shape).Idx) : x = ix2 (x 0) (x 1) := by
  funext i
  match i with
  | ⟨0, _⟩ => rfl
  | ⟨1, _⟩ => rfl

theorem eq_ix3 {a b c : ℕ} (x : (⟨3, ![a, b, c]⟩ : Shape).Idx) : x = ix3 (x 0) (x 1) (x 2) := by
  funext i
  match i with
  | ⟨0, _⟩ => rfl
  | ⟨1, _⟩ => rfl
  | ⟨2, _⟩ => rfl

/-- Four rows of a group's columns, from row `s` of the scratch on, of which the first sixteen come from before the tokens. -/
theorem rows_at {κ : Kind} {sp : Space} (v : View sig κ sp S32x1536 .f32) (E : ℕ → ℕ → EReal) (P : Vec Ideal S4x1536 .f32) (Q : Vec Ideal S16x1536 .f32)
    (hP : ∀ (a : Fin 4) (b : Fin 1536), P (ix2 a b) = E (a.val + 15) b.val)
    (hQ : ∀ (a : Fin 16) (b : Fin 1536), 0 < a.val → Q (ix2 a b) = E (a.val - 1) b.val)
    (s c : ℕ) (h1 : 1 ≤ s) (h2 : s ≤ 16) (h3 : c + 384 ≤ 1536) (inb : ∀ a, (![s, c] : Fin 2 → ℕ) a + (![4, 384] : Fin 2 → ℕ) a ≤ S32x1536.size a)
    (r : Fin 4) (e : Fin 384) :
    v.readCov [⟨Rect.unit (s := S32x1536) ![16, 0] S4x1536.size inb_S32x1536_S4x1536_16_0, P⟩,
        ⟨Rect.unit (s := S32x1536) ![0, 0] S16x1536.size inb_S32x1536_S16x1536_0_0, Q⟩]
      (Rect.unit (s := S32x1536) ![s, c] ![4, 384] inb).toLoadRect (ix2 r e) = E (r.val + (s - 1)) (c + e.val) := by
  rw [View.readCov_eq_canon']
  have he : (Rect.unit (s := S32x1536) ![s, c] ![4, 384] inb).toLoadRect.idx (ix2 (n0 := 4) (n1 := 384) r e)
      = (ix2 ⟨s + r.val, by omega⟩ ⟨c + e.val, by omega⟩ : S32x1536.Idx) := by
    funext a
    apply Fin.ext
    match a with
    | ⟨0, _⟩ => show s + 1 * r.val = s + r.val; omega
    | ⟨1, _⟩ => show c + 1 * e.val = c + e.val; omega
  show View.canon _ ((Rect.unit (s := S32x1536) ![s, c] ![4, 384] inb).toLoadRect.idx (ix2 (n0 := 4) (n1 := 384) r e)) = _
  rw [he]
  refine View.canon_eq_of_allAt _ _ _ ?_ ?_
  · rcases Nat.lt_or_ge (s + r.val) 16 with h | h
    · exact ⟨_, .tail _ (.head _), mem_rows 0 16 inb_S32x1536_S16x1536_0_0 _ _ ⟨by omega, by show s + r.val < 0 + 16; omega⟩⟩
    · exact ⟨_, .head _, mem_rows 16 4 inb_S32x1536_S4x1536_16_0 _ _ ⟨h, by show s + r.val < 16 + 4; omega⟩⟩
  intro p hp
  simp only [List.mem_cons, List.not_mem_nil, or_false] at hp
  rcases hp with rfl | rfl
  · intro x hx
    have ha := congrArg (fun i : S32x1536.Idx => (i 0).val) hx
    have hb := congrArg (fun i : S32x1536.Idx => (i 1).val) hx
    replace ha : 16 + 1 * (x 0).val = s + r.val := ha
    replace hb : 0 + 1 * (x 1).val = c + e.val := hb
    refine (congrArg P (eq_ix2 x)).trans ((hP _ _).trans ?_)
    exact congrArg₂ E (by omega) (by omega)
  · intro x hx
    have ha := congrArg (fun i : S32x1536.Idx => (i 0).val) hx
    have hb := congrArg (fun i : S32x1536.Idx => (i 1).val) hx
    replace ha : 0 + 1 * (x 0).val = s + r.val := ha
    replace hb : 0 + 1 * (x 1).val = c + e.val := hb
    refine (congrArg Q (eq_ix2 x)).trans ((hQ _ _ (by omega)).trans ?_)
    exact congrArg₂ E (by omega) (by omega)

theorem hz3 : (![0, 0, 0] : Fin 3 → Nat) = fun _ => 0 := funext fun a => by fin_cases a <;> rfl

/-- A group's matrix. -/
theorem ld_matrix (X : Vec Ideal S4x384x384 .bf16) (g : Fin 4) (inb : ∀ a, (![g.val, 0, 0] : Fin 3 → ℕ) a + (![1, 384, 384] : Fin 3 → ℕ) a ≤ S4x384x384.size a)
    (e d : Fin 384) : View.ld X (Rect.unit (s := S4x384x384) ![g.val, 0, 0] ![1, 384, 384] inb) (ix3 0 e d) = X (ix3 g e d) := by
  refine View.ld_unit_apply_of X _ _ _ _ _ fun a => ?_
  match a with
  | ⟨0, _⟩ => rfl
  | ⟨1, _⟩ => show e.val = 0 + e.val; omega
  | ⟨2, _⟩ => show d.val = 0 + d.val; omega

/-- A group's part of the scale. -/
theorem ld_scale (X : Vec Ideal S1x1536 .f32) (c : ℕ) (inb : ∀ a, (![0, c] : Fin 2 → ℕ) a + (![1, 384] : Fin 2 → ℕ) a ≤ S1x1536.size a)
    (e : Fin 384) (d : Fin 1536) (hd : d.val = c + e.val) : View.ld X (Rect.unit (s := S1x1536) ![0, c] ![1, 384] inb) (ix2 0 e) = X (ix2 0 d) := by
  refine View.ld_unit_apply_of X _ _ _ _ _ fun a => ?_
  match a with
  | ⟨0, _⟩ => rfl
  | ⟨1, _⟩ => exact hd

theorem out_at (c : Dev nD) (i : grid0.Coords) (a2 : Memref sig .tc .vmem S1x4x1536 .f32) (h2 : a2.IsWhole) (a3 : Memref sig .tc .vmem S1x16x1536 .f32) (h3 : a3.IsWhole)
    (a4 : Memref sig .tc .vmem S4x384x384 .bf16) (h4 : a4.IsWhole) (a5 : Memref sig .tc .vmem S1x1536 .f32) (h5 : a5.IsWhole)
    (a6 : Memref sig .tc .vmem S1x4x1536 .f32) (h6 : a6.IsWhole) (a7 : Memref sig .tc .vmem S32x1536 .f32) (h7 : a7.IsWhole)
    (a8 : Memref sig .tc .vmem S4x1536 .bf16) (h8 : a8.IsWhole) (hc0 : cond0_0 i) (hc1 : ¬cond0_1 i)
    (x0 : Vec Ideal S1x4x1536 .f32) (x1 : Vec Ideal S1x16x1536 .f32) (x2 : Vec Ideal S4x384x384 .bf16) (x3 : Vec Ideal S1x1536 .f32)
    (E : ℕ → ℕ → EReal) (hx0 : ∀ (a : Fin 4) (b : Fin 1536), x0 (ix3 0 a b) = E (a.val + 15) b.val)
    (hx1 : ∀ (a : Fin 16) (b : Fin 1536), 0 < a.val → x1 (ix3 0 a b) = E (a.val - 1) b.val) (r : Fin 4) (d : Fin 1536) :
    out0_A_4 c i a2 h2 a3 h3 a4 h4 a5 h5 a6 h6 a7 h7 a8 h8 hc0 hc1 x0 x1 x2 x3 (ix3 0 r d)
      = mixed E (fun g e d => x2 (ix3 g e d)) (fun d => x3 (ix2 0 d)) r.val d := by
  unfold out0_A_4
  rw [View.read_writes_eq_canon _ _ _ (cover0_A_4 c i a2 h2 a3 h3 a4 h4 a5 h5 a6 h6 a7 h7 a8 h8 hc0 hc1 x0 x1 x2 x3)]
  refine View.canon_eq_of_allAt _ _ _ (cover0_A_4 c i a2 h2 a3 h3 a4 h4 a5 h5 a6 h6 a7 h7 a8 h8 hc0 hc1 x0 x1 x2 x3 _) ?_
  unfold kernelRun0_A
  dsimp only
  sl_unfold_words
  simp only [View.readAt_eq_ld, h2.read_unread, h3.read_unread, h4.read_unread, h5.read_unread]
  have hi : i 1 = (0 : Fin 1) := Subsingleton.elim (α := Fin 1) _ _
  have hw : BitVec.ofNat 32 (i 1).val = 0#32 := by rw [hi]; rfl
  have hP : ∀ (a : Fin 4) (b : Fin 1536), k0_pay5 (View.ld x0 (Rect.unit (s := S1x4x1536) ![0, 0, 0] S1x4x1536.size inb_S1x4x1536_S1x4x1536_0_0_0)) (ix2 a b) = E (a.val + 15) b.val := by
    intro a b
    rw [tokens_at, View.ld_unit_zero (S := S1x4x1536) hz3]
    exact hx0 a b
  have hQ : ∀ (a : Fin 16) (b : Fin 1536), 0 < a.val → k0_pay3 (View.ld x1 (Rect.unit (s := S1x16x1536) ![0, 0, 0] S1x16x1536.size inb_S1x16x1536_S1x16x1536_0_0_0)) (ix2 a b) = E (a.val - 1) b.val := by
    intro a b h
    rw [before_at, View.ld_unit_zero (S := S1x16x1536) hz3]
    exact hx1 a b h
  have hr := rows_at a7.view E _ _ hP hQ
  intro p hp
  simp only [List.mem_cons, List.not_mem_nil, or_false] at hp
  rcases hp with rfl | rfl | rfl | rfl
  all_goals
    intro (x : S1x4x384.Idx) hx
    obtain ⟨z, q, y, rfl⟩ : ∃ (z : Fin 1) (q : Fin 4) (y : Fin 384), x = ix3 z q y := ⟨x 0, x 1, x 2, eq_ix3 x⟩
    have ha := congrArg (fun i : S1x4x1536.Idx => (i 1).val) hx
    have hb := congrArg (fun i : S1x4x1536.Idx => (i 2).val) hx
    replace ha : 0 + 1 * q.val = r.val := ha
    obtain rfl : q = r := Fin.ext (by omega)
    obtain rfl : z = 0 := Subsingleton.elim _ _
  · replace hb : 1152 + 1 * y.val = d.val := hb
    dsimp only
    rw [mixed16_eq, read_back]
    refine (mixed2_at _ _ _ _ _).trans ?_
    refine mixed_of E _ _ _ d 3 y (by omega) _ _ _ (fun e => ?_) (fun e => ld_matrix x2 3 _ e y) (ld_scale x3 1152 _ y d (by omega))
    rw [hw, mean16_at, sum16_at]
    have hg : 2 ^ (((3 : Fin 4)).val + 1) = 16 := rfl
    have hc : 384 * ((3 : Fin 4)).val = 1152 := rfl
    unfold pooled
    rw [hg, hc]
    simp (disch := omega) only [hr, Finset.sum_range_succ, Finset.sum_range_zero, zero_add]
  · replace hb : 768 + 1 * y.val = d.val := hb
    dsimp only
    rw [mixed8_eq, read_back]
    refine (mixed2_at _ _ _ _ _).trans ?_
    refine mixed_of E _ _ _ d 2 y (by omega) _ _ _ (fun e => ?_) (fun e => ld_matrix x2 2 _ e y) (ld_scale x3 768 _ y d (by omega))
    rw [hw, mean8_at, sum8_at]
    have hg : 2 ^ (((2 : Fin 4)).val + 1) = 8 := rfl
    have hc : 384 * ((2 : Fin 4)).val = 768 := rfl
    unfold pooled
    rw [hg, hc]
    simp (disch := omega) only [hr, Finset.sum_range_succ, Finset.sum_range_zero, zero_add]
  · replace hb : 384 + 1 * y.val = d.val := hb
    dsimp only
    rw [mixed4_eq, read_back]
    refine (mixed2_at _ _ _ _ _).trans ?_
    refine mixed_of E _ _ _ d 1 y (by omega) _ _ _ (fun e => ?_) (fun e => ld_matrix x2 1 _ e y) (ld_scale x3 384 _ y d (by omega))
    rw [hw, mean4_at]
    have hg : 2 ^ (((1 : Fin 4)).val + 1) = 4 := rfl
    have hc : 384 * ((1 : Fin 4)).val = 384 := rfl
    unfold pooled
    rw [hg, hc]
    simp (disch := omega) only [hr, Finset.sum_range_succ, Finset.sum_range_zero, zero_add]
  · replace hb : 0 + 1 * y.val = d.val := hb
    dsimp only
    rw [read_back]
    refine (mixed2_at _ _ _ _ _).trans ?_
    refine mixed_of E _ _ _ d 0 y (by omega) _ _ _ (fun e => ?_) (fun e => ld_matrix x2 0 _ e y) (ld_scale x3 0 _ y d (by omega))
    rw [mean2_at]
    have hg : 2 ^ (((0 : Fin 4)).val + 1) = 2 := rfl
    have hc : 384 * ((0 : Fin 4)).val = 0 := rfl
    unfold pooled
    rw [hg, hc]
    simp (disch := omega) only [hr, Finset.sum_range_succ, Finset.sum_range_zero, zero_add]

end Cert.Kernel9Ideal.Hand

end
-- ==== Proof.PoolValue.lean ====
/- What the call that mixes the averaged windows leaves, at every index, in terms of its arguments. -/
module

public import proofs.«01_k».proof.Proof.PoolMix

@[expose] public section

noncomputable section

namespace Cert.Pool

open Idealize.ShloMosaic

/-- A batch's rows: those kept from before, then the tokens'. -/
def rowsOf (z : FVec Ideal ⟨3, ![32, 4, 4096]⟩ .f32) (st : FVec Ideal ⟨3, ![32, 15, 1536]⟩ .f32) (a : Fin 32) (j e : ℕ) : EReal :=
  if h : j < 15 ∧ e < 1536 then st (ix3 a ⟨j, h.1⟩ ⟨e, h.2⟩)
  else if h : j - 15 < 4 ∧ e < 1536 then z (ix3 a ⟨j - 15, h.1⟩ ⟨e, by omega⟩) else 0

/-- The mixer's output in terms of the arguments. -/
def closed (z : FVec Ideal ⟨3, ![32, 4, 4096]⟩ .f32) (st : FVec Ideal ⟨3, ![32, 15, 1536]⟩ .f32) (w : FVec Ideal ⟨3, ![4, 384, 384]⟩ .f32)
    (s : FVec Ideal ⟨1, ![1536]⟩ .f32) (a : Fin 32) (r : Fin 4) (d : Fin 1536) : EReal :=
  mixed (rowsOf z st a) (fun g e x => w (ix3 g e x)) (fun d => s (ix1 d)) r.val d

end Cert.Pool

namespace Cert.Kernel9Ideal.Hand

open Idealize.ShloMosaic Idealize.ShloMosaic.TcCoe Idealize.SL.Sem
open Cert.Kernel9Ideal Cert.Kernel9Ideal.Gen
open Cert.Pool

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

variable (m : (ℓ : Loc nD τ sig) → Buf (Elt Ideal) ℓ) (ρ : Dev nD → PrngReg)

/-- The projection in. -/
def tokens (c : Dev nD) : FVec Ideal S32x4x4096 .f32 := m ((c.tc : Thread nD τ).loc main_arg0)

/-- The rows kept from before. -/
def kept (c : Dev nD) : FVec Ideal S32x15x1536 .f32 := m ((c.tc : Thread nD τ).loc main_arg1)

/-- The groups' matrices. -/
def matrices (c : Dev nD) : FVec Ideal S4x384x384 .f32 := m ((c.tc : Thread nD τ).loc main_arg2)

/-- The scale. -/
def scale (c : Dev nD) : FVec Ideal S1536 .f32 := m ((c.tc : Thread nD τ).loc main_arg3)

/-- A row more stands before the kept ones. -/
theorem padded_at (st : FVec Ideal S32x15x1536 .f32) (v : FVec Ideal S_ .f32) (a : Fin 32) (j : Fin 16) (e : Fin 1536) (hj : 0 < j.val) :
    pad S32x16x1536 ![0, 1, 0] ![0, 0, 0] ![0, 0, 0] st v pads_S32x15x1536_S32x16x1536_000_100_000 h_S_ (ix3 a j e)
      = st (ix3 a ⟨j.val - 1, by omega⟩ e) := by
  pointwise []
  rw [dif_pos (by omega)]

theorem tokens_entry (c : Dev nD) (a : Fin 32) (t : Fin 4) (e : Fin 4096) : V m c main_arg0 (ix3 a t e) = tokens m c (ix3 a t e) := by
  show StableHlo.after (List.flatten [hostOps0, hostOps0_1, hostOps0_2]) (fun b => m (c, b)) main_arg0 (ix3 a t e) = _
  simp only [List.flatten_cons, List.flatten_nil, List.cons_append, List.nil_append, List.append_nil, hostOps0, hostOps0_1, hostOps0_2]
  after_reads_at
  rfl

theorem kept_entry (c : Dev nD) (a : Fin 32) (j : Fin 16) (e : Fin 1536) (hj : 0 < j.val) :
    V m c main_v0 (ix3 a j e) = kept m c (ix3 a ⟨j.val - 1, by omega⟩ e) := by
  refine Eq.trans ?_ (padded_at (kept m c) (sitofp .f32 (constantI S_ 32 0#32)) a j e hj)
  show StableHlo.after (List.flatten [hostOps0, hostOps0_1, hostOps0_2]) (fun b => m (c, b)) main_v0 (ix3 a j e) = _
  refine congrFun ?_ (ix3 a j e)
  simp only [List.flatten_cons, List.flatten_nil, List.cons_append, List.nil_append, List.append_nil, hostOps0, hostOps0_1, hostOps0_2]
  after_results_simp <;> rfl

theorem matrices_entry (c : Dev nD) (g : Fin 4) (e d : Fin 384) : V m c main_v1 (ix3 g e d) = matrices m c (ix3 g e d) := by
  show StableHlo.after (List.flatten [hostOps0, hostOps0_1, hostOps0_2]) (fun b => m (c, b)) main_v1 (ix3 g e d) = _
  simp only [List.flatten_cons, List.flatten_nil, List.cons_append, List.nil_append, List.append_nil, hostOps0, hostOps0_1, hostOps0_2]
  after_reads_at
  rfl

theorem scale_entry (c : Dev nD) (d : Fin 1536) : V m c main_v2 (ix2 0 d) = scale m c (ix1 d) := by
  show StableHlo.after (List.flatten [hostOps0, hostOps0_1, hostOps0_2]) (fun b => m (c, b)) main_v2 (ix2 0 d) = _
  simp only [List.flatten_cons, List.flatten_nil, List.cons_append, List.nil_append, List.append_nil, hostOps0, hostOps0_1, hostOps0_2]
  after_reads_at
  rfl

theorem tokens_blk (c : Dev nD) (t : Fin cfg0.N) (b : Fin 32) (hb : b.val = t.val) (r : Fin 4) (e : Fin 1536) :
    X0_0 m c t (ix3 0 r e) = tokens m c (ix3 b r ⟨e.val, by omega⟩) := by
  obtain ⟨h0, h1, h2⟩ := idx0 t
  rw [← tokens_entry]
  unfold X0_0 Pipeline.Window.fill
  rw [dif_pos (moved0_0 t (ix3 0 r e))]
  unfold iblk
  rw [View.read_apply]
  show V m c main_arg0 _ = V m c main_arg0 _
  congr 1
  funext a
  apply Fin.ext
  match a with
  | ⟨0, _⟩ => show win0_0.index t 0 * 1 + 1 * 0 = b.val; omega
  | ⟨1, _⟩ => show win0_0.index t 1 * 4 + 1 * r.val = r.val; omega
  | ⟨2, _⟩ => show win0_0.index t 2 * 1536 + 1 * e.val = e.val; omega

theorem kept_blk (c : Dev nD) (t : Fin cfg0.N) (b : Fin 32) (hb : b.val = t.val) (r : Fin 16) (e : Fin 1536) (hr : 0 < r.val) :
    iblk m c 1 t (ix3 0 r e) = kept m c (ix3 b ⟨r.val - 1, by omega⟩ e) := by
  obtain ⟨h0, h1, h2⟩ := idx1 t
  rw [← kept_entry m c b r e hr]
  unfold iblk
  rw [View.read_apply]
  show V m c main_v0 _ = V m c main_v0 _
  congr 1
  funext a
  apply Fin.ext
  match a with
  | ⟨0, _⟩ => show win0_1.index t 0 * 1 + 1 * 0 = b.val; omega
  | ⟨1, _⟩ => show win0_1.index t 1 * 16 + 1 * r.val = r.val; omega
  | ⟨2, _⟩ => show win0_1.index t 2 * 1536 + 1 * e.val = e.val; omega

theorem matrices_blk (c : Dev nD) (t : Fin cfg0.N) (g : Fin 4) (e d : Fin 384) : iblk m c 2 t (ix3 g e d) = matrices m c (ix3 g e d) := by
  obtain ⟨h0, h1, h2⟩ := idx2 t
  rw [← matrices_entry]
  unfold iblk
  rw [View.read_apply]
  show V m c main_v1 _ = V m c main_v1 _
  congr 1
  funext a
  apply Fin.ext
  match a with
  | ⟨0, _⟩ => show win0_2.index t 0 * 4 + 1 * g.val = g.val; omega
  | ⟨1, _⟩ => show win0_2.index t 1 * 384 + 1 * e.val = e.val; omega
  | ⟨2, _⟩ => show win0_2.index t 2 * 384 + 1 * d.val = d.val; omega

theorem scale_blk (c : Dev nD) (t : Fin cfg0.N) (d : Fin 1536) : iblk m c 3 t (ix2 0 d) = scale m c (ix1 d) := by
  obtain ⟨h0, h1⟩ := idx3 t
  rw [← scale_entry]
  unfold iblk
  rw [View.read_apply]
  show V m c main_v2 _ = V m c main_v2 _
  congr 1
  funext a
  apply Fin.ext
  match a with
  | ⟨0, _⟩ => show win0_3.index t 0 * 1 + 1 * 0 = 0; omega
  | ⟨1, _⟩ => show win0_3.index t 1 * 1536 + 1 * d.val = d.val; omega

/-- What the call leaves. -/
theorem final_at (c : Dev nD) (b : Fin 32) (r : Fin 4) (d : Fin 1536) :
    (dats m 0 c).arrAt 4 cfg0.N (ix3 b r d) = closed (tokens m c) (kept m c) (matrices m c) (scale m c) b r d := by
  have hN : cfg0.N = 32 := N_0
  have ht : b.val < cfg0.N := by omega
  obtain ⟨h0, h1, h2⟩ := idx4 ⟨b.val, ht⟩
  dsimp only at h0 h1 h2
  have hb := congrFun (Value.blocks4 m c ⟨b.val, ht⟩ (flush0_4 _)) (ix3 0 r d)
  rw [View.read_apply, Value.flushed4_A] at hb
  refine Eq.trans ?_ (hb.trans ?_)
  · show (dats m 0 c).arrAt 4 cfg0.N _ = (dats m 0 c).arrAt 4 cfg0.N _
    congr 1
    funext a
    apply Fin.ext
    match a with
    | ⟨0, _⟩ => show b.val = win0_4.index _ 0 * 1 + 1 * 0; omega
    | ⟨1, _⟩ => show r.val = win0_4.index _ 1 * 4 + 1 * r.val; omega
    | ⟨2, _⟩ => show d.val = win0_4.index _ 2 * 1536 + 1 * d.val; omega
  · refine (out_at c _ _ _ _ _ _ _ _ _ _ _ _ _ _ _ _ _ _ _ _ _ (rowsOf (tokens m c) (kept m c) b) (fun a e => ?_) (fun a e ha => ?_) r d).trans ?_
    · rw [tokens_blk m c ⟨b.val, ht⟩ b rfl]
      unfold rowsOf
      rw [dif_neg (by omega), dif_pos ⟨by omega, e.isLt⟩]
      simp only [Nat.add_sub_cancel, Fin.eta]
    · rw [kept_blk m c ⟨b.val, ht⟩ b rfl _ _ ha]
      unfold rowsOf
      rw [dif_pos ⟨by omega, e.isLt⟩]
    · unfold closed
      simp only [matrices_blk, scale_blk]

end Cert.Kernel9Ideal.Hand

end
-- ==== Proof.PoolRef.lean ====
/- The plain mathematics of the mixing of averaged windows, read at an index, and that the call leaves what it does. A window's sum
   is there the difference of two sums from the start, which for real rows is the sum of the rows between. -/
module

public import proofs.«01_k».proof.Proof.PoolValue
public import proofs.«01_k».proof.Proof.Cumulate
public import proofs.«01_k».proof.Proof.Math
public import proofs.«01_k».proof.Proof.TailRef
public import proofs.«01_k».proof.Proof.Gen.Reference9Ideal.Run
public import proofs.«01_k».proof.Proof.Gen.Pre_finite_pool
public import proofs.«01_k».proof.Defs

@[expose] public section

noncomputable section

namespace Cert.Pool

open Idealize.ShloMosaic

/-- A sum up to a row less the sum up to an earlier one is the sum of the rows between, here from the last back. -/
theorem sum_between (f : ℕ → EReal) (hf : ∀ i, ∃ x : ℝ, f i = (x : EReal)) (n w : ℕ) :
    ∑ i ∈ Finset.range (n + w), f i - ∑ i ∈ Finset.range n, f i = ∑ i ∈ Finset.range w, f (n + (w - 1 - i)) := by
  choose x hx using hf
  rw [Finset.sum_range_reflect (fun i => f (n + i)) w]
  simp only [hx]
  rw [← Cert.Stick.coe_sum, ← Cert.Stick.coe_sum, ← Cert.Stick.coe_sum, ← EReal.coe_sub, Finset.sum_range_add, add_sub_cancel_left]

/-- The positions of a window that lie at the start or after it. -/
theorem sum_window (f : ℕ → EReal) (j : ℕ) (hj : j < 19) :
    (∑ e : Fin 19, if 18 ≤ j + e.val then f (j + e.val - 18) else 0) = ∑ i ∈ Finset.range (j + 1), f i := by
  rw [← Finset.sum_range (fun e => if 18 ≤ j + e then f (j + e - 18) else 0), show (19 : ℕ) = (18 - j) + (j + 1) by omega, Finset.sum_range_add]
  rw [Finset.sum_eq_zero (fun e he => by rw [Finset.mem_range] at he; rw [if_neg (by omega)]), zero_add]
  refine Finset.sum_congr rfl fun e he => ?_
  rw [Finset.mem_range] at he
  rw [if_pos (by omega)]
  congr 1
  omega

end Cert.Pool

namespace Cert.Reference9Ideal.Hand

open Idealize.ShloMosaic Idealize.ShloMosaic.TcCoe Idealize.SL.Sem
open Cert.Reference9Ideal Cert.Reference9Ideal.Gen
open Cert.Pool

/-- The rows kept from before and the tokens', their columns in groups. -/
def extR (z : FVec Ideal S32x4x4096 .f32) (st : FVec Ideal S32x15x1536 .f32) : FVec Ideal S32x19x4x384 .f32 :=
  shapeCast _ (concatenate S32x19x1536 1 [⟨S32x15x1536, st⟩, ⟨S32x4x1536, extractStridedSlice S32x4x1536 ![0, 0, 0] z slices_S32x4x4096_S32x4x1536_0_0_0⟩] concatenates_S32x15x1536_S32x4x1536_S32x19x1536_d1) shapeCasts_S32x19x1536_S32x19x4x384

/-- The sums from the start up to a row and with it. -/
def upToR (x : FVec Ideal S32x19x4x384 .f32) : FVec Ideal S32x19x4x384 .f32 :=
  Host.reduceWindowAdd ![1, 19, 1, 1] ![1, 1, 1, 1] ![0, 18, 0, 0] ![0, 0, 0, 0] x (broadcastInDim S_ ![] bcast_S_S_ (constant S_ .f32 0x00000000#32)) reduceWindows_S32x19x4x384_S32x19x4x384_w1s1p0_0_w19s1p18_0_w1s1p0_0_w1s1p0_0 h_S_

/-- A zero before them: the sums of the rows before a row. -/
def fromZeroR (x : FVec Ideal S32x19x4x384 .f32) : FVec Ideal S32x20x4x384 .f32 :=
  concatenate S32x20x4x384 1 [⟨S32x1x4x384, (broadcastInDim S32x1x4x384 ![] bcast_S_S32x1x4x384 (constant S_ .f32 0x00000000#32))⟩, ⟨S32x19x4x384, x⟩] concatenates_S32x1x4x384_S32x19x4x384_S32x20x4x384_d1

/-- The tokens' sums. -/
def endR (x : FVec Ideal S32x20x4x384 .f32) : FVec Ideal S32x4x4x384 .f32 :=
  extractStridedSlice S32x4x4x384 ![0, 16, 0, 0] x slices_S32x20x4x384_S32x4x4x384_0_16_0_0

/-- A group's means: the difference of two sums by the window's length. -/
def meanR (w : BitVec 32) (x y : FVec Ideal S32x4x1x384 .f32) : FVec Ideal S32x4x1x384 .f32 :=
  broadcastInDim S32x4x1x384 ![0, 1, 3] bcast_S32x4x384_S32x4x1x384_0_1_3 (Host.divf (subf (shapeCast _ x shapeCasts_S32x4x1x384_S32x4x384) (shapeCast _ y shapeCasts_S32x4x1x384_S32x4x384)) (broadcastInDim S32x4x384 ![0, 1, 2] bcast_S1x4x1_S32x4x384_0_1_2 (broadcastInDim S1x4x1 ![1] bcast_S4_S1x4x1_1 (sitofp .f32 (minsi (addi (addi (broadcastInDim S4 ![] bcast_S_S4 (constantI S_ 32 8192#32)) (iotaInDim S4 32 0)) (broadcastInDim S4 ![] bcast_S_S4 (constantI S_ 32 1#32))) (broadcastInDim S4 ![] bcast_S_S4 (constantI S_ 32 w)))))))

/-- The groups' means side by side. -/
def stackR (p q r s : FVec Ideal S32x4x1x384 .f32) : FVec Ideal S32x4x4x384 .f32 :=
  concatenate S32x4x4x384 2 [⟨S32x4x1x384, p⟩, ⟨S32x4x1x384, q⟩, ⟨S32x4x1x384, r⟩, ⟨S32x4x1x384, s⟩] concatenates_S32x4x1x384_S32x4x1x384_S32x4x1x384_S32x4x1x384_S32x4x4x384_d2

/-- All groups' means, out of the sums. -/
def meansR (x : FVec Ideal S32x20x4x384 .f32) : FVec Ideal S32x4x4x384 .f32 :=
  stackR
    (meanR 2#32 (extractStridedSlice S32x4x1x384 ![0, 0, 0, 0] (endR x) slices_S32x4x4x384_S32x4x1x384_0_0_0_0) (extractStridedSlice S32x4x1x384 ![0, 14, 0, 0] x slices_S32x20x4x384_S32x4x1x384_0_14_0_0))
    (meanR 4#32 (extractStridedSlice S32x4x1x384 ![0, 0, 1, 0] (endR x) slices_S32x4x4x384_S32x4x1x384_0_0_1_0) (extractStridedSlice S32x4x1x384 ![0, 12, 1, 0] x slices_S32x20x4x384_S32x4x1x384_0_12_1_0))
    (meanR 8#32 (extractStridedSlice S32x4x1x384 ![0, 0, 2, 0] (endR x) slices_S32x4x4x384_S32x4x1x384_0_0_2_0) (extractStridedSlice S32x4x1x384 ![0, 8, 2, 0] x slices_S32x20x4x384_S32x4x1x384_0_8_2_0))
    (meanR 16#32 (extractStridedSlice S32x4x1x384 ![0, 0, 3, 0] (endR x) slices_S32x4x4x384_S32x4x1x384_0_0_3_0) (extractStridedSlice S32x4x1x384 ![0, 0, 3, 0] x slices_S32x20x4x384_S32x4x1x384_0_0_3_0))

/-- The means less the tokens. -/
def pooledR (x : FVec Ideal S32x4x4x384 .f32) (u : FVec Ideal S32x19x4x384 .f32) : FVec Ideal S32x4x4x384 .f32 :=
  subf x (extractStridedSlice S32x4x4x384 ![0, 15, 0, 0] u slices_S32x19x4x384_S32x4x4x384_0_15_0_0)

/-- Through the groups' matrices, and scaled. -/
def mixR (w : FVec Ideal S4x384x384 .f32) (p : FVec Ideal S32x4x4x384 .f32) (s : FVec Ideal S1536 .f32) : FVec Ideal S32x4x1536 .f32 :=
  mulf (shapeCast _ (transpose S32x4x4x384 [2, 3, 0, 1] (Host.dotGeneral dot_S4x384x384_S32x4x4x384_S4x384x32x4_1_3_2_01_0_2 none w p) transposes_S4x384x32x4_S32x4x4x384_2_3_0_1) shapeCasts_S32x4x4x384_S32x4x1536) (broadcastInDim S32x4x1536 ![0, 1, 2] bcast_S1x1x1536_S32x4x1536_0_1_2 (broadcastInDim S1x1x1536 ![2] bcast_S1536_S1x1x1536_2 s))

def outR (z : FVec Ideal S32x4x4096 .f32) (st : FVec Ideal S32x15x1536 .f32) (w : FVec Ideal S4x384x384 .f32) (s : FVec Ideal S1536 .f32) : FVec Ideal S32x4x1536 .f32 :=
  mixR w (pooledR (meansR (fromZeroR (upToR (extR z st)))) (extR z st)) s

theorem res_eq (m : (ℓ : Loc nD τ sig) → Buf (Elt Ideal) ℓ) (c : Dev nD) :
    Value.res_main_v75 m c = outR (m ((c.tc : Thread nD τ).loc main_arg0)) (m ((c.tc : Thread nD τ).loc main_arg1)) (m ((c.tc : Thread nD τ).loc main_arg2)) (m ((c.tc : Thread nD τ).loc main_arg3)) := rfl

theorem ext_at (z : FVec Ideal S32x4x4096 .f32) (st : FVec Ideal S32x15x1536 .f32) (a : Fin 32) (j : Fin 19) (g : Fin 4) (e : Fin 384) :
    extR z st (ix4 a j g e) = rowsOf z st a j.val (384 * g.val + e.val) := by
  pointwise [extR]
  have h : g.val * 384 + e.val = 384 * g.val + e.val := by omega
  unfold rowsOf
  by_cases hj : j.val < 15
  · rw [dif_pos hj, dif_pos ⟨hj, by omega⟩]
    simp only [h]
  · rw [dif_neg hj, dif_neg (by omega), dif_pos ⟨by omega, by omega⟩]
    simp only [h]

theorem upTo_at (x : FVec Ideal S32x19x4x384 .f32) (f : ℕ → EReal) (a : Fin 32) (g : Fin 4) (e : Fin 384) (hf : ∀ j : Fin 19, x (ix4 a j g e) = f j.val) (j : Fin 19) :
    upToR x (ix4 a j g e) = ∑ i ∈ Finset.range (j.val + 1), f i := by
  unfold upToR
  have h0 : ∀ i, (broadcastInDim S_ ![] bcast_S_S_ (constant (F := Ideal) S_ .f32 0x00000000#32)) i = (0 : EReal) := fun i => by
    show Ideal.ofBits .f32 0#32 = 0
    simp [Ideal.ofBits, Ideal.ieee]
  rw [Cert.Stick.window_sum _ _ _ _ x _ _ _ 0 h0, zero_add, ← sum_window f j.val j.isLt]
  rw [← Fintype.sum_equiv (⟨fun e : Fin 19 => ix4 (n0 := 1) (n1 := 19) (n2 := 1) (n3 := 1) 0 e 0 0, fun i => i 1, fun _ => rfl, fun i => by
    refine Eq.trans ?_ (ix4_eta i)
    show ix4 (0 : Fin 1) (i 1) (0 : Fin 1) (0 : Fin 1) = ix4 (i 0) (i 1) (i 2) (i 3)
    rw [Subsingleton.elim (α := Fin 1) (i 0) 0, Subsingleton.elim (α := Fin 1) (i 2) 0, Subsingleton.elim (α := Fin 1) (i 3) 0]
    rfl⟩ : Fin 19 ≃ (⟨4, ![1, 19, 1, 1]⟩ : Shape).Idx) _ _ (fun _ => rfl)]
  refine Finset.sum_congr rfl fun k _ => ?_
  by_cases hs : 18 ≤ j.val + k.val
  · rw [if_pos hs, dif_pos]
    · refine Eq.trans ?_ (hf ⟨j.val + k.val - 18, by omega⟩)
      congr 1
      funext i
      apply Fin.ext
      match i with
      | ⟨0, _⟩ => show a.val * 1 + 0 - 0 = a.val; omega
      | ⟨1, _⟩ => show j.val * 1 + k.val - 18 = j.val + k.val - 18; omega
      | ⟨2, _⟩ => show g.val * 1 + 0 - 0 = g.val; omega
      | ⟨3, _⟩ => show e.val * 1 + 0 - 0 = e.val; omega
    · intro i
      match i with
      | ⟨0, _⟩ => show 0 ≤ a.val * 1 + 0 ∧ a.val * 1 + 0 - 0 < 32; omega
      | ⟨1, _⟩ => show 18 ≤ j.val * 1 + k.val ∧ j.val * 1 + k.val - 18 < 19; omega
      | ⟨2, _⟩ => show 0 ≤ g.val * 1 + 0 ∧ g.val * 1 + 0 - 0 < 4; omega
      | ⟨3, _⟩ => show 0 ≤ e.val * 1 + 0 ∧ e.val * 1 + 0 - 0 < 384; omega
  · rw [if_neg hs, dif_neg]
    intro hin
    have h3 : 18 ≤ j.val * 1 + k.val := (hin 1).1
    omega

theorem fromZero_at (x : FVec Ideal S32x19x4x384 .f32) (f : ℕ → EReal) (a : Fin 32) (g : Fin 4) (e : Fin 384)
    (hx : ∀ j : Fin 19, x (ix4 a j g e) = ∑ i ∈ Finset.range (j.val + 1), f i) (k : Fin 20) :
    fromZeroR x (ix4 a k g e) = ∑ i ∈ Finset.range k.val, f i := by
  pointwise [fromZeroR]
  by_cases hk : k.val < 1
  · rw [dif_pos hk, show k.val = 0 by omega, Finset.sum_range_zero]
  · rw [dif_neg hk, hx, show k.val - 1 + 1 = k.val by omega]

theorem mean_at (w : BitVec 32) (x y : FVec Ideal S32x4x1x384 .f32) (a : Fin 32) (r : Fin 4) (e : Fin 384)
    (hw : IntOp.minsi (IntOp.addi (IntOp.addi 8192#32 (BitVec.ofNat 32 r.val)) 1#32) w = w) :
    meanR w x y (ix4 a r 0 e) = Ideal.div (x (ix4 a r 0 e) - y (ix4 a r 0 e)) (count w) := by
  pointwise [meanR]
  rw [hw]
  rfl

theorem stack0_at (p q r s : FVec Ideal S32x4x1x384 .f32) (a : Fin 32) (t : Fin 4) (e : Fin 384) : stackR p q r s (ix4 a t 0 e) = p (ix4 a t 0 e) := by
  pointwise [stackR]
theorem stack1_at (p q r s : FVec Ideal S32x4x1x384 .f32) (a : Fin 32) (t : Fin 4) (e : Fin 384) : stackR p q r s (ix4 a t 1 e) = q (ix4 a t 0 e) := by
  pointwise [stackR]
theorem stack2_at (p q r s : FVec Ideal S32x4x1x384 .f32) (a : Fin 32) (t : Fin 4) (e : Fin 384) : stackR p q r s (ix4 a t 2 e) = r (ix4 a t 0 e) := by
  pointwise [stackR]
theorem stack3_at (p q r s : FVec Ideal S32x4x1x384 .f32) (a : Fin 32) (t : Fin 4) (e : Fin 384) : stackR p q r s (ix4 a t 3 e) = s (ix4 a t 0 e) := by
  pointwise [stackR]

theorem pooled_at (x : FVec Ideal S32x4x4x384 .f32) (u : FVec Ideal S32x19x4x384 .f32) (a : Fin 32) (r g : Fin 4) (e : Fin 384) :
    pooledR x u (ix4 a r g e) = x (ix4 a r g e) - u (ix4 a ⟨15 + r.val, by omega⟩ g e) := by
  pointwise [pooledR]

theorem mix_at (w : FVec Ideal S4x384x384 .f32) (p : FVec Ideal S32x4x4x384 .f32) (s : FVec Ideal S1536 .f32) (a : Fin 32) (r : Fin 4) (d : Fin 1536) :
    mixR w p s (ix3 a r d) = (∑ e : Fin 384, (w (ix3 ⟨d.val / 384, by omega⟩ e ⟨d.val % 384, by omega⟩) : EReal) * p (ix4 a r ⟨d.val / 384, by omega⟩ e)) * s (ix1 d) := by
  pointwise [mixR]
  try rfl

/-- A group's mean at a token, from the sums before the window's first row and past its last. -/
theorem group_at (w n : ℕ) (hwn : n + w = 16) (f : ℕ → EReal) (hf : ∀ i, ∃ x : ℝ, f i = (x : EReal)) (x y : FVec Ideal S32x4x1x384 .f32)
    (a : Fin 32) (r : Fin 4) (e : Fin 384)
    (hw : IntOp.minsi (IntOp.addi (IntOp.addi 8192#32 (BitVec.ofNat 32 r.val)) 1#32) (BitVec.ofNat 32 w) = BitVec.ofNat 32 w)
    (hx : x (ix4 a r 0 e) = ∑ i ∈ Finset.range (16 + r.val), f i) (hy : y (ix4 a r 0 e) = ∑ i ∈ Finset.range (n + r.val), f i) :
    meanR (BitVec.ofNat 32 w) x y (ix4 a r 0 e) = Ideal.div (∑ i ∈ Finset.range w, f (r.val + (15 - i))) (count (BitVec.ofNat 32 w)) := by
  rw [mean_at _ _ _ _ _ _ hw, hx, hy, show 16 + r.val = (n + r.val) + w by omega, sum_between f hf]
  refine congrArg₂ Ideal.div (Finset.sum_congr rfl fun i hi => ?_) rfl
  rw [Finset.mem_range] at hi
  congr 1
  omega

theorem means_at (x : FVec Ideal S32x20x4x384 .f32) (f : ℕ → EReal) (hf : ∀ i, ∃ x : ℝ, f i = (x : EReal)) (a : Fin 32) (r g : Fin 4) (e : Fin 384)
    (hx : ∀ k : Fin 20, x (ix4 a k g e) = ∑ i ∈ Finset.range k.val, f i) :
    meansR x (ix4 a r g e) = Ideal.div (∑ i ∈ Finset.range (2 ^ (g.val + 1)), f (r.val + (15 - i))) (count (BitVec.ofNat 32 (2 ^ (g.val + 1)))) := by
  unfold meansR
  obtain rfl | rfl | rfl | rfl  := (by decide : ∀ g : Fin 4, g = 0 ∨ g = 1 ∨ g = 2 ∨ g = 3) g
  · rw [stack0_at]
    refine group_at 2 14 rfl f hf _ _ a r e (by revert r; decide) ?_ ?_
    · pointwise [endR]
      exact hx ⟨16 + r.val, by omega⟩
    · pointwise []
      exact hx ⟨14 + r.val, by omega⟩
  · rw [stack1_at]
    refine group_at 4 12 rfl f hf _ _ a r e (by revert r; decide) ?_ ?_
    · pointwise [endR]
      exact hx ⟨16 + r.val, by omega⟩
    · pointwise []
      exact hx ⟨12 + r.val, by omega⟩
  · rw [stack2_at]
    refine group_at 8 8 rfl f hf _ _ a r e (by revert r; decide) ?_ ?_
    · pointwise [endR]
      exact hx ⟨16 + r.val, by omega⟩
    · pointwise []
      exact hx ⟨8 + r.val, by omega⟩
  · rw [stack3_at]
    refine group_at 16 0 rfl f hf _ _ a r e (by revert r; decide) ?_ ?_
    · pointwise [endR]
      exact hx ⟨16 + r.val, by omega⟩
    · pointwise []
      exact hx ⟨r.val, by omega⟩

/-- The rows are real. -/
theorem rows_real (z : FVec Ideal S32x4x4096 .f32) (st : FVec Ideal S32x15x1536 .f32)
    (hz : ∀ (a : Fin 32) (r : Fin 4) (e : Fin 1536), ∃ x : ℝ, z (ix3 a r ⟨e.val, by omega⟩) = (x : EReal)) (hs : ∀ i, ∃ x : ℝ, st i = (x : EReal))
    (a : Fin 32) (j e : ℕ) : ∃ x : ℝ, rowsOf z st a j e = (x : EReal) := by
  unfold rowsOf
  split_ifs with h1 h2
  · exact hs _
  · exact hz a ⟨j - 15, h2.1⟩ ⟨e, h2.2⟩
  · exact ⟨0, rfl⟩

theorem out_at (z : FVec Ideal S32x4x4096 .f32) (st : FVec Ideal S32x15x1536 .f32) (w : FVec Ideal S4x384x384 .f32) (s : FVec Ideal S1536 .f32)
    (hz : ∀ (a : Fin 32) (r : Fin 4) (e : Fin 1536), ∃ x : ℝ, z (ix3 a r ⟨e.val, by omega⟩) = (x : EReal)) (hs : ∀ i, ∃ x : ℝ, st i = (x : EReal))
    (a : Fin 32) (r : Fin 4) (d : Fin 1536) : outR z st w s (ix3 a r d) = closed z st w s a r d := by
  unfold outR closed mixed
  rw [mix_at]
  refine congrArg₂ (· * ·) (Finset.sum_congr rfl fun e _ => ?_) rfl
  rw [mul_comm, pooled_at]
  refine congrArg₂ (· * ·) ?_ rfl
  have hx : ∀ j : Fin 19, extR z st (ix4 a j ⟨d.val / 384, by omega⟩ e) = (fun j => rowsOf z st a j (384 * (d.val / 384) + e.val)) j.val := fun j => ext_at z st a j _ e
  rw [means_at _ (fun j => rowsOf z st a j (384 * (d.val / 384) + e.val)) (fun i => rows_real z st hz hs a i _) a r _ e
    (fromZero_at _ _ a _ e (upTo_at _ _ a _ e hx)), hx]
  unfold pooled average
  rw [Nat.add_comm r.val 15]

/-- Under the precondition the rows are real. -/
theorem finite_of (z : FVec Ideal S32x4x4096 .f32) (st : FVec Ideal S32x15x1536 .f32) (w : FVec Ideal S4x384x384 .f32) (s : FVec Ideal S1536 .f32)
    (h : Cert.Pre_finite_pool.fn (F := Ideal) z st w s = fun _ => 1#1) :
    (∀ (a : Fin 32) (r : Fin 4) (e : Fin 1536), ∃ x : ℝ, z (ix3 a r ⟨e.val, by omega⟩) = (x : EReal)) ∧ ∀ i, ∃ x : ℝ, st i = (x : EReal) := by
  have h0 := congrFun h ix0
  unfold Cert.Pre_finite_pool.fn at h0
  obtain ⟨hz, hs⟩ := Cert.Reference4Ideal.Hand.and_one h0
  refine ⟨fun a r e => ⟨(z (ix3 a r ⟨e.val, by omega⟩) : EReal).toReal, ?_⟩, fun i => ⟨(st i : EReal).toReal, ?_⟩⟩
  · have e1 : extractStridedSlice S32x4x1536 ![0, 0, 0] z slices_S32x4x4096_S32x4x1536_0_0_0 (ix3 a r e) = z (ix3 a r ⟨e.val, by omega⟩) := by
      pointwise []
    rw [← e1]
    exact Cert.Reference4Ideal.Hand.real_of_below _ (Host.reduce_andi_eq_one _ _ _ _ _ hz (ix3 a r e) (Subsingleton.elim _ _))
  · exact Cert.Reference4Ideal.Hand.real_of_below (st i) (Host.reduce_andi_eq_one _ _ _ _ _ hs i (Subsingleton.elim _ _))

/-- What the call leaves is the reference at the same arguments. -/
theorem result_ref (m : (ℓ : Loc Cert.Kernel9Ideal.nD Cert.Kernel9Ideal.τ Cert.Kernel9Ideal.sig) → Buf (Elt Ideal) ℓ) (h : Cert.Pre_Kernel9Ideal_finite_pool m) (c : Dev Cert.Kernel9Ideal.nD) :
    (Cert.Kernel9Ideal.Gen.dats m 0 c).arrAt 4 Cert.Kernel9Ideal.cfg0.N = outR (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg3)) := by
  funext o
  obtain ⟨a, t, d, rfl⟩ : ∃ (a : Fin 32) (t : Fin 4) (d : Fin 1536), o = ix3 a t d := ⟨o 0, o 1, o 2, funext fun a => by fin_cases a <;> rfl⟩
  obtain ⟨hz, hs⟩ := finite_of _ _ _ _ (h c)
  exact (Cert.Kernel9Ideal.Hand.final_at m c a t d).trans (out_at _ _ _ _ hz hs a t d).symm

end Cert.Reference9Ideal.Hand

end
-- ==== Proof.lean ====
/- The proof of the directory's claim: the frames of the kernel as printed, of the ideal kernel and of the reference, the
   named constants, and that kernel and reference compute the same function. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Frame
public import proofs.«01_k».proof.Proof.PrintedFrame
public import proofs.«01_k».proof.Proof.Attention
public import proofs.«01_k».proof.Proof.Gen.Kernel2
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_memory
public import proofs.«01_k».proof.Proof.Project
public import proofs.«01_k».proof.Proof.InFrame
public import proofs.«01_k».proof.Proof.InRef
public import proofs.«01_k».proof.Proof.TailRef
public import proofs.«01_k».proof.Proof.MemRef
public import Idealize.ShloMosaic.Lib.Quiescent
public import Idealize.ShloMosaic.Adequacy
public import Idealize.ShloMosaic.Init
public import proofs.«01_k».proof.Proof.SampleIn
public import proofs.«01_k».proof.Proof.PoolIn
public import proofs.«01_k».proof.Proof.GateOut
public import proofs.«01_k».proof.Proof.PoolRef
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite_pool

@[expose] public section

noncomputable section

namespace Cert.Proof

open Idealize.ShloMosaic Idealize.SL.Sem

/-- The kernel as printed runs and leaves its arguments unchanged and every semaphore at zero. -/
theorem frame_kernel : Cert.quiescent_Kernel := fun m ρ _ => Cert.Kernel.Hand.run m ρ

/-- So does the ideal kernel. -/
theorem frame_ideal : Cert.quiescent_KernelIdeal := fun m ρ _ => Cert.KernelIdeal.Hand.run m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The named constants are what the kernel's literals stand for. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "masked" .f32 0xF149F2CA#32 ⊥ rfl⟩

/-- The same at launches of finite queries, keys and biases. -/
theorem frame_ideal_finite : Cert.quiescent_KernelIdeal_pre_finite := fun m ρ _ => Cert.KernelIdeal.Hand.run m ρ

theorem frame_reference_finite : Cert.quiescent_ReferenceIdeal_pre_finite := fun m ρ _ => frame_reference m ρ trivial

/-- Kernel and reference leave the same result. -/
theorem algebraic : Cert.algebraic_KernelIdeal_ReferenceIdeal_pre_finite := fun m ρ m' ρ' hpre harg =>
  ⟨fun c => Cert.KernelIdeal.Hand.result (Cert.KernelIdeal.Hand.numsOf m) c,
    Cert.KernelIdeal.Hand.runV m ρ _ (Cert.KernelIdeal.Hand.holds m hpre),
    (θ_run Cert.ReferenceIdeal.defs _ _).mono (fun r h c => ⟨(h c).1.trans (by
      obtain ⟨h0, h1, h2, h3⟩ := harg c
      rw [Cert.ReferenceIdeal.Hand.res_eq, h0, h1, h2, h3]
      exact (Cert.KernelIdeal.Hand.result_ref m hpre c).symm), (h c).2⟩)
      (Cert.ReferenceIdeal.Value.run m' ρ')⟩

/-! ## The call that norms the rows and makes queries, keys, values and the rest -/

/-- The named constant read as the literal it stands for. -/
@[reducible] def literal : Named Bits := ⟨fun _ _ {_} b => Scalar.ofBits _ b⟩

theorem kernels2 : Cert.Kernel2.defs₀ (F := Bits) = @Cert.Kernel2Ideal.defs₀ Bits _ literal _ := by
  unfold Cert.Kernel2.defs₀ Cert.Kernel2Ideal.defs₀
  congr 1
  funext l b
  match l, b with
  | 0, (t, s) => rfl

theorem defs2 : Cert.Kernel2.defs (F := Bits) = @Cert.Kernel2Ideal.defs Bits _ literal _ := by
  unfold Cert.Kernel2.defs Cert.Kernel2Ideal.defs
  rw [kernels2]
  rfl

/-- The ideal kernel, its named constant read as the literal, has the printed one's text, so its run is the printed one's too. -/
theorem frame_kernel2 : Cert.quiescent_Kernel2 := fun m ρ _ => by
  rw [defs2]
  exact @Cert.Kernel2Ideal.Hand.run Bits _ literal m ρ

theorem frame_ideal2 : Cert.quiescent_Kernel2Ideal := fun m ρ _ => Cert.Kernel2Ideal.Hand.run m ρ

theorem frame_reference2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run m ρ)

/-- The named constant is what the kernel's literal stands for. -/
theorem preserves2 : Cert.preserves_Kernel2_Kernel2Ideal :=
  IdealRules.named_const.statement Cert.Kernel2Ideal.κ "q_scale" .f32 0x3E0293EE#32 ((((Real.sqrt 128) * (Real.log 2))⁻¹ : ℝ) : EReal) rfl

theorem algebraic2 : Cert.algebraic_Kernel2Ideal_Reference2Ideal := fun m ρ m' ρ' _ harg =>
  ⟨fun c => Cert.Kernel2Ideal.Hand.queries m c, fun c => Cert.Kernel2Ideal.Hand.keys m c, fun c => Cert.Kernel2Ideal.Hand.values m c,
    fun c => Cert.Kernel2Ideal.Hand.rest m c, Cert.Kernel2Ideal.Hand.runV m ρ,
    (θ_run Cert.Reference2Ideal.defs _ _).mono (fun r h c => by
      obtain ⟨h0, h1, h2⟩ := harg c
      obtain ⟨hq, hk, hv, hr, ha⟩ := h c
      refine ⟨hq.trans ?_, hk.trans ?_, hv.trans ?_, hr.trans ?_, ha⟩
      · rw [h0, h1, h2]
        exact (Cert.Reference2Ideal.Hand.queries_ref m c).symm
      · rw [h0, h1, h2]
        exact (Cert.Reference2Ideal.Hand.keys_ref m c).symm
      · rw [h0, h1, h2]
        exact (Cert.Reference2Ideal.Hand.values_ref m c).symm
      · rw [h0, h1, h2]
        exact (Cert.Reference2Ideal.Hand.rest_ref m c).symm)
      (Cert.Reference2Ideal.Value.run m' ρ')⟩

/-! ## The call that norms the rows and multiplies them by a matrix -/

theorem kernels3 : Cert.Kernel3.defs₀ (F := Bits) = Cert.Kernel3Ideal.defs₀ := by
  unfold Cert.Kernel3.defs₀ Cert.Kernel3Ideal.defs₀
  congr 1
  funext l b
  match l, b with
  | 0, (t, s) => rfl

theorem defs3 : Cert.Kernel3.defs (F := Bits) = Cert.Kernel3Ideal.defs := by
  unfold Cert.Kernel3.defs Cert.Kernel3Ideal.defs
  rw [kernels3]
  rfl

/-- The ideal kernel has the printed one's text, so its run is the printed one's too. -/
theorem frame_kernel3 : Cert.quiescent_Kernel3 := fun m ρ _ => by
  rw [defs3]
  exact Cert.Kernel3Ideal.Gen.frame (F := Bits) m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

theorem preserves3 : Cert.preserves_Kernel3_Kernel3Ideal := trivial

theorem algebraic3 : Cert.algebraic_Kernel3Ideal_Reference3Ideal := fun m ρ m' ρ' _ harg =>
  ⟨_, _, Cert.Kernel3Ideal.Hand.run m ρ,
    (θ_run Cert.Reference3Ideal.defs _ _).mono (fun r h c => by
      obtain ⟨h0, h1, h2⟩ := harg c
      obtain ⟨hz, hs, ha⟩ := h c
      refine ⟨hz.trans ?_, hs.trans ?_, ha⟩
      · rw [h0, h1, h2]
        exact (Cert.Reference3Ideal.Hand.result_ref m c).symm
      · rw [h0, h1, h2, Cert.Reference3Ideal.Hand.state_ref]
        rfl)
      (Cert.Reference3Ideal.Value.run m' ρ')⟩

/-! ## The call that closes a layer -/

theorem kernels4 : Cert.Kernel4.defs₀ (F := Bits) = Cert.Kernel4Ideal.defs₀ := by
  unfold Cert.Kernel4.defs₀ Cert.Kernel4Ideal.defs₀
  congr 1
  funext l b
  match l, b with
  | 0, (t, s) => rfl

theorem defs4 : Cert.Kernel4.defs (F := Bits) = Cert.Kernel4Ideal.defs := by
  unfold Cert.Kernel4.defs Cert.Kernel4Ideal.defs
  rw [kernels4]
  rfl

/-- The ideal kernel has the printed one's text, so its run is the printed one's too. -/
theorem frame_kernel4 : Cert.quiescent_Kernel4 := fun m ρ _ => by
  rw [defs4]
  exact Cert.Kernel4Ideal.Gen.frame (F := Bits) m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The same at launches of finite memory queries, keys and gains. -/
theorem frame_ideal4_finite : Cert.quiescent_Kernel4Ideal_pre_finite_memory := fun m ρ _ => Cert.Kernel4Ideal.Gen.frame m ρ

theorem frame_reference4_finite : Cert.quiescent_Reference4Ideal_pre_finite_memory := fun m ρ _ => frame_reference4 m ρ trivial

theorem preserves4 : Cert.preserves_Kernel4_Kernel4Ideal := trivial

theorem algebraic4 : Cert.algebraic_Kernel4Ideal_Reference4Ideal_pre_finite_memory := fun m ρ m' ρ' hpre harg =>
  ⟨fun c => (Cert.Kernel4Ideal.Gen.dats m 0 c).arrAt 9 Cert.Kernel4Ideal.cfg0.N, Cert.Kernel4Ideal.Value.run_blocks m ρ,
    (θ_run Cert.Reference4Ideal.defs _ _).mono (fun r h c => ⟨(h c).1.trans (by
      obtain ⟨h0, h1, h2, h3, h4, h5, h6⟩ := harg c
      rw [Cert.Reference4Ideal.Hand.res_eq, h0, h1, h2, h3, h4, h5, h6]
      exact (Cert.Reference4Ideal.Hand.result_ref m hpre c).symm), (h c).2⟩)
      (Cert.Reference4Ideal.Value.run m' ρ')⟩

/-! ## The two calls that make the memory's keys and values -/

theorem kernels5 : Cert.Kernel5.defs₀ (F := Bits) = Cert.Kernel5Ideal.defs₀ := by
  unfold Cert.Kernel5.defs₀ Cert.Kernel5Ideal.defs₀
  congr 1
  funext l b
  match l, b with
  | 0, (t, s) => rfl
  | 1, (t, s) => rfl

theorem defs5 : Cert.Kernel5.defs (F := Bits) = Cert.Kernel5Ideal.defs := by
  unfold Cert.Kernel5.defs Cert.Kernel5Ideal.defs
  rw [kernels5]
  rfl

/-- The ideal kernel has the printed one's text, so its run is the printed one's too. -/
theorem frame_kernel5 : Cert.quiescent_Kernel5 := fun m ρ _ => by
  rw [defs5]
  exact Cert.Kernel5Ideal.Gen.frame (F := Bits) m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

theorem preserves5 : Cert.preserves_Kernel5_Kernel5Ideal := trivial

/-- The calls leave the reference's keys and values. -/
theorem algebraic5 : Cert.algebraic_Kernel5Ideal_Reference5Ideal := fun m ρ m' ρ' _ harg =>
  ⟨fun c => Cert.Kernel5Ideal.Gen.W5 m ρ c (Proc.devRef .tc Cert.Kernel5Ideal.main_v9),
    fun c => Cert.Kernel5Ideal.Gen.W5 m ρ c (Proc.devRef .tc Cert.Kernel5Ideal.main_v10), Cert.Kernel5Ideal.Hand.run m ρ,
    (θ_run Cert.Reference5Ideal.defs _ _).mono (fun r h c => by
      obtain ⟨h0, h1, h2, h3⟩ := harg c
      obtain ⟨hk, hv, ha⟩ := h c
      refine ⟨hk.trans ?_, hv.trans ?_, ha⟩
      · rw [h0, h1, h2, h3]
        exact (Cert.Reference5Ideal.Hand.keys_ref m ρ c).symm
      · rw [h0, h1, h2]
        exact (Cert.Reference5Ideal.Hand.values_ref m ρ c).symm)
      (Cert.Reference5Ideal.Value.run m' ρ')⟩

/-! ## The sample group's projection into the attention layer -/

theorem kernels6 : Cert.Kernel6.defs₀ (F := Bits) = Cert.Kernel6Ideal.defs₀ := by
  unfold Cert.Kernel6.defs₀ Cert.Kernel6Ideal.defs₀
  congr 1
  funext l b
  match l, b with
  | 0, (t, s) => rfl

theorem defs6 : Cert.Kernel6.defs (F := Bits) = Cert.Kernel6Ideal.defs := by
  unfold Cert.Kernel6.defs Cert.Kernel6Ideal.defs
  rw [kernels6]
  rfl

/-- The ideal kernel has the printed one's text, so its run is the printed one's too. -/
theorem frame_kernel6 : Cert.quiescent_Kernel6 := fun m ρ _ => by
  rw [defs6]
  exact Cert.Kernel6Ideal.Gen.frame (F := Bits) m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

theorem preserves6 : Cert.preserves_Kernel6_Kernel6Ideal := trivial

/-- The call leaves the reference's product, and the host the keys and the values out of it. -/
theorem algebraic6 : Cert.algebraic_Kernel6Ideal_Reference6Ideal := fun m ρ m' ρ' _ harg =>
  ⟨_, _, _, Cert.Kernel6Ideal.Hand.run m ρ,
    (θ_run Cert.Reference6Ideal.defs _ _).mono (fun r h c => by
      obtain ⟨h0, h1, h2⟩ := harg c
      obtain ⟨hz, hk, hv, ha⟩ := h c
      refine ⟨hz.trans ?_, hk.trans ?_, hv.trans ?_, ha⟩
      · rw [h0, h1, h2, Cert.Reference6Ideal.Hand.whole_ref]
        rfl
      · rw [h0, h1, h2, Cert.Kernel6Ideal.Hand.keys_eq, Cert.Reference6Ideal.Hand.whole_ref]
        rfl
      · rw [h0, h1, h2, Cert.Kernel6Ideal.Hand.values_eq, Cert.Reference6Ideal.Hand.whole_ref]
        rfl)
      (Cert.Reference6Ideal.Value.run m' ρ')⟩

/-! ## The sample group's projection into the pool layer -/

theorem kernels7 : Cert.Kernel7.defs₀ (F := Bits) = Cert.Kernel7Ideal.defs₀ := by
  unfold Cert.Kernel7.defs₀ Cert.Kernel7Ideal.defs₀
  congr 1
  funext l b
  match l, b with
  | 0, (t, s) => rfl

theorem defs7 : Cert.Kernel7.defs (F := Bits) = Cert.Kernel7Ideal.defs := by
  unfold Cert.Kernel7.defs Cert.Kernel7Ideal.defs
  rw [kernels7]
  rfl

/-- The ideal kernel has the printed one's text, so its run is the printed one's too. -/
theorem frame_kernel7 : Cert.quiescent_Kernel7 := fun m ρ _ => by
  rw [defs7]
  exact Cert.Kernel7Ideal.Gen.frame (F := Bits) m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

theorem preserves7 : Cert.preserves_Kernel7_Kernel7Ideal := trivial

/-- The call leaves the reference's product, and the host the state that the reference puts together. -/
theorem algebraic7 : Cert.algebraic_Kernel7Ideal_Reference7Ideal := fun m ρ m' ρ' _ harg =>
  ⟨_, _, Cert.Kernel7Ideal.Hand.run m ρ,
    (θ_run Cert.Reference7Ideal.defs _ _).mono (fun r h c => by
      obtain ⟨h0, h1, h2, h3⟩ := harg c
      obtain ⟨hz, hs, ha⟩ := h c
      refine ⟨hz.trans ?_, hs.trans ?_, ha⟩
      · rw [h0, h1, h2, Cert.Reference7Ideal.Hand.whole_ref]
        rfl
      · rw [h0, h1, h2, h3, Cert.Kernel7Ideal.Hand.state_eq, Cert.Reference7Ideal.Hand.whole_ref]
        rfl)
      (Cert.Reference7Ideal.Value.run m' ρ')⟩

/-! ## The sample group's projection out of the attention layer -/

theorem kernels8 : Cert.Kernel8.defs₀ (F := Bits) = Cert.Kernel8Ideal.defs₀ := by
  unfold Cert.Kernel8.defs₀ Cert.Kernel8Ideal.defs₀
  congr 1
  funext l b
  match l, b with
  | 0, (t, s) => rfl

theorem defs8 : Cert.Kernel8.defs (F := Bits) = Cert.Kernel8Ideal.defs := by
  unfold Cert.Kernel8.defs Cert.Kernel8Ideal.defs
  rw [kernels8]
  rfl

/-- The ideal kernel has the printed one's text, so its run is the printed one's too. -/
theorem frame_kernel8 : Cert.quiescent_Kernel8 := fun m ρ _ => by
  rw [defs8]
  exact Cert.Kernel8Ideal.Gen.frame (F := Bits) m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem preserves8 : Cert.preserves_Kernel8_Kernel8Ideal := trivial

theorem algebraic8 : Cert.algebraic_Kernel8Ideal_Reference8Ideal := fun m ρ m' ρ' _ harg =>
  ⟨fun c => (Cert.Kernel8Ideal.Gen.dats m 0 c).arrAt 6 Cert.Kernel8Ideal.cfg0.N, Cert.Kernel8Ideal.Value.run_blocks m ρ,
    (θ_run Cert.Reference8Ideal.defs _ _).mono (fun r h c => ⟨(h c).1.trans (by
      obtain ⟨h0, h1, h2, h3, h4⟩ := harg c
      rw [h0, h1, h2, h3, h4]
      exact (Cert.Reference8Ideal.Hand.final_ref m c).symm), (h c).2⟩)
      (Cert.Reference8Ideal.Value.run m' ρ')⟩

/-! ## The sample group's mixing of averaged windows -/

theorem kernels9 : Cert.Kernel9.defs₀ (F := Bits) = Cert.Kernel9Ideal.defs₀ := by
  unfold Cert.Kernel9.defs₀ Cert.Kernel9Ideal.defs₀
  congr 1
  funext l b
  match l, b with
  | 0, (t, s) => rfl

theorem defs9 : Cert.Kernel9.defs (F := Bits) = Cert.Kernel9Ideal.defs := by
  unfold Cert.Kernel9.defs Cert.Kernel9Ideal.defs
  rw [kernels9]
  rfl

/-- The ideal kernel has the printed one's text, so its run is the printed one's too. -/
theorem frame_kernel9 : Cert.quiescent_Kernel9 := fun m ρ _ => by
  rw [defs9]
  exact Cert.Kernel9Ideal.Gen.frame (F := Bits) m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The same at launches of finite rows. -/
theorem frame_ideal9_finite : Cert.quiescent_Kernel9Ideal_pre_finite_pool := fun m ρ _ => Cert.Kernel9Ideal.Gen.frame m ρ

theorem frame_reference9_finite : Cert.quiescent_Reference9Ideal_pre_finite_pool := fun m ρ _ => frame_reference9 m ρ trivial

theorem preserves9 : Cert.preserves_Kernel9_Kernel9Ideal := trivial

/-- The call leaves what the reference's differences of sums do. -/
theorem algebraic9 : Cert.algebraic_Kernel9Ideal_Reference9Ideal_pre_finite_pool := fun m ρ m' ρ' hpre harg =>
  ⟨fun c => (Cert.Kernel9Ideal.Gen.dats m 0 c).arrAt 4 Cert.Kernel9Ideal.cfg0.N, Cert.Kernel9Ideal.Value.run_blocks m ρ,
    (θ_run Cert.Reference9Ideal.defs _ _).mono (fun r h c => ⟨(h c).1.trans (by
      obtain ⟨h0, h1, h2, h3⟩ := harg c
      rw [Cert.Reference9Ideal.Hand.res_eq, h0, h1, h2, h3]
      exact (Cert.Reference9Ideal.Hand.result_ref m hpre c).symm), (h c).2⟩)
      (Cert.Reference9Ideal.Value.run m' ρ')⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite_memory.Gen.facts, Cert.Pre_finite_pool.Gen.facts,
  frame_kernel, frame_ideal, frame_ideal_finite, frame_reference, frame_reference_finite,
  frame_kernel2, frame_ideal2, frame_reference2, frame_kernel3, frame_ideal3, frame_reference3,
  frame_kernel4, frame_ideal4, frame_ideal4_finite, frame_reference4, frame_reference4_finite,
  frame_kernel5, frame_ideal5, frame_reference5, frame_kernel6, frame_ideal6, frame_reference6,
  frame_kernel7, frame_ideal7, frame_reference7, frame_kernel8, frame_ideal8, frame_reference8,
  frame_kernel9, frame_ideal9, frame_ideal9_finite, frame_reference9, frame_reference9_finite,
  preserves, algebraic, preserves2, algebraic2, preserves3, algebraic3, preserves4, algebraic4, preserves5, algebraic5,
  preserves6, algebraic6, preserves7, algebraic7, preserves8, algebraic8, preserves9, algebraic9⟩

end Cert.Proof

end
